-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Kernel26Ideal_finite_scores [hPre_finite_scores : Cert.Pre_finite_scores.Facts] (m : (ℓ : Loc Cert.Kernel26Ideal.nD Cert.Kernel26Ideal.τ Cert.Kernel26Ideal.sig) → Buf (Elt Ideal) ℓ) : Prop :=
  ∀ c : Dev Cert.Kernel26Ideal.nD,
    (Cert.Pre_finite_scores.fn (F := Ideal) (m ((c.tc : Thread Cert.Kernel26Ideal.nD Cert.Kernel26Ideal.τ).loc Cert.Kernel26Ideal.main_arg0)) (m ((c.tc : Thread Cert.Kernel26Ideal.nD Cert.Kernel26Ideal.τ).loc Cert.Kernel26Ideal.main_arg1)) (m ((c.tc : Thread Cert.Kernel26Ideal.nD Cert.Kernel26Ideal.τ).loc Cert.Kernel26Ideal.main_arg2))) = (fun _ => 1#1)

def Pre_Reference26Ideal (m : (ℓ : Loc Cert.Reference26Ideal.nD Cert.Reference26Ideal.τ Cert.Reference26Ideal.sig) → Buf (Elt Ideal) ℓ) : Prop :=
  True

def Pre_Reference26Ideal_finite_scores [hPre_finite_scores : Cert.Pre_finite_scores.Facts] (m : (ℓ : Loc Cert.Reference26Ideal.nD Cert.Reference26Ideal.τ Cert.Reference26Ideal.sig) → Buf (Elt Ideal) ℓ) : Prop :=
  ∀ c : Dev Cert.Reference26Ideal.nD,
    (Cert.Pre_finite_scores.fn (F := Ideal) (m ((c.tc : Thread Cert.Reference26Ideal.nD Cert.Reference26Ideal.τ).loc Cert.Reference26Ideal.main_arg0)) (m ((c.tc : Thread Cert.Reference26Ideal.nD Cert.Reference26Ideal.τ).loc Cert.Reference26Ideal.main_arg1)) (m ((c.tc : Thread Cert.Reference26Ideal.nD Cert.Reference26Ideal.τ).loc Cert.Reference26Ideal.main_arg2))) = (fun _ => 1#1)

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Kernel26Ideal_pre_finite_scores [hKernel26Ideal : Cert.Kernel26Ideal.Facts] [hPre_finite_scores : Cert.Pre_finite_scores.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal_finite_scores m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Reference26Ideal_pre_finite_scores [hReference26Ideal : Cert.Reference26Ideal.Facts] [hPre_finite_scores : Cert.Pre_finite_scores.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal_finite_scores m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v20_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v20_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v7) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v0) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v11) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v0) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v0) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v6)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v6) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v6)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v4)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v6)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v5)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v5)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v5) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v5)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v5) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v6)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v5)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v5) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v5) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v3) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v5) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v3) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v8)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v8) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v11)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v11) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v9)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v9) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal_pre_finite_scores [hKernel26Ideal : Cert.Kernel26Ideal.Facts] [hReference26Ideal : Cert.Reference26Ideal.Facts] [hPre_finite_scores : Cert.Pre_finite_scores.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal_finite_scores m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v19) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v2) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v8) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v18_0)) (v1 : (c : Dev Cert.Kernel29Ideal.nD) → Buf (Elt Ideal) ((c.tc : Thread Cert.Kernel29Ideal.nD Cert.Kernel29Ideal.τ).loc Cert.Kernel29Ideal.main_v18_1)) (v2 : (c : Dev Cert.Kernel29Ideal.nD) → Buf (Elt Ideal) ((c.tc : Thread Cert.Kernel29Ideal.nD Cert.Kernel29Ideal.τ).loc Cert.Kernel29Ideal.main_v19)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v18_0) = v0 c
          ∧ r.2.mem ((c.tc : Thread Cert.Kernel29Ideal.nD Cert.Kernel29Ideal.τ).loc Cert.Kernel29Ideal.main_v18_1) = v1 c
          ∧ r.2.mem ((c.tc : Thread Cert.Kernel29Ideal.nD Cert.Kernel29Ideal.τ).loc Cert.Kernel29Ideal.main_v19) = v2 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v85) = v0 c
          ∧ r.2.mem ((c.tc : Thread Cert.Reference29Ideal.nD Cert.Reference29Ideal.τ).loc Cert.Reference29Ideal.main_v81) = v1 c
          ∧ r.2.mem ((c.tc : Thread Cert.Reference29Ideal.nD Cert.Reference29Ideal.τ).loc Cert.Reference29Ideal.main_v41) = v2 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v4_4) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v7) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v2_4) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v2) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v19) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v2) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v26) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v2_0)) (v1 : (c : Dev Cert.Kernel37Ideal.nD) → Buf (Elt Ideal) ((c.tc : Thread Cert.Kernel37Ideal.nD Cert.Kernel37Ideal.τ).loc Cert.Kernel37Ideal.main_v2_1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v2_0) = v0 c
          ∧ r.2.mem ((c.tc : Thread Cert.Kernel37Ideal.nD Cert.Kernel37Ideal.τ).loc Cert.Kernel37Ideal.main_v2_1) = v1 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v22) = v0 c
          ∧ r.2.mem ((c.tc : Thread Cert.Reference37Ideal.nD Cert.Reference37Ideal.τ).loc Cert.Reference37Ideal.main_v24) = v1 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v2_0)) (v1 : (c : Dev Cert.Kernel38Ideal.nD) → Buf (Elt Ideal) ((c.tc : Thread Cert.Kernel38Ideal.nD Cert.Kernel38Ideal.τ).loc Cert.Kernel38Ideal.main_v2_1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v2_0) = v0 c
          ∧ r.2.mem ((c.tc : Thread Cert.Kernel38Ideal.nD Cert.Kernel38Ideal.τ).loc Cert.Kernel38Ideal.main_v2_1) = v1 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v28) = v0 c
          ∧ r.2.mem ((c.tc : Thread Cert.Reference38Ideal.nD Cert.Reference38Ideal.τ).loc Cert.Reference38Ideal.main_v29) = v1 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Kernel26Ideal_pre_finite_scores (hKernel26Ideal := hKernel26Ideal) (hPre_finite_scores := hPre_finite_scores)
    ∧ quiescent_Reference26Ideal (hReference26Ideal := hReference26Ideal)
    ∧ quiescent_Reference26Ideal_pre_finite_scores (hReference26Ideal := hReference26Ideal) (hPre_finite_scores := hPre_finite_scores)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal_pre_finite_scores (hKernel26Ideal := hKernel26Ideal) (hReference26Ideal := hReference26Ideal) (hPre_finite_scores := hPre_finite_scores)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
-- ==== Pre_finite.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  main_v18

def fn {F : FTy → Type} [FloatOps F] (main_arg0 : FVec F S2048x2048 .f32) (main_arg1 : FVec F S256x2048 .f32) (main_arg2 : FVec F S256x2048 .f32) (main_arg3 : FVec F S2048x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S256x2048 .f32 := Host.absf main_arg2
  let main_cst_2 : FVec F S_ .f32 := constant S_ .f32 0x7F800000#32
  let main_v10 : FVec F S256x2048 .f32 := broadcastInDim S256x2048 ![] bcast_S_S256x2048 main_cst_2
  let main_v11 : IVec S256x2048 1 := cmpf .olt main_v9 main_v10
  let main_c_3 : IVec S_ 1 := constantI S_ 1 1#1
  let main_v12 : IVec S_ 1 := (fun x v => Host.reduce IntOp.andi x v reducesTo_S256x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_v13 main_v16
-- ==== Pre_finite_scores.lean ====
abbrev S2048x2048 : Shape := ⟨2, ![2048, 2048]⟩
abbrev S256x2048 : Shape := ⟨2, ![256, 2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S2048x2048 .f32) (main_arg1 : FVec F S256x2048 .f32) (main_arg2 : FVec F S256x2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  main_v8
-- ==== Kernel.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S1x512 : Shape := ⟨2, ![1, 512]⟩
abbrev S8x512 : Shape := ⟨2, ![8, 512]⟩

abbrev nBuf : Space → Nat
  | .hbm => 31
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x4x512, .f32⟩
  | .hbm, ⟨5, _⟩ => ⟨S256x4x512, .f32⟩
  | .hbm, ⟨6, _⟩ => ⟨S256x4x512, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S_, .f32⟩
  | .hbm, ⟨14, _⟩ => ⟨S4x2048, .f32⟩
  | .hbm, ⟨15, _⟩ => ⟨S4x2048, .f32⟩
  | .hbm, ⟨16, _⟩ => ⟨S4x2048x1, .f32⟩
  | .hbm, ⟨17, _⟩ => ⟨S4x2048x256, .f32⟩
  | .hbm, ⟨18, _⟩ => ⟨S4x2048x256, .f32⟩
  | .hbm, ⟨19, _⟩ => ⟨S4x2048x256, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S4x2048x256, .f32⟩
  | .hbm, ⟨24, _⟩ => ⟨S4x2048x256, .f32⟩
  | .hbm, ⟨25, _⟩ => ⟨S4x512x2048, .f32⟩
  | .hbm, ⟨26, _⟩ => ⟨S2048x4x512, .f32⟩
  | .hbm, ⟨27, _⟩ => ⟨S2048x2048, .f32⟩
  | .hbm, ⟨28, _⟩ => ⟨S2048x2048, .f32⟩
  | .hbm, ⟨29, _⟩ => ⟨S256x2048, .f32⟩
  | .hbm, ⟨30, _⟩ => ⟨S256x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20_0 : Ref sig .tc := ⟨.hbm, 28, rfl⟩
abbrev main_v20_1 : Ref sig .tc := ⟨.hbm, 29, rfl⟩
abbrev main_v20_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v63 : BitVec 1 := Scalar.cmpi .eq arg1 c0_i32
  let v64 : BitVec 32 := Scalar.extui v63
  let c0_i32_30 : BitVec 32 := 0#32
  let v65 : BitVec 1 := Scalar.cmpi .ne v64 c0_i32_30
  v65

def k0_cond2 (i : grid0.Coords) : BitVec 1 :=
  let arg1 : BitVec 32 := BitVec.ofNat 32 (i 1).val
  let c0_i32_31 : BitVec 32 := 0#32
  let v66 : BitVec 1 := Scalar.cmpi .sgt arg1 c0_i32_31
  let v67 : BitVec 32 := Scalar.extui v66
  let c0_i32_32 : BitVec 32 := 0#32
  let v68 : BitVec 1 := Scalar.cmpi .ne v67 c0_i32_32
  v68

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩
abbrev S4x512x256 : Shape := ⟨3, ![4, 512, 256]⟩
abbrev S4x256x512 : Shape := ⟨3, ![4, 256, 512]⟩
abbrev S4x2048x512 : Shape := ⟨3, ![4, 2048, 512]⟩

abbrev nBuf : Space → Nat
  | .hbm => 81
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .f32⟩
  | .hbm, ⟨4, _⟩ => ⟨S2048x4x512, .f32⟩
  | .hbm, ⟨5, _⟩ => ⟨S256x4x512, .f32⟩
  | .hbm, ⟨6, _⟩ => ⟨S256x4x512, .f32⟩
  | .hbm, ⟨7, _⟩ => ⟨S4x2048x256, .f32⟩
  | .hbm, ⟨8, _⟩ => ⟨S_, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S4x2048x256, .f32⟩
  | .hbm, ⟨15, _⟩ => ⟨S4x2048x256, .i1⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .i1⟩
  | .hbm, ⟨25, _⟩ => ⟨S_, .f32⟩
  | .hbm, ⟨26, _⟩ => ⟨S4x2048, .f32⟩
  | .hbm, ⟨27, _⟩ => ⟨S4x2048, .i1⟩
  | .hbm, ⟨28, _⟩ => ⟨S_, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048, .f32⟩
  | .hbm, ⟨36, _⟩ => ⟨S4x2048x1, .f32⟩
  | .hbm, ⟨37, _⟩ => ⟨S4x2048x256, .f32⟩
  | .hbm, ⟨38, _⟩ => ⟨S4x2048x256, .f32⟩
  | .hbm, ⟨39, _⟩ => ⟨S4x2048x256, .f32⟩
  | .hbm, ⟨40, _⟩ => ⟨S_, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S4x512x2048, .f32⟩
  | .hbm, ⟨50, _⟩ => ⟨S2048x4x512, .f32⟩
  | .hbm, ⟨51, _⟩ => ⟨S2048x2048, .f32⟩
  | .hbm, ⟨52, _⟩ => ⟨S2048x4x512, .f32⟩
  | .hbm, ⟨53, _⟩ => ⟨S4x512x2048, .f32⟩
  | .hbm, ⟨54, _⟩ => ⟨S4x2048x256, .f32⟩
  | .hbm, ⟨55, _⟩ => ⟨S4x512x256, .f32⟩
  | .hbm, ⟨56, _⟩ => ⟨S256x4x512, .f32⟩
  | .hbm, ⟨57, _⟩ => ⟨S4x2048x256, .f32⟩
  | .hbm, ⟨58, _⟩ => ⟨S4x2048x256, .f32⟩
  | .hbm, ⟨59, _⟩ => ⟨S4x2048x256, .f32⟩
  | .hbm, ⟨60, _⟩ => ⟨S_, .f32⟩
  | .hbm, ⟨61, _⟩ => ⟨S4x2048, .f32⟩
  | .hbm, ⟨62, _⟩ => ⟨S4x2048x1, .f32⟩
  | .hbm, ⟨63, _⟩ => ⟨S4x2048x1, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x256, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048x256, .f32⟩
  | .hbm, ⟨73, _⟩ => ⟨S4x2048x256, .f32⟩
  | .hbm, ⟨74, _⟩ => ⟨S4x256x512, .f32⟩
  | .hbm, ⟨75, _⟩ => ⟨S256x4x512, .f32⟩
  | .hbm, ⟨76, _⟩ => ⟨S4x2048x512, .f32⟩
  | .hbm, ⟨77, _⟩ => ⟨S2048x4x512, .f32⟩
  | .hbm, ⟨78, _⟩ => ⟨S256x2048, .f32⟩
  | .hbm, ⟨79, _⟩ => ⟨S256x2048, .f32⟩
  | .hbm, ⟨80, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_cst_5 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_9 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_10 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_11 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩

abbrev nD : Nat := 1
abbrev τ : Topo := Topo.v7x

variable {F : FTy → Type} [FloatOps F]
-- ==== Kernel2.lean ====
abbrev S2048x2048 : Shape := ⟨2, ![2048, 2048]⟩
abbrev S2048x8192 : Shape := ⟨2, ![2048, 8192]⟩
abbrev S8192x2048 : Shape := ⟨2, ![8192, 2048]⟩
abbrev S8x1024x2048 : Shape := ⟨3, ![8, 1024, 2048]⟩
abbrev S_ : Shape := ⟨0, ![]⟩
abbrev S8x2304x2048 : Shape := ⟨3, ![8, 2304, 2048]⟩
abbrev S8x3328x2048 : Shape := ⟨3, ![8, 3328, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 12
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x2048, .bf16⟩
  | .hbm, ⟨3, _⟩ => ⟨S8192x2048, .f32⟩
  | .hbm, ⟨4, _⟩ => ⟨S8x1024x2048, .f32⟩
  | .hbm, ⟨5, _⟩ => ⟨S_, .f32⟩
  | .hbm, ⟨6, _⟩ => ⟨S8x2304x2048, .f32⟩
  | .hbm, ⟨7, _⟩ => ⟨S8x3328x2048, .f32⟩
  | .hbm, ⟨8, _⟩ => ⟨S8x3328x2048, .bf16⟩
  | .hbm, ⟨9, _⟩ => ⟨S2048x8192, .f32⟩
  | .hbm, ⟨10, _⟩ => ⟨S2048x8192, .bf16⟩
  | .hbm, ⟨11, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2048x2048 : Shape := ⟨2, ![2048, 2048]⟩
abbrev S2048x8192 : Shape := ⟨2, ![2048, 8192]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel3.lean ====
abbrev S2048x8192 : Shape := ⟨2, ![2048, 8192]⟩
abbrev S8192x2048 : Shape := ⟨2, ![8192, 2048]⟩
abbrev S8x1024x2048 : Shape := ⟨3, ![8, 1024, 2048]⟩
abbrev S_ : Shape := ⟨0, ![]⟩
abbrev S8x1280x2048 : Shape := ⟨3, ![8, 1280, 2048]⟩
abbrev S8x3328x2048 : Shape := ⟨3, ![8, 3328, 2048]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 11
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x8192, .bf16⟩
  | .hbm, ⟨3, _⟩ => ⟨S8x1024x2048, .f32⟩
  | .hbm, ⟨4, _⟩ => ⟨S_, .f32⟩
  | .hbm, ⟨5, _⟩ => ⟨S8x1024x2048, .f32⟩
  | .hbm, ⟨6, _⟩ => ⟨S_, .f32⟩
  | .hbm, ⟨7, _⟩ => ⟨S8x1280x2048, .f32⟩
  | .hbm, ⟨8, _⟩ => ⟨S8x3328x2048, .f32⟩
  | .hbm, ⟨9, _⟩ => ⟨S8x3328x2048, .bf16⟩
  | .hbm, ⟨10, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg2.toNat, c1_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2048x8192 : Shape := ⟨2, ![2048, 8192]⟩
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel4.lean ====
abbrev S2048x8192 : Shape := ⟨2, ![2048, 8192]⟩
abbrev S8192x2048 : Shape := ⟨2, ![8192, 2048]⟩
abbrev S2048x2048 : Shape := ⟨2, ![2048, 2048]⟩
abbrev S8x1024x2048 : Shape := ⟨3, ![8, 1024, 2048]⟩
abbrev S_ : Shape := ⟨0, ![]⟩
abbrev S8x1280x2048 : Shape := ⟨3, ![8, 1280, 2048]⟩
abbrev S8x3328x2048 : Shape := ⟨3, ![8, 3328, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S2048x2048, .bf16⟩
  | .hbm, ⟨4, _⟩ => ⟨S8x1024x2048, .f32⟩
  | .hbm, ⟨5, _⟩ => ⟨S_, .f32⟩
  | .hbm, ⟨6, _⟩ => ⟨S8x1024x2048, .f32⟩
  | .hbm, ⟨7, _⟩ => ⟨S_, .f32⟩
  | .hbm, ⟨8, _⟩ => ⟨S8x1280x2048, .f32⟩
  | .hbm, ⟨9, _⟩ => ⟨S8x3328x2048, .f32⟩
  | .hbm, ⟨10, _⟩ => ⟨S8x3328x2048, .bf16⟩
  | .hbm, ⟨11, _⟩ => ⟨S2048x8192, .bf16⟩
  | .hbm, ⟨12, _⟩ => ⟨S2048x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S2048x8192 : Shape := ⟨2, ![2048, 8192]⟩
abbrev S8192x2048 : Shape := ⟨2, ![8192, 2048]⟩
abbrev S2048x2048 : Shape := ⟨2, ![2048, 2048]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S2048x8192, .f32⟩
  | .hbm, ⟨5, _⟩ => ⟨S2048x8192, .f32⟩
  | .hbm, ⟨6, _⟩ => ⟨S_, .f32⟩
  | .hbm, ⟨7, _⟩ => ⟨S2048x8192, .f32⟩
  | .hbm, ⟨8, _⟩ => ⟨S2048x8192, .i1⟩
  | .hbm, ⟨9, _⟩ => ⟨S_, .f32⟩
  | .hbm, ⟨10, _⟩ => ⟨S2048x8192, .f32⟩
  | .hbm, ⟨11, _⟩ => ⟨S2048x8192, .f32⟩
  | .hbm, ⟨12, _⟩ => ⟨S_, .f32⟩
  | .hbm, ⟨13, _⟩ => ⟨S2048x8192, .f32⟩
  | .hbm, ⟨14, _⟩ => ⟨S2048x8192, .f32⟩
  | .hbm, ⟨15, _⟩ => ⟨S2048x2048, .f32⟩
  | .hbm, ⟨16, _⟩ => ⟨S2048x8192, .f32⟩
  | .hbm, ⟨17, _⟩ => ⟨S2048x8192, .f32⟩
  | .hbm, ⟨18, _⟩ => ⟨S_, .f32⟩
  | .hbm, ⟨19, _⟩ => ⟨S2048x8192, .f32⟩
  | .hbm, ⟨20, _⟩ => ⟨S2048x8192, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]
-- ==== Kernel5.lean ====
abbrev S2048x8192 : Shape := ⟨2, ![2048, 8192]⟩
abbrev S2048x2048 : Shape := ⟨2, ![2048, 2048]⟩
abbrev S_ : Shape := ⟨0, ![]⟩
abbrev S8x3328x2048 : Shape := ⟨3, ![8, 3328, 2048]⟩
abbrev S2048x1024 : Shape := ⟨2, ![2048, 1024]⟩
abbrev S1x1024x1024 : Shape := ⟨3, ![1, 1024, 1024]⟩
abbrev S1024x1024 : Shape := ⟨2, ![1024, 1024]⟩
abbrev S8x1024x2048 : Shape := ⟨3, ![8, 1024, 2048]⟩
abbrev S8192x2048 : Shape := ⟨2, ![8192, 2048]⟩

abbrev nBuf : Space → Nat
  | .hbm => 10
  | .vmem => 6
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S2048x8192, .bf16⟩
  | .hbm, ⟨3, _⟩ => ⟨S2048x2048, .bf16⟩
  | .hbm, ⟨4, _⟩ => ⟨S_, .bf16⟩
  | .hbm, ⟨5, _⟩ => ⟨S8x3328x2048, .bf16⟩
  | .hbm, ⟨6, _⟩ => ⟨S8x3328x2048, .bf16⟩
  | .hbm, ⟨7, _⟩ => ⟨S8x1024x2048, .bf16⟩
  | .hbm, ⟨8, _⟩ => ⟨S8192x2048, .bf16⟩
  | .hbm, ⟨9, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c1_i32_11 : BitVec 32 := 1#32
  let v27 : BitVec 32 := Scalar.addi c1_i32_11 v26
  let c0_i32_12 : BitVec 32 := 0#32
  ![v16.toNat, v27.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x8192 : Shape := ⟨2, ![2048, 8192]⟩
abbrev S2048x2048 : Shape := ⟨2, ![2048, 2048]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x2048, .f32⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S2048x8192, .f32⟩
  | .hbm, ⟨6, _⟩ => ⟨S8192x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S2048x2048 : Shape := ⟨2, ![2048, 2048]⟩
abbrev S2048x8192 : Shape := ⟨2, ![2048, 8192]⟩
abbrev S_ : Shape := ⟨0, ![]⟩
abbrev S8x3328x2048 : Shape := ⟨3, ![8, 3328, 2048]⟩
abbrev S2048x1024 : Shape := ⟨2, ![2048, 1024]⟩
abbrev S1x1024x1024 : Shape := ⟨3, ![1, 1024, 1024]⟩
abbrev S1024x1024 : Shape := ⟨2, ![1024, 1024]⟩
abbrev S8x1024x2048 : Shape := ⟨3, ![8, 1024, 2048]⟩
abbrev S8192x2048 : Shape := ⟨2, ![8192, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S2048x8192, .bf16⟩
  | .hbm, ⟨3, _⟩ => ⟨S2048x2048, .bf16⟩
  | .hbm, ⟨4, _⟩ => ⟨S_, .bf16⟩
  | .hbm, ⟨5, _⟩ => ⟨S8x3328x2048, .bf16⟩
  | .hbm, ⟨6, _⟩ => ⟨S8x3328x2048, .bf16⟩
  | .hbm, ⟨7, _⟩ => ⟨S8x1024x2048, .bf16⟩
  | .hbm, ⟨8, _⟩ => ⟨S8192x2048, .bf16⟩
  | .hbm, ⟨9, _⟩ => ⟨S8192x2048, .f32⟩
  | .hbm, ⟨10, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, v27.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S2048x2048 : Shape := ⟨2, ![2048, 2048]⟩
abbrev S2048x8192 : Shape := ⟨2, ![2048, 8192]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x8192, .f32⟩
  | .hbm, ⟨2, _⟩ => ⟨S_, .f32⟩
  | .hbm, ⟨3, _⟩ => ⟨S2048x8192, .f32⟩
  | .hbm, ⟨4, _⟩ => ⟨S2048x8192, .f32⟩
  | .hbm, ⟨5, _⟩ => ⟨S8192x2048, .f32⟩
  | .hbm, ⟨6, _⟩ => ⟨S2048x8192, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S2048x8192 : Shape := ⟨2, ![2048, 8192]⟩
abbrev S8192x2048 : Shape := ⟨2, ![8192, 2048]⟩
abbrev S8x1024x2048 : Shape := ⟨3, ![8, 1024, 2048]⟩
abbrev S_ : Shape := ⟨0, ![]⟩
abbrev S8x2304x2048 : Shape := ⟨3, ![8, 2304, 2048]⟩
abbrev S8x3328x2048 : Shape := ⟨3, ![8, 3328, 2048]⟩
abbrev S2048x2048 : Shape := ⟨2, ![2048, 2048]⟩
abbrev S1024x2048 : Shape := ⟨2, ![1024, 2048]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S2048x8192, .bf16⟩
  | .hbm, ⟨3, _⟩ => ⟨S8192x2048, .f32⟩
  | .hbm, ⟨4, _⟩ => ⟨S8x1024x2048, .f32⟩
  | .hbm, ⟨5, _⟩ => ⟨S_, .f32⟩
  | .hbm, ⟨6, _⟩ => ⟨S8x2304x2048, .f32⟩
  | .hbm, ⟨7, _⟩ => ⟨S8x3328x2048, .f32⟩
  | .hbm, ⟨8, _⟩ => ⟨S8x3328x2048, .bf16⟩
  | .hbm, ⟨9, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2x1024x1024, .bf16⟩
  | .local _ .vmem, ⟨3, _⟩ => ⟨S2x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2048x8192 : Shape := ⟨2, ![2048, 8192]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x8192, .f32⟩
  | .hbm, ⟨1, _⟩ => ⟨S2048x8192, .f32⟩
  | .hbm, ⟨2, _⟩ => ⟨S_, .f32⟩
  | .hbm, ⟨3, _⟩ => ⟨S2048x2048, .f32⟩
  | .hbm, ⟨4, _⟩ => ⟨S2048x8192, .f32⟩
  | .hbm, ⟨5, _⟩ => ⟨S2048x2048, .f32⟩
  | _, _ => ⟨S2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel8.lean ====
abbrev S2048x2048 : Shape := ⟨2, ![2048, 2048]⟩
abbrev S8x256x2048 : Shape := ⟨3, ![8, 256, 2048]⟩
abbrev S_ : Shape := ⟨0, ![]⟩
abbrev S8x2048x2048 : Shape := ⟨3, ![8, 2048, 2048]⟩
abbrev S8x1024x2048 : Shape := ⟨3, ![8, 1024, 2048]⟩
abbrev S8x3328x2048 : Shape := ⟨3, ![8, 3328, 2048]⟩
abbrev S1024x2048 : Shape := ⟨2, ![1024, 2048]⟩
abbrev S8x256x1024 : Shape := ⟨3, ![8, 256, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S8x256x2048, .f32⟩
  | .hbm, ⟨4, _⟩ => ⟨S_, .f32⟩
  | .hbm, ⟨5, _⟩ => ⟨S8x2048x2048, .f32⟩
  | .hbm, ⟨6, _⟩ => ⟨S_, .f32⟩
  | .hbm, ⟨7, _⟩ => ⟨S8x1024x2048, .f32⟩
  | .hbm, ⟨8, _⟩ => ⟨S8x3328x2048, .f32⟩
  | .hbm, ⟨9, _⟩ => ⟨S8x3328x2048, .bf16⟩
  | .hbm, ⟨10, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![arg2.toNat, c8_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel9.lean ====
abbrev S2048x2048 : Shape := ⟨2, ![2048, 2048]⟩
abbrev S8x256x2048 : Shape := ⟨3, ![8, 256, 2048]⟩
abbrev S_ : Shape := ⟨0, ![]⟩
abbrev S8x2304x2048 : Shape := ⟨3, ![8, 2304, 2048]⟩
abbrev S8x768x2048 : Shape := ⟨3, ![8, 768, 2048]⟩
abbrev S8x3328x2048 : Shape := ⟨3, ![8, 3328, 2048]⟩
abbrev S1024x2048 : Shape := ⟨2, ![1024, 2048]⟩
abbrev S8x256x1024 : Shape := ⟨3, ![8, 256, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S8x256x2048, .f32⟩
  | .hbm, ⟨4, _⟩ => ⟨S_, .f32⟩
  | .hbm, ⟨5, _⟩ => ⟨S8x2304x2048, .f32⟩
  | .hbm, ⟨6, _⟩ => ⟨S_, .f32⟩
  | .hbm, ⟨7, _⟩ => ⟨S8x768x2048, .f32⟩
  | .hbm, ⟨8, _⟩ => ⟨S8x3328x2048, .f32⟩
  | .hbm, ⟨9, _⟩ => ⟨S8x3328x2048, .bf16⟩
  | .hbm, ⟨10, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  ![arg2.toNat, c9_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel10.lean ====
abbrev S256x2048 : Shape := ⟨2, ![256, 2048]⟩
abbrev S2048x2048 : Shape := ⟨2, ![2048, 2048]⟩
abbrev S8x256x2048 : Shape := ⟨3, ![8, 256, 2048]⟩
abbrev S_ : Shape := ⟨0, ![]⟩
abbrev S8x2560x2048 : Shape := ⟨3, ![8, 2560, 2048]⟩
abbrev S8x512x2048 : Shape := ⟨3, ![8, 512, 2048]⟩
abbrev S8x3328x2048 : Shape := ⟨3, ![8, 3328, 2048]⟩
abbrev S8x256x1024 : Shape := ⟨3, ![8, 256, 1024]⟩
abbrev S256x1024 : Shape := ⟨2, ![256, 1024]⟩
abbrev S256x256 : Shape := ⟨2, ![256, 256]⟩
abbrev S1x256x1024 : Shape := ⟨3, ![1, 256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S8x256x2048, .f32⟩
  | .hbm, ⟨4, _⟩ => ⟨S_, .f32⟩
  | .hbm, ⟨5, _⟩ => ⟨S8x2560x2048, .f32⟩
  | .hbm, ⟨6, _⟩ => ⟨S_, .f32⟩
  | .hbm, ⟨7, _⟩ => ⟨S8x512x2048, .f32⟩
  | .hbm, ⟨8, _⟩ => ⟨S8x3328x2048, .f32⟩
  | .hbm, ⟨9, _⟩ => ⟨S8x3328x2048, .bf16⟩
  | .hbm, ⟨10, _⟩ => ⟨S256x2048, .f32⟩
  | .local _ .vmem, ⟨0, _⟩ => ⟨S256x2048, .bf16⟩
  | .local _ .vmem, ⟨1, _⟩ => ⟨S8x256x1024, .bf16⟩
  | .local _ .vmem, ⟨2, _⟩ => ⟨S8x256x1024, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let c0_i32 : BitVec 32 := 0#32
  ![arg2.toNat, c10_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel11.lean ====
abbrev S256x2048 : Shape := ⟨2, ![256, 2048]⟩
abbrev S2048x2048 : Shape := ⟨2, ![2048, 2048]⟩
abbrev S8x256x2048 : Shape := ⟨3, ![8, 256, 2048]⟩
abbrev S_ : Shape := ⟨0, ![]⟩
abbrev S8x2816x2048 : Shape := ⟨3, ![8, 2816, 2048]⟩
abbrev S8x3328x2048 : Shape := ⟨3, ![8, 3328, 2048]⟩
abbrev S8x256x1024 : Shape := ⟨3, ![8, 256, 1024]⟩
abbrev S256x1024 : Shape := ⟨2, ![256, 1024]⟩
abbrev S256x256 : Shape := ⟨2, ![256, 256]⟩
abbrev S1x256x1024 : Shape := ⟨3, ![1, 256, 1024]⟩

abbrev nBuf : Space → Nat
  | .hbm => 11
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .bf16⟩
  | .hbm, ⟨3, _⟩ => ⟨S8x256x2048, .f32⟩
  | .hbm, ⟨4, _⟩ => ⟨S_, .f32⟩
  | .hbm, ⟨5, _⟩ => ⟨S8x2816x2048, .f32⟩
  | .hbm, ⟨6, _⟩ => ⟨S_, .f32⟩
  | .hbm, ⟨7, _⟩ => ⟨S8x256x2048, .f32⟩
  | .hbm, ⟨8, _⟩ => ⟨S8x3328x2048, .f32⟩
  | .hbm, ⟨9, _⟩ => ⟨S8x3328x2048, .bf16⟩
  | .hbm, ⟨10, _⟩ => ⟨S256x2048, .f32⟩
  | .local _ .vmem, ⟨0, _⟩ => ⟨S256x2048, .bf16⟩
  | .local _ .vmem, ⟨1, _⟩ => ⟨S8x256x1024, .bf16⟩
  | .local _ .vmem, ⟨2, _⟩ => ⟨S8x256x1024, .bf16⟩
  | .local _ .vmem, ⟨3, _⟩ => ⟨S256x1024, .f32⟩
  | .local _ .vmem, ⟨4, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let c0_i32 : BitVec 32 := 0#32
  ![arg2.toNat, c11_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S256x2048 : Shape := ⟨2, ![256, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel12.lean ====
abbrev S2048x2048 : Shape := ⟨2, ![2048, 2048]⟩
abbrev S8x256x2048 : Shape := ⟨3, ![8, 256, 2048]⟩
abbrev S_ : Shape := ⟨0, ![]⟩
abbrev S8x3072x2048 : Shape := ⟨3, ![8, 3072, 2048]⟩
abbrev S8x3328x2048 : Shape := ⟨3, ![8, 3328, 2048]⟩
abbrev S1024x2048 : Shape := ⟨2, ![1024, 2048]⟩
abbrev S8x256x1024 : Shape := ⟨3, ![8, 256, 1024]⟩
abbrev S1024x1024 : Shape := ⟨2, ![1024, 1024]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x256x2048, .f32⟩
  | .hbm, ⟨3, _⟩ => ⟨S_, .f32⟩
  | .hbm, ⟨4, _⟩ => ⟨S8x3072x2048, .f32⟩
  | .hbm, ⟨5, _⟩ => ⟨S8x3328x2048, .f32⟩
  | .hbm, ⟨6, _⟩ => ⟨S8x3328x2048, .bf16⟩
  | .hbm, ⟨7, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S8x256x1024, .bf16⟩
  | .local _ .vmem, ⟨3, _⟩ => ⟨S8x256x1024, .bf16⟩
  | .local _ .vmem, ⟨4, _⟩ => ⟨S1024x1024, .f32⟩
  | .local _ .vmem, ⟨5, _⟩ => ⟨S1024x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let c0_i32 : BitVec 32 := 0#32
  ![arg2.toNat, c12_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel13.lean ====
abbrev S2048x2048 : Shape := ⟨2, ![2048, 2048]⟩
abbrev S8x256x2048 : Shape := ⟨3, ![8, 256, 2048]⟩
abbrev S_ : Shape := ⟨0, ![]⟩
abbrev S8x2048x2048 : Shape := ⟨3, ![8, 2048, 2048]⟩
abbrev S8x1024x2048 : Shape := ⟨3, ![8, 1024, 2048]⟩
abbrev S8x3328x2048 : Shape := ⟨3, ![8, 3328, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 11
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S8x256x2048, .f32⟩
  | .hbm, ⟨4, _⟩ => ⟨S_, .f32⟩
  | .hbm, ⟨5, _⟩ => ⟨S8x2048x2048, .f32⟩
  | .hbm, ⟨6, _⟩ => ⟨S_, .f32⟩
  | .hbm, ⟨7, _⟩ => ⟨S8x1024x2048, .f32⟩
  | .hbm, ⟨8, _⟩ => ⟨S8x3328x2048, .f32⟩
  | .hbm, ⟨9, _⟩ => ⟨S8x3328x2048, .bf16⟩
  | .hbm, ⟨10, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  ![arg1.toNat, c8_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel14.lean ====
abbrev S2048x2048 : Shape := ⟨2, ![2048, 2048]⟩
abbrev S8x256x2048 : Shape := ⟨3, ![8, 256, 2048]⟩
abbrev S_ : Shape := ⟨0, ![]⟩
abbrev S8x3072x2048 : Shape := ⟨3, ![8, 3072, 2048]⟩
abbrev S8x3328x2048 : Shape := ⟨3, ![8, 3328, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S8x256x2048, .f32⟩
  | .hbm, ⟨4, _⟩ => ⟨S_, .f32⟩
  | .hbm, ⟨5, _⟩ => ⟨S8x3072x2048, .f32⟩
  | .hbm, ⟨6, _⟩ => ⟨S8x3328x2048, .f32⟩
  | .hbm, ⟨7, _⟩ => ⟨S8x3328x2048, .bf16⟩
  | .hbm, ⟨8, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let c0_i32 : BitVec 32 := 0#32
  let c0_i32_0 : BitVec 32 := 0#32
  ![arg1.toNat, c12_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel15.lean ====
abbrev S2048x2048 : Shape := ⟨2, ![2048, 2048]⟩
abbrev S8x256x2048 : Shape := ⟨3, ![8, 256, 2048]⟩
abbrev S_ : Shape := ⟨0, ![]⟩
abbrev S8x2304x2048 : Shape := ⟨3, ![8, 2304, 2048]⟩
abbrev S8x768x2048 : Shape := ⟨3, ![8, 768, 2048]⟩
abbrev S8x3328x2048 : Shape := ⟨3, ![8, 3328, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 10
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S8x256x2048, .f32⟩
  | .hbm, ⟨3, _⟩ => ⟨S_, .f32⟩
  | .hbm, ⟨4, _⟩ => ⟨S8x2304x2048, .f32⟩
  | .hbm, ⟨5, _⟩ => ⟨S_, .f32⟩
  | .hbm, ⟨6, _⟩ => ⟨S8x768x2048, .f32⟩
  | .hbm, ⟨7, _⟩ => ⟨S8x3328x2048, .f32⟩
  | .hbm, ⟨8, _⟩ => ⟨S8x3328x2048, .bf16⟩
  | .hbm, ⟨9, _⟩ => ⟨S2048x2048, .f32⟩
  | .local _ .vmem, ⟨0, _⟩ => ⟨S1024x2048, .f32⟩
  | .local _ .vmem, ⟨1, _⟩ => ⟨S1024x2048, .f32⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  let c0_i32_0 : BitVec 32 := 0#32
  ![arg1.toNat, c9_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S256x2048 : Shape := ⟨2, ![256, 2048]⟩
abbrev S2048x2048 : Shape := ⟨2, ![2048, 2048]⟩
abbrev S8x256x2048 : Shape := ⟨3, ![8, 256, 2048]⟩
abbrev S_ : Shape := ⟨0, ![]⟩
abbrev S8x2560x2048 : Shape := ⟨3, ![8, 2560, 2048]⟩
abbrev S8x512x2048 : Shape := ⟨3, ![8, 512, 2048]⟩
abbrev S8x3328x2048 : Shape := ⟨3, ![8, 3328, 2048]⟩
abbrev S1x256x2048 : Shape := ⟨3, ![1, 256, 2048]⟩
abbrev S256x256 : Shape := ⟨2, ![256, 256]⟩

abbrev nBuf : Space → Nat
  | .hbm => 10
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S8x256x2048, .f32⟩
  | .hbm, ⟨3, _⟩ => ⟨S_, .f32⟩
  | .hbm, ⟨4, _⟩ => ⟨S8x2560x2048, .f32⟩
  | .hbm, ⟨5, _⟩ => ⟨S_, .f32⟩
  | .hbm, ⟨6, _⟩ => ⟨S8x512x2048, .f32⟩
  | .hbm, ⟨7, _⟩ => ⟨S8x3328x2048, .f32⟩
  | .hbm, ⟨8, _⟩ => ⟨S8x3328x2048, .bf16⟩
  | .hbm, ⟨9, _⟩ => ⟨S256x2048, .f32⟩
  | .local _ .vmem, ⟨0, _⟩ => ⟨S256x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S256x256, .f32⟩
  | .local _ .vmem, ⟨4, _⟩ => ⟨S256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  let c0_i32_0 : BitVec 32 := 0#32
  ![arg1.toNat, c10_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S256x2048 : Shape := ⟨2, ![256, 2048]⟩
abbrev S2048x2048 : Shape := ⟨2, ![2048, 2048]⟩
abbrev S8x256x2048 : Shape := ⟨3, ![8, 256, 2048]⟩
abbrev S_ : Shape := ⟨0, ![]⟩
abbrev S8x2816x2048 : Shape := ⟨3, ![8, 2816, 2048]⟩
abbrev S8x3328x2048 : Shape := ⟨3, ![8, 3328, 2048]⟩
abbrev S1x256x2048 : Shape := ⟨3, ![1, 256, 2048]⟩
abbrev S256x256 : Shape := ⟨2, ![256, 256]⟩

abbrev nBuf : Space → Nat
  | .hbm => 10
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S8x256x2048, .f32⟩
  | .hbm, ⟨3, _⟩ => ⟨S_, .f32⟩
  | .hbm, ⟨4, _⟩ => ⟨S8x2816x2048, .f32⟩
  | .hbm, ⟨5, _⟩ => ⟨S_, .f32⟩
  | .hbm, ⟨6, _⟩ => ⟨S8x256x2048, .f32⟩
  | .hbm, ⟨7, _⟩ => ⟨S8x3328x2048, .f32⟩
  | .hbm, ⟨8, _⟩ => ⟨S8x3328x2048, .bf16⟩
  | .hbm, ⟨9, _⟩ => ⟨S256x2048, .f32⟩
  | .local _ .vmem, ⟨0, _⟩ => ⟨S256x2048, .f32⟩
  | .local _ .vmem, ⟨1, _⟩ => ⟨S1x256x2048, .bf16⟩
  | .local _ .vmem, ⟨2, _⟩ => ⟨S1x256x2048, .bf16⟩
  | .local _ .vmem, ⟨3, _⟩ => ⟨S256x256, .f32⟩
  | .local _ .vmem, ⟨4, _⟩ => ⟨S256x256, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  let c0_i32_0 : BitVec 32 := 0#32
  ![arg1.toNat, c11_i32.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .f32⟩
  | .hbm, ⟨2, _⟩ => ⟨S_, .f32⟩
  | .hbm, ⟨3, _⟩ => ⟨S256x2048, .f32⟩
  | .hbm, ⟨4, _⟩ => ⟨S256x2048, .f32⟩
  | .hbm, ⟨5, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S2048x2048 : Shape := ⟨2, ![2048, 2048]⟩
abbrev S_ : Shape := ⟨0, ![]⟩
abbrev S8x3328x2048 : Shape := ⟨3, ![8, 3328, 2048]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩
abbrev S8x256x2048 : Shape := ⟨3, ![8, 256, 2048]⟩

abbrev nBuf : Space → Nat
  | .hbm => 10
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S2048x2048, .bf16⟩
  | .hbm, ⟨4, _⟩ => ⟨S_, .bf16⟩
  | .hbm, ⟨5, _⟩ => ⟨S8x3328x2048, .bf16⟩
  | .hbm, ⟨6, _⟩ => ⟨S8x3328x2048, .bf16⟩
  | .hbm, ⟨7, _⟩ => ⟨S8x256x2048, .bf16⟩
  | .hbm, ⟨8, _⟩ => ⟨S2048x2048, .bf16⟩
  | .hbm, ⟨9, _⟩ => ⟨S2048x2048, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c8_i32 : BitVec 32 := 8#32
  let v27 : BitVec 32 := Scalar.addi c8_i32 v26
  let c0_i32_11 : BitVec 32 := 0#32
  ![v16.toNat, v27.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S2048x2048 : Shape := ⟨2, ![2048, 2048]⟩
abbrev S_ : Shape := ⟨0, ![]⟩
abbrev S8x3328x2048 : Shape := ⟨3, ![8, 3328, 2048]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩
abbrev S8x256x2048 : Shape := ⟨3, ![8, 256, 2048]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S_, .bf16⟩
  | .hbm, ⟨4, _⟩ => ⟨S8x3328x2048, .bf16⟩
  | .hbm, ⟨5, _⟩ => ⟨S8x3328x2048, .bf16⟩
  | .hbm, ⟨6, _⟩ => ⟨S8x256x2048, .bf16⟩
  | .hbm, ⟨7, _⟩ => ⟨S2048x2048, .bf16⟩
  | .hbm, ⟨8, _⟩ => ⟨S2048x2048, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S1x256x1024, .bf16⟩
  | .local _ .vmem, ⟨5, _⟩ => ⟨S1x256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c12_i32 : BitVec 32 := 12#32
  let v27 : BitVec 32 := Scalar.addi c12_i32 v26
  let c0_i32_11 : BitVec 32 := 0#32
  ![v16.toNat, v27.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S2048x2048 : Shape := ⟨2, ![2048, 2048]⟩
abbrev S_ : Shape := ⟨0, ![]⟩
abbrev S8x3328x2048 : Shape := ⟨3, ![8, 3328, 2048]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩
abbrev S8x256x2048 : Shape := ⟨3, ![8, 256, 2048]⟩

abbrev nBuf : Space → Nat
  | .hbm => 9
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .bf16⟩
  | .hbm, ⟨3, _⟩ => ⟨S_, .bf16⟩
  | .hbm, ⟨4, _⟩ => ⟨S8x3328x2048, .bf16⟩
  | .hbm, ⟨5, _⟩ => ⟨S8x3328x2048, .bf16⟩
  | .hbm, ⟨6, _⟩ => ⟨S8x256x2048, .bf16⟩
  | .hbm, ⟨7, _⟩ => ⟨S2048x2048, .bf16⟩
  | .hbm, ⟨8, _⟩ => ⟨S2048x2048, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .bf16⟩
  | .local _ .vmem, ⟨5, _⟩ => ⟨S1x256x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c9_i32 : BitVec 32 := 9#32
  let v27 : BitVec 32 := Scalar.addi c9_i32 v26
  let c0_i32_11 : BitVec 32 := 0#32
  ![v16.toNat, v27.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S_, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel21.lean ====
abbrev S256x2048 : Shape := ⟨2, ![256, 2048]⟩
abbrev S_ : Shape := ⟨0, ![]⟩
abbrev S8x3328x2048 : Shape := ⟨3, ![8, 3328, 2048]⟩
abbrev S256x256 : Shape := ⟨2, ![256, 256]⟩
abbrev S256x1024 : Shape := ⟨2, ![256, 1024]⟩
abbrev S1x256x1024 : Shape := ⟨3, ![1, 256, 1024]⟩
abbrev S8x256x2048 : Shape := ⟨3, ![8, 256, 2048]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .bf16⟩
  | .hbm, ⟨3, _⟩ => ⟨S_, .bf16⟩
  | .hbm, ⟨4, _⟩ => ⟨S8x3328x2048, .bf16⟩
  | .hbm, ⟨5, _⟩ => ⟨S8x3328x2048, .bf16⟩
  | .hbm, ⟨6, _⟩ => ⟨S8x256x2048, .bf16⟩
  | .hbm, ⟨7, _⟩ => ⟨S2048x2048, .bf16⟩
  | .hbm, ⟨8, _⟩ => ⟨S2048x2048, .f32⟩
  | .local _ .vmem, ⟨0, _⟩ => ⟨S256x256, .bf16⟩
  | .local _ .vmem, ⟨1, _⟩ => ⟨S256x256, .bf16⟩
  | .local _ .vmem, ⟨2, _⟩ => ⟨S256x1024, .f32⟩
  | .local _ .vmem, ⟨3, _⟩ => ⟨S256x1024, .f32⟩
  | .local _ .vmem, ⟨4, _⟩ => ⟨S1x256x1024, .bf16⟩
  | .local _ .vmem, ⟨5, _⟩ => ⟨S1x256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c10_i32 : BitVec 32 := 10#32
  let v27 : BitVec 32 := Scalar.addi c10_i32 v26
  let c0_i32_11 : BitVec 32 := 0#32
  ![v16.toNat, v27.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S2048x2048, .f32⟩
  | .hbm, ⟨6, _⟩ => ⟨S2048x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel22.lean ====
abbrev S256x2048 : Shape := ⟨2, ![256, 2048]⟩
abbrev S_ : Shape := ⟨0, ![]⟩
abbrev S8x3328x2048 : Shape := ⟨3, ![8, 3328, 2048]⟩
abbrev S256x256 : Shape := ⟨2, ![256, 256]⟩
abbrev S256x1024 : Shape := ⟨2, ![256, 1024]⟩
abbrev S1x256x1024 : Shape := ⟨3, ![1, 256, 1024]⟩
abbrev S8x256x2048 : Shape := ⟨3, ![8, 256, 2048]⟩
abbrev S2048x2048 : Shape := ⟨2, ![2048, 2048]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256x2048, .bf16⟩
  | .hbm, ⟨3, _⟩ => ⟨S_, .bf16⟩
  | .hbm, ⟨4, _⟩ => ⟨S8x3328x2048, .bf16⟩
  | .hbm, ⟨5, _⟩ => ⟨S8x3328x2048, .bf16⟩
  | .hbm, ⟨6, _⟩ => ⟨S8x256x2048, .bf16⟩
  | .hbm, ⟨7, _⟩ => ⟨S2048x2048, .bf16⟩
  | .hbm, ⟨8, _⟩ => ⟨S2048x2048, .f32⟩
  | .local _ .vmem, ⟨0, _⟩ => ⟨S256x256, .bf16⟩
  | .local _ .vmem, ⟨1, _⟩ => ⟨S256x256, .bf16⟩
  | .local _ .vmem, ⟨2, _⟩ => ⟨S256x1024, .f32⟩
  | .local _ .vmem, ⟨3, _⟩ => ⟨S256x1024, .f32⟩
  | .local _ .vmem, ⟨4, _⟩ => ⟨S1x256x1024, .bf16⟩
  | .local _ .vmem, ⟨5, _⟩ => ⟨S1x256x1024, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c11_i32 : BitVec 32 := 11#32
  let v27 : BitVec 32 := Scalar.addi c11_i32 v26
  let c0_i32_11 : BitVec 32 := 0#32
  ![v16.toNat, v27.toNat, arg0.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference22Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S2048x2048, .f32⟩
  | .hbm, ⟨6, _⟩ => ⟨S2048x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel23.lean ====
abbrev S2048x2048 : Shape := ⟨2, ![2048, 2048]⟩
abbrev S2048x4128 : Shape := ⟨2, ![2048, 4128]⟩
abbrev S4128x2048 : Shape := ⟨2, ![4128, 2048]⟩
abbrev S8x516x2048 : Shape := ⟨3, ![8, 516, 2048]⟩
abbrev S_ : Shape := ⟨0, ![]⟩
abbrev S8x768x2048 : Shape := ⟨3, ![8, 768, 2048]⟩
abbrev S2048x6144 : Shape := ⟨2, ![2048, 6144]⟩
abbrev S1024x2048 : Shape := ⟨2, ![1024, 2048]⟩
abbrev S1x768x2048 : Shape := ⟨3, ![1, 768, 2048]⟩
abbrev S1024x768 : Shape := ⟨2, ![1024, 768]⟩
abbrev S768x2048 : Shape := ⟨2, ![768, 2048]⟩
abbrev S2048x8x768 : Shape := ⟨3, ![2048, 8, 768]⟩
abbrev S2048x8x516 : Shape := ⟨3, ![2048, 8, 516]⟩

abbrev nBuf : Space → Nat
  | .hbm => 13
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4128, .f32⟩
  | .hbm, ⟨2, _⟩ => ⟨S2048x2048, .bf16⟩
  | .hbm, ⟨3, _⟩ => ⟨S4128x2048, .f32⟩
  | .hbm, ⟨4, _⟩ => ⟨S8x516x2048, .f32⟩
  | .hbm, ⟨5, _⟩ => ⟨S_, .i32⟩
  | .hbm, ⟨6, _⟩ => ⟨S_, .f32⟩
  | .hbm, ⟨7, _⟩ => ⟨S8x768x2048, .f32⟩
  | .hbm, ⟨8, _⟩ => ⟨S8x768x2048, .bf16⟩
  | .hbm, ⟨9, _⟩ => ⟨S2048x6144, .f32⟩
  | .hbm, ⟨10, _⟩ => ⟨S2048x8x768, .f32⟩
  | .hbm, ⟨11, _⟩ => ⟨S2048x8x516, .f32⟩
  | .hbm, ⟨12, _⟩ => ⟨S2048x4128, .f32⟩
  | .local _ .vmem, ⟨0, _⟩ => ⟨S1024x2048, .bf16⟩
  | .local _ .vmem, ⟨1, _⟩ => ⟨S1024x2048, .bf16⟩
  | .local _ .vmem, ⟨2, _⟩ => ⟨S1x768x2048, .bf16⟩
  | .local _ .vmem, ⟨3, _⟩ => ⟨S1x768x2048, .bf16⟩
  | .local _ .vmem, ⟨4, _⟩ => ⟨S1024x768, .f32⟩
  | .local _ .vmem, ⟨5, _⟩ => ⟨S1024x768, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S2048x2048 : Shape := ⟨2, ![2048, 2048]⟩
abbrev S2048x4128 : Shape := ⟨2, ![2048, 4128]⟩

abbrev nBuf : Space → Nat
  | .hbm => 3
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4128, .f32⟩
  | .hbm, ⟨2, _⟩ => ⟨S2048x4128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel24.lean ====
abbrev S2048x2048 : Shape := ⟨2, ![2048, 2048]⟩
abbrev S2048x4128 : Shape := ⟨2, ![2048, 4128]⟩
abbrev S2048x8x516 : Shape := ⟨3, ![2048, 8, 516]⟩
abbrev S_ : Shape := ⟨0, ![]⟩
abbrev S2048x8x252 : Shape := ⟨3, ![2048, 8, 252]⟩
abbrev S2048x8x768 : Shape := ⟨3, ![2048, 8, 768]⟩
abbrev S2048x6144 : Shape := ⟨2, ![2048, 6144]⟩
abbrev S6144x2048 : Shape := ⟨2, ![6144, 2048]⟩
abbrev S2048x1024 : Shape := ⟨2, ![2048, 1024]⟩
abbrev S1024x1024 : Shape := ⟨2, ![1024, 1024]⟩
abbrev S8x768x2048 : Shape := ⟨3, ![8, 768, 2048]⟩
abbrev S8x516x2048 : Shape := ⟨3, ![8, 516, 2048]⟩
abbrev S4128x2048 : Shape := ⟨2, ![4128, 2048]⟩

abbrev nBuf : Space → Nat
  | .hbm => 15
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x4128, .f32⟩
  | .hbm, ⟨2, _⟩ => ⟨S2048x8x516, .f32⟩
  | .hbm, ⟨3, _⟩ => ⟨S_, .f32⟩
  | .hbm, ⟨4, _⟩ => ⟨S2048x8x252, .f32⟩
  | .hbm, ⟨5, _⟩ => ⟨S2048x8x768, .f32⟩
  | .hbm, ⟨6, _⟩ => ⟨S2048x6144, .f32⟩
  | .hbm, ⟨7, _⟩ => ⟨S2048x6144, .bf16⟩
  | .hbm, ⟨8, _⟩ => ⟨S2048x2048, .bf16⟩
  | .hbm, ⟨9, _⟩ => ⟨S6144x2048, .bf16⟩
  | .hbm, ⟨10, _⟩ => ⟨S8x768x2048, .bf16⟩
  | .hbm, ⟨11, _⟩ => ⟨S8x516x2048, .bf16⟩
  | .hbm, ⟨12, _⟩ => ⟨S4128x2048, .bf16⟩
  | .hbm, ⟨13, _⟩ => ⟨S2048x4128, .bf16⟩
  | .hbm, ⟨14, _⟩ => ⟨S2048x4128, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference24Ideal.lean ====
abbrev S2048x2048 : Shape := ⟨2, ![2048, 2048]⟩
abbrev S2048x4128 : Shape := ⟨2, ![2048, 4128]⟩
abbrev S_ : Shape := ⟨0, ![]⟩
abbrev S4128x2048 : Shape := ⟨2, ![4128, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x4128, .f32⟩
  | .hbm, ⟨2, _⟩ => ⟨S_, .f32⟩
  | .hbm, ⟨3, _⟩ => ⟨S2048x4128, .f32⟩
  | .hbm, ⟨4, _⟩ => ⟨S2048x4128, .f32⟩
  | .hbm, ⟨5, _⟩ => ⟨S4128x2048, .f32⟩
  | .hbm, ⟨6, _⟩ => ⟨S2048x4128, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel25.lean ====
abbrev S2048x4128 : Shape := ⟨2, ![2048, 4128]⟩
abbrev S2048x8x516 : Shape := ⟨3, ![2048, 8, 516]⟩
abbrev S_ : Shape := ⟨0, ![]⟩
abbrev S2048x8x252 : Shape := ⟨3, ![2048, 8, 252]⟩
abbrev S2048x8x768 : Shape := ⟨3, ![2048, 8, 768]⟩
abbrev S2048x6144 : Shape := ⟨2, ![2048, 6144]⟩
abbrev S4128x2048 : Shape := ⟨2, ![4128, 2048]⟩
abbrev S8x516x2048 : Shape := ⟨3, ![8, 516, 2048]⟩
abbrev S8x768x2048 : Shape := ⟨3, ![8, 768, 2048]⟩
abbrev S2048x2048 : Shape := ⟨2, ![2048, 2048]⟩
abbrev S1024x1536 : Shape := ⟨2, ![1024, 1536]⟩
abbrev S2x768x1024 : Shape := ⟨3, ![2, 768, 1024]⟩
abbrev S1024x1024 : Shape := ⟨2, ![1024, 1024]⟩
abbrev S1024x768 : Shape := ⟨2, ![1024, 768]⟩
abbrev S1x768x1024 : Shape := ⟨3, ![1, 768, 1024]⟩
abbrev S768x1024 : Shape := ⟨2, ![768, 1024]⟩

abbrev nBuf : Space → Nat
  | .hbm => 15
  | .vmem => 7
  | .smem => 0
  | _ => 0

abbrev bufTy : (tb : Table) → Fin (tcTables nBuf tb) → BufTy
  | .hbm, ⟨0, _⟩ => ⟨S2048x4128, .f32⟩
  | .hbm, ⟨1, _⟩ => ⟨S2048x4128, .f32⟩
  | .hbm, ⟨2, _⟩ => ⟨S2048x8x516, .f32⟩
  | .hbm, ⟨3, _⟩ => ⟨S_, .f32⟩
  | .hbm, ⟨4, _⟩ => ⟨S2048x8x252, .f32⟩
  | .hbm, ⟨5, _⟩ => ⟨S2048x8x768, .f32⟩
  | .hbm, ⟨6, _⟩ => ⟨S2048x6144, .f32⟩
  | .hbm, ⟨7, _⟩ => ⟨S2048x6144, .bf16⟩
  | .hbm, ⟨8, _⟩ => ⟨S4128x2048, .f32⟩
  | .hbm, ⟨9, _⟩ => ⟨S8x516x2048, .f32⟩
  | .hbm, ⟨10, _⟩ => ⟨S_, .i32⟩
  | .hbm, ⟨11, _⟩ => ⟨S_, .f32⟩
  | .hbm, ⟨12, _⟩ => ⟨S8x768x2048, .f32⟩
  | .hbm, ⟨13, _⟩ => ⟨S8x768x2048, .bf16⟩
  | .hbm, ⟨14, _⟩ => ⟨S2048x2048, .f32⟩
  | .local _ .vmem, ⟨0, _⟩ => ⟨S1024x1536, .bf16⟩
  | .local _ .vmem, ⟨1, _⟩ => ⟨S1024x1536, .bf16⟩
  | .local _ .vmem, ⟨2, _⟩ => ⟨S2x768x1024, .bf16⟩
  | .local _ .vmem, ⟨3, _⟩ => ⟨S2x768x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x4128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S2048x4128 : Shape := ⟨2, ![2048, 4128]⟩
abbrev S_ : Shape := ⟨0, ![]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x4128, .f32⟩
  | .hbm, ⟨1, _⟩ => ⟨S2048x4128, .f32⟩
  | .hbm, ⟨2, _⟩ => ⟨S_, .f32⟩
  | .hbm, ⟨3, _⟩ => ⟨S2048x2048, .f32⟩
  | .hbm, ⟨4, _⟩ => ⟨S2048x4128, .f32⟩
  | .hbm, ⟨5, _⟩ => ⟨S2048x2048, .f32⟩
  | _, _ => ⟨S2048x4128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel26.lean ====
abbrev S2048x2048 : Shape := ⟨2, ![2048, 2048]⟩
abbrev S256x2048 : Shape := ⟨2, ![256, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x2048, .f32⟩
  | .local _ .vmem, ⟨0, _⟩ => ⟨S512x512, .f32⟩
  | .local _ .vmem, ⟨1, _⟩ => ⟨S512x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S512x512, .f32⟩
  | .local _ .vmem, ⟨7, _⟩ => ⟨S512x512, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference26Ideal.lean ====
abbrev S2048x2048 : Shape := ⟨2, ![2048, 2048]⟩
abbrev S256x2048 : Shape := ⟨2, ![256, 2048]⟩
abbrev S2048x4x512 : Shape := ⟨3, ![2048, 4, 512]⟩
abbrev S256x4x512 : Shape := ⟨3, ![256, 4, 512]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x512x2048 : Shape := ⟨3, ![4, 512, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S256x2048, .f32⟩
  | .hbm, ⟨2, _⟩ => ⟨S256x2048, .f32⟩
  | .hbm, ⟨3, _⟩ => ⟨S2048x4x512, .f32⟩
  | .hbm, ⟨4, _⟩ => ⟨S256x4x512, .f32⟩
  | .hbm, ⟨5, _⟩ => ⟨S256x4x512, .f32⟩
  | .hbm, ⟨6, _⟩ => ⟨S4x2048x256, .f32⟩
  | .hbm, ⟨7, _⟩ => ⟨S_, .f32⟩
  | .hbm, ⟨8, _⟩ => ⟨S4x2048x256, .f32⟩
  | .hbm, ⟨9, _⟩ => ⟨S4x2048x256, .f32⟩
  | .hbm, ⟨10, _⟩ => ⟨S_, .f32⟩
  | .hbm, ⟨11, _⟩ => ⟨S4x2048, .f32⟩
  | .hbm, ⟨12, _⟩ => ⟨S_, .f32⟩
  | .hbm, ⟨13, _⟩ => ⟨S4x2048, .f32⟩
  | .hbm, ⟨14, _⟩ => ⟨S4x2048, .f32⟩
  | .hbm, ⟨15, _⟩ => ⟨S4x2048x1, .f32⟩
  | .hbm, ⟨16, _⟩ => ⟨S4x2048x256, .f32⟩
  | .hbm, ⟨17, _⟩ => ⟨S4x2048x256, .f32⟩
  | .hbm, ⟨18, _⟩ => ⟨S4x2048x256, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S4x2048x256, .f32⟩
  | .hbm, ⟨23, _⟩ => ⟨S4x2048x256, .f32⟩
  | .hbm, ⟨24, _⟩ => ⟨S4x512x2048, .f32⟩
  | .hbm, ⟨25, _⟩ => ⟨S2048x4x512, .f32⟩
  | .hbm, ⟨26, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel28.lean ====
abbrev S2048x512 : Shape := ⟨2, ![2048, 512]⟩
abbrev S512x2048 : Shape := ⟨2, ![512, 2048]⟩
abbrev S4x128x128 : Shape := ⟨3, ![4, 128, 128]⟩
abbrev S128x2048 : Shape := ⟨2, ![128, 2048]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S512x2048, .f32⟩
  | .hbm, ⟨3, _⟩ => ⟨S512x2048, .bf16⟩
  | .hbm, ⟨4, _⟩ => ⟨S4x128x128, .f32⟩
  | .local _ .vmem, ⟨0, _⟩ => ⟨S128x2048, .bf16⟩
  | .local _ .vmem, ⟨1, _⟩ => ⟨S128x2048, .bf16⟩
  | .local _ .vmem, ⟨2, _⟩ => ⟨S2048x128, .f32⟩
  | .local _ .vmem, ⟨3, _⟩ => ⟨S2048x128, .f32⟩
  | .local _ .vmem, ⟨4, _⟩ => ⟨S1x128x128, .f32⟩
  | .local _ .vmem, ⟨5, _⟩ => ⟨S1x128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S2048x512 : Shape := ⟨2, ![2048, 512]⟩
abbrev S2048x4x128 : Shape := ⟨3, ![2048, 4, 128]⟩
abbrev S_ : Shape := ⟨0, ![]⟩
abbrev S4x128x128 : Shape := ⟨3, ![4, 128, 128]⟩
abbrev S4x128x2048 : Shape := ⟨3, ![4, 128, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x4x128, .f32⟩
  | .hbm, ⟨3, _⟩ => ⟨S_, .f32⟩
  | .hbm, ⟨4, _⟩ => ⟨S4x128x128, .f32⟩
  | .hbm, ⟨5, _⟩ => ⟨S4x128x2048, .f32⟩
  | .hbm, ⟨6, _⟩ => ⟨S2048x4x128, .f32⟩
  | .hbm, ⟨7, _⟩ => ⟨S2048x512, .f32⟩
  | .hbm, ⟨8, _⟩ => ⟨S2048x4x128, .f32⟩
  | .hbm, ⟨9, _⟩ => ⟨S4x128x2048, .f32⟩
  | .hbm, ⟨10, _⟩ => ⟨S4x128x128, .f32⟩
  | .hbm, ⟨11, _⟩ => ⟨S4x128x128, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel29.lean ====
abbrev S2048x512 : Shape := ⟨2, ![2048, 512]⟩
abbrev S4x512 : Shape := ⟨2, ![4, 512]⟩
abbrev S_ : Shape := ⟨0, ![]⟩
abbrev S2x512 : Shape := ⟨2, ![2, 512]⟩
abbrev S2046x512 : Shape := ⟨2, ![2046, 512]⟩
abbrev S1x512 : Shape := ⟨2, ![1, 512]⟩
abbrev S2047x512 : Shape := ⟨2, ![2047, 512]⟩
abbrev S256x512 : Shape := ⟨2, ![256, 512]⟩
abbrev S512 : Shape := ⟨1, ![512]⟩

abbrev nBuf : Space → Nat
  | .hbm => 31
  | .vmem => 21
  | .smem => 0
  | _ => 0

abbrev bufTy : (tb : Table) → Fin (tcTables nBuf tb) → BufTy
  | .hbm, ⟨0, _⟩ => ⟨S2048x512, .f32⟩
  | .hbm, ⟨1, _⟩ => ⟨S4x512, .f32⟩
  | .hbm, ⟨2, _⟩ => ⟨S2048x512, .f32⟩
  | .hbm, ⟨3, _⟩ => ⟨S_, .f32⟩
  | .hbm, ⟨4, _⟩ => ⟨S2x512, .f32⟩
  | .hbm, ⟨5, _⟩ => ⟨S2046x512, .f32⟩
  | .hbm, ⟨6, _⟩ => ⟨S2048x512, .f32⟩
  | .hbm, ⟨7, _⟩ => ⟨S_, .f32⟩
  | .hbm, ⟨8, _⟩ => ⟨S1x512, .f32⟩
  | .hbm, ⟨9, _⟩ => ⟨S2047x512, .f32⟩
  | .hbm, ⟨10, _⟩ => ⟨S2048x512, .f32⟩
  | .hbm, ⟨11, _⟩ => ⟨S2047x512, .f32⟩
  | .hbm, ⟨12, _⟩ => ⟨S_, .f32⟩
  | .hbm, ⟨13, _⟩ => ⟨S1x512, .f32⟩
  | .hbm, ⟨14, _⟩ => ⟨S2048x512, .f32⟩
  | .hbm, ⟨15, _⟩ => ⟨S2046x512, .f32⟩
  | .hbm, ⟨16, _⟩ => ⟨S_, .f32⟩
  | .hbm, ⟨17, _⟩ => ⟨S2x512, .f32⟩
  | .hbm, ⟨18, _⟩ => ⟨S2048x512, .f32⟩
  | .hbm, ⟨19, _⟩ => ⟨S2047x512, .f32⟩
  | .hbm, ⟨20, _⟩ => ⟨S_, .f32⟩
  | .hbm, ⟨21, _⟩ => ⟨S1x512, .f32⟩
  | .hbm, ⟨22, _⟩ => ⟨S2048x512, .f32⟩
  | .hbm, ⟨23, _⟩ => ⟨S_, .f32⟩
  | .hbm, ⟨24, _⟩ => ⟨S1x512, .f32⟩
  | .hbm, ⟨25, _⟩ => ⟨S2047x512, .f32⟩
  | .hbm, ⟨26, _⟩ => ⟨S2048x512, .f32⟩
  | .hbm, ⟨27, _⟩ => ⟨S2048x512, .f32⟩
  | .hbm, ⟨28, _⟩ => ⟨S4x512, .f32⟩
  | .hbm, ⟨29, _⟩ => ⟨S1x512, .f32⟩
  | .hbm, ⟨30, _⟩ => ⟨S512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S4x512, .f32⟩
  | .local _ .vmem, ⟨17, _⟩ => ⟨S256x512, .f32⟩
  | .local _ .vmem, ⟨18, _⟩ => ⟨S256x512, .f32⟩
  | .local _ .vmem, ⟨19, _⟩ => ⟨S4x512, .f32⟩
  | .local _ .vmem, ⟨20, _⟩ => ⟨S1x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S4x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference29Ideal.lean ====
abbrev S2048x512 : Shape := ⟨2, ![2048, 512]⟩
abbrev S4x512 : Shape := ⟨2, ![4, 512]⟩
abbrev S_ : Shape := ⟨0, ![]⟩
abbrev S512 : Shape := ⟨1, ![512]⟩
abbrev S2x512 : Shape := ⟨2, ![2, 512]⟩
abbrev S1x512 : Shape := ⟨2, ![1, 512]⟩
abbrev S2051x512 : Shape := ⟨2, ![2051, 512]⟩

abbrev nBuf : Space → Nat
  | .hbm => 114
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512, .f32⟩
  | .hbm, ⟨2, _⟩ => ⟨S2048x512, .f32⟩
  | .hbm, ⟨3, _⟩ => ⟨S_, .f32⟩
  | .hbm, ⟨4, _⟩ => ⟨S512, .f32⟩
  | .hbm, ⟨5, _⟩ => ⟨S_, .f32⟩
  | .hbm, ⟨6, _⟩ => ⟨S2x512, .f32⟩
  | .hbm, ⟨7, _⟩ => ⟨S_, .f32⟩
  | .hbm, ⟨8, _⟩ => ⟨S1x512, .f32⟩
  | .hbm, ⟨9, _⟩ => ⟨S2051x512, .f32⟩
  | .hbm, ⟨10, _⟩ => ⟨S_, .f32⟩
  | .hbm, ⟨11, _⟩ => ⟨S2x512, .f32⟩
  | .hbm, ⟨12, _⟩ => ⟨S_, .f32⟩
  | .hbm, ⟨13, _⟩ => ⟨S1x512, .f32⟩
  | .hbm, ⟨14, _⟩ => ⟨S2048x512, .f32⟩
  | .hbm, ⟨15, _⟩ => ⟨S1x512, .f32⟩
  | .hbm, ⟨16, _⟩ => ⟨S512, .f32⟩
  | .hbm, ⟨17, _⟩ => ⟨S1x512, .f32⟩
  | .hbm, ⟨18, _⟩ => ⟨S2048x512, .f32⟩
  | .hbm, ⟨19, _⟩ => ⟨S2048x512, .f32⟩
  | .hbm, ⟨20, _⟩ => ⟨S_, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S2048x512, .f32⟩
  | .hbm, ⟨31, _⟩ => ⟨S1x512, .f32⟩
  | .hbm, ⟨32, _⟩ => ⟨S512, .f32⟩
  | .hbm, ⟨33, _⟩ => ⟨S1x512, .f32⟩
  | .hbm, ⟨34, _⟩ => ⟨S2048x512, .f32⟩
  | .hbm, ⟨35, _⟩ => ⟨S2048x512, .f32⟩
  | .hbm, ⟨36, _⟩ => ⟨S2048x512, .f32⟩
  | .hbm, ⟨37, _⟩ => ⟨S2048x512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S1x512, .f32⟩
  | .hbm, ⟨45, _⟩ => ⟨S2048x512, .f32⟩
  | .hbm, ⟨46, _⟩ => ⟨S2048x512, .f32⟩
  | .hbm, ⟨47, _⟩ => ⟨S2048x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S_, .f32⟩
  | .hbm, ⟨52, _⟩ => ⟨S512, .f32⟩
  | .hbm, ⟨53, _⟩ => ⟨S2048x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S2048x512, .f32⟩
  | .hbm, ⟨58, _⟩ => ⟨S2048x512, .f32⟩
  | .hbm, ⟨59, _⟩ => ⟨S_, .f32⟩
  | .hbm, ⟨60, _⟩ => ⟨S512, .f32⟩
  | .hbm, ⟨61, _⟩ => ⟨S1x512, .f32⟩
  | .hbm, ⟨62, _⟩ => ⟨S_, .f32⟩
  | .hbm, ⟨63, _⟩ => ⟨S4x512, .f32⟩
  | .hbm, ⟨64, _⟩ => ⟨S_, .f32⟩
  | .hbm, ⟨65, _⟩ => ⟨S2051x512, .f32⟩
  | .hbm, ⟨66, _⟩ => ⟨S2048x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S2048x512, .f32⟩
  | .hbm, ⟨71, _⟩ => ⟨S2048x512, .f32⟩
  | .hbm, ⟨72, _⟩ => ⟨S_, .f32⟩
  | .hbm, ⟨73, _⟩ => ⟨S512, .f32⟩
  | .hbm, ⟨74, _⟩ => ⟨S1x512, .f32⟩
  | .hbm, ⟨75, _⟩ => ⟨S_, .f32⟩
  | .hbm, ⟨76, _⟩ => ⟨S4x512, .f32⟩
  | .hbm, ⟨77, _⟩ => ⟨S4x512, .f32⟩
  | .hbm, ⟨78, _⟩ => ⟨S_, .f32⟩
  | .hbm, ⟨79, _⟩ => ⟨S2051x512, .f32⟩
  | .hbm, ⟨80, _⟩ => ⟨S2051x512, .f32⟩
  | .hbm, ⟨81, _⟩ => ⟨S2048x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S2048x512, .f32⟩
  | .hbm, ⟨86, _⟩ => ⟨S2048x512, .f32⟩
  | .hbm, ⟨87, _⟩ => ⟨S_, .f32⟩
  | .hbm, ⟨88, _⟩ => ⟨S512, .f32⟩
  | .hbm, ⟨89, _⟩ => ⟨S1x512, .f32⟩
  | .hbm, ⟨90, _⟩ => ⟨S_, .f32⟩
  | .hbm, ⟨91, _⟩ => ⟨S4x512, .f32⟩
  | .hbm, ⟨92, _⟩ => ⟨S4x512, .f32⟩
  | .hbm, ⟨93, _⟩ => ⟨S_, .f32⟩
  | .hbm, ⟨94, _⟩ => ⟨S2051x512, .f32⟩
  | .hbm, ⟨95, _⟩ => ⟨S2051x512, .f32⟩
  | .hbm, ⟨96, _⟩ => ⟨S2048x512, .f32⟩
  | .hbm, ⟨97, _⟩ => ⟨S_, .f32⟩
  | .hbm, ⟨98, _⟩ => ⟨S512, .f32⟩
  | .hbm, ⟨99, _⟩ => ⟨S1x512, .f32⟩
  | .hbm, ⟨100, _⟩ => ⟨S2048x512, .f32⟩
  | .hbm, ⟨101, _⟩ => ⟨S2048x512, .f32⟩
  | .hbm, ⟨102, _⟩ => ⟨S_, .f32⟩
  | .hbm, ⟨103, _⟩ => ⟨S512, .f32⟩
  | .hbm, ⟨104, _⟩ => ⟨S1x512, .f32⟩
  | .hbm, ⟨105, _⟩ => ⟨S_, .f32⟩
  | .hbm, ⟨106, _⟩ => ⟨S4x512, .f32⟩
  | .hbm, ⟨107, _⟩ => ⟨S4x512, .f32⟩
  | .hbm, ⟨108, _⟩ => ⟨S_, .f32⟩
  | .hbm, ⟨109, _⟩ => ⟨S2051x512, .f32⟩
  | .hbm, ⟨110, _⟩ => ⟨S2051x512, .f32⟩
  | .hbm, ⟨111, _⟩ => ⟨S2x512, .f32⟩
  | .hbm, ⟨112, _⟩ => ⟨S2048x512, .f32⟩
  | .hbm, ⟨113, _⟩ => ⟨S1x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_cst_3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_cst_6 : Ref sig .tc := ⟨.hbm, 51, rfl⟩
abbrev main_v41 : Ref sig .tc := ⟨.hbm, 52, rfl⟩
abbrev main_v42 : Ref sig .tc := ⟨.hbm, 53, rfl⟩
abbrev main_cst_7 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_cst_13 : Ref sig .tc := ⟨.hbm, 75, rfl⟩
abbrev main_v58 : Ref sig .tc := ⟨.hbm, 76, rfl⟩
abbrev main_v59 : Ref sig .tc := ⟨.hbm, 77, rfl⟩
abbrev main_cst_14 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_cst_15 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_cst_17 : Ref sig .tc := ⟨.hbm, 90, rfl⟩
abbrev main_v69 : Ref sig .tc := ⟨.hbm, 91, rfl⟩
abbrev main_v70 : Ref sig .tc := ⟨.hbm, 92, rfl⟩
abbrev main_cst_18 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_19 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_cst_21 : Ref sig .tc := ⟨.hbm, 105, rfl⟩
abbrev main_v80 : Ref sig .tc := ⟨.hbm, 106, rfl⟩
abbrev main_v81 : Ref sig .tc := ⟨.hbm, 107, rfl⟩
abbrev main_cst_22 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩

abbrev nD : Nat := 1
abbrev τ : Topo := Topo.v7x

variable {F : FTy → Type} [FloatOps F]
-- ==== Kernel31.lean ====
abbrev S128x256x128 : Shape := ⟨3, ![128, 256, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S256x128, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_off1 (c0_i32_2 : BitVec 32) : Fin 3 → Nat :=
  let c7_i32 : BitVec 32 := 7#32
  let v4 : BitVec 32 := Scalar.subi c7_i32 c0_i32_2
  let v5 : Index := Scalar.indexCast v4
  let c0_3 : Index := 0#32
  let c0_4 : Index := 0#32
  ![v5.toNat, 0, 0]
def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S128x256x128 : Shape := ⟨3, ![128, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 38
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S_, .f32⟩
  | .hbm, ⟨3, _⟩ => ⟨S128x256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S_, .f32⟩
  | .hbm, ⟨9, _⟩ => ⟨S128x256x128, .f32⟩
  | .hbm, ⟨10, _⟩ => ⟨S_, .i32⟩
  | .hbm, ⟨11, _⟩ => ⟨S128x256x128, .f32⟩
  | .hbm, ⟨12, _⟩ => ⟨S128x256x128, .f32⟩
  | .hbm, ⟨13, _⟩ => ⟨S_, .i32⟩
  | .hbm, ⟨14, _⟩ => ⟨S256x128, .f32⟩
  | .hbm, ⟨15, _⟩ => ⟨S128x256x128, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S1x256x128, .f32⟩
  | .hbm, ⟨25, _⟩ => ⟨S256x128, .f32⟩
  | .hbm, ⟨26, _⟩ => ⟨S_, .i32⟩
  | .hbm, ⟨27, _⟩ => ⟨S_, .i32⟩
  | .hbm, ⟨28, _⟩ => ⟨S1x256x128, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S1x256x128, .f32⟩
  | .hbm, ⟨33, _⟩ => ⟨S_, .i32⟩
  | .hbm, ⟨34, _⟩ => ⟨S_, .i32⟩
  | .hbm, ⟨35, _⟩ => ⟨S128x256x128, .f32⟩
  | .hbm, ⟨36, _⟩ => ⟨S_, .i32⟩
  | .hbm, ⟨37, _⟩ => ⟨S_, .i32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_c : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_while0c_c_7 : Ref sig .tc := ⟨.hbm, 16, rfl⟩
abbrev main_while0c_v5 : Ref sig .tc := ⟨.hbm, 17, rfl⟩
abbrev main_while0b_c_7 : Ref sig .tc := ⟨.hbm, 18, rfl⟩
abbrev main_while0b_v5 : Ref sig .tc := ⟨.hbm, 19, rfl⟩
abbrev main_while0b_c_8 : Ref sig .tc := ⟨.hbm, 20, rfl⟩
abbrev main_while0b_v6 : Ref sig .tc := ⟨.hbm, 21, rfl⟩
abbrev main_while0b_call0_c : Ref sig .tc := ⟨.hbm, 22, rfl⟩
abbrev main_while0b_call0_c_0 : Ref sig .tc := ⟨.hbm, 23, rfl⟩
abbrev main_while0b_call0_v0 : Ref sig .tc := ⟨.hbm, 24, rfl⟩
abbrev main_while0b_v7 : Ref sig .tc := ⟨.hbm, 25, rfl⟩
abbrev main_while0b_call1_c : Ref sig .tc := ⟨.hbm, 26, rfl⟩
abbrev main_while0b_call1_c_0 : Ref sig .tc := ⟨.hbm, 27, rfl⟩
abbrev main_while0b_call1_v0 : Ref sig .tc := ⟨.hbm, 28, rfl⟩
abbrev main_while0b_v8 : Ref sig .tc := ⟨.hbm, 29, rfl⟩
abbrev main_while0b_v9 : Ref sig .tc := ⟨.hbm, 30, rfl⟩
abbrev main_while0b_v10 : Ref sig .tc := ⟨.hbm, 31, rfl⟩
abbrev main_while0b_call2_v0 : Ref sig .tc := ⟨.hbm, 32, rfl⟩
abbrev main_while0b_call2_c : Ref sig .tc := ⟨.hbm, 33, rfl⟩
abbrev main_while0b_call2_c_0 : Ref sig .tc := ⟨.hbm, 34, rfl⟩
abbrev main_while0b_v11 : Ref sig .tc := ⟨.hbm, 35, rfl⟩
abbrev main_while0b_c_9 : Ref sig .tc := ⟨.hbm, 36, rfl⟩
abbrev main_while0b_v12 : Ref sig .tc := ⟨.hbm, 37, rfl⟩

abbrev nD : Nat := 1
abbrev τ : Topo := Topo.v7x

variable {F : FTy → Type} [FloatOps F]

abbrev main_while0_count : Scf.Loop 32 := ⟨0#32, 128#32, 1#32⟩
-- ==== Kernel32.lean ====
abbrev S128x256x128 : Shape := ⟨3, ![128, 256, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S256x128, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference32Ideal.lean ====
abbrev S128x256x128 : Shape := ⟨3, ![128, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 41
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S_, .f32⟩
  | .hbm, ⟨3, _⟩ => ⟨S128x256x128, .f32⟩
  | .hbm, ⟨4, _⟩ => ⟨S128x256x128, .f32⟩
  | .hbm, ⟨5, _⟩ => ⟨S_, .f32⟩
  | .hbm, ⟨6, _⟩ => ⟨S256x128, .f32⟩
  | .hbm, ⟨7, _⟩ => ⟨S128x256x128, .f32⟩
  | .hbm, ⟨8, _⟩ => ⟨S_, .f32⟩
  | .hbm, ⟨9, _⟩ => ⟨S256x128, .f32⟩
  | .hbm, ⟨10, _⟩ => ⟨S_, .f32⟩
  | .hbm, ⟨11, _⟩ => ⟨S128x256x128, .f32⟩
  | .hbm, ⟨12, _⟩ => ⟨S_, .i32⟩
  | .hbm, ⟨13, _⟩ => ⟨S128x256x128, .f32⟩
  | .hbm, ⟨14, _⟩ => ⟨S128x256x128, .f32⟩
  | .hbm, ⟨15, _⟩ => ⟨S_, .i32⟩
  | .hbm, ⟨16, _⟩ => ⟨S256x128, .f32⟩
  | .hbm, ⟨17, _⟩ => ⟨S128x256x128, .f32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x256x128, .f32⟩
  | .hbm, ⟨27, _⟩ => ⟨S256x128, .f32⟩
  | .hbm, ⟨28, _⟩ => ⟨S_, .i32⟩
  | .hbm, ⟨29, _⟩ => ⟨S_, .i32⟩
  | .hbm, ⟨30, _⟩ => ⟨S1x256x128, .f32⟩
  | .hbm, ⟨31, _⟩ => ⟨S256x128, .f32⟩
  | .hbm, ⟨32, _⟩ => ⟨S256x128, .f32⟩
  | .hbm, ⟨33, _⟩ => ⟨S256x128, .f32⟩
  | .hbm, ⟨34, _⟩ => ⟨S1x256x128, .f32⟩
  | .hbm, ⟨35, _⟩ => ⟨S_, .i32⟩
  | .hbm, ⟨36, _⟩ => ⟨S_, .i32⟩
  | .hbm, ⟨37, _⟩ => ⟨S128x256x128, .f32⟩
  | .hbm, ⟨38, _⟩ => ⟨S_, .i32⟩
  | .hbm, ⟨39, _⟩ => ⟨S_, .i32⟩
  | .hbm, ⟨40, _⟩ => ⟨S128x256x128, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_c : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_while0c_c_7 : Ref sig .tc := ⟨.hbm, 18, rfl⟩
abbrev main_while0c_v8 : Ref sig .tc := ⟨.hbm, 19, rfl⟩
abbrev main_while0b_c_7 : Ref sig .tc := ⟨.hbm, 20, rfl⟩
abbrev main_while0b_v8 : Ref sig .tc := ⟨.hbm, 21, rfl⟩
abbrev main_while0b_c_8 : Ref sig .tc := ⟨.hbm, 22, rfl⟩
abbrev main_while0b_v9 : Ref sig .tc := ⟨.hbm, 23, rfl⟩
abbrev main_while0b_call4_c : Ref sig .tc := ⟨.hbm, 24, rfl⟩
abbrev main_while0b_call4_c_0 : Ref sig .tc := ⟨.hbm, 25, rfl⟩
abbrev main_while0b_call4_v0 : Ref sig .tc := ⟨.hbm, 26, rfl⟩
abbrev main_while0b_v10 : Ref sig .tc := ⟨.hbm, 27, rfl⟩
abbrev main_while0b_call5_c : Ref sig .tc := ⟨.hbm, 28, rfl⟩
abbrev main_while0b_call5_c_0 : Ref sig .tc := ⟨.hbm, 29, rfl⟩
abbrev main_while0b_call5_v0 : Ref sig .tc := ⟨.hbm, 30, rfl⟩
abbrev main_while0b_v11 : Ref sig .tc := ⟨.hbm, 31, rfl⟩
abbrev main_while0b_v12 : Ref sig .tc := ⟨.hbm, 32, rfl⟩
abbrev main_while0b_v13 : Ref sig .tc := ⟨.hbm, 33, rfl⟩
abbrev main_while0b_call6_v0 : Ref sig .tc := ⟨.hbm, 34, rfl⟩
abbrev main_while0b_call6_c : Ref sig .tc := ⟨.hbm, 35, rfl⟩
abbrev main_while0b_call6_c_0 : Ref sig .tc := ⟨.hbm, 36, rfl⟩
abbrev main_while0b_v14 : Ref sig .tc := ⟨.hbm, 37, rfl⟩
abbrev main_while0b_c_9 : Ref sig .tc := ⟨.hbm, 38, rfl⟩
abbrev main_while0b_v15 : Ref sig .tc := ⟨.hbm, 39, rfl⟩
abbrev main_v7 : Ref sig .tc := ⟨.hbm, 40, rfl⟩

abbrev nD : Nat := 1
abbrev τ : Topo := Topo.v7x

variable {F : FTy → Type} [FloatOps F]

abbrev main_while0_count : Scf.Loop 32 := ⟨0#32, 128#32, 1#32⟩
-- ==== Kernel33.lean ====
abbrev S128x256x128 : Shape := ⟨3, ![128, 256, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S256x128, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference33Ideal.lean ====
abbrev S128x256x128 : Shape := ⟨3, ![128, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 30
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S_, .f32⟩
  | .hbm, ⟨3, _⟩ => ⟨S256x128, .f32⟩
  | .hbm, ⟨4, _⟩ => ⟨S_, .f32⟩
  | .hbm, ⟨5, _⟩ => ⟨S128x256x128, .f32⟩
  | .hbm, ⟨6, _⟩ => ⟨S_, .i32⟩
  | .hbm, ⟨7, _⟩ => ⟨S128x256x128, .f32⟩
  | .hbm, ⟨8, _⟩ => ⟨S128x256x128, .f32⟩
  | .hbm, ⟨9, _⟩ => ⟨S_, .i32⟩
  | .hbm, ⟨10, _⟩ => ⟨S256x128, .f32⟩
  | .hbm, ⟨11, _⟩ => ⟨S128x256x128, .f32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S1x256x128, .f32⟩
  | .hbm, ⟨17, _⟩ => ⟨S256x128, .f32⟩
  | .hbm, ⟨18, _⟩ => ⟨S_, .i32⟩
  | .hbm, ⟨19, _⟩ => ⟨S_, .i32⟩
  | .hbm, ⟨20, _⟩ => ⟨S1x256x128, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S1x256x128, .f32⟩
  | .hbm, ⟨25, _⟩ => ⟨S_, .i32⟩
  | .hbm, ⟨26, _⟩ => ⟨S_, .i32⟩
  | .hbm, ⟨27, _⟩ => ⟨S128x256x128, .f32⟩
  | .hbm, ⟨28, _⟩ => ⟨S_, .i32⟩
  | .hbm, ⟨29, _⟩ => ⟨S_, .i32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_c : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev main_while0c_c_5 : Ref sig .tc := ⟨.hbm, 12, rfl⟩
abbrev main_while0c_v3 : Ref sig .tc := ⟨.hbm, 13, rfl⟩
abbrev main_while0b_call0_c : Ref sig .tc := ⟨.hbm, 14, rfl⟩
abbrev main_while0b_call0_c_0 : Ref sig .tc := ⟨.hbm, 15, rfl⟩
abbrev main_while0b_call0_v0 : Ref sig .tc := ⟨.hbm, 16, rfl⟩
abbrev main_while0b_v3 : Ref sig .tc := ⟨.hbm, 17, rfl⟩
abbrev main_while0b_call1_c : Ref sig .tc := ⟨.hbm, 18, rfl⟩
abbrev main_while0b_call1_c_0 : Ref sig .tc := ⟨.hbm, 19, rfl⟩
abbrev main_while0b_call1_v0 : Ref sig .tc := ⟨.hbm, 20, rfl⟩
abbrev main_while0b_v4 : Ref sig .tc := ⟨.hbm, 21, rfl⟩
abbrev main_while0b_v5 : Ref sig .tc := ⟨.hbm, 22, rfl⟩
abbrev main_while0b_v6 : Ref sig .tc := ⟨.hbm, 23, rfl⟩
abbrev main_while0b_call2_v0 : Ref sig .tc := ⟨.hbm, 24, rfl⟩
abbrev main_while0b_call2_c : Ref sig .tc := ⟨.hbm, 25, rfl⟩
abbrev main_while0b_call2_c_0 : Ref sig .tc := ⟨.hbm, 26, rfl⟩
abbrev main_while0b_v7 : Ref sig .tc := ⟨.hbm, 27, rfl⟩
abbrev main_while0b_c_5 : Ref sig .tc := ⟨.hbm, 28, rfl⟩
abbrev main_while0b_v8 : Ref sig .tc := ⟨.hbm, 29, rfl⟩

abbrev nD : Nat := 1
abbrev τ : Topo := Topo.v7x

variable {F : FTy → Type} [FloatOps F]

abbrev main_while0_count : Scf.Loop 32 := ⟨0#32, 128#32, 1#32⟩
-- ==== Kernel34.lean ====
abbrev S128x256x128 : Shape := ⟨3, ![128, 256, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 3
  | .vmem => 7
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x128, .f32⟩
  | .local _ .vmem, ⟨0, _⟩ => ⟨S8x256x128, .f32⟩
  | .local _ .vmem, ⟨1, _⟩ => ⟨S8x256x128, .f32⟩
  | .local _ .vmem, ⟨2, _⟩ => ⟨S8x256x128, .f32⟩
  | .local _ .vmem, ⟨3, _⟩ => ⟨S8x256x128, .f32⟩
  | .local _ .vmem, ⟨4, _⟩ => ⟨S8x256x128, .f32⟩
  | .local _ .vmem, ⟨5, _⟩ => ⟨S8x256x128, .f32⟩
  | .local _ .vmem, ⟨6, _⟩ => ⟨S256x128, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def k0_off1 (c0_i32_2 : BitVec 32) : Fin 3 → Nat :=
  let c7_i32 : BitVec 32 := 7#32
  let v4 : BitVec 32 := Scalar.subi c7_i32 c0_i32_2
  let v5 : Index := Scalar.indexCast v4
  let c0_3 : Index := 0#32
  let c0_4 : Index := 0#32
  ![v5.toNat, 0, 0]
def cc0_transform_0 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference34Ideal.lean ====
abbrev S128x256x128 : Shape := ⟨3, ![128, 256, 128]⟩
abbrev S_ : Shape := ⟨0, ![]⟩
abbrev S256x128 : Shape := ⟨2, ![256, 128]⟩
abbrev S1x256x128 : Shape := ⟨3, ![1, 256, 128]⟩

abbrev nBuf : Space → Nat
  | .hbm => 33
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256x128, .f32⟩
  | .hbm, ⟨2, _⟩ => ⟨S128x256x128, .f32⟩
  | .hbm, ⟨3, _⟩ => ⟨S128x256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S128x256x128, .f32⟩
  | .hbm, ⟨8, _⟩ => ⟨S_, .i32⟩
  | .hbm, ⟨9, _⟩ => ⟨S128x256x128, .f32⟩
  | .hbm, ⟨10, _⟩ => ⟨S128x256x128, .f32⟩
  | .hbm, ⟨11, _⟩ => ⟨S_, .i32⟩
  | .hbm, ⟨12, _⟩ => ⟨S256x128, .f32⟩
  | .hbm, ⟨13, _⟩ => ⟨S128x256x128, .f32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S1x256x128, .f32⟩
  | .hbm, ⟨19, _⟩ => ⟨S256x128, .f32⟩
  | .hbm, ⟨20, _⟩ => ⟨S_, .i32⟩
  | .hbm, ⟨21, _⟩ => ⟨S_, .i32⟩
  | .hbm, ⟨22, _⟩ => ⟨S1x256x128, .f32⟩
  | .hbm, ⟨23, _⟩ => ⟨S256x128, .f32⟩
  | .hbm, ⟨24, _⟩ => ⟨S256x128, .f32⟩
  | .hbm, ⟨25, _⟩ => ⟨S256x128, .f32⟩
  | .hbm, ⟨26, _⟩ => ⟨S1x256x128, .f32⟩
  | .hbm, ⟨27, _⟩ => ⟨S_, .i32⟩
  | .hbm, ⟨28, _⟩ => ⟨S_, .i32⟩
  | .hbm, ⟨29, _⟩ => ⟨S128x256x128, .f32⟩
  | .hbm, ⟨30, _⟩ => ⟨S_, .i32⟩
  | .hbm, ⟨31, _⟩ => ⟨S_, .i32⟩
  | .hbm, ⟨32, _⟩ => ⟨S128x256x128, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_c : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_while0c_c_5 : Ref sig .tc := ⟨.hbm, 14, rfl⟩
abbrev main_while0c_v6 : Ref sig .tc := ⟨.hbm, 15, rfl⟩
abbrev main_while0b_call2_c : Ref sig .tc := ⟨.hbm, 16, rfl⟩
abbrev main_while0b_call2_c_0 : Ref sig .tc := ⟨.hbm, 17, rfl⟩
abbrev main_while0b_call2_v0 : Ref sig .tc := ⟨.hbm, 18, rfl⟩
abbrev main_while0b_v6 : Ref sig .tc := ⟨.hbm, 19, rfl⟩
abbrev main_while0b_call3_c : Ref sig .tc := ⟨.hbm, 20, rfl⟩
abbrev main_while0b_call3_c_0 : Ref sig .tc := ⟨.hbm, 21, rfl⟩
abbrev main_while0b_call3_v0 : Ref sig .tc := ⟨.hbm, 22, rfl⟩
abbrev main_while0b_v7 : Ref sig .tc := ⟨.hbm, 23, rfl⟩
abbrev main_while0b_v8 : Ref sig .tc := ⟨.hbm, 24, rfl⟩
abbrev main_while0b_v9 : Ref sig .tc := ⟨.hbm, 25, rfl⟩
abbrev main_while0b_call4_v0 : Ref sig .tc := ⟨.hbm, 26, rfl⟩
abbrev main_while0b_call4_c : Ref sig .tc := ⟨.hbm, 27, rfl⟩
abbrev main_while0b_call4_c_0 : Ref sig .tc := ⟨.hbm, 28, rfl⟩
abbrev main_while0b_v10 : Ref sig .tc := ⟨.hbm, 29, rfl⟩
abbrev main_while0b_c_5 : Ref sig .tc := ⟨.hbm, 30, rfl⟩
abbrev main_while0b_v11 : Ref sig .tc := ⟨.hbm, 31, rfl⟩
abbrev main_v5 : Ref sig .tc := ⟨.hbm, 32, rfl⟩

abbrev nD : Nat := 1
abbrev τ : Topo := Topo.v7x

variable {F : FTy → Type} [FloatOps F]

abbrev main_while0_count : Scf.Loop 32 := ⟨0#32, 128#32, 1#32⟩
-- ==== Kernel35.lean ====
abbrev S2048x256 : Shape := ⟨2, ![2048, 256]⟩
abbrev S2048x512 : Shape := ⟨2, ![2048, 512]⟩
abbrev S256x2048 : Shape := ⟨2, ![256, 2048]⟩
abbrev S128x256x128 : Shape := ⟨3, ![128, 256, 128]⟩
abbrev S256x128 : Shape := ⟨2, ![256, 128]⟩
abbrev S128x512 : Shape := ⟨2, ![128, 512]⟩
abbrev S8x256x128 : Shape := ⟨3, ![8, 256, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩

abbrev nBuf : Space → Nat
  | .hbm => 6
  | .vmem => 8
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S256x2048, .f32⟩
  | .hbm, ⟨4, _⟩ => ⟨S256x2048, .f32⟩
  | .hbm, ⟨5, _⟩ => ⟨S128x256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S128x512, .f32⟩
  | .local _ .vmem, ⟨5, _⟩ => ⟨S128x512, .f32⟩
  | .local _ .vmem, ⟨6, _⟩ => ⟨S8x256x128, .f32⟩
  | .local _ .vmem, ⟨7, _⟩ => ⟨S8x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference35Ideal.lean ====
abbrev S2048x256 : Shape := ⟨2, ![2048, 256]⟩
abbrev S2048x512 : Shape := ⟨2, ![2048, 512]⟩
abbrev S_ : Shape := ⟨0, ![]⟩
abbrev S128x256x128 : Shape := ⟨3, ![128, 256, 128]⟩
abbrev S2048x4x64 : Shape := ⟨3, ![2048, 4, 64]⟩
abbrev S4x2048x64 : Shape := ⟨3, ![4, 2048, 64]⟩
abbrev S4x128x16x64 : Shape := ⟨4, ![4, 128, 16, 64]⟩
abbrev S128x4x64x128 : Shape := ⟨4, ![128, 4, 64, 128]⟩
abbrev S4x128x16x128 : Shape := ⟨4, ![4, 128, 16, 128]⟩
abbrev S2048x4x128 : Shape := ⟨3, ![2048, 4, 128]⟩
abbrev S4x2048x128 : Shape := ⟨3, ![4, 2048, 128]⟩
abbrev S4x128x128x64 : Shape := ⟨4, ![4, 128, 128, 64]⟩

abbrev nBuf : Space → Nat
  | .hbm => 27
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S_, .f32⟩
  | .hbm, ⟨4, _⟩ => ⟨S128x256x128, .f32⟩
  | .hbm, ⟨5, _⟩ => ⟨S2048x4x64, .f32⟩
  | .hbm, ⟨6, _⟩ => ⟨S4x2048x64, .f32⟩
  | .hbm, ⟨7, _⟩ => ⟨S4x128x16x64, .f32⟩
  | .hbm, ⟨8, _⟩ => ⟨S_, .f32⟩
  | .hbm, ⟨9, _⟩ => ⟨S_, .f32⟩
  | .hbm, ⟨10, _⟩ => ⟨S4x128x16x64, .f32⟩
  | .hbm, ⟨11, _⟩ => ⟨S2048x4x64, .f32⟩
  | .hbm, ⟨12, _⟩ => ⟨S4x2048x64, .f32⟩
  | .hbm, ⟨13, _⟩ => ⟨S4x128x16x64, .f32⟩
  | .hbm, ⟨14, _⟩ => ⟨S_, .f32⟩
  | .hbm, ⟨15, _⟩ => ⟨S4x128x16x64, .f32⟩
  | .hbm, ⟨16, _⟩ => ⟨S4x128x16x64, .f32⟩
  | .hbm, ⟨17, _⟩ => ⟨S4x128x16x64, .f32⟩
  | .hbm, ⟨18, _⟩ => ⟨S4x128x16x64, .f32⟩
  | .hbm, ⟨19, _⟩ => ⟨S128x4x64x128, .f32⟩
  | .hbm, ⟨20, _⟩ => ⟨S4x128x16x128, .f32⟩
  | .hbm, ⟨21, _⟩ => ⟨S2048x4x128, .f32⟩
  | .hbm, ⟨22, _⟩ => ⟨S4x2048x128, .f32⟩
  | .hbm, ⟨23, _⟩ => ⟨S4x128x16x128, .f32⟩
  | .hbm, ⟨24, _⟩ => ⟨S4x128x128x64, .f32⟩
  | .hbm, ⟨25, _⟩ => ⟨S128x4x64x128, .f32⟩
  | .hbm, ⟨26, _⟩ => ⟨S128x256x128, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel36.lean ====
abbrev S2048x256 : Shape := ⟨2, ![2048, 256]⟩
abbrev S2048x512 : Shape := ⟨2, ![2048, 512]⟩
abbrev S256x2048 : Shape := ⟨2, ![256, 2048]⟩
abbrev S128x256x128 : Shape := ⟨3, ![128, 256, 128]⟩
abbrev S256x128 : Shape := ⟨2, ![256, 128]⟩
abbrev S128x512 : Shape := ⟨2, ![128, 512]⟩
abbrev S8x256x128 : Shape := ⟨3, ![8, 256, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩

abbrev nBuf : Space → Nat
  | .hbm => 6
  | .vmem => 8
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S256x2048, .f32⟩
  | .hbm, ⟨4, _⟩ => ⟨S256x2048, .f32⟩
  | .hbm, ⟨5, _⟩ => ⟨S128x256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S128x512, .f32⟩
  | .local _ .vmem, ⟨5, _⟩ => ⟨S128x512, .f32⟩
  | .local _ .vmem, ⟨6, _⟩ => ⟨S8x256x128, .f32⟩
  | .local _ .vmem, ⟨7, _⟩ => ⟨S8x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference36Ideal.lean ====
abbrev S2048x256 : Shape := ⟨2, ![2048, 256]⟩
abbrev S2048x512 : Shape := ⟨2, ![2048, 512]⟩
abbrev S2048x4x128 : Shape := ⟨3, ![2048, 4, 128]⟩
abbrev S4x2048x128 : Shape := ⟨3, ![4, 2048, 128]⟩
abbrev S_ : Shape := ⟨0, ![]⟩
abbrev S128x256x128 : Shape := ⟨3, ![128, 256, 128]⟩
abbrev S2048x4x64 : Shape := ⟨3, ![2048, 4, 64]⟩
abbrev S4x2048x64 : Shape := ⟨3, ![4, 2048, 64]⟩
abbrev S4x128x16x64 : Shape := ⟨4, ![4, 128, 16, 64]⟩
abbrev S128x4x64x128 : Shape := ⟨4, ![128, 4, 64, 128]⟩
abbrev S4x128x16x128 : Shape := ⟨4, ![4, 128, 16, 128]⟩
abbrev S4x128x128x64 : Shape := ⟨4, ![4, 128, 128, 64]⟩

abbrev nBuf : Space → Nat
  | .hbm => 34
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S2048x4x128, .f32⟩
  | .hbm, ⟨4, _⟩ => ⟨S4x2048x128, .f32⟩
  | .hbm, ⟨5, _⟩ => ⟨S_, .f32⟩
  | .hbm, ⟨6, _⟩ => ⟨S128x256x128, .f32⟩
  | .hbm, ⟨7, _⟩ => ⟨S2048x256, .f32⟩
  | .hbm, ⟨8, _⟩ => ⟨S2048x256, .f32⟩
  | .hbm, ⟨9, _⟩ => ⟨S128x256x128, .f32⟩
  | .hbm, ⟨10, _⟩ => ⟨S2048x4x64, .f32⟩
  | .hbm, ⟨11, _⟩ => ⟨S4x2048x64, .f32⟩
  | .hbm, ⟨12, _⟩ => ⟨S4x128x16x64, .f32⟩
  | .hbm, ⟨13, _⟩ => ⟨S_, .f32⟩
  | .hbm, ⟨14, _⟩ => ⟨S_, .f32⟩
  | .hbm, ⟨15, _⟩ => ⟨S4x128x16x64, .f32⟩
  | .hbm, ⟨16, _⟩ => ⟨S2048x4x64, .f32⟩
  | .hbm, ⟨17, _⟩ => ⟨S4x2048x64, .f32⟩
  | .hbm, ⟨18, _⟩ => ⟨S4x128x16x64, .f32⟩
  | .hbm, ⟨19, _⟩ => ⟨S_, .f32⟩
  | .hbm, ⟨20, _⟩ => ⟨S4x128x16x64, .f32⟩
  | .hbm, ⟨21, _⟩ => ⟨S4x128x16x64, .f32⟩
  | .hbm, ⟨22, _⟩ => ⟨S4x128x16x64, .f32⟩
  | .hbm, ⟨23, _⟩ => ⟨S4x128x16x64, .f32⟩
  | .hbm, ⟨24, _⟩ => ⟨S128x4x64x128, .f32⟩
  | .hbm, ⟨25, _⟩ => ⟨S4x128x16x128, .f32⟩
  | .hbm, ⟨26, _⟩ => ⟨S4x2048x128, .f32⟩
  | .hbm, ⟨27, _⟩ => ⟨S4x2048x128, .f32⟩
  | .hbm, ⟨28, _⟩ => ⟨S4x2048x128, .f32⟩
  | .hbm, ⟨29, _⟩ => ⟨S4x128x16x128, .f32⟩
  | .hbm, ⟨30, _⟩ => ⟨S4x128x128x64, .f32⟩
  | .hbm, ⟨31, _⟩ => ⟨S128x4x64x128, .f32⟩
  | .hbm, ⟨32, _⟩ => ⟨S128x256x128, .f32⟩
  | .hbm, ⟨33, _⟩ => ⟨S128x256x128, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call3_call0_cst : Ref sig .tc := ⟨.hbm, 13, rfl⟩
abbrev main_call3_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel37.lean ====
abbrev S2048x256 : Shape := ⟨2, ![2048, 256]⟩
abbrev S2048x512 : Shape := ⟨2, ![2048, 512]⟩
abbrev S256x2048 : Shape := ⟨2, ![256, 2048]⟩
abbrev S128x256x128 : Shape := ⟨3, ![128, 256, 128]⟩
abbrev S256x128 : Shape := ⟨2, ![256, 128]⟩
abbrev S128x512 : Shape := ⟨2, ![128, 512]⟩
abbrev S8x256x128 : Shape := ⟨3, ![8, 256, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩
abbrev S1x256x128 : Shape := ⟨3, ![1, 256, 128]⟩

abbrev nBuf : Space → Nat
  | .hbm => 7
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S256x2048, .f32⟩
  | .hbm, ⟨4, _⟩ => ⟨S256x2048, .f32⟩
  | .hbm, ⟨5, _⟩ => ⟨S128x256x128, .f32⟩
  | .hbm, ⟨6, _⟩ => ⟨S128x256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S128x512, .f32⟩
  | .local _ .vmem, ⟨5, _⟩ => ⟨S128x512, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference37Ideal.lean ====
abbrev S2048x256 : Shape := ⟨2, ![2048, 256]⟩
abbrev S2048x512 : Shape := ⟨2, ![2048, 512]⟩
abbrev S2048x4x64 : Shape := ⟨3, ![2048, 4, 64]⟩
abbrev S4x2048x64 : Shape := ⟨3, ![4, 2048, 64]⟩
abbrev S4x128x16x64 : Shape := ⟨4, ![4, 128, 16, 64]⟩
abbrev S_ : Shape := ⟨0, ![]⟩
abbrev S4x128x1x64 : Shape := ⟨4, ![4, 128, 1, 64]⟩
abbrev S4x128x64 : Shape := ⟨3, ![4, 128, 64]⟩
abbrev S2048x4x128 : Shape := ⟨3, ![2048, 4, 128]⟩
abbrev S4x2048x128 : Shape := ⟨3, ![4, 2048, 128]⟩
abbrev S4x128x16x128 : Shape := ⟨4, ![4, 128, 16, 128]⟩
abbrev S4x128x64x128 : Shape := ⟨4, ![4, 128, 64, 128]⟩
abbrev S128x4x64 : Shape := ⟨3, ![128, 4, 64]⟩
abbrev S128x256 : Shape := ⟨2, ![128, 256]⟩
abbrev S128x4x64x128 : Shape := ⟨4, ![128, 4, 64, 128]⟩
abbrev S128x256x128 : Shape := ⟨3, ![128, 256, 128]⟩
abbrev S128x256x1 : Shape := ⟨3, ![128, 256, 1]⟩

abbrev nBuf : Space → Nat
  | .hbm => 30
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S2048x4x64, .f32⟩
  | .hbm, ⟨4, _⟩ => ⟨S4x2048x64, .f32⟩
  | .hbm, ⟨5, _⟩ => ⟨S4x128x16x64, .f32⟩
  | .hbm, ⟨6, _⟩ => ⟨S_, .f32⟩
  | .hbm, ⟨7, _⟩ => ⟨S_, .f32⟩
  | .hbm, ⟨8, _⟩ => ⟨S4x128x16x64, .f32⟩
  | .hbm, ⟨9, _⟩ => ⟨S4x128x1x64, .f32⟩
  | .hbm, ⟨10, _⟩ => ⟨S4x128x64, .f32⟩
  | .hbm, ⟨11, _⟩ => ⟨S2048x4x64, .f32⟩
  | .hbm, ⟨12, _⟩ => ⟨S4x2048x64, .f32⟩
  | .hbm, ⟨13, _⟩ => ⟨S4x128x16x64, .f32⟩
  | .hbm, ⟨14, _⟩ => ⟨S4x128x1x64, .f32⟩
  | .hbm, ⟨15, _⟩ => ⟨S4x128x16x64, .f32⟩
  | .hbm, ⟨16, _⟩ => ⟨S4x128x16x64, .f32⟩
  | .hbm, ⟨17, _⟩ => ⟨S4x128x16x64, .f32⟩
  | .hbm, ⟨18, _⟩ => ⟨S4x128x16x64, .f32⟩
  | .hbm, ⟨19, _⟩ => ⟨S2048x4x128, .f32⟩
  | .hbm, ⟨20, _⟩ => ⟨S4x2048x128, .f32⟩
  | .hbm, ⟨21, _⟩ => ⟨S4x128x16x128, .f32⟩
  | .hbm, ⟨22, _⟩ => ⟨S4x128x64x128, .f32⟩
  | .hbm, ⟨23, _⟩ => ⟨S4x128x64, .f32⟩
  | .hbm, ⟨24, _⟩ => ⟨S128x4x64, .f32⟩
  | .hbm, ⟨25, _⟩ => ⟨S128x256, .f32⟩
  | .hbm, ⟨26, _⟩ => ⟨S128x4x64x128, .f32⟩
  | .hbm, ⟨27, _⟩ => ⟨S128x256x128, .f32⟩
  | .hbm, ⟨28, _⟩ => ⟨S128x256x1, .f32⟩
  | .hbm, ⟨29, _⟩ => ⟨S128x256x128, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel38.lean ====
abbrev S2048x256 : Shape := ⟨2, ![2048, 256]⟩
abbrev S2048x512 : Shape := ⟨2, ![2048, 512]⟩
abbrev S256x2048 : Shape := ⟨2, ![256, 2048]⟩
abbrev S128x256x128 : Shape := ⟨3, ![128, 256, 128]⟩
abbrev S256x128 : Shape := ⟨2, ![256, 128]⟩
abbrev S128x512 : Shape := ⟨2, ![128, 512]⟩
abbrev S8x256x128 : Shape := ⟨3, ![8, 256, 128]⟩
abbrev S128x128 : Shape := ⟨2, ![128, 128]⟩
abbrev S1x128 : Shape := ⟨2, ![1, 128]⟩
abbrev S64x128 : Shape := ⟨2, ![64, 128]⟩
abbrev S1x64x128 : Shape := ⟨3, ![1, 64, 128]⟩
abbrev S1x256x128 : Shape := ⟨3, ![1, 256, 128]⟩

abbrev nBuf : Space → Nat
  | .hbm => 7
  | .vmem => 10
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S256x2048, .f32⟩
  | .hbm, ⟨4, _⟩ => ⟨S256x2048, .f32⟩
  | .hbm, ⟨5, _⟩ => ⟨S128x256x128, .f32⟩
  | .hbm, ⟨6, _⟩ => ⟨S128x256x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S128x512, .f32⟩
  | .local _ .vmem, ⟨5, _⟩ => ⟨S128x512, .f32⟩
  | .local _ .vmem, ⟨6, _⟩ => ⟨S8x256x128, .f32⟩
  | .local _ .vmem, ⟨7, _⟩ => ⟨S8x256x128, .f32⟩
  | .local _ .vmem, ⟨8, _⟩ => ⟨S8x256x128, .f32⟩
  | .local _ .vmem, ⟨9, _⟩ => ⟨S8x256x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference38Ideal.lean ====
abbrev S2048x256 : Shape := ⟨2, ![2048, 256]⟩
abbrev S2048x512 : Shape := ⟨2, ![2048, 512]⟩
abbrev S2048x4x64 : Shape := ⟨3, ![2048, 4, 64]⟩
abbrev S4x2048x64 : Shape := ⟨3, ![4, 2048, 64]⟩
abbrev S4x128x16x64 : Shape := ⟨4, ![4, 128, 16, 64]⟩
abbrev S_ : Shape := ⟨0, ![]⟩
abbrev S4x128x1x64 : Shape := ⟨4, ![4, 128, 1, 64]⟩
abbrev S4x128x64 : Shape := ⟨3, ![4, 128, 64]⟩
abbrev S2048x4x128 : Shape := ⟨3, ![2048, 4, 128]⟩
abbrev S4x2048x128 : Shape := ⟨3, ![4, 2048, 128]⟩
abbrev S4x128x16x128 : Shape := ⟨4, ![4, 128, 16, 128]⟩
abbrev S4x128x64x128 : Shape := ⟨4, ![4, 128, 64, 128]⟩
abbrev S128x4x64 : Shape := ⟨3, ![128, 4, 64]⟩
abbrev S128x256 : Shape := ⟨2, ![128, 256]⟩
abbrev S128x4x64x128 : Shape := ⟨4, ![128, 4, 64, 128]⟩
abbrev S128x256x128 : Shape := ⟨3, ![128, 256, 128]⟩
abbrev S128x256x1 : Shape := ⟨3, ![128, 256, 1]⟩

abbrev nBuf : Space → Nat
  | .hbm => 35
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S2048x256, .f32⟩
  | .hbm, ⟨4, _⟩ => ⟨S2048x256, .f32⟩
  | .hbm, ⟨5, _⟩ => ⟨S2048x512, .f32⟩
  | .hbm, ⟨6, _⟩ => ⟨S2048x4x64, .f32⟩
  | .hbm, ⟨7, _⟩ => ⟨S4x2048x64, .f32⟩
  | .hbm, ⟨8, _⟩ => ⟨S4x128x16x64, .f32⟩
  | .hbm, ⟨9, _⟩ => ⟨S_, .f32⟩
  | .hbm, ⟨10, _⟩ => ⟨S_, .f32⟩
  | .hbm, ⟨11, _⟩ => ⟨S4x128x16x64, .f32⟩
  | .hbm, ⟨12, _⟩ => ⟨S4x128x1x64, .f32⟩
  | .hbm, ⟨13, _⟩ => ⟨S4x128x64, .f32⟩
  | .hbm, ⟨14, _⟩ => ⟨S2048x4x64, .f32⟩
  | .hbm, ⟨15, _⟩ => ⟨S4x2048x64, .f32⟩
  | .hbm, ⟨16, _⟩ => ⟨S4x128x16x64, .f32⟩
  | .hbm, ⟨17, _⟩ => ⟨S4x128x1x64, .f32⟩
  | .hbm, ⟨18, _⟩ => ⟨S4x128x16x64, .f32⟩
  | .hbm, ⟨19, _⟩ => ⟨S4x128x16x64, .f32⟩
  | .hbm, ⟨20, _⟩ => ⟨S4x128x16x64, .f32⟩
  | .hbm, ⟨21, _⟩ => ⟨S4x128x16x64, .f32⟩
  | .hbm, ⟨22, _⟩ => ⟨S2048x4x128, .f32⟩
  | .hbm, ⟨23, _⟩ => ⟨S4x2048x128, .f32⟩
  | .hbm, ⟨24, _⟩ => ⟨S4x128x16x128, .f32⟩
  | .hbm, ⟨25, _⟩ => ⟨S4x128x64x128, .f32⟩
  | .hbm, ⟨26, _⟩ => ⟨S4x128x64, .f32⟩
  | .hbm, ⟨27, _⟩ => ⟨S128x4x64, .f32⟩
  | .hbm, ⟨28, _⟩ => ⟨S128x256, .f32⟩
  | .hbm, ⟨29, _⟩ => ⟨S128x4x64x128, .f32⟩
  | .hbm, ⟨30, _⟩ => ⟨S128x256x128, .f32⟩
  | .hbm, ⟨31, _⟩ => ⟨S128x256x1, .f32⟩
  | .hbm, ⟨32, _⟩ => ⟨S128x256x128, .f32⟩
  | .hbm, ⟨33, _⟩ => ⟨S128x256x128, .f32⟩
  | .hbm, ⟨34, _⟩ => ⟨S128x256x128, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call3_call0_cst : Ref sig .tc := ⟨.hbm, 9, rfl⟩
abbrev main_call3_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== Proof.M2.lean ====
/- The up projection with the squared relu of its result in the same kernel. -/
module

public import proofs.«01_k».proof.Defs
public import proofs.«01_k».proof.Proof.Gen.Kernel2Ideal.Frame
public import proofs.«01_k».proof.Proof.Gen.Reference2Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Up.Forward

open Cert.Kernel2Ideal Cert.Kernel2Ideal.Gen Idealize.ShloMosaic Idealize.ShloMosaic.TcCoe Idealize.SL.Sem
open Idealize.ShloMosaic.Pipeline (Dat)

/-- The reference's product. -/
def up (H : FVec Ideal S2048x2048 .f32) (W : FVec Ideal S2048x8192 .f32) : FVec Ideal S2048x8192 .f32 :=
  Host.dotGeneral Cert.Reference2Ideal.dot_S2048x2048_S2048x8192_S2048x8192_1_0_0_1_n_n none H W

/-- The reference's squared relu of it. -/
def act (H : FVec Ideal S2048x2048 .f32) (W : FVec Ideal S2048x8192 .f32) : FVec Ideal S2048x8192 .f32 :=
  mulf (maximumf (up H W) (broadcastInDim Cert.Reference2Ideal.S2048x8192 ![] Cert.Reference2Ideal.Gen.bcast_S_S2048x8192 (constant S_ .f32 0x00000000#32)))
    (maximumf (up H W) (broadcastInDim Cert.Reference2Ideal.S2048x8192 ![] Cert.Reference2Ideal.Gen.bcast_S_S2048x8192 (constant S_ .f32 0x00000000#32)))

theorem up_at (H : FVec Ideal S2048x2048 .f32) (W : FVec Ideal S2048x8192 .f32) (i : Fin 2048) (j : Fin 8192) :
    up H W (ix2 i j) = ∑ k : Fin 2048, H (ix2 i k) * W (ix2 k j) := by
  pointwise [up]

theorem act_at (H : FVec Ideal S2048x2048 .f32) (W : FVec Ideal S2048x8192 .f32) (i : Fin 2048) (j : Fin 8192) :
    act H W (ix2 i j) = max (∑ k : Fin 2048, H (ix2 i k) * W (ix2 k j)) 0 * max (∑ k : Fin 2048, H (ix2 i k) * W (ix2 k j)) 0 := by
  pointwise [act, up]

/-- The gathered weights that the kernel reads: each device's rows of the up projection's transpose, zeros. -/
def gathered (W : FVec Ideal S2048x8192 .f32) : FVec Ideal S8x3328x2048 .bf16 :=
  truncf .bf16 (concatenate S8x3328x2048 1 [⟨S8x1024x2048, (shapeCast S8x1024x2048 (transpose S8192x2048 [1, 0] W transposes_S2048x8192_S8192x2048_1_0 : FVec Ideal S8192x2048 .f32) shapeCasts_S8192x2048_S8x1024x2048 : FVec Ideal S8x1024x2048 .f32)⟩,
    ⟨S8x2304x2048, (broadcastInDim S8x2304x2048 ![] bcast_S_S8x2304x2048 (constant S_ .f32 0x00000000#32) : FVec Ideal S8x2304x2048 .f32)⟩] concatenates_S8x1024x2048_S8x2304x2048_S8x3328x2048_d1 : FVec Ideal S8x3328x2048 .f32) bitsLt_bf16_f32

variable (m : (ℓ : Loc nD τ sig) → Buf (Elt Ideal) ℓ) (c : Dev nD)

/-- The windows' index maps. -/
theorem idx : ∀ t : Fin cfg0.N, win0_0.index t = ![t.val / 8, 0] ∧ win0_1.index t = ![t.val % 8, 0, 0]
    ∧ win0_2.index t = ![t.val / 8, t.val % 8] ∧ win0_3.index t = ![t.val / 8, t.val % 8] :=
  (by decide +kernel : ∀ t : Fin grid0.N, _)

variable {H : FVec Ideal S2048x2048 .f32} {W : FVec Ideal S2048x8192 .f32}
    (h0 : m ((c : Thread nD τ).loc main_arg0) = H) (h1 : m ((c : Thread nD τ).loc main_arg1) = W)

include h1 in
/-- The gathered weights that the region starts with, in the up projection's rows. -/
theorem host_w (p : Fin 8) (r : Fin 1024) (k : Fin 2048) :
    Gen.V m c main_v5 (ix3 p (⟨r.val, by omega⟩ : Fin 3328) k) = W (ix2 k ⟨p.val * 1024 + r.val, by omega⟩) := by
  have h : Gen.V m c main_v5 = gathered W := by
    subst h1
    change StableHlo.after [hostOps0].flatten (fun b => m (c, b)) (Proc.devRef .tc main_v5) = _
    simp only [hostOps0, List.flatten_cons, List.flatten_nil, List.append_nil, List.cons_append, List.nil_append]
    after_results
    rfl
  rw [h]
  pointwise [gathered]

include h1 in
/-- The weights' block at a grid point. -/
theorem weight (t : Fin cfg0.N) (r : Fin 1024) (k : Fin 2048) :
    X0_1 m c t (ix3 0 r k) = W (ix2 k ⟨t.val % 8 * 1024 + r.val, by omega⟩) := by
  let j : ((cfg0.win 1).xblock (cfg0.grid.coords t)).Idx :=
    fun a => ⟨((ix3 0 r k : S1x1024x2048.Idx) a).val, by show _ < (cfg0.win 1).xsize (cfg0.grid.coords t) a; rw [xsize0_1 t a]; exact ((ix3 0 r k : S1x1024x2048.Idx) a).isLt⟩
  have hf : X0_1 m c t (ix3 0 r k) = iblk m c 1 t j := (cfg0.win 1).fill_xinj _ _ _ j
  have e0 : ((((cfg0.win 1).blk t).view.emb j) (0 : Fin 3)).val = t.val % 8 := by
    have y0 : (j (0 : Fin 3)).val = 0 := rfl
    blk_simp [idx t]; omega
  have e1 : ((((cfg0.win 1).blk t).view.emb j) (1 : Fin 3)).val = r.val := by
    have y1 : (j (1 : Fin 3)).val = r.val := rfl
    blk_simp [idx t]; omega
  have e2 : ((((cfg0.win 1).blk t).view.emb j) (2 : Fin 3)).val = k.val := by
    have y2 : (j (2 : Fin 3)).val = k.val := rfl
    blk_simp [idx t]; omega
  rw [hf, ← host_w m c h1 ⟨t.val % 8, by omega⟩ r k]
  have e : ((cfg0.win 1).blk t).view.emb j = (ix3 ⟨t.val % 8, by omega⟩ ⟨r.val, by omega⟩ k : S8x3328x2048.Idx) := by
    rw [eq_ix3 (n0 := 8) (n1 := 3328) (n2 := 2048) (((cfg0.win 1).blk t).view.emb j)]
    exact congr (congrArg₂ ix3 (Fin.ext e0) (Fin.ext e1)) (Fin.ext e2)
  rw [← e]
  blk_simp [iblk]

include h0 h1

/-- The product at a grid point. -/
theorem product (t : Fin cfg0.N) (r d : Fin 1024) (X : FVec Ideal S1024x2048 .bf16) (Y : FVec Ideal S1x1024x2048 .bf16) (hX : X = iblk m c 0 t) (hY : Y = X0_1 m c t) :
    ∑ k : Fin 2048, X (ix2 r k) * Y (ix3 0 d k)
      = ∑ k : Fin 2048, H (ix2 ⟨t.val / 8 * 1024 + r.val, by have h : t.val < 16 := t.isLt; omega⟩ k) * W (ix2 k ⟨t.val % 8 * 1024 + d.val, by omega⟩) := by
  subst h0 h1 hX hY
  refine Finset.sum_congr rfl fun k _ => congrArg₂ _ ?_ (weight m c rfl t d k)
  blk_ext [iblk, Gen.V, idx t]

/-- What the kernel writes at a grid point: the product and its squared relu. -/
theorem point (t : Fin cfg0.N) (r d : Fin 1024) :
    k0_pay1 (F := Ideal) (iblk m c 0 t) (X0_1 m c t) (ix2 r d)
      = up H W (ix2 ⟨t.val / 8 * 1024 + r.val, by have h : t.val < 16 := t.isLt; omega⟩ ⟨t.val % 8 * 1024 + d.val, by omega⟩) := by
  rw [up_at, ← product m c h0 h1 t r d _ _ rfl rfl]
  pointwise [k0_pay1]

theorem point_act (t : Fin cfg0.N) (r d : Fin 1024) :
    k0_pay2 (F := Ideal) (iblk m c 0 t) (X0_1 m c t) (ix2 r d)
      = act H W (ix2 ⟨t.val / 8 * 1024 + r.val, by have h : t.val < 16 := t.isLt; omega⟩ ⟨t.val % 8 * 1024 + d.val, by omega⟩) := by
  rw [act_at, ← product m c h0 h1 t r d _ _ rfl rfl]
  pointwise [k0_pay2, k0_pay1]

/-- The product's array after the region. -/
theorem final : (dats m 0 c).arrAt 2 cfg0.N = up H W := by
  refine (dats m 0 c).arrAt_eq_of_covers 2 _ (by decide +kernel) fun t _ (y : S1024x1024.Idx) => ?_
  obtain ⟨r, d, rfl⟩ : ∃ (r d : Fin 1024), y = ix2 r d := ⟨_, _, eq_ix2 y⟩
  have hr : ((cfg0.win 2).blk t).view.emb (ix2 r d) = ix2 ⟨t.val / 8 * 1024 + r.val, by have h : t.val < 16 := t.isLt; omega⟩ ⟨t.val % 8 * 1024 + d.val, by omega⟩ := by blk_ext [idx t]
  rw [hr, ← point m c h0 h1 t r d]
  blk_simp
  rw [after0_2]
  unfold outsAt0
  frame_out

/-- The squared relu's array after the region. -/
theorem final_act : (dats m 0 c).arrAt 3 cfg0.N = act H W := by
  refine (dats m 0 c).arrAt_eq_of_covers 3 _ (by decide +kernel) fun t _ (y : S1024x1024.Idx) => ?_
  obtain ⟨r, d, rfl⟩ : ∃ (r d : Fin 1024), y = ix2 r d := ⟨_, _, eq_ix2 y⟩
  have hr : ((cfg0.win 3).blk t).view.emb (ix2 r d) = ix2 ⟨t.val / 8 * 1024 + r.val, by have h : t.val < 16 := t.isLt; omega⟩ ⟨t.val % 8 * 1024 + d.val, by omega⟩ := by blk_ext [idx t]
  rw [hr, ← point_act m c h0 h1 t r d]
  blk_simp
  rw [after0_3]
  unfold outsAt0
  frame_out

/-- The second result after the host operations that follow the region. -/
theorem result : Pipeline.afterTail₀ cfgs (dats m) 0 (V0 m) [hostOps1] c main_v7 = act H W := by
  rw [← final_act m c h0 h1]
  unfold Pipeline.afterTail₀
  simp only [hostOps1, List.flatten_cons, List.flatten_nil, List.append_nil, List.cons_append, List.nil_append]
  after_results
  exact congrArg (fun X => (extf .f32 X bitsLt_bf16_f32 : FVec Ideal S2048x8192 .f32))
      (Pipeline.withArrays_arr (cfgs 0).spec (by decide) c (V0 m c) (fun w => (dats m 0 c).arrAt w (cfgs 0).N) 3)

omit h0 h1
/-- The kernel's run: the results are the reference's terms of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6_0) = up (m ((c : Thread nD τ).loc main_arg0)) (m ((c : Thread nD τ).loc main_arg1))
      ∧ r.2.mem ((c : Thread nD τ).loc main_v7) = act (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), ((h.1 c).2 main_v7 (by decide)).trans (result m c rfl rfl), h.2 c⟩)
    (θ_run_and (run_main m g) (unchanged m g))

/-- The reference's run leaves its arguments and all counters as they were. -/
theorem reference_frame : Cert.quiescent_Reference2Ideal := fun m g _ =>
  (θ_run Cert.Reference2Ideal.defs _ _).mono (fun r h => ⟨fun c => (h c).2.2, sem_eq_zero_of_no_sems (by decide) r.2⟩) (Cert.Reference2Ideal.Value.run m g)

/-- The kernel computes the reference's product and squared relu. -/
theorem algebraic : Cert.algebraic_Kernel2Ideal_Reference2Ideal := by
  intro m g m' g' _ harg
  refine ⟨fun c => up (m ((c : Thread nD τ).loc main_arg0)) (m ((c : Thread nD τ).loc main_arg1)),
    fun c => act (m ((c : Thread nD τ).loc main_arg0)) (m ((c : Thread nD τ).loc main_arg1)), run m g,
    (θ_run Cert.Reference2Ideal.defs _ _).mono (fun r h c => ⟨(h c).1.trans ?_, (h c).2.1.trans ?_, (h c).2.2⟩) (Cert.Reference2Ideal.Value.run m' g')⟩
  · rw [(harg c).1, (harg c).2]
    rfl
  · rw [(harg c).1, (harg c).2]
    rfl

end Cert.Up.Forward

end
-- ==== Proof.M3.lean ====
/- The down projection: a tile of the product gathers four points, two devices' rows at each. -/
module

public import proofs.«01_k».proof.Defs
public import proofs.«01_k».proof.Proof.Gen.Kernel3Ideal.Frame
public import proofs.«01_k».proof.Proof.Gen.Reference3Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section

set_option maxRecDepth 16384

noncomputable section

namespace Cert.Down.Forward

open Cert.Kernel3Ideal Cert.Kernel3Ideal.Gen Idealize.ShloMosaic Idealize.ShloMosaic.TcCoe Idealize.SL.Sem
open Idealize.ShloMosaic.Pipeline (Dat)

/-- The reference's product. -/
def prod (A : FVec Ideal S2048x8192 .f32) (W : FVec Ideal S8192x2048 .f32) : FVec Ideal S2048x2048 .f32 :=
  Host.dotGeneral Cert.Reference3Ideal.dot_S2048x8192_S8192x2048_S2048x2048_1_0_0_1_n_n none A W

theorem prod_at (A : FVec Ideal S2048x8192 .f32) (W : FVec Ideal S8192x2048 .f32) (i j : Fin 2048) :
    prod A W (ix2 i j) = ∑ k : Fin 8192, A (ix2 i k) * W (ix2 k j) := by
  pointwise [prod]

/-- The gathered weights that the kernel reads: zeros, the down projection's rows of each device, zeros. -/
def gathered (W : FVec Ideal S8192x2048 .f32) : FVec Ideal S8x3328x2048 .bf16 :=
  truncf .bf16 (concatenate S8x3328x2048 1 [⟨S8x1024x2048, (broadcastInDim S8x1024x2048 ![] bcast_S_S8x1024x2048 (constant S_ .f32 0x00000000#32) : FVec Ideal S8x1024x2048 .f32)⟩,
    ⟨S8x1024x2048, (shapeCast S8x1024x2048 W shapeCasts_S8192x2048_S8x1024x2048 : FVec Ideal S8x1024x2048 .f32)⟩,
    ⟨S8x1280x2048, (broadcastInDim S8x1280x2048 ![] bcast_S_S8x1280x2048 (constant S_ .f32 0x00000000#32) : FVec Ideal S8x1280x2048 .f32)⟩] concatenates_S8x1024x2048_S8x1024x2048_S8x1280x2048_S8x3328x2048_d1 : FVec Ideal S8x3328x2048 .f32) bitsLt_bf16_f32

variable (m : (ℓ : Loc nD τ sig) → Buf (Elt Ideal) ℓ) (c : Dev nD)

/-- The windows' index maps: a point is (row tile, column tile, pair of devices). -/
theorem idx : ∀ t : Fin cfg0.N, win0_0.index t = ![t.val / 8, t.val % 4] ∧ win0_1.index t = ![t.val % 4, 1, t.val / 4 % 2]
    ∧ win0_2.index t = ![t.val / 8, t.val / 4 % 2] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 1024) : Fin 2048 := ⟨t.val / 4 % 2 * 1024 + d.val, by omega⟩

/-- Point `s` of the run that a flushing point ends: the same tile, pair `s` of devices. -/
theorem run_point (t : Fin cfg0.N) (s : Fin 4) (h : 4 * (t.val / 4) + s.val < cfg0.N) :
    (∀ r, row ⟨4 * (t.val / 4) + s.val, h⟩ r = row t r) ∧ (∀ d, col ⟨4 * (t.val / 4) + s.val, h⟩ d = col t d)
      ∧ (4 * (t.val / 4) + s.val) % 4 = s.val := by
  refine ⟨fun r => Fin.ext ?_, fun d => Fin.ext ?_, by omega⟩
  · show (4 * (t.val / 4) + s.val) / 8 * 1024 + r.val = t.val / 8 * 1024 + r.val
    omega
  · show (4 * (t.val / 4) + s.val) / 4 % 2 * 1024 + d.val = t.val / 4 % 2 * 1024 + d.val
    omega

variable {A : FVec Ideal S2048x8192 .f32} {W : FVec Ideal S8192x2048 .f32}
    (h0 : m ((c : Thread nD τ).loc main_arg0) = A) (h1 : m ((c : Thread nD τ).loc main_arg1) = W)

include h1 in
/-- The gathered weights that the region starts with, in the down projection's rows. -/
theorem host_w (p : Fin 8) (r : Fin 1024) (k : Fin 2048) :
    Gen.V m c main_v5 (ix3 p (⟨1024 + r.val, by omega⟩ : Fin 3328) k) = W (ix2 ⟨p.val * 1024 + r.val, by omega⟩ k) := by
  have h : Gen.V m c main_v5 = gathered W := by
    subst h1
    change StableHlo.after [hostOps0].flatten (fun b => m (c, b)) (Proc.devRef .tc main_v5) = _
    simp only [hostOps0, List.flatten_cons, List.flatten_nil, List.append_nil, List.cons_append, List.nil_append]
    after_results
    rfl
  rw [h]
  pointwise [gathered]

include h1 in
/-- The weights' block at a grid point: the rows of two devices. -/
theorem weight (t : Fin cfg0.N) (q : Fin 2) (l d : Fin 1024) :
    X0_1 m c t (ix3 q l d) = W (ix2 ⟨t.val % 4 * 2048 + q.val * 1024 + l.val, by omega⟩ (col t d)) := by
  let j : ((cfg0.win 1).xblock (cfg0.grid.coords t)).Idx :=
    fun a => ⟨((ix3 q l d : S2x1024x1024.Idx) a).val, by show _ < (cfg0.win 1).xsize (cfg0.grid.coords t) a; rw [xsize0_1 t a]; exact ((ix3 q l d : S2x1024x1024.Idx) a).isLt⟩
  have hf : X0_1 m c t (ix3 q l d) = iblk m c 1 t j := (cfg0.win 1).fill_xinj _ _ _ j
  have e0 : ((((cfg0.win 1).blk t).view.emb j) (0 : Fin 3)).val = t.val % 4 * 2 + q.val := by
    have y0 : (j (0 : Fin 3)).val = q.val := rfl
    blk_simp [idx t]; omega
  have e1 : ((((cfg0.win 1).blk t).view.emb j) (1 : Fin 3)).val = 1024 + l.val := by
    have y1 : (j (1 : Fin 3)).val = l.val := rfl
    blk_simp [idx t]; omega
  have e2 : ((((cfg0.win 1).blk t).view.emb j) (2 : Fin 3)).val = t.val / 4 % 2 * 1024 + d.val := by
    have y2 : (j (2 : Fin 3)).val = d.val := rfl
    blk_simp [idx t]; omega
  have e : ((cfg0.win 1).blk t).view.emb j = (ix3 ⟨t.val % 4 * 2 + q.val, by omega⟩ ⟨1024 + l.val, by omega⟩ (col t d) : S8x3328x2048.Idx) := by
    rw [eq_ix3 (n0 := 8) (n1 := 3328) (n2 := 2048) (((cfg0.win 1).blk t).view.emb j)]
    exact congr (congrArg₂ ix3 (Fin.ext e0) (Fin.ext e1)) (Fin.ext e2)
  have hw := host_w m c h1 ⟨t.val % 4 * 2 + q.val, by omega⟩ l (col t d)
  rw [← e] at hw
  rw [hf]
  refine Eq.trans ?_ (hw.trans (congrArg W (congrArg (ix2 · (col t d)) (Fin.ext ?_))))
  · blk_simp [iblk]
  · show (t.val % 4 * 2 + q.val) * 1024 + l.val = t.val % 4 * 2048 + q.val * 1024 + l.val
    omega

include h0 h1

/-- What a grid point adds to its tile: the product over the rows of its two devices. -/
theorem point (t : Fin cfg0.N) (r d : Fin 1024) :
    k0_pay1 (F := Ideal) (iblk m c 0 t) (View.ld (X0_1 m c t) (Rect.unit ![0, 0, 0] ![1, 1024, 1024] inb_S2x1024x1024_S1x1024x1024_0_0_0)) (View.ld (X0_1 m c t) (Rect.unit ![1, 0, 0] ![1, 1024, 1024] inb_S2x1024x1024_S1x1024x1024_1_0_0)) (ix2 r d)
      = ∑ l : Fin 2048, A (ix2 (row t r) ⟨t.val % 4 * 2048 + l.val, by omega⟩) * W (ix2 ⟨t.val % 4 * 2048 + l.val, by omega⟩ (col t d)) := by
  pointwise [k0_pay1]
  refine Eq.trans ?_ (Fin.sum_mul_add_congr (S := 2) (n := 1024) (f := fun l : Fin 2048 => A (ix2 (row t r) ⟨t.val % 4 * 2048 + l.val, by omega⟩) * W (ix2 ⟨t.val % 4 * 2048 + l.val, by omega⟩ (col t d)))
    (F := fun q l => A (ix2 (row t r) ⟨t.val % 4 * 2048 + (q.val * 1024 + l.val), by omega⟩) * W (ix2 ⟨t.val % 4 * 2048 + (q.val * 1024 + l.val), by omega⟩ (col t d))) fun q l hl => rfl)
  rw [Fin.sum_univ_two]
  refine congrArg₂ _ (Finset.sum_congr rfl fun k _ => congrArg₂ _ ?_ ?_) (Finset.sum_congr rfl fun k _ => congrArg₂ _ ?_ ?_)
  · subst h0; blk_ext [iblk, Gen.V, idx t, row]
  · refine Eq.trans ?_ ((weight m c h1 t 0 k d).trans (congrArg W (congrArg (ix2 · (col t d)) (Fin.ext (by show t.val % 4 * 2048 + 0 * 1024 + k.val = t.val % 4 * 2048 + (0 * 1024 + k.val); omega)))))
    blk_ext []
  · subst h0; blk_ext [iblk, Gen.V, idx t, row]
  · refine Eq.trans ?_ ((weight m c h1 t 1 k d).trans (congrArg W (congrArg (ix2 · (col t d)) (Fin.ext (by show t.val % 4 * 2048 + 1 * 1024 + k.val = t.val % 4 * 2048 + (1 * 1024 + k.val); omega)))))
    blk_ext []

/-- The kernel's array after the region. -/
theorem final : (dats m 0 c).arrAt 2 cfg0.N = prod A W := by
  refine (dats m 0 c).arrAt_eq_of_covers 2 _ (by decide +kernel) fun t hf (y : S1024x1024.Idx) => ?_
  have ht := (flush0_2 t).mp hf
  obtain ⟨r, d, rfl⟩ : ∃ (r d : Fin 1024), y = ix2 r d := ⟨_, _, eq_ix2 y⟩
  have hr : ((cfg0.win 2).blk t).view.emb (ix2 r d) = ix2 (row t r) (col t d) := by blk_ext [idx t, row, col]
  rw [hr, prod_at]
  have hc : ∀ i, (outsAt0 m c t.val t.isLt).1 i = (outsAt0 m c t.val t.isLt).2 i := fun i => by
    rw [outsAt0_C m c t (by omega) (by omega) ht]
    frame_out
  blk_simp
  rw [after0_2]
  rw [hc, Pipeline.eq_sum_fin_of_reset_step_apply_of_flush (fun n h => (outsAt0 m c n h).2) 4 (fun _ => 0)
    (fun t y => k0_pay1 (F := Ideal) (iblk m c 0 t) (View.ld (X0_1 m c t) (Rect.unit ![0, 0, 0] ![1, 1024, 1024] inb_S2x1024x1024_S1x1024x1024_0_0_0)) (View.ld (X0_1 m c t) (Rect.unit ![1, 0, 0] ![1, 1024, 1024] inb_S2x1024x1024_S1x1024x1024_1_0_0)) y)
    (fun t h j => by rw [outsAt0_A m c t h (by omega) (by omega)]; frame_out; pointwise [k0_pay2]; rfl)
    (fun t h j => by
      by_cases h3 : t.val % 4 = 3
      · rw [outsAt0_C m c t h (by omega) h3]; frame_out; pointwise [k0_pay3]; rw [read_unread_whole]; rfl
      · rw [outsAt0_B m c t h (by omega) h3]; frame_out; pointwise [k0_pay3]; rw [read_unread_whole]; rfl)
    t ht _, zero_add]
  simp only [point m c h0 h1]
  refine Eq.trans (α := EReal) (Finset.sum_congr (M := EReal) rfl fun s _ => ?_) (Fin.sum_mul_add_congr (M := EReal) (S := 4) (n := 2048) (f := fun k : Fin 8192 => A (ix2 (row t r) k) * W (ix2 k (col t d))) (F := fun s l => A (ix2 (row t r) ⟨s.val * 2048 + l.val, by omega⟩) * W (ix2 ⟨s.val * 2048 + l.val, by omega⟩ (col t d))) fun s l hl => rfl)
  obtain ⟨hrow, hcol, hs⟩ := run_point t s (Pipeline.run_point_lt_of_flush t ht s)
  simp only [hrow, hcol, hs]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference3Ideal := fun m g _ =>
  (θ_run Cert.Reference3Ideal.defs _ _).mono (fun r h => ⟨fun c => (h c).2, sem_eq_zero_of_no_sems (by decide) r.2⟩) (Cert.Reference3Ideal.Value.run m g)

/-- The kernel computes the reference's product. -/
theorem algebraic : Cert.algebraic_Kernel3Ideal_Reference3Ideal := by
  intro m g m' g' _ harg
  refine ⟨fun c => prod (m ((c : Thread nD τ).loc main_arg0)) (m ((c : Thread nD τ).loc main_arg1)), run m g,
    (θ_run Cert.Reference3Ideal.defs _ _).mono (fun r h c => ⟨(h c).1.trans ?_, (h c).2⟩) (Cert.Reference3Ideal.Value.run m' g')⟩
  rw [(harg c).1, (harg c).2]
  rfl

end Cert.Down.Forward

end
-- ==== Proof.M4.lean ====
/- The down projection's input gradient with the derivative of the squared relu in the same kernel. -/
module

public import proofs.«01_k».proof.Defs
public import proofs.«01_k».proof.Proof.Gen.Kernel4Ideal.Frame
public import proofs.«01_k».proof.Proof.Gen.Reference4Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Down.Dx

open Cert.Kernel4Ideal Cert.Kernel4Ideal.Gen Idealize.ShloMosaic Idealize.ShloMosaic.TcCoe Idealize.SL.Sem
open Idealize.ShloMosaic.Pipeline (Dat)

/-- The reference's gradient. -/
def grad (U : FVec Ideal S2048x8192 .f32) (W : FVec Ideal S8192x2048 .f32) (D : FVec Ideal S2048x2048 .f32) : FVec Ideal S2048x8192 .f32 :=
  select (cmpf .ogt U (broadcastInDim Cert.Reference4Ideal.S2048x8192 ![] Cert.Reference4Ideal.Gen.bcast_S_S2048x8192 (constant S_ .f32 0x00000000#32)))
    (mulf (Host.dotGeneral Cert.Reference4Ideal.dot_S2048x2048_S8192x2048_S2048x8192_1_1_0_0_n_n none D W)
      (mulf (broadcastInDim Cert.Reference4Ideal.S2048x8192 ![] Cert.Reference4Ideal.Gen.bcast_S_S2048x8192 (constant S_ .f32 0x40000000#32))
        (maximumf U (broadcastInDim Cert.Reference4Ideal.S2048x8192 ![] Cert.Reference4Ideal.Gen.bcast_S_S2048x8192 (constant S_ .f32 0x00000000#32)))))
    (broadcastInDim Cert.Reference4Ideal.S2048x8192 ![] Cert.Reference4Ideal.Gen.bcast_S_S2048x8192 (constant S_ .f32 0x00000000#32))

theorem grad_at (U : FVec Ideal S2048x8192 .f32) (W : FVec Ideal S8192x2048 .f32) (D : FVec Ideal S2048x2048 .f32) (i : Fin 2048) (j : Fin 8192) :
    grad U W D (ix2 i j) = (∑ k : Fin 2048, D (ix2 i k) * W (ix2 j k)) * (Ideal.ofBits FTy.f32 1073741824#32 * max (U (ix2 i j)) 0) := by
  pointwise [grad]
  split
  · rfl
  · rename_i h
    rw [max_eq_right (not_lt.mp h), mul_zero, mul_zero]

/-- The gathered weights that the kernel reads: zeros, the down projection's rows of each device, zeros. -/
def gathered (W : FVec Ideal S8192x2048 .f32) : FVec Ideal S8x3328x2048 .bf16 :=
  truncf .bf16 (concatenate S8x3328x2048 1 [⟨S8x1024x2048, (broadcastInDim S8x1024x2048 ![] bcast_S_S8x1024x2048 (constant S_ .f32 0x00000000#32) : FVec Ideal S8x1024x2048 .f32)⟩,
    ⟨S8x1024x2048, (shapeCast S8x1024x2048 W shapeCasts_S8192x2048_S8x1024x2048 : FVec Ideal S8x1024x2048 .f32)⟩,
    ⟨S8x1280x2048, (broadcastInDim S8x1280x2048 ![] bcast_S_S8x1280x2048 (constant S_ .f32 0x00000000#32) : FVec Ideal S8x1280x2048 .f32)⟩] concatenates_S8x1024x2048_S8x1024x2048_S8x1280x2048_S8x3328x2048_d1 : FVec Ideal S8x3328x2048 .f32) bitsLt_bf16_f32

variable (m : (ℓ : Loc nD τ sig) → Buf (Elt Ideal) ℓ) (c : Dev nD)

/-- The windows' index maps. -/
theorem idx : ∀ t : Fin cfg0.N, win0_0.index t = ![t.val / 8, 0] ∧ win0_1.index t = ![t.val % 8, 1, 0]
    ∧ win0_2.index t = ![t.val / 8, t.val % 8] ∧ win0_3.index t = ![t.val / 8, t.val % 8] :=
  (by decide +kernel : ∀ t : Fin grid0.N, _)

variable {U : FVec Ideal S2048x8192 .f32} {W : FVec Ideal S8192x2048 .f32} {D : FVec Ideal S2048x2048 .f32}
    (h0 : m ((c : Thread nD τ).loc main_arg0) = U) (h1 : m ((c : Thread nD τ).loc main_arg1) = W) (h2 : m ((c : Thread nD τ).loc main_arg2) = D)

include h1 in
/-- The gathered weights that the region starts with, in the down projection's rows. -/
theorem host_w (p : Fin 8) (r : Fin 1024) (k : Fin 2048) :
    Gen.V m c main_v5 (ix3 p (⟨1024 + r.val, by omega⟩ : Fin 3328) k) = W (ix2 ⟨p.val * 1024 + r.val, by omega⟩ k) := by
  have h : Gen.V m c main_v5 = gathered W := by
    subst h1
    change StableHlo.after [hostOps0].flatten (fun b => m (c, b)) (Proc.devRef .tc main_v5) = _
    simp only [hostOps0, List.flatten_cons, List.flatten_nil, List.append_nil, List.cons_append, List.nil_append]
    after_results
    rfl
  rw [h]
  pointwise [gathered]

include h1 in
/-- The weights' block at a grid point. -/
theorem weight (t : Fin cfg0.N) (r : Fin 1024) (k : Fin 2048) :
    X0_1 m c t (ix3 0 r k) = W (ix2 ⟨t.val % 8 * 1024 + r.val, by omega⟩ k) := by
  let j : ((cfg0.win 1).xblock (cfg0.grid.coords t)).Idx :=
    fun a => ⟨((ix3 0 r k : S1x1024x2048.Idx) a).val, by show _ < (cfg0.win 1).xsize (cfg0.grid.coords t) a; rw [xsize0_1 t a]; exact ((ix3 0 r k : S1x1024x2048.Idx) a).isLt⟩
  have hf : X0_1 m c t (ix3 0 r k) = iblk m c 1 t j := (cfg0.win 1).fill_xinj _ _ _ j
  have e0 : ((((cfg0.win 1).blk t).view.emb j) (0 : Fin 3)).val = t.val % 8 := by
    have y0 : (j (0 : Fin 3)).val = 0 := rfl
    blk_simp [idx t]; omega
  have e1 : ((((cfg0.win 1).blk t).view.emb j) (1 : Fin 3)).val = 1024 + r.val := by
    have y1 : (j (1 : Fin 3)).val = r.val := rfl
    blk_simp [idx t]; omega
  have e2 : ((((cfg0.win 1).blk t).view.emb j) (2 : Fin 3)).val = k.val := by
    have y2 : (j (2 : Fin 3)).val = k.val := rfl
    blk_simp [idx t]; omega
  rw [hf, ← host_w m c h1 ⟨t.val % 8, by omega⟩ r k]
  have e : ((cfg0.win 1).blk t).view.emb j = (ix3 ⟨t.val % 8, by omega⟩ ⟨1024 + r.val, by omega⟩ k : S8x3328x2048.Idx) := by
    rw [eq_ix3 (n0 := 8) (n1 := 3328) (n2 := 2048) (((cfg0.win 1).blk t).view.emb j)]
    exact congr (congrArg₂ ix3 (Fin.ext e0) (Fin.ext e1)) (Fin.ext e2)
  rw [← e]
  blk_simp [iblk]

include h0 h1 h2

/-- What the kernel writes at a grid point. -/
theorem point (t : Fin cfg0.N) (r d : Fin 1024) :
    k0_pay1 (F := Ideal) (iblk m c 0 t) (X0_1 m c t) (iblk m c 2 t) (ix2 r d)
      = grad U W D (ix2 ⟨t.val / 8 * 1024 + r.val, by have h : t.val < 16 := t.isLt; omega⟩ ⟨t.val % 8 * 1024 + d.val, by omega⟩) := by
  rw [grad_at]
  subst h0 h1 h2
  pointwise [k0_pay1]
  refine congrArg₂ _ (Finset.sum_congr rfl fun k _ => congrArg₂ _ ?_ (weight m c rfl t d k)) (congrArg (fun x => Ideal.ofBits FTy.f32 1073741824#32 * max x 0) ?_)
  · blk_ext [iblk, Gen.V, idx t]
  · blk_ext [iblk, Gen.V, idx t]

/-- The kernel's array after the region. -/
theorem final : (dats m 0 c).arrAt 3 cfg0.N = grad U W D := by
  refine (dats m 0 c).arrAt_eq_of_covers 3 _ (by decide +kernel) fun t _ (y : S1024x1024.Idx) => ?_
  obtain ⟨r, d, rfl⟩ : ∃ (r d : Fin 1024), y = ix2 r d := ⟨_, _, eq_ix2 y⟩
  have hr : ((cfg0.win 3).blk t).view.emb (ix2 r d) = ix2 ⟨t.val / 8 * 1024 + r.val, by have h : t.val < 16 := t.isLt; omega⟩ ⟨t.val % 8 * 1024 + d.val, by omega⟩ := by blk_ext [idx t]
  rw [hr, ← point m c h0 h1 h2 t r d]
  blk_simp
  rw [after0_3]
  unfold outsAt0
  frame_out

/-- The result after the host operations that follow the region. -/
theorem result : Pipeline.afterTail₀ cfgs (dats m) 0 (V0 m) [hostOps1] c main_v7 = grad U W D := by
  rw [← final m c h0 h1 h2]
  unfold Pipeline.afterTail₀
  simp only [hostOps1, List.flatten_cons, List.flatten_nil, List.append_nil, List.cons_append, List.nil_append]
  after_results
  exact congrArg (fun X => (extf .f32 X bitsLt_bf16_f32 : FVec Ideal S2048x8192 .f32))
      (Pipeline.withArrays_arr (cfgs 0).spec (by decide) c (V0 m c) (fun w => (dats m 0 c).arrAt w (cfgs 0).N) 3)

omit h0 h1 h2
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v7) = grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).2 main_v7 (by decide)).trans (result m c rfl rfl rfl), h.2 c⟩)
    (θ_run_and (run_main m g) (unchanged m g))

/-- The reference's run leaves its arguments and all counters as they were. -/
theorem reference_frame : Cert.quiescent_Reference4Ideal := fun m g _ =>
  (θ_run Cert.Reference4Ideal.defs _ _).mono (fun r h => ⟨fun c => (h c).2, sem_eq_zero_of_no_sems (by decide) r.2⟩) (Cert.Reference4Ideal.Value.run m g)

/-- The kernel computes the reference's gradient. -/
theorem algebraic : Cert.algebraic_Kernel4Ideal_Reference4Ideal := by
  intro m g m' g' _ harg
  refine ⟨fun c => grad (m ((c : Thread nD τ).loc main_arg0)) (m ((c : Thread nD τ).loc main_arg1)) (m ((c : Thread nD τ).loc main_arg2)), run m g,
    (θ_run Cert.Reference4Ideal.defs _ _).mono (fun r h c => ⟨(h c).1.trans ?_, (h c).2⟩) (Cert.Reference4Ideal.Value.run m' g')⟩
  rw [(harg c).1, (harg c).2.1, (harg c).2.2]
  rfl

end Cert.Down.Dx

end
-- ==== Proof.M5.lean ====
/- The down projection's weight gradient: the kernel writes its tiles into the packed gradients; the result is the block of rows the
   kernel filled. -/
module

public import proofs.«01_k».proof.Defs
public import proofs.«01_k».proof.Proof.Gen.Kernel5Ideal.Frame
public import proofs.«01_k».proof.Proof.Gen.Reference5Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Down.Grad

open Cert.Kernel5Ideal Cert.Kernel5Ideal.Gen Idealize.ShloMosaic Idealize.ShloMosaic.TcCoe Idealize.SL.Sem
open Idealize.ShloMosaic.Pipeline (Dat)

/-- The reference's gradient. -/
def grad (A : FVec Ideal S2048x8192 .f32) (D : FVec Ideal S2048x2048 .f32) : FVec Ideal S8192x2048 .f32 :=
  transpose Cert.Reference5Ideal.S8192x2048 [1, 0] (Host.dotGeneral Cert.Reference5Ideal.dot_S2048x2048_S2048x8192_S2048x8192_0_0_1_1_n_n none D A) Cert.Reference5Ideal.Gen.transposes_S2048x8192_S8192x2048_1_0

theorem grad_at (A : FVec Ideal S2048x8192 .f32) (D : FVec Ideal S2048x2048 .f32) (a : Fin 8192) (d : Fin 2048) :
    grad A D (ix2 a d) = ∑ k : Fin 2048, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (row block, the down projection's place, column tile). -/
theorem idx : ∀ t : Fin cfg0.N, win0_0.index t = ![0, t.val % 8] ∧ win0_1.index t = ![0, t.val / 8]
    ∧ win0_2.index t = ![t.val % 8, 1, t.val / 8] :=
  (by decide +kernel : ∀ t : Fin grid0.N, _)

/-- The packed gradients where the kernel writes them. -/
def packed (A : FVec Ideal S2048x8192 .f32) (D : FVec Ideal S2048x2048 .f32) : FVec Ideal S8x3328x2048 .bf16 := fun i =>
  grad A D (ix2 (n0 := 8192) (n1 := 2048) ⟨(i 0).val * 1024 + (i 1).val % 1024, by have h : (i 0).val < 8 := (i 0).isLt; omega⟩ (i 2))

variable {A : FVec Ideal S2048x8192 .f32} {D : FVec Ideal S2048x2048 .f32}
    (h0 : m ((c : Thread nD τ).loc main_arg0) = A) (h1 : m ((c : Thread nD τ).loc main_arg1) = D)
include h0 h1

/-- What the kernel writes at a grid point. -/
theorem point (t : Fin cfg0.N) (r d : Fin 1024) :
    k0_pay1 (F := Ideal) (iblk m c 0 t) (iblk m c 1 t) (ix3 0 r d)
      = grad A D (ix2 ⟨t.val % 8 * 1024 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in the down projection's rows. -/
theorem final (p : Fin 8) (r : Fin 1024) (d : Fin 2048) :
    (dats m 0 c).arrAt 2 cfg0.N (ix3 p (⟨1024 + r.val, by omega⟩ : Fin 3328) d) = grad A D (ix2 ⟨p.val * 1024 + r.val, by omega⟩ d) := by
  rw [(dats m 0 c).arrAt_apply_of_coversWhere 2 (packed A D) (P := fun i => (i (1 : Fin 3)).val / 1024 = 1) (fun β => β (1 : Fin 3) = 1) (by decide +kernel)
    (fun t hf y => ?_) (fun j => by blk_simp [Pipeline.Window.cell_apply])]
  · rw [if_pos (by show (1024 + r.val) / 1024 = 1; omega)]
    unfold packed
    congr 2
    exact Fin.ext (by show p.val * 1024 + (1024 + r.val) % 1024 = p.val * 1024 + r.val; omega)
  · obtain ⟨z, r, d, hy⟩ : ∃ (z : Fin 1) (r d : Fin 1024), (cfg0.win 2).xinj (cfg0.grid.coords t) y = ix3 z r d := ⟨_, _, _, eq_ix3 (n0 := 1) (n1 := 1024) (n2 := 1024) _⟩
    obtain rfl : z = 0 := Subsingleton.elim _ _
    have y0 : (y (0 : Fin 3)).val = 0 := congrArg (fun Y : S1x1024x1024.Idx => (Y (0 : Fin 3)).val) hy
    have y1 : (y (1 : Fin 3)).val = r.val := congrArg (fun Y : S1x1024x1024.Idx => (Y (1 : Fin 3)).val) hy
    have y2 : (y (2 : Fin 3)).val = d.val := congrArg (fun Y : S1x1024x1024.Idx => (Y (2 : Fin 3)).val) hy
    have hr : packed A D (((cfg0.win 2).blk t).view.emb y) = grad A D (ix2 ⟨t.val % 8 * 1024 + r.val, by omega⟩ ⟨t.val / 8 * 1024 + d.val, by have h : t.val < 16 := t.isLt; omega⟩) := by
      have e0 : ((((cfg0.win 2).blk t).view.emb y) (0 : Fin 3)).val = t.val % 8 := by
        blk_simp [idx t]; omega
      have e1 : ((((cfg0.win 2).blk t).view.emb y) (1 : Fin 3)).val = 1024 + r.val := by
        blk_simp [idx t]; omega
      have e2 : ((((cfg0.win 2).blk t).view.emb y) (2 : Fin 3)).val = t.val / 8 * 1024 + d.val := by
        blk_simp [idx t]; omega
      refine congrArg (grad A D) (congrArg₂ (ix2 (n0 := 8192) (n1 := 2048)) (Fin.ext ?_) (Fin.ext ?_))
      · show _ * 1024 + _ % 1024 = t.val % 8 * 1024 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v6 = grad A D := by
  have h : Pipeline.afterTail₀ cfgs (dats m) 0 (V0 m) [hostOps1] c main_v6
      = (extf .f32 (shapeCast S8192x2048 (extractStridedSlice S8x1024x2048 ![0, 1024, 0] ((dats m 0 c).arrAt 2 cfg0.N) slices_S8x3328x2048_S8x1024x2048_0_1024_0) shapeCasts_S8x1024x2048_S8192x2048) bitsLt_bf16_f32 : FVec Ideal S8192x2048 .f32) := by
    unfold Pipeline.afterTail₀
    simp only [hostOps1, List.flatten_cons, List.flatten_nil, List.append_nil, List.cons_append, List.nil_append]
    after_results
    exact congrArg (fun X => (extf .f32 (shapeCast S8192x2048 (extractStridedSlice S8x1024x2048 ![0, 1024, 0] X slices_S8x3328x2048_S8x1024x2048_0_1024_0) shapeCasts_S8x1024x2048_S8192x2048) bitsLt_bf16_f32 : FVec Ideal S8192x2048 .f32))
      (Pipeline.withArrays_arr (cfgs 0).spec (by decide) c (V0 m c) (fun w => (dats m 0 c).arrAt w (cfgs 0).N) 2)
  rw [h]
  funext i
  obtain ⟨a, d, rfl⟩ : ∃ (a : Fin 8192) (d : Fin 2048), i = ix2 a d := ⟨_, _, eq_ix2 i⟩
  refine Eq.trans ?_ ((final m c h0 h1 ⟨a.val / 1024, by omega⟩ ⟨a.val % 1024, by omega⟩ d).trans (by congr 2; exact Fin.ext (by show a.val / 1024 * 1024 + a.val % 1024 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v6 (by decide)).trans (result m c rfl rfl), h.2 c⟩)
    (θ_run_and (run_main m g) (unchanged m g))

/-- The reference's run leaves its arguments and all counters as they were. -/
theorem reference_frame : Cert.quiescent_Reference5Ideal := fun m g _ =>
  (θ_run Cert.Reference5Ideal.defs _ _).mono (fun r h => ⟨fun c => (h c).2, sem_eq_zero_of_no_sems (by decide) r.2⟩) (Cert.Reference5Ideal.Value.run m g)

/-- The kernel computes the reference's gradient. -/
theorem algebraic : Cert.algebraic_Kernel5Ideal_Reference5Ideal := by
  intro m g m' g' _ harg
  refine ⟨fun c => grad (m ((c : Thread nD τ).loc main_arg0)) (m ((c : Thread nD τ).loc main_arg1)), run m g,
    (θ_run Cert.Reference5Ideal.defs _ _).mono (fun r h c => ⟨(h c).1.trans ?_, (h c).2⟩) (Cert.Reference5Ideal.Value.run m' g')⟩
  rw [(harg c).1, (harg c).2]
  rfl

end Cert.Down.Grad

end
-- ==== Proof.M6.lean ====
/- The up projection's weight gradient: the kernel writes the tiles of its transpose into the packed gradients; the result is the block of rows the
   kernel filled, transposed. -/
module

public import proofs.«01_k».proof.Defs
public import proofs.«01_k».proof.Proof.Gen.Kernel6Ideal.Frame
public import proofs.«01_k».proof.Proof.Gen.Reference6Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Up.Grad

open Cert.Kernel6Ideal Cert.Kernel6Ideal.Gen Idealize.ShloMosaic Idealize.ShloMosaic.TcCoe Idealize.SL.Sem
open Idealize.ShloMosaic.Pipeline (Dat)

/-- The reference's gradient. -/
def grad (H : FVec Ideal S2048x2048 .f32) (U : FVec Ideal S2048x8192 .f32) : FVec Ideal S2048x8192 .f32 :=
  transpose Cert.Reference6Ideal.S2048x8192 [1, 0] (Host.dotGeneral Cert.Reference6Ideal.dot_S2048x8192_S2048x2048_S8192x2048_0_0_1_1_n_n none U H) Cert.Reference6Ideal.Gen.transposes_S8192x2048_S2048x8192_1_0

theorem grad_at (H : FVec Ideal S2048x2048 .f32) (U : FVec Ideal S2048x8192 .f32) (d : Fin 2048) (a : Fin 8192) :
    grad H U (ix2 d a) = ∑ k : Fin 2048, U (ix2 k a) * H (ix2 k d) := by
  pointwise [grad]

variable (m : (ℓ : Loc nD τ sig) → Buf (Elt Ideal) ℓ) (c : Dev nD)

/-- The windows' index maps: a tile of the gradient is (row block, the up projection's place, column tile). -/
theorem idx : ∀ t : Fin cfg0.N, win0_0.index t = ![0, t.val % 8] ∧ win0_1.index t = ![0, t.val / 8]
    ∧ win0_2.index t = ![t.val % 8, 0, t.val / 8] :=
  (by decide +kernel : ∀ t : Fin grid0.N, _)

/-- The packed gradients where the kernel writes them. -/
def packed (H : FVec Ideal S2048x2048 .f32) (U : FVec Ideal S2048x8192 .f32) : FVec Ideal S8x3328x2048 .bf16 := fun i =>
  grad H U (ix2 (n0 := 2048) (n1 := 8192) (i 2) ⟨(i 0).val * 1024 + (i 1).val % 1024, by have h : (i 0).val < 8 := (i 0).isLt; omega⟩)

variable {H : FVec Ideal S2048x2048 .f32} {U : FVec Ideal S2048x8192 .f32}
    (h0 : m ((c : Thread nD τ).loc main_arg0) = H) (h1 : m ((c : Thread nD τ).loc main_arg1) = U)
include h0 h1

/-- What the kernel writes at a grid point. -/
theorem point (t : Fin cfg0.N) (r d : Fin 1024) :
    k0_pay1 (F := Ideal) (iblk m c 0 t) (iblk m c 1 t) (ix3 0 r d)
      = grad H U (ix2 ⟨t.val / 8 * 1024 + d.val, by have h : t.val < 16 := t.isLt; omega⟩ ⟨t.val % 8 * 1024 + r.val, by omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in the up projection's rows. -/
theorem final (p : Fin 8) (r : Fin 1024) (d : Fin 2048) :
    (dats m 0 c).arrAt 2 cfg0.N (ix3 p (⟨r.val, by omega⟩ : Fin 3328) d) = grad H U (ix2 d ⟨p.val * 1024 + r.val, by omega⟩) := by
  rw [(dats m 0 c).arrAt_apply_of_coversWhere 2 (packed H U) (P := fun i => (i (1 : Fin 3)).val / 1024 = 0) (fun β => β (1 : Fin 3) = 0) (by decide +kernel)
    (fun t hf y => ?_) (fun j => by blk_simp [Pipeline.Window.cell_apply])]
  · rw [if_pos (by show r.val / 1024 = 0; omega)]
    unfold packed
    congr 2
    exact Fin.ext (by show p.val * 1024 + r.val % 1024 = p.val * 1024 + r.val; omega)
  · obtain ⟨z, r, d, hy⟩ : ∃ (z : Fin 1) (r d : Fin 1024), (cfg0.win 2).xinj (cfg0.grid.coords t) y = ix3 z r d := ⟨_, _, _, eq_ix3 (n0 := 1) (n1 := 1024) (n2 := 1024) _⟩
    obtain rfl : z = 0 := Subsingleton.elim _ _
    have y0 : (y (0 : Fin 3)).val = 0 := congrArg (fun Y : S1x1024x1024.Idx => (Y (0 : Fin 3)).val) hy
    have y1 : (y (1 : Fin 3)).val = r.val := congrArg (fun Y : S1x1024x1024.Idx => (Y (1 : Fin 3)).val) hy
    have y2 : (y (2 : Fin 3)).val = d.val := congrArg (fun Y : S1x1024x1024.Idx => (Y (2 : Fin 3)).val) hy
    have hr : packed H U (((cfg0.win 2).blk t).view.emb y) = grad H U (ix2 ⟨t.val / 8 * 1024 + d.val, by have h : t.val < 16 := t.isLt; omega⟩ ⟨t.val % 8 * 1024 + r.val, by omega⟩) := by
      have e0 : ((((cfg0.win 2).blk t).view.emb y) (0 : Fin 3)).val = t.val % 8 := by
        blk_simp [idx t]; omega
      have e1 : ((((cfg0.win 2).blk t).view.emb y) (1 : Fin 3)).val = r.val := by
        blk_simp [idx t]; omega
      have e2 : ((((cfg0.win 2).blk t).view.emb y) (2 : Fin 3)).val = t.val / 8 * 1024 + d.val := by
        blk_simp [idx t]; omega
      refine congrArg (grad H U) (congrArg₂ (ix2 (n0 := 2048) (n1 := 8192)) (Fin.ext e2) (Fin.ext ?_))
      show _ * 1024 + _ % 1024 = t.val % 8 * 1024 + r.val
      rw [e0, e1]; omega
    rw [hr, ← point m c h0 h1 t r d, hy, after0_2]
    unfold outsAt0
    blk_simp
    frame_out

/-- The result after the host operations that follow the region. -/
theorem result : Pipeline.afterTail₀ cfgs (dats m) 0 (V0 m) [hostOps1] c main_v7 = grad H U := by
  have h : Pipeline.afterTail₀ cfgs (dats m) 0 (V0 m) [hostOps1] c main_v7
      = (transpose S2048x8192 [1, 0] (extf .f32 (shapeCast S8192x2048 (extractStridedSlice S8x1024x2048 ![0, 0, 0] ((dats m 0 c).arrAt 2 cfg0.N) slices_S8x3328x2048_S8x1024x2048_0_0_0) shapeCasts_S8x1024x2048_S8192x2048) bitsLt_bf16_f32 : FVec Ideal S8192x2048 .f32) transposes_S8192x2048_S2048x8192_1_0 : FVec Ideal S2048x8192 .f32) := by
    unfold Pipeline.afterTail₀
    simp only [hostOps1, List.flatten_cons, List.flatten_nil, List.append_nil, List.cons_append, List.nil_append]
    after_results
    exact congrArg (fun X => (transpose S2048x8192 [1, 0] (extf .f32 (shapeCast S8192x2048 (extractStridedSlice S8x1024x2048 ![0, 0, 0] X slices_S8x3328x2048_S8x1024x2048_0_0_0) shapeCasts_S8x1024x2048_S8192x2048) bitsLt_bf16_f32 : FVec Ideal S8192x2048 .f32) transposes_S8192x2048_S2048x8192_1_0 : FVec Ideal S2048x8192 .f32))
      (Pipeline.withArrays_arr (cfgs 0).spec (by decide) c (V0 m c) (fun w => (dats m 0 c).arrAt w (cfgs 0).N) 2)
  rw [h]
  funext i
  obtain ⟨d, a, rfl⟩ : ∃ (d : Fin 2048) (a : Fin 8192), i = ix2 d a := ⟨_, _, eq_ix2 i⟩
  refine Eq.trans ?_ ((final m c h0 h1 ⟨a.val / 1024, by omega⟩ ⟨a.val % 1024, by omega⟩ d).trans (by congr 2; exact Fin.ext (by show a.val / 1024 * 1024 + a.val % 1024 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v7) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v7 (by decide)).trans (result m c rfl rfl), h.2 c⟩)
    (θ_run_and (run_main m g) (unchanged m g))

/-- The reference's run leaves its arguments and all counters as they were. -/
theorem reference_frame : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- The kernel computes the reference's gradient. -/
theorem algebraic : Cert.algebraic_Kernel6Ideal_Reference6Ideal := by
  intro m g m' g' _ harg
  refine ⟨fun c => grad (m ((c : Thread nD τ).loc main_arg0)) (m ((c : Thread nD τ).loc main_arg1)), run m g,
    (θ_run Cert.Reference6Ideal.defs _ _).mono (fun r h c => ⟨(h c).1.trans ?_, (h c).2⟩) (Cert.Reference6Ideal.Value.run m' g')⟩
  rw [(harg c).1, (harg c).2]
  rfl

end Cert.Up.Grad

end
-- ==== Proof.M7.lean ====
/- The up projection's input gradient: a tile of the graduct gathers four points, two devices' rows at each. -/
module

public import proofs.«01_k».proof.Defs
public import proofs.«01_k».proof.Proof.Gen.Kernel7Ideal.Frame
public import proofs.«01_k».proof.Proof.Gen.Reference7Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section

set_option maxRecDepth 16384

noncomputable section

namespace Cert.Up.Dx

open Cert.Kernel7Ideal Cert.Kernel7Ideal.Gen Idealize.ShloMosaic Idealize.ShloMosaic.TcCoe Idealize.SL.Sem
open Idealize.ShloMosaic.Pipeline (Dat)

/-- The reference's gradient. -/
def grad (A : FVec Ideal S2048x8192 .f32) (W : FVec Ideal S2048x8192 .f32) : FVec Ideal S2048x2048 .f32 :=
  Host.dotGeneral Cert.Reference7Ideal.dot_S2048x8192_S2048x8192_S2048x2048_1_1_0_0_n_n none A W

theorem grad_at (A : FVec Ideal S2048x8192 .f32) (W : FVec Ideal S2048x8192 .f32) (i j : Fin 2048) :
    grad A W (ix2 i j) = ∑ k : Fin 8192, A (ix2 i k) * W (ix2 j k) := by
  pointwise [grad]

/-- The gathered weights that the kernel reads: each device's rows of the up projection's transpose, zeros. -/
def gathered (W : FVec Ideal S2048x8192 .f32) : FVec Ideal S8x3328x2048 .bf16 :=
  truncf .bf16 (concatenate S8x3328x2048 1 [⟨S8x1024x2048, (shapeCast S8x1024x2048 (transpose S8192x2048 [1, 0] W transposes_S2048x8192_S8192x2048_1_0 : FVec Ideal S8192x2048 .f32) shapeCasts_S8192x2048_S8x1024x2048 : FVec Ideal S8x1024x2048 .f32)⟩,
    ⟨S8x2304x2048, (broadcastInDim S8x2304x2048 ![] bcast_S_S8x2304x2048 (constant S_ .f32 0x00000000#32) : FVec Ideal S8x2304x2048 .f32)⟩] concatenates_S8x1024x2048_S8x2304x2048_S8x3328x2048_d1 : FVec Ideal S8x3328x2048 .f32) bitsLt_bf16_f32

variable (m : (ℓ : Loc nD τ sig) → Buf (Elt Ideal) ℓ) (c : Dev nD)

/-- The windows' index maps: a point is (row tile, column tile, pair of devices). -/
theorem idx : ∀ t : Fin cfg0.N, win0_0.index t = ![t.val / 8, t.val % 4] ∧ win0_1.index t = ![t.val % 4, 0, t.val / 4 % 2]
    ∧ win0_2.index t = ![t.val / 8, t.val / 4 % 2] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 1024) : Fin 2048 := ⟨t.val / 4 % 2 * 1024 + d.val, by omega⟩

/-- Point `s` of the run that a flushing point ends: the same tile, pair `s` of devices. -/
theorem run_point (t : Fin cfg0.N) (s : Fin 4) (h : 4 * (t.val / 4) + s.val < cfg0.N) :
    (∀ r, row ⟨4 * (t.val / 4) + s.val, h⟩ r = row t r) ∧ (∀ d, col ⟨4 * (t.val / 4) + s.val, h⟩ d = col t d)
      ∧ (4 * (t.val / 4) + s.val) % 4 = s.val := by
  refine ⟨fun r => Fin.ext ?_, fun d => Fin.ext ?_, by omega⟩
  · show (4 * (t.val / 4) + s.val) / 8 * 1024 + r.val = t.val / 8 * 1024 + r.val
    omega
  · show (4 * (t.val / 4) + s.val) / 4 % 2 * 1024 + d.val = t.val / 4 % 2 * 1024 + d.val
    omega

variable {A : FVec Ideal S2048x8192 .f32} {W : FVec Ideal S2048x8192 .f32}
    (h0 : m ((c : Thread nD τ).loc main_arg0) = A) (h1 : m ((c : Thread nD τ).loc main_arg1) = W)

include h1 in
/-- The gathered weights that the region starts with, in the up projection's rows. -/
theorem host_w (p : Fin 8) (r : Fin 1024) (k : Fin 2048) :
    Gen.V m c main_v5 (ix3 p (⟨r.val, by omega⟩ : Fin 3328) k) = W (ix2 k ⟨p.val * 1024 + r.val, by omega⟩) := by
  have h : Gen.V m c main_v5 = gathered W := by
    subst h1
    change StableHlo.after [hostOps0].flatten (fun b => m (c, b)) (Proc.devRef .tc main_v5) = _
    simp only [hostOps0, List.flatten_cons, List.flatten_nil, List.append_nil, List.cons_append, List.nil_append]
    after_results
    rfl
  rw [h]
  pointwise [gathered]

include h1 in
/-- The weights' block at a grid point: the rows of two devices. -/
theorem weight (t : Fin cfg0.N) (q : Fin 2) (l d : Fin 1024) :
    X0_1 m c t (ix3 q l d) = W (ix2 (col t d) ⟨t.val % 4 * 2048 + q.val * 1024 + l.val, by omega⟩) := by
  let j : ((cfg0.win 1).xblock (cfg0.grid.coords t)).Idx :=
    fun a => ⟨((ix3 q l d : S2x1024x1024.Idx) a).val, by show _ < (cfg0.win 1).xsize (cfg0.grid.coords t) a; rw [xsize0_1 t a]; exact ((ix3 q l d : S2x1024x1024.Idx) a).isLt⟩
  have hf : X0_1 m c t (ix3 q l d) = iblk m c 1 t j := (cfg0.win 1).fill_xinj _ _ _ j
  have e0 : ((((cfg0.win 1).blk t).view.emb j) (0 : Fin 3)).val = t.val % 4 * 2 + q.val := by
    have y0 : (j (0 : Fin 3)).val = q.val := rfl
    blk_simp [idx t]; omega
  have e1 : ((((cfg0.win 1).blk t).view.emb j) (1 : Fin 3)).val = l.val := by
    have y1 : (j (1 : Fin 3)).val = l.val := rfl
    blk_simp [idx t]; omega
  have e2 : ((((cfg0.win 1).blk t).view.emb j) (2 : Fin 3)).val = t.val / 4 % 2 * 1024 + d.val := by
    have y2 : (j (2 : Fin 3)).val = d.val := rfl
    blk_simp [idx t]; omega
  have e : ((cfg0.win 1).blk t).view.emb j = (ix3 ⟨t.val % 4 * 2 + q.val, by omega⟩ ⟨l.val, by omega⟩ (col t d) : S8x3328x2048.Idx) := by
    rw [eq_ix3 (n0 := 8) (n1 := 3328) (n2 := 2048) (((cfg0.win 1).blk t).view.emb j)]
    exact congr (congrArg₂ ix3 (Fin.ext e0) (Fin.ext e1)) (Fin.ext e2)
  have hw := host_w m c h1 ⟨t.val % 4 * 2 + q.val, by omega⟩ l (col t d)
  rw [← e] at hw
  rw [hf]
  refine Eq.trans ?_ (hw.trans (congrArg W (congrArg (ix2 (col t d)) (Fin.ext ?_))))
  · blk_simp [iblk]
  · show (t.val % 4 * 2 + q.val) * 1024 + l.val = t.val % 4 * 2048 + q.val * 1024 + l.val
    omega

include h0 h1

/-- What a grid point adds to its tile: the graduct over the rows of its two devices. -/
theorem point (t : Fin cfg0.N) (r d : Fin 1024) :
    k0_pay1 (F := Ideal) (iblk m c 0 t) (View.ld (X0_1 m c t) (Rect.unit ![0, 0, 0] ![1, 1024, 1024] inb_S2x1024x1024_S1x1024x1024_0_0_0)) (View.ld (X0_1 m c t) (Rect.unit ![1, 0, 0] ![1, 1024, 1024] inb_S2x1024x1024_S1x1024x1024_1_0_0)) (ix2 r d)
      = ∑ l : Fin 2048, A (ix2 (row t r) ⟨t.val % 4 * 2048 + l.val, by omega⟩) * W (ix2 (col t d) ⟨t.val % 4 * 2048 + l.val, by omega⟩) := by
  pointwise [k0_pay1]
  refine Eq.trans ?_ (Fin.sum_mul_add_congr (S := 2) (n := 1024) (f := fun l : Fin 2048 => A (ix2 (row t r) ⟨t.val % 4 * 2048 + l.val, by omega⟩) * W (ix2 (col t d) ⟨t.val % 4 * 2048 + l.val, by omega⟩))
    (F := fun q l => A (ix2 (row t r) ⟨t.val % 4 * 2048 + (q.val * 1024 + l.val), by omega⟩) * W (ix2 (col t d) ⟨t.val % 4 * 2048 + (q.val * 1024 + l.val), by omega⟩)) fun q l hl => rfl)
  rw [Fin.sum_univ_two]
  refine congrArg₂ _ (Finset.sum_congr rfl fun k _ => congrArg₂ _ ?_ ?_) (Finset.sum_congr rfl fun k _ => congrArg₂ _ ?_ ?_)
  · subst h0; blk_ext [iblk, Gen.V, idx t, row]
  · refine Eq.trans ?_ ((weight m c h1 t 0 k d).trans (congrArg W (congrArg (ix2 (col t d)) (Fin.ext (by show t.val % 4 * 2048 + 0 * 1024 + k.val = t.val % 4 * 2048 + (0 * 1024 + k.val); omega)))))
    blk_ext []
  · subst h0; blk_ext [iblk, Gen.V, idx t, row]
  · refine Eq.trans ?_ ((weight m c h1 t 1 k d).trans (congrArg W (congrArg (ix2 (col t d)) (Fin.ext (by show t.val % 4 * 2048 + 1 * 1024 + k.val = t.val % 4 * 2048 + (1 * 1024 + k.val); omega)))))
    blk_ext []

/-- The kernel's array after the region. -/
theorem final : (dats m 0 c).arrAt 2 cfg0.N = grad A W := by
  refine (dats m 0 c).arrAt_eq_of_covers 2 _ (by decide +kernel) fun t hf (y : S1024x1024.Idx) => ?_
  have ht := (flush0_2 t).mp hf
  obtain ⟨r, d, rfl⟩ : ∃ (r d : Fin 1024), y = ix2 r d := ⟨_, _, eq_ix2 y⟩
  have hr : ((cfg0.win 2).blk t).view.emb (ix2 r d) = ix2 (row t r) (col t d) := by blk_ext [idx t, row, col]
  rw [hr, grad_at]
  have hc : ∀ i, (outsAt0 m c t.val t.isLt).1 i = (outsAt0 m c t.val t.isLt).2 i := fun i => by
    rw [outsAt0_C m c t (by omega) (by omega) ht]
    frame_out
  blk_simp
  rw [after0_2]
  rw [hc, Pipeline.eq_sum_fin_of_reset_step_apply_of_flush (fun n h => (outsAt0 m c n h).2) 4 (fun _ => 0)
    (fun t y => k0_pay1 (F := Ideal) (iblk m c 0 t) (View.ld (X0_1 m c t) (Rect.unit ![0, 0, 0] ![1, 1024, 1024] inb_S2x1024x1024_S1x1024x1024_0_0_0)) (View.ld (X0_1 m c t) (Rect.unit ![1, 0, 0] ![1, 1024, 1024] inb_S2x1024x1024_S1x1024x1024_1_0_0)) y)
    (fun t h j => by rw [outsAt0_A m c t h (by omega) (by omega)]; frame_out; pointwise [k0_pay2]; rfl)
    (fun t h j => by
      by_cases h3 : t.val % 4 = 3
      · rw [outsAt0_C m c t h (by omega) h3]; frame_out; pointwise [k0_pay3]; rw [read_unread_whole]; rfl
      · rw [outsAt0_B m c t h (by omega) h3]; frame_out; pointwise [k0_pay3]; rw [read_unread_whole]; rfl)
    t ht _, zero_add]
  simp only [point m c h0 h1]
  refine Eq.trans (α := EReal) (Finset.sum_congr (M := EReal) rfl fun s _ => ?_) (Fin.sum_mul_add_congr (M := EReal) (S := 4) (n := 2048) (f := fun k : Fin 8192 => A (ix2 (row t r) k) * W (ix2 (col t d) k)) (F := fun s l => A (ix2 (row t r) ⟨s.val * 2048 + l.val, by omega⟩) * W (ix2 (col t d) ⟨s.val * 2048 + l.val, by omega⟩)) fun s l hl => rfl)
  obtain ⟨hrow, hcol, hs⟩ := run_point t s (Pipeline.run_point_lt_of_flush t ht s)
  simp only [hrow, hcol, hs]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference7Ideal := fun m g _ =>
  (θ_run Cert.Reference7Ideal.defs _ _).mono (fun r h => ⟨fun c => (h c).2, sem_eq_zero_of_no_sems (by decide) r.2⟩) (Cert.Reference7Ideal.Value.run m g)

/-- The kernel computes the reference's gradient. -/
theorem algebraic : Cert.algebraic_Kernel7Ideal_Reference7Ideal := by
  intro m g m' g' _ harg
  refine ⟨fun c => grad (m ((c : Thread nD τ).loc main_arg0)) (m ((c : Thread nD τ).loc main_arg1)), run m g,
    (θ_run Cert.Reference7Ideal.defs _ _).mono (fun r h c => ⟨(h c).1.trans ?_, (h c).2⟩) (Cert.Reference7Ideal.Value.run m' g')⟩
  rw [(harg c).1, (harg c).2]
  rfl

end Cert.Up.Dx

end
-- ==== Proof.M8.lean ====
/- The mixer's output projection: a tile of the product gathers the rows of the eight devices. -/
module

public import proofs.«01_k».proof.Defs
public import proofs.«01_k».proof.Proof.Gen.Kernel8Ideal.Frame
public import proofs.«01_k».proof.Proof.Gen.Reference8Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.MixerOut.Forward

open Cert.Kernel8Ideal Cert.Kernel8Ideal.Gen Idealize.ShloMosaic Idealize.ShloMosaic.TcCoe Idealize.SL.Sem
open Idealize.ShloMosaic.Pipeline (Dat)

/-- The reference's product. -/
def prod (A : FVec Ideal S2048x2048 .f32) (W : FVec Ideal S2048x2048 .f32) : FVec Ideal S2048x2048 .f32 :=
  Host.dotGeneral Cert.Reference8Ideal.dot_S2048x2048_S2048x2048_S2048x2048_1_0_0_1_n_n none A W

theorem prod_at (A : FVec Ideal S2048x2048 .f32) (W : FVec Ideal S2048x2048 .f32) (i : Fin 2048) (j : Fin 2048) :
    prod A W (ix2 i j) = ∑ k : Fin 2048, A (ix2 i k) * W (ix2 k j) := by
  pointwise [prod]

/-- The gathered weights that the kernel reads: the mixer's output projection's rows of each device, zeros in the other weights' place. -/
def gathered (W : FVec Ideal S2048x2048 .f32) : FVec Ideal S8x3328x2048 .bf16 :=
  truncf .bf16 (concatenate S8x3328x2048 1 [⟨S8x2048x2048, (broadcastInDim S8x2048x2048 ![] bcast_S_S8x2048x2048 (constant S_ .f32 0x00000000#32) : FVec Ideal S8x2048x2048 .f32)⟩,
    ⟨S8x256x2048, (shapeCast S8x256x2048 W shapeCasts_S2048x2048_S8x256x2048 : FVec Ideal S8x256x2048 .f32)⟩,
    ⟨S8x1024x2048, (broadcastInDim S8x1024x2048 ![] bcast_S_S8x1024x2048 (constant S_ .f32 0x00000000#32) : FVec Ideal S8x1024x2048 .f32)⟩]
    concatenates_S8x2048x2048_S8x256x2048_S8x1024x2048_S8x3328x2048_d1 : FVec Ideal S8x3328x2048 .f32) bitsLt_bf16_f32

variable (m : (ℓ : Loc nD τ sig) → Buf (Elt Ideal) ℓ) (c : Dev nD)

/-- The windows' index maps: a point is (row tile, column tile). -/
theorem idx : ∀ t : Fin cfg0.N, win0_0.index t = ![t.val / 2, 0] ∧ win0_1.index t = ![0, 8, t.val % 2]
    ∧ win0_2.index t = ![t.val / 2, t.val % 2] :=
  (by decide +kernel : ∀ t : Fin grid0.N, _)

/-- The array's row at row `r` of a grid point's tile, and its column. -/
def row (t : Fin cfg0.N) (r : Fin 1024) : Fin 2048 := ⟨t.val / 2 * 1024 + r.val, by have h : t.val < 4 := t.isLt; omega⟩
def col (t : Fin cfg0.N) (d : Fin 1024) : Fin 2048 := ⟨t.val % 2 * 1024 + d.val, by omega⟩

variable {A : FVec Ideal S2048x2048 .f32} {W : FVec Ideal S2048x2048 .f32}
    (h0 : m ((c : Thread nD τ).loc main_arg0) = A) (h1 : m ((c : Thread nD τ).loc main_arg1) = W)

include h1 in
/-- The gathered weights that the region starts with, in this weight's rows. -/
theorem host_w (p : Fin 8) (r : Fin 256) (k : Fin 2048) :
    Gen.V m c main_v5 (ix3 p (⟨2048 + r.val, by omega⟩ : Fin 3328) k) = W (ix2 ⟨p.val * 256 + r.val, by omega⟩ k) := by
  have h : Gen.V m c main_v5 = gathered W := by
    subst h1
    change StableHlo.after hostOps0 (fun b => m (c, b)) (Proc.devRef .tc main_v5) = _
    simp only [hostOps0]
    after_results
    rfl
  rw [h]
  pointwise [gathered]

include h1 in
/-- The weights' block at a grid point: the rows of all devices, in the tile's columns. -/
theorem weight (t : Fin cfg0.N) (q : Fin 8) (l : Fin 256) (d : Fin 1024) :
    iblk m c 1 t (ix3 q l d) = W (ix2 ⟨q.val * 256 + l.val, by omega⟩ (col t d)) := by
  refine Eq.trans ?_ (host_w m c h1 q l (col t d))
  blk_ext [iblk, idx t, col]

include h0 h1

/-- What the kernel writes at a grid point: the product over the rows of the eight devices. -/
theorem point (t : Fin cfg0.N) (r : Fin 1024) (d : Fin 1024) :
    out0_2 (F := Ideal) (iblk m c 0 t) (iblk m c 1 t) (ix2 r d) = prod A W (ix2 (row t r) (col t d)) := by
  rw [prod_at]
  frame_out [out0_2]
  pointwise [k0_pay1, k0_pay2, k0_pay3]
  refine Eq.trans ?_ (Fin.sum_mul_add_congr (S := 8) (n := 256) (f := fun l : Fin 2048 => A (ix2 (row t r) l) * W (ix2 l (col t d)))
    (F := fun q l => A (ix2 (row t r) ⟨q.val * 256 + l.val, by omega⟩) * W (ix2 ⟨q.val * 256 + l.val, by omega⟩ (col t d))) fun q l hl => rfl)
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun k _ => congrArg₂ _ ?_ ?_
  · subst h0; blk_ext [iblk, Gen.V, idx t, row]
  · refine Eq.trans ?_ (weight m c h1 t 0 k d); blk_ext []
  · subst h0; blk_ext [iblk, Gen.V, idx t, row]
  · refine Eq.trans ?_ (weight m c h1 t 1 k d); blk_ext []
  · subst h0; blk_ext [iblk, Gen.V, idx t, row]
  · refine Eq.trans ?_ (weight m c h1 t 2 k d); blk_ext []
  · subst h0; blk_ext [iblk, Gen.V, idx t, row]
  · refine Eq.trans ?_ (weight m c h1 t 3 k d); blk_ext []
  · subst h0; blk_ext [iblk, Gen.V, idx t, row]
  · refine Eq.trans ?_ (weight m c h1 t 4 k d); blk_ext []
  · subst h0; blk_ext [iblk, Gen.V, idx t, row]
  · refine Eq.trans ?_ (weight m c h1 t 5 k d); blk_ext []
  · subst h0; blk_ext [iblk, Gen.V, idx t, row]
  · refine Eq.trans ?_ (weight m c h1 t 6 k d); blk_ext []
  · subst h0; blk_ext [iblk, Gen.V, idx t, row]
  · refine Eq.trans ?_ (weight m c h1 t 7 k d); blk_ext []

/-- The kernel's array after the region. -/
theorem final : (dats m 0 c).arrAt 2 cfg0.N = prod A W := by
  refine (dats m 0 c).arrAt_eq_of_covers 2 _ (by decide +kernel) fun t _ (y : S1024x1024.Idx) => ?_
  obtain ⟨r, d, rfl⟩ : ∃ (r : Fin 1024) (d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference8Ideal := fun m g _ =>
  (θ_run Cert.Reference8Ideal.defs _ _).mono (fun r h => ⟨fun c => (h c).2, sem_eq_zero_of_no_sems (by decide) r.2⟩) (Cert.Reference8Ideal.Value.run m g)

/-- The kernel computes the reference's product. -/
theorem algebraic : Cert.algebraic_Kernel8Ideal_Reference8Ideal := by
  intro m g m' g' _ harg
  refine ⟨fun c => prod (m ((c : Thread nD τ).loc main_arg0)) (m ((c : Thread nD τ).loc main_arg1)), run m g,
    (θ_run Cert.Reference8Ideal.defs _ _).mono (fun r h c => ⟨(h c).1.trans ?_, (h c).2⟩) (Cert.Reference8Ideal.Value.run m' g')⟩
  rw [(harg c).1, (harg c).2]
  rfl

end Cert.MixerOut.Forward

end
-- ==== Proof.M9.lean ====
/- The query projection: a tile of the product gathers the rows of the eight devices. -/
module

public import proofs.«01_k».proof.Defs
public import proofs.«01_k».proof.Proof.Gen.Kernel9Ideal.Frame
public import proofs.«01_k».proof.Proof.Gen.Reference9Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Queries.Forward

open Cert.Kernel9Ideal Cert.Kernel9Ideal.Gen Idealize.ShloMosaic Idealize.ShloMosaic.TcCoe Idealize.SL.Sem
open Idealize.ShloMosaic.Pipeline (Dat)

/-- The reference's product. -/
def prod (A : FVec Ideal S2048x2048 .f32) (W : FVec Ideal S2048x2048 .f32) : FVec Ideal S2048x2048 .f32 :=
  Host.dotGeneral Cert.Reference9Ideal.dot_S2048x2048_S2048x2048_S2048x2048_1_0_0_1_n_n none A W

theorem prod_at (A : FVec Ideal S2048x2048 .f32) (W : FVec Ideal S2048x2048 .f32) (i : Fin 2048) (j : Fin 2048) :
    prod A W (ix2 i j) = ∑ k : Fin 2048, A (ix2 i k) * W (ix2 k j) := by
  pointwise [prod]

/-- The gathered weights that the kernel reads: the query projection's rows of each device, zeros in the other weights' place. -/
def gathered (W : FVec Ideal S2048x2048 .f32) : FVec Ideal S8x3328x2048 .bf16 :=
  truncf .bf16 (concatenate S8x3328x2048 1 [⟨S8x2304x2048, (broadcastInDim S8x2304x2048 ![] bcast_S_S8x2304x2048 (constant S_ .f32 0x00000000#32) : FVec Ideal S8x2304x2048 .f32)⟩,
    ⟨S8x256x2048, (shapeCast S8x256x2048 W shapeCasts_S2048x2048_S8x256x2048 : FVec Ideal S8x256x2048 .f32)⟩,
    ⟨S8x768x2048, (broadcastInDim S8x768x2048 ![] bcast_S_S8x768x2048 (constant S_ .f32 0x00000000#32) : FVec Ideal S8x768x2048 .f32)⟩]
    concatenates_S8x2304x2048_S8x256x2048_S8x768x2048_S8x3328x2048_d1 : FVec Ideal S8x3328x2048 .f32) bitsLt_bf16_f32

variable (m : (ℓ : Loc nD τ sig) → Buf (Elt Ideal) ℓ) (c : Dev nD)

/-- The windows' index maps: a point is (row tile, column tile). -/
theorem idx : ∀ t : Fin cfg0.N, win0_0.index t = ![t.val / 2, 0] ∧ win0_1.index t = ![0, 9, t.val % 2]
    ∧ win0_2.index t = ![t.val / 2, t.val % 2] :=
  (by decide +kernel : ∀ t : Fin grid0.N, _)

/-- The array's row at row `r` of a grid point's tile, and its column. -/
def row (t : Fin cfg0.N) (r : Fin 1024) : Fin 2048 := ⟨t.val / 2 * 1024 + r.val, by have h : t.val < 4 := t.isLt; omega⟩
def col (t : Fin cfg0.N) (d : Fin 1024) : Fin 2048 := ⟨t.val % 2 * 1024 + d.val, by omega⟩

variable {A : FVec Ideal S2048x2048 .f32} {W : FVec Ideal S2048x2048 .f32}
    (h0 : m ((c : Thread nD τ).loc main_arg0) = A) (h1 : m ((c : Thread nD τ).loc main_arg1) = W)

include h1 in
/-- The gathered weights that the region starts with, in this weight's rows. -/
theorem host_w (p : Fin 8) (r : Fin 256) (k : Fin 2048) :
    Gen.V m c main_v5 (ix3 p (⟨2304 + r.val, by omega⟩ : Fin 3328) k) = W (ix2 ⟨p.val * 256 + r.val, by omega⟩ k) := by
  have h : Gen.V m c main_v5 = gathered W := by
    subst h1
    change StableHlo.after hostOps0 (fun b => m (c, b)) (Proc.devRef .tc main_v5) = _
    simp only [hostOps0]
    after_results
    rfl
  rw [h]
  pointwise [gathered]

include h1 in
/-- The weights' block at a grid point: the rows of all devices, in the tile's columns. -/
theorem weight (t : Fin cfg0.N) (q : Fin 8) (l : Fin 256) (d : Fin 1024) :
    iblk m c 1 t (ix3 q l d) = W (ix2 ⟨q.val * 256 + l.val, by omega⟩ (col t d)) := by
  refine Eq.trans ?_ (host_w m c h1 q l (col t d))
  blk_ext [iblk, idx t, col]

include h0 h1

/-- What the kernel writes at a grid point: the product over the rows of the eight devices. -/
theorem point (t : Fin cfg0.N) (r : Fin 1024) (d : Fin 1024) :
    out0_2 (F := Ideal) (iblk m c 0 t) (iblk m c 1 t) (ix2 r d) = prod A W (ix2 (row t r) (col t d)) := by
  rw [prod_at]
  frame_out [out0_2]
  pointwise [k0_pay1, k0_pay2, k0_pay3]
  refine Eq.trans ?_ (Fin.sum_mul_add_congr (S := 8) (n := 256) (f := fun l : Fin 2048 => A (ix2 (row t r) l) * W (ix2 l (col t d)))
    (F := fun q l => A (ix2 (row t r) ⟨q.val * 256 + l.val, by omega⟩) * W (ix2 ⟨q.val * 256 + l.val, by omega⟩ (col t d))) fun q l hl => rfl)
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun k _ => congrArg₂ _ ?_ ?_
  · subst h0; blk_ext [iblk, Gen.V, idx t, row]
  · refine Eq.trans ?_ (weight m c h1 t 0 k d); blk_ext []
  · subst h0; blk_ext [iblk, Gen.V, idx t, row]
  · refine Eq.trans ?_ (weight m c h1 t 1 k d); blk_ext []
  · subst h0; blk_ext [iblk, Gen.V, idx t, row]
  · refine Eq.trans ?_ (weight m c h1 t 2 k d); blk_ext []
  · subst h0; blk_ext [iblk, Gen.V, idx t, row]
  · refine Eq.trans ?_ (weight m c h1 t 3 k d); blk_ext []
  · subst h0; blk_ext [iblk, Gen.V, idx t, row]
  · refine Eq.trans ?_ (weight m c h1 t 4 k d); blk_ext []
  · subst h0; blk_ext [iblk, Gen.V, idx t, row]
  · refine Eq.trans ?_ (weight m c h1 t 5 k d); blk_ext []
  · subst h0; blk_ext [iblk, Gen.V, idx t, row]
  · refine Eq.trans ?_ (weight m c h1 t 6 k d); blk_ext []
  · subst h0; blk_ext [iblk, Gen.V, idx t, row]
  · refine Eq.trans ?_ (weight m c h1 t 7 k d); blk_ext []

/-- The kernel's array after the region. -/
theorem final : (dats m 0 c).arrAt 2 cfg0.N = prod A W := by
  refine (dats m 0 c).arrAt_eq_of_covers 2 _ (by decide +kernel) fun t _ (y : S1024x1024.Idx) => ?_
  obtain ⟨r, d, rfl⟩ : ∃ (r : Fin 1024) (d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference9Ideal := fun m g _ =>
  (θ_run Cert.Reference9Ideal.defs _ _).mono (fun r h => ⟨fun c => (h c).2, sem_eq_zero_of_no_sems (by decide) r.2⟩) (Cert.Reference9Ideal.Value.run m g)

/-- The kernel computes the reference's product. -/
theorem algebraic : Cert.algebraic_Kernel9Ideal_Reference9Ideal := by
  intro m g m' g' _ harg
  refine ⟨fun c => prod (m ((c : Thread nD τ).loc main_arg0)) (m ((c : Thread nD τ).loc main_arg1)), run m g,
    (θ_run Cert.Reference9Ideal.defs _ _).mono (fun r h c => ⟨(h c).1.trans ?_, (h c).2⟩) (Cert.Reference9Ideal.Value.run m' g')⟩
  rw [(harg c).1, (harg c).2]
  rfl

end Cert.Queries.Forward

end
-- ==== Proof.M10.lean ====
/- The key projection: a tile of the product gathers the rows of the eight devices. -/
module

public import proofs.«01_k».proof.Defs
public import proofs.«01_k».proof.Proof.Gen.Kernel10Ideal.Frame
public import proofs.«01_k».proof.Proof.Gen.Reference10Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Keys.Forward

open Cert.Kernel10Ideal Cert.Kernel10Ideal.Gen Idealize.ShloMosaic Idealize.ShloMosaic.TcCoe Idealize.SL.Sem
open Idealize.ShloMosaic.Pipeline (Dat)

/-- The reference's product. -/
def prod (A : FVec Ideal S256x2048 .f32) (W : FVec Ideal S2048x2048 .f32) : FVec Ideal S256x2048 .f32 :=
  Host.dotGeneral Cert.Reference10Ideal.dot_S256x2048_S2048x2048_S256x2048_1_0_0_1_n_n none A W

theorem prod_at (A : FVec Ideal S256x2048 .f32) (W : FVec Ideal S2048x2048 .f32) (i : Fin 256) (j : Fin 2048) :
    prod A W (ix2 i j) = ∑ k : Fin 2048, A (ix2 i k) * W (ix2 k j) := by
  pointwise [prod]

/-- The gathered weights that the kernel reads: the key projection's rows of each device, zeros in the other weights' place. -/
def gathered (W : FVec Ideal S2048x2048 .f32) : FVec Ideal S8x3328x2048 .bf16 :=
  truncf .bf16 (concatenate S8x3328x2048 1 [⟨S8x2560x2048, (broadcastInDim S8x2560x2048 ![] bcast_S_S8x2560x2048 (constant S_ .f32 0x00000000#32) : FVec Ideal S8x2560x2048 .f32)⟩,
    ⟨S8x256x2048, (shapeCast S8x256x2048 W shapeCasts_S2048x2048_S8x256x2048 : FVec Ideal S8x256x2048 .f32)⟩,
    ⟨S8x512x2048, (broadcastInDim S8x512x2048 ![] bcast_S_S8x512x2048 (constant S_ .f32 0x00000000#32) : FVec Ideal S8x512x2048 .f32)⟩]
    concatenates_S8x2560x2048_S8x256x2048_S8x512x2048_S8x3328x2048_d1 : FVec Ideal S8x3328x2048 .f32) bitsLt_bf16_f32

variable (m : (ℓ : Loc nD τ sig) → Buf (Elt Ideal) ℓ) (c : Dev nD)

/-- The windows' index maps: a point is (row tile, column tile). -/
theorem idx : ∀ t : Fin cfg0.N, win0_0.index t = ![t.val / 2, 0] ∧ win0_1.index t = ![0, 10, t.val % 2]
    ∧ win0_2.index t = ![t.val / 2, t.val % 2] :=
  (by decide +kernel : ∀ t : Fin grid0.N, _)

/-- The array's row at row `r` of a grid point's tile, and its column. -/
def row (t : Fin cfg0.N) (r : Fin 256) : Fin 256 := ⟨t.val / 2 * 256 + r.val, by have h : t.val < 2 := t.isLt; omega⟩
def col (t : Fin cfg0.N) (d : Fin 1024) : Fin 2048 := ⟨t.val % 2 * 1024 + d.val, by omega⟩

variable {A : FVec Ideal S256x2048 .f32} {W : FVec Ideal S2048x2048 .f32}
    (h0 : m ((c : Thread nD τ).loc main_arg0) = A) (h1 : m ((c : Thread nD τ).loc main_arg1) = W)

include h1 in
/-- The gathered weights that the region starts with, in this weight's rows. -/
theorem host_w (p : Fin 8) (r : Fin 256) (k : Fin 2048) :
    Gen.V m c main_v5 (ix3 p (⟨2560 + r.val, by omega⟩ : Fin 3328) k) = W (ix2 ⟨p.val * 256 + r.val, by omega⟩ k) := by
  have h : Gen.V m c main_v5 = gathered W := by
    subst h1
    change StableHlo.after hostOps0 (fun b => m (c, b)) (Proc.devRef .tc main_v5) = _
    simp only [hostOps0]
    after_results
    rfl
  rw [h]
  pointwise [gathered]

include h1 in
/-- The weights' block at a grid point: the rows of all devices, in the tile's columns. -/
theorem weight (t : Fin cfg0.N) (q : Fin 8) (l : Fin 256) (d : Fin 1024) :
    iblk m c 1 t (ix3 q l d) = W (ix2 ⟨q.val * 256 + l.val, by omega⟩ (col t d)) := by
  refine Eq.trans ?_ (host_w m c h1 q l (col t d))
  blk_ext [iblk, idx t, col]

include h0 h1

/-- What the kernel writes at a grid point: the product over the rows of the eight devices. -/
theorem point (t : Fin cfg0.N) (r : Fin 256) (d : Fin 1024) :
    out0_2 (F := Ideal) (iblk m c 0 t) (iblk m c 1 t) (ix2 r d) = prod A W (ix2 (row t r) (col t d)) := by
  rw [prod_at]
  frame_out [out0_2]
  pointwise [k0_pay1, k0_pay2, k0_pay3]
  refine Eq.trans ?_ (Fin.sum_mul_add_congr (S := 8) (n := 256) (f := fun l : Fin 2048 => A (ix2 (row t r) l) * W (ix2 l (col t d)))
    (F := fun q l => A (ix2 (row t r) ⟨q.val * 256 + l.val, by omega⟩) * W (ix2 ⟨q.val * 256 + l.val, by omega⟩ (col t d))) fun q l hl => rfl)
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun k _ => congrArg₂ _ ?_ ?_
  · subst h0; blk_ext [iblk, Gen.V, idx t, row]
  · refine Eq.trans ?_ (weight m c h1 t 0 k d); blk_ext []
  · subst h0; blk_ext [iblk, Gen.V, idx t, row]
  · refine Eq.trans ?_ (weight m c h1 t 1 k d); blk_ext []
  · subst h0; blk_ext [iblk, Gen.V, idx t, row]
  · refine Eq.trans ?_ (weight m c h1 t 2 k d); blk_ext []
  · subst h0; blk_ext [iblk, Gen.V, idx t, row]
  · refine Eq.trans ?_ (weight m c h1 t 3 k d); blk_ext []
  · subst h0; blk_ext [iblk, Gen.V, idx t, row]
  · refine Eq.trans ?_ (weight m c h1 t 4 k d); blk_ext []
  · subst h0; blk_ext [iblk, Gen.V, idx t, row]
  · refine Eq.trans ?_ (weight m c h1 t 5 k d); blk_ext []
  · subst h0; blk_ext [iblk, Gen.V, idx t, row]
  · refine Eq.trans ?_ (weight m c h1 t 6 k d); blk_ext []
  · subst h0; blk_ext [iblk, Gen.V, idx t, row]
  · refine Eq.trans ?_ (weight m c h1 t 7 k d); blk_ext []

/-- The kernel's array after the region. -/
theorem final : (dats m 0 c).arrAt 2 cfg0.N = prod A W := by
  refine (dats m 0 c).arrAt_eq_of_covers 2 _ (by decide +kernel) fun t _ (y : S256x1024.Idx) => ?_
  obtain ⟨r, d, rfl⟩ : ∃ (r : Fin 256) (d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference10Ideal := fun m g _ =>
  (θ_run Cert.Reference10Ideal.defs _ _).mono (fun r h => ⟨fun c => (h c).2, sem_eq_zero_of_no_sems (by decide) r.2⟩) (Cert.Reference10Ideal.Value.run m g)

/-- The kernel computes the reference's product. -/
theorem algebraic : Cert.algebraic_Kernel10Ideal_Reference10Ideal := by
  intro m g m' g' _ harg
  refine ⟨fun c => prod (m ((c : Thread nD τ).loc main_arg0)) (m ((c : Thread nD τ).loc main_arg1)), run m g,
    (θ_run Cert.Reference10Ideal.defs _ _).mono (fun r h c => ⟨(h c).1.trans ?_, (h c).2⟩) (Cert.Reference10Ideal.Value.run m' g')⟩
  rw [(harg c).1, (harg c).2]
  rfl

end Cert.Keys.Forward

end
-- ==== Proof.M11.lean ====
/- The value projection: a tile of the product gathers the rows of the eight devices. -/
module

public import proofs.«01_k».proof.Defs
public import proofs.«01_k».proof.Proof.Gen.Kernel11Ideal.Frame
public import proofs.«01_k».proof.Proof.Gen.Reference11Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Values.Forward

open Cert.Kernel11Ideal Cert.Kernel11Ideal.Gen Idealize.ShloMosaic Idealize.ShloMosaic.TcCoe Idealize.SL.Sem
open Idealize.ShloMosaic.Pipeline (Dat)

/-- The reference's product. -/
def prod (A : FVec Ideal S256x2048 .f32) (W : FVec Ideal S2048x2048 .f32) : FVec Ideal S256x2048 .f32 :=
  Host.dotGeneral Cert.Reference11Ideal.dot_S256x2048_S2048x2048_S256x2048_1_0_0_1_n_n none A W

theorem prod_at (A : FVec Ideal S256x2048 .f32) (W : FVec Ideal S2048x2048 .f32) (i : Fin 256) (j : Fin 2048) :
    prod A W (ix2 i j) = ∑ k : Fin 2048, A (ix2 i k) * W (ix2 k j) := by
  pointwise [prod]

/-- The gathered weights that the kernel reads: the value projection's rows of each device, zeros in the other weights' place. -/
def gathered (W : FVec Ideal S2048x2048 .f32) : FVec Ideal S8x3328x2048 .bf16 :=
  truncf .bf16 (concatenate S8x3328x2048 1 [⟨S8x2816x2048, (broadcastInDim S8x2816x2048 ![] bcast_S_S8x2816x2048 (constant S_ .f32 0x00000000#32) : FVec Ideal S8x2816x2048 .f32)⟩,
    ⟨S8x256x2048, (shapeCast S8x256x2048 W shapeCasts_S2048x2048_S8x256x2048 : FVec Ideal S8x256x2048 .f32)⟩,
    ⟨S8x256x2048, (broadcastInDim S8x256x2048 ![] bcast_S_S8x256x2048 (constant S_ .f32 0x00000000#32) : FVec Ideal S8x256x2048 .f32)⟩]
    concatenates_S8x2816x2048_S8x256x2048_S8x256x2048_S8x3328x2048_d1 : FVec Ideal S8x3328x2048 .f32) bitsLt_bf16_f32

variable (m : (ℓ : Loc nD τ sig) → Buf (Elt Ideal) ℓ) (c : Dev nD)

/-- The windows' index maps: a point is (row tile, column tile). -/
theorem idx : ∀ t : Fin cfg0.N, win0_0.index t = ![t.val / 2, 0] ∧ win0_1.index t = ![0, 11, t.val % 2]
    ∧ win0_2.index t = ![t.val / 2, t.val % 2] :=
  (by decide +kernel : ∀ t : Fin grid0.N, _)

/-- The array's row at row `r` of a grid point's tile, and its column. -/
def row (t : Fin cfg0.N) (r : Fin 256) : Fin 256 := ⟨t.val / 2 * 256 + r.val, by have h : t.val < 2 := t.isLt; omega⟩
def col (t : Fin cfg0.N) (d : Fin 1024) : Fin 2048 := ⟨t.val % 2 * 1024 + d.val, by omega⟩

variable {A : FVec Ideal S256x2048 .f32} {W : FVec Ideal S2048x2048 .f32}
    (h0 : m ((c : Thread nD τ).loc main_arg0) = A) (h1 : m ((c : Thread nD τ).loc main_arg1) = W)

include h1 in
/-- The gathered weights that the region starts with, in this weight's rows. -/
theorem host_w (p : Fin 8) (r : Fin 256) (k : Fin 2048) :
    Gen.V m c main_v5 (ix3 p (⟨2816 + r.val, by omega⟩ : Fin 3328) k) = W (ix2 ⟨p.val * 256 + r.val, by omega⟩ k) := by
  have h : Gen.V m c main_v5 = gathered W := by
    subst h1
    change StableHlo.after hostOps0 (fun b => m (c, b)) (Proc.devRef .tc main_v5) = _
    simp only [hostOps0]
    after_results
    rfl
  rw [h]
  pointwise [gathered]

include h1 in
/-- The weights' block at a grid point: the rows of all devices, in the tile's columns. -/
theorem weight (t : Fin cfg0.N) (q : Fin 8) (l : Fin 256) (d : Fin 1024) :
    iblk m c 1 t (ix3 q l d) = W (ix2 ⟨q.val * 256 + l.val, by omega⟩ (col t d)) := by
  refine Eq.trans ?_ (host_w m c h1 q l (col t d))
  blk_ext [iblk, idx t, col]

include h0 h1

/-- What the kernel writes at a grid point: the product over the rows of the eight devices. -/
theorem point (t : Fin cfg0.N) (r : Fin 256) (d : Fin 1024) :
    out0_2 (F := Ideal) (iblk m c 0 t) (iblk m c 1 t) (ix2 r d) = prod A W (ix2 (row t r) (col t d)) := by
  rw [prod_at]
  frame_out [out0_2]
  pointwise [k0_pay1, k0_pay2, k0_pay3]
  refine Eq.trans ?_ (Fin.sum_mul_add_congr (S := 8) (n := 256) (f := fun l : Fin 2048 => A (ix2 (row t r) l) * W (ix2 l (col t d)))
    (F := fun q l => A (ix2 (row t r) ⟨q.val * 256 + l.val, by omega⟩) * W (ix2 ⟨q.val * 256 + l.val, by omega⟩ (col t d))) fun q l hl => rfl)
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun k _ => congrArg₂ _ ?_ ?_
  · subst h0; blk_ext [iblk, Gen.V, idx t, row]
  · refine Eq.trans ?_ (weight m c h1 t 0 k d); blk_ext []
  · subst h0; blk_ext [iblk, Gen.V, idx t, row]
  · refine Eq.trans ?_ (weight m c h1 t 1 k d); blk_ext []
  · subst h0; blk_ext [iblk, Gen.V, idx t, row]
  · refine Eq.trans ?_ (weight m c h1 t 2 k d); blk_ext []
  · subst h0; blk_ext [iblk, Gen.V, idx t, row]
  · refine Eq.trans ?_ (weight m c h1 t 3 k d); blk_ext []
  · subst h0; blk_ext [iblk, Gen.V, idx t, row]
  · refine Eq.trans ?_ (weight m c h1 t 4 k d); blk_ext []
  · subst h0; blk_ext [iblk, Gen.V, idx t, row]
  · refine Eq.trans ?_ (weight m c h1 t 5 k d); blk_ext []
  · subst h0; blk_ext [iblk, Gen.V, idx t, row]
  · refine Eq.trans ?_ (weight m c h1 t 6 k d); blk_ext []
  · subst h0; blk_ext [iblk, Gen.V, idx t, row]
  · refine Eq.trans ?_ (weight m c h1 t 7 k d); blk_ext []

/-- The kernel's array after the region. -/
theorem final : (dats m 0 c).arrAt 2 cfg0.N = prod A W := by
  refine (dats m 0 c).arrAt_eq_of_covers 2 _ (by decide +kernel) fun t _ (y : S256x1024.Idx) => ?_
  obtain ⟨r, d, rfl⟩ : ∃ (r : Fin 256) (d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference11Ideal := fun m g _ =>
  (θ_run Cert.Reference11Ideal.defs _ _).mono (fun r h => ⟨fun c => (h c).2, sem_eq_zero_of_no_sems (by decide) r.2⟩) (Cert.Reference11Ideal.Value.run m g)

/-- The kernel computes the reference's product. -/
theorem algebraic : Cert.algebraic_Kernel11Ideal_Reference11Ideal := by
  intro m g m' g' _ harg
  refine ⟨fun c => prod (m ((c : Thread nD τ).loc main_arg0)) (m ((c : Thread nD τ).loc main_arg1)), run m g,
    (θ_run Cert.Reference11Ideal.defs _ _).mono (fun r h c => ⟨(h c).1.trans ?_, (h c).2⟩) (Cert.Reference11Ideal.Value.run m' g')⟩
  rw [(harg c).1, (harg c).2]
  rfl

end Cert.Values.Forward

end
-- ==== Proof.M12.lean ====
/- The cross-attention's output projection: a tile of the product gathers the rows of the eight devices. -/
module

public import proofs.«01_k».proof.Defs
public import proofs.«01_k».proof.Proof.Gen.Kernel12Ideal.Frame
public import proofs.«01_k».proof.Proof.Gen.Reference12Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.CrossOut.Forward

open Cert.Kernel12Ideal Cert.Kernel12Ideal.Gen Idealize.ShloMosaic Idealize.ShloMosaic.TcCoe Idealize.SL.Sem
open Idealize.ShloMosaic.Pipeline (Dat)

/-- The reference's product. -/
def prod (A : FVec Ideal S2048x2048 .f32) (W : FVec Ideal S2048x2048 .f32) : FVec Ideal S2048x2048 .f32 :=
  Host.dotGeneral Cert.Reference12Ideal.dot_S2048x2048_S2048x2048_S2048x2048_1_0_0_1_n_n none A W

theorem prod_at (A : FVec Ideal S2048x2048 .f32) (W : FVec Ideal S2048x2048 .f32) (i : Fin 2048) (j : Fin 2048) :
    prod A W (ix2 i j) = ∑ k : Fin 2048, A (ix2 i k) * W (ix2 k j) := by
  pointwise [prod]

/-- The gathered weights that the kernel reads: the cross-attention's output projection's rows of each device, zeros in the other weights' place. -/
def gathered (W : FVec Ideal S2048x2048 .f32) : FVec Ideal S8x3328x2048 .bf16 :=
  truncf .bf16 (concatenate S8x3328x2048 1 [⟨S8x3072x2048, (broadcastInDim S8x3072x2048 ![] bcast_S_S8x3072x2048 (constant S_ .f32 0x00000000#32) : FVec Ideal S8x3072x2048 .f32)⟩,
    ⟨S8x256x2048, (shapeCast S8x256x2048 W shapeCasts_S2048x2048_S8x256x2048 : FVec Ideal S8x256x2048 .f32)⟩]
    concatenates_S8x3072x2048_S8x256x2048_S8x3328x2048_d1 : FVec Ideal S8x3328x2048 .f32) bitsLt_bf16_f32

variable (m : (ℓ : Loc nD τ sig) → Buf (Elt Ideal) ℓ) (c : Dev nD)

/-- The windows' index maps: a point is (row tile, column tile). -/
theorem idx : ∀ t : Fin cfg0.N, win0_0.index t = ![t.val / 2, 0] ∧ win0_1.index t = ![0, 12, t.val % 2]
    ∧ win0_2.index t = ![t.val / 2, t.val % 2] :=
  (by decide +kernel : ∀ t : Fin grid0.N, _)

/-- The array's row at row `r` of a grid point's tile, and its column. -/
def row (t : Fin cfg0.N) (r : Fin 1024) : Fin 2048 := ⟨t.val / 2 * 1024 + r.val, by have h : t.val < 4 := t.isLt; omega⟩
def col (t : Fin cfg0.N) (d : Fin 1024) : Fin 2048 := ⟨t.val % 2 * 1024 + d.val, by omega⟩

variable {A : FVec Ideal S2048x2048 .f32} {W : FVec Ideal S2048x2048 .f32}
    (h0 : m ((c : Thread nD τ).loc main_arg0) = A) (h1 : m ((c : Thread nD τ).loc main_arg1) = W)

include h1 in
/-- The gathered weights that the region starts with, in this weight's rows. -/
theorem host_w (p : Fin 8) (r : Fin 256) (k : Fin 2048) :
    Gen.V m c main_v3 (ix3 p (⟨3072 + r.val, by omega⟩ : Fin 3328) k) = W (ix2 ⟨p.val * 256 + r.val, by omega⟩ k) := by
  have h : Gen.V m c main_v3 = gathered W := by
    subst h1
    change StableHlo.after hostOps0 (fun b => m (c, b)) (Proc.devRef .tc main_v3) = _
    simp only [hostOps0]
    after_results
    rfl
  rw [h]
  pointwise [gathered]

include h1 in
/-- The weights' block at a grid point: the rows of all devices, in the tile's columns. -/
theorem weight (t : Fin cfg0.N) (q : Fin 8) (l : Fin 256) (d : Fin 1024) :
    iblk m c 1 t (ix3 q l d) = W (ix2 ⟨q.val * 256 + l.val, by omega⟩ (col t d)) := by
  refine Eq.trans ?_ (host_w m c h1 q l (col t d))
  blk_ext [iblk, idx t, col]

include h0 h1

/-- What the kernel writes at a grid point: the product over the rows of the eight devices. -/
theorem point (t : Fin cfg0.N) (r : Fin 1024) (d : Fin 1024) :
    out0_2 (F := Ideal) (iblk m c 0 t) (iblk m c 1 t) (ix2 r d) = prod A W (ix2 (row t r) (col t d)) := by
  rw [prod_at]
  frame_out [out0_2]
  pointwise [k0_pay1, k0_pay2, k0_pay3]
  refine Eq.trans ?_ (Fin.sum_mul_add_congr (S := 8) (n := 256) (f := fun l : Fin 2048 => A (ix2 (row t r) l) * W (ix2 l (col t d)))
    (F := fun q l => A (ix2 (row t r) ⟨q.val * 256 + l.val, by omega⟩) * W (ix2 ⟨q.val * 256 + l.val, by omega⟩ (col t d))) fun q l hl => rfl)
  rw [Fin.sum_univ_eight]
  refine congrArg₂ _ (congrArg₂ _ (congrArg₂ _ (congrArg₂ _ (congrArg₂ _ (congrArg₂ _ (congrArg₂ _ ?_ ?_) ?_) ?_) ?_) ?_) ?_) ?_ <;>
    refine Finset.sum_congr rfl fun k _ => congrArg₂ _ ?_ ?_
  · subst h0; blk_ext [iblk, Gen.V, idx t, row]
  · refine Eq.trans ?_ (weight m c h1 t 0 k d); blk_ext []
  · subst h0; blk_ext [iblk, Gen.V, idx t, row]
  · refine Eq.trans ?_ (weight m c h1 t 1 k d); blk_ext []
  · subst h0; blk_ext [iblk, Gen.V, idx t, row]
  · refine Eq.trans ?_ (weight m c h1 t 2 k d); blk_ext []
  · subst h0; blk_ext [iblk, Gen.V, idx t, row]
  · refine Eq.trans ?_ (weight m c h1 t 3 k d); blk_ext []
  · subst h0; blk_ext [iblk, Gen.V, idx t, row]
  · refine Eq.trans ?_ (weight m c h1 t 4 k d); blk_ext []
  · subst h0; blk_ext [iblk, Gen.V, idx t, row]
  · refine Eq.trans ?_ (weight m c h1 t 5 k d); blk_ext []
  · subst h0; blk_ext [iblk, Gen.V, idx t, row]
  · refine Eq.trans ?_ (weight m c h1 t 6 k d); blk_ext []
  · subst h0; blk_ext [iblk, Gen.V, idx t, row]
  · refine Eq.trans ?_ (weight m c h1 t 7 k d); blk_ext []

/-- The kernel's array after the region. -/
theorem final : (dats m 0 c).arrAt 2 cfg0.N = prod A W := by
  refine (dats m 0 c).arrAt_eq_of_covers 2 _ (by decide +kernel) fun t _ (y : S1024x1024.Idx) => ?_
  obtain ⟨r, d, rfl⟩ : ∃ (r : Fin 1024) (d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v4) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference12Ideal := fun m g _ =>
  (θ_run Cert.Reference12Ideal.defs _ _).mono (fun r h => ⟨fun c => (h c).2, sem_eq_zero_of_no_sems (by decide) r.2⟩) (Cert.Reference12Ideal.Value.run m g)

/-- The kernel computes the reference's product. -/
theorem algebraic : Cert.algebraic_Kernel12Ideal_Reference12Ideal := by
  intro m g m' g' _ harg
  refine ⟨fun c => prod (m ((c : Thread nD τ).loc main_arg0)) (m ((c : Thread nD τ).loc main_arg1)), run m g,
    (θ_run Cert.Reference12Ideal.defs _ _).mono (fun r h c => ⟨(h c).1.trans ?_, (h c).2⟩) (Cert.Reference12Ideal.Value.run m' g')⟩
  rw [(harg c).1, (harg c).2]
  rfl

end Cert.CrossOut.Forward

end
-- ==== Proof.M13.lean ====
/- The mixer's output projection's input gradient. -/
module

public import proofs.«01_k».proof.Defs
public import proofs.«01_k».proof.Proof.Gen.Kernel13Ideal.Frame
public import proofs.«01_k».proof.Proof.Gen.Reference13Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.MixerOut.Dx

open Cert.Kernel13Ideal Cert.Kernel13Ideal.Gen Idealize.ShloMosaic Idealize.ShloMosaic.TcCoe Idealize.SL.Sem
open Idealize.ShloMosaic.Pipeline (Dat)

/-- The reference's gradient. -/
def grad (D : FVec Ideal S2048x2048 .f32) (W : FVec Ideal S2048x2048 .f32) : FVec Ideal S2048x2048 .f32 :=
  Host.dotGeneral Cert.Reference13Ideal.dot_S2048x2048_S2048x2048_S2048x2048_1_1_0_0_n_n none D W

theorem grad_at (D : FVec Ideal S2048x2048 .f32) (W : FVec Ideal S2048x2048 .f32) (i : Fin 2048) (j : Fin 2048) :
    grad D W (ix2 i j) = ∑ k : Fin 2048, D (ix2 i k) * W (ix2 j k) := by
  pointwise [grad]

/-- The gathered weights that the kernel reads: the mixer's output projection's rows of each device, zeros in the other weights' place. -/
def gathered (W : FVec Ideal S2048x2048 .f32) : FVec Ideal S8x3328x2048 .bf16 :=
  truncf .bf16 (concatenate S8x3328x2048 1 [⟨S8x2048x2048, (broadcastInDim S8x2048x2048 ![] bcast_S_S8x2048x2048 (constant S_ .f32 0x00000000#32) : FVec Ideal S8x2048x2048 .f32)⟩,
    ⟨S8x256x2048, (shapeCast S8x256x2048 W shapeCasts_S2048x2048_S8x256x2048 : FVec Ideal S8x256x2048 .f32)⟩,
    ⟨S8x1024x2048, (broadcastInDim S8x1024x2048 ![] bcast_S_S8x1024x2048 (constant S_ .f32 0x00000000#32) : FVec Ideal S8x1024x2048 .f32)⟩]
    concatenates_S8x2048x2048_S8x256x2048_S8x1024x2048_S8x3328x2048_d1 : FVec Ideal S8x3328x2048 .f32) bitsLt_bf16_f32

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 8, 0]
    ∧ win0_2.index t = ![t.val / 8, t.val % 8] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 256) : Fin 2048 := ⟨t.val % 8 * 256 + d.val, by omega⟩

variable {D : FVec Ideal S2048x2048 .f32} {W : FVec Ideal S2048x2048 .f32}
    (h0 : m ((c : Thread nD τ).loc main_arg0) = D) (h1 : m ((c : Thread nD τ).loc main_arg1) = W)

include h1 in
/-- The gathered weights that the region starts with, in this weight's rows. -/
theorem host_w (p : Fin 8) (r : Fin 256) (k : Fin 2048) :
    Gen.V m c main_v5 (ix3 p (⟨2048 + r.val, by omega⟩ : Fin 3328) k) = W (ix2 ⟨p.val * 256 + r.val, by omega⟩ k) := by
  have h : Gen.V m c main_v5 = gathered W := by
    subst h1
    change StableHlo.after hostOps0 (fun b => m (c, b)) (Proc.devRef .tc main_v5) = _
    simp only [hostOps0]
    after_results
    rfl
  rw [h]
  pointwise [gathered]

include h1 in
/-- The weights' block at a grid point: one device's rows. -/
theorem weight (t : Fin cfg0.N) (r : Fin 256) (k : Fin 2048) :
    iblk m c 1 t (ix3 0 r k) = W (ix2 (col t r) k) := by
  refine Eq.trans ?_ (host_w m c h1 ⟨t.val % 8, by omega⟩ r k)
  blk_ext [iblk, idx t, col]

include h0 h1

/-- What the kernel writes at a grid point. -/
theorem point (t : Fin cfg0.N) (r : Fin 1024) (d : Fin 256) :
    out0_2 (F := Ideal) (iblk m c 0 t) (iblk m c 1 t) (ix2 r d) = grad D W (ix2 (row t r) (col t d)) := by
  rw [grad_at]
  frame_out [out0_2]
  pointwise [k0_pay1]
  refine Finset.sum_congr rfl fun k _ => congrArg₂ _ ?_ (weight m c h1 t d k)
  subst h0
  blk_ext [iblk, Gen.V, idx t, row]

/-- The kernel's array after the region. -/
theorem final : (dats m 0 c).arrAt 2 cfg0.N = grad D W := by
  refine (dats m 0 c).arrAt_eq_of_covers 2 _ (by decide +kernel) fun t _ (y : S1024x256.Idx) => ?_
  obtain ⟨r, d, rfl⟩ : ∃ (r : Fin 1024) (d : Fin 256), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference13Ideal := fun m g _ =>
  (θ_run Cert.Reference13Ideal.defs _ _).mono (fun r h => ⟨fun c => (h c).2, sem_eq_zero_of_no_sems (by decide) r.2⟩) (Cert.Reference13Ideal.Value.run m g)

/-- The kernel computes the reference's gradient. -/
theorem algebraic : Cert.algebraic_Kernel13Ideal_Reference13Ideal := by
  intro m g m' g' _ harg
  refine ⟨fun c => grad (m ((c : Thread nD τ).loc main_arg0)) (m ((c : Thread nD τ).loc main_arg1)), run m g,
    (θ_run Cert.Reference13Ideal.defs _ _).mono (fun r h c => ⟨(h c).1.trans ?_, (h c).2⟩) (Cert.Reference13Ideal.Value.run m' g')⟩
  rw [(harg c).1, (harg c).2]
  rfl

end Cert.MixerOut.Dx

end
-- ==== Proof.M14.lean ====
/- The cross-attention's output projection's input gradient. -/
module

public import proofs.«01_k».proof.Defs
public import proofs.«01_k».proof.Proof.Gen.Kernel14Ideal.Frame
public import proofs.«01_k».proof.Proof.Gen.Reference14Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.CrossOut.Dx

open Cert.Kernel14Ideal Cert.Kernel14Ideal.Gen Idealize.ShloMosaic Idealize.ShloMosaic.TcCoe Idealize.SL.Sem
open Idealize.ShloMosaic.Pipeline (Dat)

/-- The reference's gradient. -/
def grad (D : FVec Ideal S2048x2048 .f32) (W : FVec Ideal S2048x2048 .f32) : FVec Ideal S2048x2048 .f32 :=
  Host.dotGeneral Cert.Reference14Ideal.dot_S2048x2048_S2048x2048_S2048x2048_1_1_0_0_n_n none D W

theorem grad_at (D : FVec Ideal S2048x2048 .f32) (W : FVec Ideal S2048x2048 .f32) (i : Fin 2048) (j : Fin 2048) :
    grad D W (ix2 i j) = ∑ k : Fin 2048, D (ix2 i k) * W (ix2 j k) := by
  pointwise [grad]

/-- The gathered weights that the kernel reads: the cross-attention's output projection's rows of each device, zeros in the other weights' place. -/
def gathered (W : FVec Ideal S2048x2048 .f32) : FVec Ideal S8x3328x2048 .bf16 :=
  truncf .bf16 (concatenate S8x3328x2048 1 [⟨S8x3072x2048, (broadcastInDim S8x3072x2048 ![] bcast_S_S8x3072x2048 (constant S_ .f32 0x00000000#32) : FVec Ideal S8x3072x2048 .f32)⟩,
    ⟨S8x256x2048, (shapeCast S8x256x2048 W shapeCasts_S2048x2048_S8x256x2048 : FVec Ideal S8x256x2048 .f32)⟩]
    concatenates_S8x3072x2048_S8x256x2048_S8x3328x2048_d1 : FVec Ideal S8x3328x2048 .f32) bitsLt_bf16_f32

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 12, 0]
    ∧ win0_2.index t = ![t.val / 8, t.val % 8] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 256) : Fin 2048 := ⟨t.val % 8 * 256 + d.val, by omega⟩

variable {D : FVec Ideal S2048x2048 .f32} {W : FVec Ideal S2048x2048 .f32}
    (h0 : m ((c : Thread nD τ).loc main_arg0) = D) (h1 : m ((c : Thread nD τ).loc main_arg1) = W)

include h1 in
/-- The gathered weights that the region starts with, in this weight's rows. -/
theorem host_w (p : Fin 8) (r : Fin 256) (k : Fin 2048) :
    Gen.V m c main_v4 (ix3 p (⟨3072 + r.val, by omega⟩ : Fin 3328) k) = W (ix2 ⟨p.val * 256 + r.val, by omega⟩ k) := by
  have h : Gen.V m c main_v4 = gathered W := by
    subst h1
    change StableHlo.after hostOps0 (fun b => m (c, b)) (Proc.devRef .tc main_v4) = _
    simp only [hostOps0]
    after_results
    rfl
  rw [h]
  pointwise [gathered]

include h1 in
/-- The weights' block at a grid point: one device's rows. -/
theorem weight (t : Fin cfg0.N) (r : Fin 256) (k : Fin 2048) :
    iblk m c 1 t (ix3 0 r k) = W (ix2 (col t r) k) := by
  refine Eq.trans ?_ (host_w m c h1 ⟨t.val % 8, by omega⟩ r k)
  blk_ext [iblk, idx t, col]

include h0 h1

/-- What the kernel writes at a grid point. -/
theorem point (t : Fin cfg0.N) (r : Fin 1024) (d : Fin 256) :
    out0_2 (F := Ideal) (iblk m c 0 t) (iblk m c 1 t) (ix2 r d) = grad D W (ix2 (row t r) (col t d)) := by
  rw [grad_at]
  frame_out [out0_2]
  pointwise [k0_pay1]
  refine Finset.sum_congr rfl fun k _ => congrArg₂ _ ?_ (weight m c h1 t d k)
  subst h0
  blk_ext [iblk, Gen.V, idx t, row]

/-- The kernel's array after the region. -/
theorem final : (dats m 0 c).arrAt 2 cfg0.N = grad D W := by
  refine (dats m 0 c).arrAt_eq_of_covers 2 _ (by decide +kernel) fun t _ (y : S1024x256.Idx) => ?_
  obtain ⟨r, d, rfl⟩ : ∃ (r : Fin 1024) (d : Fin 256), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference14Ideal := fun m g _ =>
  (θ_run Cert.Reference14Ideal.defs _ _).mono (fun r h => ⟨fun c => (h c).2, sem_eq_zero_of_no_sems (by decide) r.2⟩) (Cert.Reference14Ideal.Value.run m g)

/-- The kernel computes the reference's gradient. -/
theorem algebraic : Cert.algebraic_Kernel14Ideal_Reference14Ideal := by
  intro m g m' g' _ harg
  refine ⟨fun c => grad (m ((c : Thread nD τ).loc main_arg0)) (m ((c : Thread nD τ).loc main_arg1)), run m g,
    (θ_run Cert.Reference14Ideal.defs _ _).mono (fun r h c => ⟨(h c).1.trans ?_, (h c).2⟩) (Cert.Reference14Ideal.Value.run m' g')⟩
  rw [(harg c).1, (harg c).2]
  rfl

end Cert.CrossOut.Dx

end
-- ==== Proof.M15.lean ====
/- The query projection's input gradient. -/
module

public import proofs.«01_k».proof.Defs
public import proofs.«01_k».proof.Proof.Gen.Kernel15Ideal.Frame
public import proofs.«01_k».proof.Proof.Gen.Reference15Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Queries.Dx

open Cert.Kernel15Ideal Cert.Kernel15Ideal.Gen Idealize.ShloMosaic Idealize.ShloMosaic.TcCoe Idealize.SL.Sem
open Idealize.ShloMosaic.Pipeline (Dat)

/-- The reference's gradient. -/
def grad (D : FVec Ideal S2048x2048 .f32) (W : FVec Ideal S2048x2048 .f32) : FVec Ideal S2048x2048 .f32 :=
  Host.dotGeneral Cert.Reference15Ideal.dot_S2048x2048_S2048x2048_S2048x2048_1_1_0_0_n_n none D W

theorem grad_at (D : FVec Ideal S2048x2048 .f32) (W : FVec Ideal S2048x2048 .f32) (i : Fin 2048) (j : Fin 2048) :
    grad D W (ix2 i j) = ∑ k : Fin 2048, D (ix2 i k) * W (ix2 j k) := by
  pointwise [grad]

/-- The gathered weights that the kernel reads: the query projection's rows of each device, zeros in the other weights' place. -/
def gathered (W : FVec Ideal S2048x2048 .f32) : FVec Ideal S8x3328x2048 .bf16 :=
  truncf .bf16 (concatenate S8x3328x2048 1 [⟨S8x2304x2048, (broadcastInDim S8x2304x2048 ![] bcast_S_S8x2304x2048 (constant S_ .f32 0x00000000#32) : FVec Ideal S8x2304x2048 .f32)⟩,
    ⟨S8x256x2048, (shapeCast S8x256x2048 W shapeCasts_S2048x2048_S8x256x2048 : FVec Ideal S8x256x2048 .f32)⟩,
    ⟨S8x768x2048, (broadcastInDim S8x768x2048 ![] bcast_S_S8x768x2048 (constant S_ .f32 0x00000000#32) : FVec Ideal S8x768x2048 .f32)⟩]
    concatenates_S8x2304x2048_S8x256x2048_S8x768x2048_S8x3328x2048_d1 : FVec Ideal S8x3328x2048 .f32) bitsLt_bf16_f32

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 9, 0]
    ∧ win0_2.index t = ![t.val / 8, t.val % 8] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 256) : Fin 2048 := ⟨t.val % 8 * 256 + d.val, by omega⟩

variable {D : FVec Ideal S2048x2048 .f32} {W : FVec Ideal S2048x2048 .f32}
    (h0 : m ((c : Thread nD τ).loc main_arg0) = D) (h1 : m ((c : Thread nD τ).loc main_arg1) = W)

include h1 in
/-- The gathered weights that the region starts with, in this weight's rows. -/
theorem host_w (p : Fin 8) (r : Fin 256) (k : Fin 2048) :
    Gen.V m c main_v4 (ix3 p (⟨2304 + r.val, by omega⟩ : Fin 3328) k) = W (ix2 ⟨p.val * 256 + r.val, by omega⟩ k) := by
  have h : Gen.V m c main_v4 = gathered W := by
    subst h1
    change StableHlo.after hostOps0 (fun b => m (c, b)) (Proc.devRef .tc main_v4) = _
    simp only [hostOps0]
    after_results
    rfl
  rw [h]
  pointwise [gathered]

include h1 in
/-- The weights' block at a grid point: one device's rows. -/
theorem weight (t : Fin cfg0.N) (r : Fin 256) (k : Fin 2048) :
    iblk m c 1 t (ix3 0 r k) = W (ix2 (col t r) k) := by
  refine Eq.trans ?_ (host_w m c h1 ⟨t.val % 8, by omega⟩ r k)
  blk_ext [iblk, idx t, col]

include h0 h1

/-- What the kernel writes at a grid point. -/
theorem point (t : Fin cfg0.N) (r : Fin 1024) (d : Fin 256) :
    out0_2 (F := Ideal) (iblk m c 0 t) (iblk m c 1 t) (ix2 r d) = grad D W (ix2 (row t r) (col t d)) := by
  rw [grad_at]
  frame_out [out0_2]
  pointwise [k0_pay1]
  refine Finset.sum_congr rfl fun k _ => congrArg₂ _ ?_ (weight m c h1 t d k)
  subst h0
  blk_ext [iblk, Gen.V, idx t, row]

/-- The kernel's array after the region. -/
theorem final : (dats m 0 c).arrAt 2 cfg0.N = grad D W := by
  refine (dats m 0 c).arrAt_eq_of_covers 2 _ (by decide +kernel) fun t _ (y : S1024x256.Idx) => ?_
  obtain ⟨r, d, rfl⟩ : ∃ (r : Fin 1024) (d : Fin 256), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference15Ideal := fun m g _ =>
  (θ_run Cert.Reference15Ideal.defs _ _).mono (fun r h => ⟨fun c => (h c).2, sem_eq_zero_of_no_sems (by decide) r.2⟩) (Cert.Reference15Ideal.Value.run m g)

/-- The kernel computes the reference's gradient. -/
theorem algebraic : Cert.algebraic_Kernel15Ideal_Reference15Ideal := by
  intro m g m' g' _ harg
  refine ⟨fun c => grad (m ((c : Thread nD τ).loc main_arg0)) (m ((c : Thread nD τ).loc main_arg1)), run m g,
    (θ_run Cert.Reference15Ideal.defs _ _).mono (fun r h c => ⟨(h c).1.trans ?_, (h c).2⟩) (Cert.Reference15Ideal.Value.run m' g')⟩
  rw [(harg c).1, (harg c).2]
  rfl

end Cert.Queries.Dx

end
-- ==== Proof.M16.lean ====
/- The key projection's input gradient. -/
module

public import proofs.«01_k».proof.Defs
public import proofs.«01_k».proof.Proof.Gen.Kernel16Ideal.Frame
public import proofs.«01_k».proof.Proof.Gen.Reference16Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Keys.Dx

open Cert.Kernel16Ideal Cert.Kernel16Ideal.Gen Idealize.ShloMosaic Idealize.ShloMosaic.TcCoe Idealize.SL.Sem
open Idealize.ShloMosaic.Pipeline (Dat)

/-- The reference's gradient. -/
def grad (D : FVec Ideal S256x2048 .f32) (W : FVec Ideal S2048x2048 .f32) : FVec Ideal S256x2048 .f32 :=
  Host.dotGeneral Cert.Reference16Ideal.dot_S256x2048_S2048x2048_S256x2048_1_1_0_0_n_n none D W

theorem grad_at (D : FVec Ideal S256x2048 .f32) (W : FVec Ideal S2048x2048 .f32) (i : Fin 256) (j : Fin 2048) :
    grad D W (ix2 i j) = ∑ k : Fin 2048, D (ix2 i k) * W (ix2 j k) := by
  pointwise [grad]

/-- The gathered weights that the kernel reads: the key projection's rows of each device, zeros in the other weights' place. -/
def gathered (W : FVec Ideal S2048x2048 .f32) : FVec Ideal S8x3328x2048 .bf16 :=
  truncf .bf16 (concatenate S8x3328x2048 1 [⟨S8x2560x2048, (broadcastInDim S8x2560x2048 ![] bcast_S_S8x2560x2048 (constant S_ .f32 0x00000000#32) : FVec Ideal S8x2560x2048 .f32)⟩,
    ⟨S8x256x2048, (shapeCast S8x256x2048 W shapeCasts_S2048x2048_S8x256x2048 : FVec Ideal S8x256x2048 .f32)⟩,
    ⟨S8x512x2048, (broadcastInDim S8x512x2048 ![] bcast_S_S8x512x2048 (constant S_ .f32 0x00000000#32) : FVec Ideal S8x512x2048 .f32)⟩]
    concatenates_S8x2560x2048_S8x256x2048_S8x512x2048_S8x3328x2048_d1 : FVec Ideal S8x3328x2048 .f32) bitsLt_bf16_f32

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 10, 0]
    ∧ win0_2.index t = ![t.val / 8, t.val % 8] :=
  (by decide +kernel : ∀ t : Fin grid0.N, _)

/-- The array's row at row `r` of a grid point's tile, and its column. -/
def row (t : Fin cfg0.N) (r : Fin 256) : Fin 256 := ⟨t.val / 8 * 256 + r.val, by have h : t.val < 8 := t.isLt; omega⟩
def col (t : Fin cfg0.N) (d : Fin 256) : Fin 2048 := ⟨t.val % 8 * 256 + d.val, by omega⟩

variable {D : FVec Ideal S256x2048 .f32} {W : FVec Ideal S2048x2048 .f32}
    (h0 : m ((c : Thread nD τ).loc main_arg0) = D) (h1 : m ((c : Thread nD τ).loc main_arg1) = W)

include h1 in
/-- The gathered weights that the region starts with, in this weight's rows. -/
theorem host_w (p : Fin 8) (r : Fin 256) (k : Fin 2048) :
    Gen.V m c main_v4 (ix3 p (⟨2560 + r.val, by omega⟩ : Fin 3328) k) = W (ix2 ⟨p.val * 256 + r.val, by omega⟩ k) := by
  have h : Gen.V m c main_v4 = gathered W := by
    subst h1
    change StableHlo.after hostOps0 (fun b => m (c, b)) (Proc.devRef .tc main_v4) = _
    simp only [hostOps0]
    after_results
    rfl
  rw [h]
  pointwise [gathered]

include h1 in
/-- The weights' block at a grid point: one device's rows. -/
theorem weight (t : Fin cfg0.N) (r : Fin 256) (k : Fin 2048) :
    iblk m c 1 t (ix3 0 r k) = W (ix2 (col t r) k) := by
  refine Eq.trans ?_ (host_w m c h1 ⟨t.val % 8, by omega⟩ r k)
  blk_ext [iblk, idx t, col]

include h0 h1

/-- What the kernel writes at a grid point. -/
theorem point (t : Fin cfg0.N) (r : Fin 256) (d : Fin 256) :
    out0_2 (F := Ideal) (iblk m c 0 t) (iblk m c 1 t) (ix2 r d) = grad D W (ix2 (row t r) (col t d)) := by
  rw [grad_at]
  frame_out [out0_2]
  pointwise [k0_pay1]
  refine Finset.sum_congr rfl fun k _ => congrArg₂ _ ?_ (weight m c h1 t d k)
  subst h0
  blk_ext [iblk, Gen.V, idx t, row]

/-- The kernel's array after the region. -/
theorem final : (dats m 0 c).arrAt 2 cfg0.N = grad D W := by
  refine (dats m 0 c).arrAt_eq_of_covers 2 _ (by decide +kernel) fun t _ (y : S256x256.Idx) => ?_
  obtain ⟨r, d, rfl⟩ : ∃ (r : Fin 256) (d : Fin 256), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference16Ideal := fun m g _ =>
  (θ_run Cert.Reference16Ideal.defs _ _).mono (fun r h => ⟨fun c => (h c).2, sem_eq_zero_of_no_sems (by decide) r.2⟩) (Cert.Reference16Ideal.Value.run m g)

/-- The kernel computes the reference's gradient. -/
theorem algebraic : Cert.algebraic_Kernel16Ideal_Reference16Ideal := by
  intro m g m' g' _ harg
  refine ⟨fun c => grad (m ((c : Thread nD τ).loc main_arg0)) (m ((c : Thread nD τ).loc main_arg1)), run m g,
    (θ_run Cert.Reference16Ideal.defs _ _).mono (fun r h c => ⟨(h c).1.trans ?_, (h c).2⟩) (Cert.Reference16Ideal.Value.run m' g')⟩
  rw [(harg c).1, (harg c).2]
  rfl

end Cert.Keys.Dx

end
-- ==== Proof.M17.lean ====
/- The value projection's input gradient. -/
module

public import proofs.«01_k».proof.Defs
public import proofs.«01_k».proof.Proof.Gen.Kernel17Ideal.Frame
public import proofs.«01_k».proof.Proof.Gen.Reference17Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Values.Dx

open Cert.Kernel17Ideal Cert.Kernel17Ideal.Gen Idealize.ShloMosaic Idealize.ShloMosaic.TcCoe Idealize.SL.Sem
open Idealize.ShloMosaic.Pipeline (Dat)

/-- The reference's gradient. -/
def grad (D : FVec Ideal S256x2048 .f32) (W : FVec Ideal S2048x2048 .f32) : FVec Ideal S256x2048 .f32 :=
  Host.dotGeneral Cert.Reference17Ideal.dot_S256x2048_S2048x2048_S256x2048_1_1_0_0_n_n none D W

theorem grad_at (D : FVec Ideal S256x2048 .f32) (W : FVec Ideal S2048x2048 .f32) (i : Fin 256) (j : Fin 2048) :
    grad D W (ix2 i j) = ∑ k : Fin 2048, D (ix2 i k) * W (ix2 j k) := by
  pointwise [grad]

/-- The gathered weights that the kernel reads: the value projection's rows of each device, zeros in the other weights' place. -/
def gathered (W : FVec Ideal S2048x2048 .f32) : FVec Ideal S8x3328x2048 .bf16 :=
  truncf .bf16 (concatenate S8x3328x2048 1 [⟨S8x2816x2048, (broadcastInDim S8x2816x2048 ![] bcast_S_S8x2816x2048 (constant S_ .f32 0x00000000#32) : FVec Ideal S8x2816x2048 .f32)⟩,
    ⟨S8x256x2048, (shapeCast S8x256x2048 W shapeCasts_S2048x2048_S8x256x2048 : FVec Ideal S8x256x2048 .f32)⟩,
    ⟨S8x256x2048, (broadcastInDim S8x256x2048 ![] bcast_S_S8x256x2048 (constant S_ .f32 0x00000000#32) : FVec Ideal S8x256x2048 .f32)⟩]
    concatenates_S8x2816x2048_S8x256x2048_S8x256x2048_S8x3328x2048_d1 : FVec Ideal S8x3328x2048 .f32) bitsLt_bf16_f32

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 11, 0]
    ∧ win0_2.index t = ![t.val / 8, t.val % 8] :=
  (by decide +kernel : ∀ t : Fin grid0.N, _)

/-- The array's row at row `r` of a grid point's tile, and its column. -/
def row (t : Fin cfg0.N) (r : Fin 256) : Fin 256 := ⟨t.val / 8 * 256 + r.val, by have h : t.val < 8 := t.isLt; omega⟩
def col (t : Fin cfg0.N) (d : Fin 256) : Fin 2048 := ⟨t.val % 8 * 256 + d.val, by omega⟩

variable {D : FVec Ideal S256x2048 .f32} {W : FVec Ideal S2048x2048 .f32}
    (h0 : m ((c : Thread nD τ).loc main_arg0) = D) (h1 : m ((c : Thread nD τ).loc main_arg1) = W)

include h1 in
/-- The gathered weights that the region starts with, in this weight's rows. -/
theorem host_w (p : Fin 8) (r : Fin 256) (k : Fin 2048) :
    Gen.V m c main_v4 (ix3 p (⟨2816 + r.val, by omega⟩ : Fin 3328) k) = W (ix2 ⟨p.val * 256 + r.val, by omega⟩ k) := by
  have h : Gen.V m c main_v4 = gathered W := by
    subst h1
    change StableHlo.after hostOps0 (fun b => m (c, b)) (Proc.devRef .tc main_v4) = _
    simp only [hostOps0]
    after_results
    rfl
  rw [h]
  pointwise [gathered]

include h1 in
/-- The weights' block at a grid point: one device's rows. -/
theorem weight (t : Fin cfg0.N) (r : Fin 256) (k : Fin 2048) :
    iblk m c 1 t (ix3 0 r k) = W (ix2 (col t r) k) := by
  refine Eq.trans ?_ (host_w m c h1 ⟨t.val % 8, by omega⟩ r k)
  blk_ext [iblk, idx t, col]

include h0 h1

/-- What the kernel writes at a grid point. -/
theorem point (t : Fin cfg0.N) (r : Fin 256) (d : Fin 256) :
    out0_2 (F := Ideal) (iblk m c 0 t) (iblk m c 1 t) (ix2 r d) = grad D W (ix2 (row t r) (col t d)) := by
  rw [grad_at]
  frame_out [out0_2]
  pointwise [k0_pay1]
  refine Finset.sum_congr rfl fun k _ => congrArg₂ _ ?_ (weight m c h1 t d k)
  subst h0
  blk_ext [iblk, Gen.V, idx t, row]

/-- The kernel's array after the region. -/
theorem final : (dats m 0 c).arrAt 2 cfg0.N = grad D W := by
  refine (dats m 0 c).arrAt_eq_of_covers 2 _ (by decide +kernel) fun t _ (y : S256x256.Idx) => ?_
  obtain ⟨r, d, rfl⟩ : ∃ (r : Fin 256) (d : Fin 256), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference17Ideal := fun m g _ =>
  (θ_run Cert.Reference17Ideal.defs _ _).mono (fun r h => ⟨fun c => (h c).2, sem_eq_zero_of_no_sems (by decide) r.2⟩) (Cert.Reference17Ideal.Value.run m g)

/-- The kernel computes the reference's gradient. -/
theorem algebraic : Cert.algebraic_Kernel17Ideal_Reference17Ideal := by
  intro m g m' g' _ harg
  refine ⟨fun c => grad (m ((c : Thread nD τ).loc main_arg0)) (m ((c : Thread nD τ).loc main_arg1)), run m g,
    (θ_run Cert.Reference17Ideal.defs _ _).mono (fun r h c => ⟨(h c).1.trans ?_, (h c).2⟩) (Cert.Reference17Ideal.Value.run m' g')⟩
  rw [(harg c).1, (harg c).2]
  rfl

end Cert.Values.Dx

end
-- ==== Proof.M18.lean ====
/- The mixer's output projection's weight gradient, written into its rows of the packed gradients. -/
module

public import proofs.«01_k».proof.Defs
public import proofs.«01_k».proof.Proof.Gen.Kernel18Ideal.Frame
public import proofs.«01_k».proof.Proof.Gen.Reference18Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.MixerOut.Grad

open Cert.Kernel18Ideal Cert.Kernel18Ideal.Gen Idealize.ShloMosaic Idealize.ShloMosaic.TcCoe Idealize.SL.Sem
open Idealize.ShloMosaic.Pipeline (Dat)

/-- The reference's gradient. -/
def grad (A : FVec Ideal S2048x2048 .f32) (D : FVec Ideal S2048x2048 .f32) : FVec Ideal S2048x2048 .f32 :=
  transpose Cert.Reference18Ideal.S2048x2048 [1, 0] (Host.dotGeneral Cert.Reference18Ideal.dot_S2048x2048_S2048x2048_S2048x2048_0_0_1_1_n_n none D A) Cert.Reference18Ideal.Gen.transposes_S2048x2048_S2048x2048_1_0

theorem grad_at (A : FVec Ideal S2048x2048 .f32) (D : FVec Ideal S2048x2048 .f32) (a : Fin 2048) (d : Fin 2048) :
    grad A D (ix2 a d) = ∑ k : Fin 2048, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (device, this weight's place, column tile). -/
theorem idx : ∀ t : Fin cfg0.N, win0_0.index t = ![0, t.val % 8] ∧ win0_1.index t = ![0, t.val / 8]
    ∧ win0_2.index t = ![t.val % 8, 8, t.val / 8] :=
  (by decide +kernel : ∀ t : Fin grid0.N, _)

/-- The packed gradients where the kernel writes them. -/
def packed (A : FVec Ideal S2048x2048 .f32) (D : FVec Ideal S2048x2048 .f32) : FVec Ideal S8x3328x2048 .bf16 := fun i =>
  grad A D (ix2 (n0 := 2048) (n1 := 2048) ⟨(i 0).val * 256 + (i 1).val % 256, by have h : (i 0).val < 8 := (i 0).isLt; omega⟩ (i 2))

variable {A : FVec Ideal S2048x2048 .f32} {D : FVec Ideal S2048x2048 .f32}
    (h0 : m ((c : Thread nD τ).loc main_arg0) = A) (h1 : m ((c : Thread nD τ).loc main_arg1) = D)
include h0 h1

/-- What the kernel writes at a grid point. -/
theorem point (t : Fin cfg0.N) (r : Fin 256) (d : Fin 1024) :
    k0_pay1 (F := Ideal) (iblk m c 0 t) (iblk m c 1 t) (ix3 0 r d)
      = grad A D (ix2 ⟨t.val % 8 * 256 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in this weight's rows. -/
theorem final (p : Fin 8) (r : Fin 256) (d : Fin 2048) :
    (dats m 0 c).arrAt 2 cfg0.N (ix3 p (⟨2048 + r.val, by omega⟩ : Fin 3328) d) = grad A D (ix2 ⟨p.val * 256 + r.val, by omega⟩ d) := by
  rw [(dats m 0 c).arrAt_apply_of_coversWhere 2 (packed A D) (P := fun i => (i (1 : Fin 3)).val / 256 = 8) (fun β => β (1 : Fin 3) = 8) (by decide +kernel)
    (fun t hf y => ?_) (fun j => by blk_simp [Pipeline.Window.cell_apply])]
  · rw [if_pos (by show (2048 + r.val) / 256 = 8; omega)]
    unfold packed
    congr 2
    exact Fin.ext (by show p.val * 256 + (2048 + r.val) % 256 = p.val * 256 + r.val; omega)
  · obtain ⟨z, r, d, hy⟩ : ∃ (z : Fin 1) (r : Fin 256) (d : Fin 1024), (cfg0.win 2).xinj (cfg0.grid.coords t) y = ix3 z r d := ⟨_, _, _, eq_ix3 (n0 := 1) (n1 := 256) (n2 := 1024) _⟩
    obtain rfl : z = 0 := Subsingleton.elim _ _
    have y0 : (y (0 : Fin 3)).val = 0 := congrArg (fun Y : S1x256x1024.Idx => (Y (0 : Fin 3)).val) hy
    have y1 : (y (1 : Fin 3)).val = r.val := congrArg (fun Y : S1x256x1024.Idx => (Y (1 : Fin 3)).val) hy
    have y2 : (y (2 : Fin 3)).val = d.val := congrArg (fun Y : S1x256x1024.Idx => (Y (2 : Fin 3)).val) hy
    have hr : packed A D (((cfg0.win 2).blk t).view.emb y) = grad A D (ix2 ⟨t.val % 8 * 256 + r.val, by omega⟩ ⟨t.val / 8 * 1024 + d.val, by have h : t.val < 16 := t.isLt; omega⟩) := by
      have e0 : ((((cfg0.win 2).blk t).view.emb y) (0 : Fin 3)).val = t.val % 8 := by
        blk_simp [idx t] <;> omega
      have e1 : ((((cfg0.win 2).blk t).view.emb y) (1 : Fin 3)).val = 2048 + r.val := by
        blk_simp [idx t] <;> omega
      have e2 : ((((cfg0.win 2).blk t).view.emb y) (2 : Fin 3)).val = t.val / 8 * 1024 + d.val := by
        blk_simp [idx t] <;> omega
      refine congrArg (grad A D) (congrArg₂ (ix2 (n0 := 2048) (n1 := 2048)) (Fin.ext ?_) (Fin.ext ?_))
      · show _ * 256 + _ % 256 = t.val % 8 * 256 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v6 = grad A D := by
  have h : Pipeline.afterTail₀ cfgs (dats m) 0 (V0 m) [hostOps1] c main_v6
      = (extf .f32 (shapeCast S2048x2048 (extractStridedSlice S8x256x2048 ![0, 2048, 0] ((dats m 0 c).arrAt 2 cfg0.N) slices_S8x3328x2048_S8x256x2048_0_2048_0) shapeCasts_S8x256x2048_S2048x2048) bitsLt_bf16_f32 : FVec Ideal S2048x2048 .f32) := by
    unfold Pipeline.afterTail₀
    simp only [hostOps1, List.flatten_cons, List.flatten_nil, List.append_nil, List.cons_append, List.nil_append]
    after_results
    exact congrArg (fun X => (extf .f32 (shapeCast S2048x2048 (extractStridedSlice S8x256x2048 ![0, 2048, 0] X slices_S8x3328x2048_S8x256x2048_0_2048_0) shapeCasts_S8x256x2048_S2048x2048) bitsLt_bf16_f32 : FVec Ideal S2048x2048 .f32))
      (Pipeline.withArrays_arr (cfgs 0).spec (by decide) c (V0 m c) (fun w => (dats m 0 c).arrAt w (cfgs 0).N) 2)
  rw [h]
  funext i
  obtain ⟨a, d, rfl⟩ : ∃ (a d : Fin 2048), i = ix2 a d := ⟨_, _, eq_ix2 i⟩
  refine Eq.trans ?_ ((final m c h0 h1 ⟨a.val / 256, by omega⟩ ⟨a.val % 256, by omega⟩ d).trans (by congr 2; exact Fin.ext (by show a.val / 256 * 256 + a.val % 256 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v6) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v6 (by decide)).trans (result m c rfl rfl), h.2 c⟩)
    (θ_run_and (run_main m g) (unchanged m g))

/-- The reference's run leaves its arguments and all counters as they were. -/
theorem reference_frame : Cert.quiescent_Reference18Ideal := fun m g _ =>
  (θ_run Cert.Reference18Ideal.defs _ _).mono (fun r h => ⟨fun c => (h c).2, sem_eq_zero_of_no_sems (by decide) r.2⟩) (Cert.Reference18Ideal.Value.run m g)

/-- The kernel computes the reference's gradient. -/
theorem algebraic : Cert.algebraic_Kernel18Ideal_Reference18Ideal := by
  intro m g m' g' _ harg
  refine ⟨fun c => grad (m ((c : Thread nD τ).loc main_arg0)) (m ((c : Thread nD τ).loc main_arg1)), run m g,
    (θ_run Cert.Reference18Ideal.defs _ _).mono (fun r h c => ⟨(h c).1.trans ?_, (h c).2⟩) (Cert.Reference18Ideal.Value.run m' g')⟩
  rw [(harg c).1, (harg c).2]
  rfl

end Cert.MixerOut.Grad

end
-- ==== Proof.M19.lean ====
/- The cross-attention's output projection's weight gradient, written into its rows of the packed gradients. -/
module

public import proofs.«01_k».proof.Defs
public import proofs.«01_k».proof.Proof.Gen.Kernel19Ideal.Frame
public import proofs.«01_k».proof.Proof.Gen.Reference19Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.CrossOut.Grad

open Cert.Kernel19Ideal Cert.Kernel19Ideal.Gen Idealize.ShloMosaic Idealize.ShloMosaic.TcCoe Idealize.SL.Sem
open Idealize.ShloMosaic.Pipeline (Dat)

/-- The reference's gradient. -/
def grad (A : FVec Ideal S2048x2048 .f32) (D : FVec Ideal S2048x2048 .f32) : FVec Ideal S2048x2048 .f32 :=
  transpose Cert.Reference19Ideal.S2048x2048 [1, 0] (Host.dotGeneral Cert.Reference19Ideal.dot_S2048x2048_S2048x2048_S2048x2048_0_0_1_1_n_n none D A) Cert.Reference19Ideal.Gen.transposes_S2048x2048_S2048x2048_1_0

theorem grad_at (A : FVec Ideal S2048x2048 .f32) (D : FVec Ideal S2048x2048 .f32) (a : Fin 2048) (d : Fin 2048) :
    grad A D (ix2 a d) = ∑ k : Fin 2048, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (device, this weight's place, column tile). -/
theorem idx : ∀ t : Fin cfg0.N, win0_0.index t = ![0, t.val % 8] ∧ win0_1.index t = ![0, t.val / 8]
    ∧ win0_2.index t = ![t.val % 8, 12, t.val / 8] :=
  (by decide +kernel : ∀ t : Fin grid0.N, _)

/-- The packed gradients where the kernel writes them. -/
def packed (A : FVec Ideal S2048x2048 .f32) (D : FVec Ideal S2048x2048 .f32) : FVec Ideal S8x3328x2048 .bf16 := fun i =>
  grad A D (ix2 (n0 := 2048) (n1 := 2048) ⟨(i 0).val * 256 + (i 1).val % 256, by have h : (i 0).val < 8 := (i 0).isLt; omega⟩ (i 2))

variable {A : FVec Ideal S2048x2048 .f32} {D : FVec Ideal S2048x2048 .f32}
    (h0 : m ((c : Thread nD τ).loc main_arg0) = A) (h1 : m ((c : Thread nD τ).loc main_arg1) = D)
include h0 h1

/-- What the kernel writes at a grid point. -/
theorem point (t : Fin cfg0.N) (r : Fin 256) (d : Fin 1024) :
    k0_pay1 (F := Ideal) (iblk m c 0 t) (iblk m c 1 t) (ix3 0 r d)
      = grad A D (ix2 ⟨t.val % 8 * 256 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in this weight's rows. -/
theorem final (p : Fin 8) (r : Fin 256) (d : Fin 2048) :
    (dats m 0 c).arrAt 2 cfg0.N (ix3 p (⟨3072 + r.val, by omega⟩ : Fin 3328) d) = grad A D (ix2 ⟨p.val * 256 + r.val, by omega⟩ d) := by
  rw [(dats m 0 c).arrAt_apply_of_coversWhere 2 (packed A D) (P := fun i => (i (1 : Fin 3)).val / 256 = 12) (fun β => β (1 : Fin 3) = 12) (by decide +kernel)
    (fun t hf y => ?_) (fun j => by blk_simp [Pipeline.Window.cell_apply])]
  · rw [if_pos (by show (3072 + r.val) / 256 = 12; omega)]
    unfold packed
    congr 2
    exact Fin.ext (by show p.val * 256 + (3072 + r.val) % 256 = p.val * 256 + r.val; omega)
  · obtain ⟨z, r, d, hy⟩ : ∃ (z : Fin 1) (r : Fin 256) (d : Fin 1024), (cfg0.win 2).xinj (cfg0.grid.coords t) y = ix3 z r d := ⟨_, _, _, eq_ix3 (n0 := 1) (n1 := 256) (n2 := 1024) _⟩
    obtain rfl : z = 0 := Subsingleton.elim _ _
    have y0 : (y (0 : Fin 3)).val = 0 := congrArg (fun Y : S1x256x1024.Idx => (Y (0 : Fin 3)).val) hy
    have y1 : (y (1 : Fin 3)).val = r.val := congrArg (fun Y : S1x256x1024.Idx => (Y (1 : Fin 3)).val) hy
    have y2 : (y (2 : Fin 3)).val = d.val := congrArg (fun Y : S1x256x1024.Idx => (Y (2 : Fin 3)).val) hy
    have hr : packed A D (((cfg0.win 2).blk t).view.emb y) = grad A D (ix2 ⟨t.val % 8 * 256 + r.val, by omega⟩ ⟨t.val / 8 * 1024 + d.val, by have h : t.val < 16 := t.isLt; omega⟩) := by
      have e0 : ((((cfg0.win 2).blk t).view.emb y) (0 : Fin 3)).val = t.val % 8 := by
        blk_simp [idx t] <;> omega
      have e1 : ((((cfg0.win 2).blk t).view.emb y) (1 : Fin 3)).val = 3072 + r.val := by
        blk_simp [idx t] <;> omega
      have e2 : ((((cfg0.win 2).blk t).view.emb y) (2 : Fin 3)).val = t.val / 8 * 1024 + d.val := by
        blk_simp [idx t] <;> omega
      refine congrArg (grad A D) (congrArg₂ (ix2 (n0 := 2048) (n1 := 2048)) (Fin.ext ?_) (Fin.ext ?_))
      · show _ * 256 + _ % 256 = t.val % 8 * 256 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v5 = grad A D := by
  have h : Pipeline.afterTail₀ cfgs (dats m) 0 (V0 m) [hostOps1] c main_v5
      = (extf .f32 (shapeCast S2048x2048 (extractStridedSlice S8x256x2048 ![0, 3072, 0] ((dats m 0 c).arrAt 2 cfg0.N) slices_S8x3328x2048_S8x256x2048_0_3072_0) shapeCasts_S8x256x2048_S2048x2048) bitsLt_bf16_f32 : FVec Ideal S2048x2048 .f32) := by
    unfold Pipeline.afterTail₀
    simp only [hostOps1, List.flatten_cons, List.flatten_nil, List.append_nil, List.cons_append, List.nil_append]
    after_results
    exact congrArg (fun X => (extf .f32 (shapeCast S2048x2048 (extractStridedSlice S8x256x2048 ![0, 3072, 0] X slices_S8x3328x2048_S8x256x2048_0_3072_0) shapeCasts_S8x256x2048_S2048x2048) bitsLt_bf16_f32 : FVec Ideal S2048x2048 .f32))
      (Pipeline.withArrays_arr (cfgs 0).spec (by decide) c (V0 m c) (fun w => (dats m 0 c).arrAt w (cfgs 0).N) 2)
  rw [h]
  funext i
  obtain ⟨a, d, rfl⟩ : ∃ (a d : Fin 2048), i = ix2 a d := ⟨_, _, eq_ix2 i⟩
  refine Eq.trans ?_ ((final m c h0 h1 ⟨a.val / 256, by omega⟩ ⟨a.val % 256, by omega⟩ d).trans (by congr 2; exact Fin.ext (by show a.val / 256 * 256 + a.val % 256 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v5 (by decide)).trans (result m c rfl rfl), h.2 c⟩)
    (θ_run_and (run_main m g) (unchanged m g))

/-- The reference's run leaves its arguments and all counters as they were. -/
theorem reference_frame : Cert.quiescent_Reference19Ideal := fun m g _ =>
  (θ_run Cert.Reference19Ideal.defs _ _).mono (fun r h => ⟨fun c => (h c).2, sem_eq_zero_of_no_sems (by decide) r.2⟩) (Cert.Reference19Ideal.Value.run m g)

/-- The kernel computes the reference's gradient. -/
theorem algebraic : Cert.algebraic_Kernel19Ideal_Reference19Ideal := by
  intro m g m' g' _ harg
  refine ⟨fun c => grad (m ((c : Thread nD τ).loc main_arg0)) (m ((c : Thread nD τ).loc main_arg1)), run m g,
    (θ_run Cert.Reference19Ideal.defs _ _).mono (fun r h c => ⟨(h c).1.trans ?_, (h c).2⟩) (Cert.Reference19Ideal.Value.run m' g')⟩
  rw [(harg c).1, (harg c).2]
  rfl

end Cert.CrossOut.Grad

end
-- ==== Proof.M20.lean ====
/- The query projection's weight gradient, written into its rows of the packed gradients. -/
module

public import proofs.«01_k».proof.Defs
public import proofs.«01_k».proof.Proof.Gen.Kernel20Ideal.Frame
public import proofs.«01_k».proof.Proof.Gen.Reference20Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Queries.Grad

open Cert.Kernel20Ideal Cert.Kernel20Ideal.Gen Idealize.ShloMosaic Idealize.ShloMosaic.TcCoe Idealize.SL.Sem
open Idealize.ShloMosaic.Pipeline (Dat)

/-- The reference's gradient. -/
def grad (A : FVec Ideal S2048x2048 .f32) (D : FVec Ideal S2048x2048 .f32) : FVec Ideal S2048x2048 .f32 :=
  transpose Cert.Reference20Ideal.S2048x2048 [1, 0] (Host.dotGeneral Cert.Reference20Ideal.dot_S2048x2048_S2048x2048_S2048x2048_0_0_1_1_n_n none D A) Cert.Reference20Ideal.Gen.transposes_S2048x2048_S2048x2048_1_0

theorem grad_at (A : FVec Ideal S2048x2048 .f32) (D : FVec Ideal S2048x2048 .f32) (a : Fin 2048) (d : Fin 2048) :
    grad A D (ix2 a d) = ∑ k : Fin 2048, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (device, this weight's place, column tile). -/
theorem idx : ∀ t : Fin cfg0.N, win0_0.index t = ![0, t.val % 8] ∧ win0_1.index t = ![0, t.val / 8]
    ∧ win0_2.index t = ![t.val % 8, 9, t.val / 8] :=
  (by decide +kernel : ∀ t : Fin grid0.N, _)

/-- The packed gradients where the kernel writes them. -/
def packed (A : FVec Ideal S2048x2048 .f32) (D : FVec Ideal S2048x2048 .f32) : FVec Ideal S8x3328x2048 .bf16 := fun i =>
  grad A D (ix2 (n0 := 2048) (n1 := 2048) ⟨(i 0).val * 256 + (i 1).val % 256, by have h : (i 0).val < 8 := (i 0).isLt; omega⟩ (i 2))

variable {A : FVec Ideal S2048x2048 .f32} {D : FVec Ideal S2048x2048 .f32}
    (h0 : m ((c : Thread nD τ).loc main_arg0) = A) (h1 : m ((c : Thread nD τ).loc main_arg1) = D)
include h0 h1

/-- What the kernel writes at a grid point. -/
theorem point (t : Fin cfg0.N) (r : Fin 256) (d : Fin 1024) :
    k0_pay1 (F := Ideal) (iblk m c 0 t) (iblk m c 1 t) (ix3 0 r d)
      = grad A D (ix2 ⟨t.val % 8 * 256 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in this weight's rows. -/
theorem final (p : Fin 8) (r : Fin 256) (d : Fin 2048) :
    (dats m 0 c).arrAt 2 cfg0.N (ix3 p (⟨2304 + r.val, by omega⟩ : Fin 3328) d) = grad A D (ix2 ⟨p.val * 256 + r.val, by omega⟩ d) := by
  rw [(dats m 0 c).arrAt_apply_of_coversWhere 2 (packed A D) (P := fun i => (i (1 : Fin 3)).val / 256 = 9) (fun β => β (1 : Fin 3) = 9) (by decide +kernel)
    (fun t hf y => ?_) (fun j => by blk_simp [Pipeline.Window.cell_apply])]
  · rw [if_pos (by show (2304 + r.val) / 256 = 9; omega)]
    unfold packed
    congr 2
    exact Fin.ext (by show p.val * 256 + (2304 + r.val) % 256 = p.val * 256 + r.val; omega)
  · obtain ⟨z, r, d, hy⟩ : ∃ (z : Fin 1) (r : Fin 256) (d : Fin 1024), (cfg0.win 2).xinj (cfg0.grid.coords t) y = ix3 z r d := ⟨_, _, _, eq_ix3 (n0 := 1) (n1 := 256) (n2 := 1024) _⟩
    obtain rfl : z = 0 := Subsingleton.elim _ _
    have y0 : (y (0 : Fin 3)).val = 0 := congrArg (fun Y : S1x256x1024.Idx => (Y (0 : Fin 3)).val) hy
    have y1 : (y (1 : Fin 3)).val = r.val := congrArg (fun Y : S1x256x1024.Idx => (Y (1 : Fin 3)).val) hy
    have y2 : (y (2 : Fin 3)).val = d.val := congrArg (fun Y : S1x256x1024.Idx => (Y (2 : Fin 3)).val) hy
    have hr : packed A D (((cfg0.win 2).blk t).view.emb y) = grad A D (ix2 ⟨t.val % 8 * 256 + r.val, by omega⟩ ⟨t.val / 8 * 1024 + d.val, by have h : t.val < 16 := t.isLt; omega⟩) := by
      have e0 : ((((cfg0.win 2).blk t).view.emb y) (0 : Fin 3)).val = t.val % 8 := by
        blk_simp [idx t] <;> omega
      have e1 : ((((cfg0.win 2).blk t).view.emb y) (1 : Fin 3)).val = 2304 + r.val := by
        blk_simp [idx t] <;> omega
      have e2 : ((((cfg0.win 2).blk t).view.emb y) (2 : Fin 3)).val = t.val / 8 * 1024 + d.val := by
        blk_simp [idx t] <;> omega
      refine congrArg (grad A D) (congrArg₂ (ix2 (n0 := 2048) (n1 := 2048)) (Fin.ext ?_) (Fin.ext ?_))
      · show _ * 256 + _ % 256 = t.val % 8 * 256 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v5 = grad A D := by
  have h : Pipeline.afterTail₀ cfgs (dats m) 0 (V0 m) [hostOps1] c main_v5
      = (extf .f32 (shapeCast S2048x2048 (extractStridedSlice S8x256x2048 ![0, 2304, 0] ((dats m 0 c).arrAt 2 cfg0.N) slices_S8x3328x2048_S8x256x2048_0_2304_0) shapeCasts_S8x256x2048_S2048x2048) bitsLt_bf16_f32 : FVec Ideal S2048x2048 .f32) := by
    unfold Pipeline.afterTail₀
    simp only [hostOps1, List.flatten_cons, List.flatten_nil, List.append_nil, List.cons_append, List.nil_append]
    after_results
    exact congrArg (fun X => (extf .f32 (shapeCast S2048x2048 (extractStridedSlice S8x256x2048 ![0, 2304, 0] X slices_S8x3328x2048_S8x256x2048_0_2304_0) shapeCasts_S8x256x2048_S2048x2048) bitsLt_bf16_f32 : FVec Ideal S2048x2048 .f32))
      (Pipeline.withArrays_arr (cfgs 0).spec (by decide) c (V0 m c) (fun w => (dats m 0 c).arrAt w (cfgs 0).N) 2)
  rw [h]
  funext i
  obtain ⟨a, d, rfl⟩ : ∃ (a d : Fin 2048), i = ix2 a d := ⟨_, _, eq_ix2 i⟩
  refine Eq.trans ?_ ((final m c h0 h1 ⟨a.val / 256, by omega⟩ ⟨a.val % 256, by omega⟩ d).trans (by congr 2; exact Fin.ext (by show a.val / 256 * 256 + a.val % 256 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v5 (by decide)).trans (result m c rfl rfl), h.2 c⟩)
    (θ_run_and (run_main m g) (unchanged m g))

/-- The reference's run leaves its arguments and all counters as they were. -/
theorem reference_frame : Cert.quiescent_Reference20Ideal := fun m g _ =>
  (θ_run Cert.Reference20Ideal.defs _ _).mono (fun r h => ⟨fun c => (h c).2, sem_eq_zero_of_no_sems (by decide) r.2⟩) (Cert.Reference20Ideal.Value.run m g)

/-- The kernel computes the reference's gradient. -/
theorem algebraic : Cert.algebraic_Kernel20Ideal_Reference20Ideal := by
  intro m g m' g' _ harg
  refine ⟨fun c => grad (m ((c : Thread nD τ).loc main_arg0)) (m ((c : Thread nD τ).loc main_arg1)), run m g,
    (θ_run Cert.Reference20Ideal.defs _ _).mono (fun r h c => ⟨(h c).1.trans ?_, (h c).2⟩) (Cert.Reference20Ideal.Value.run m' g')⟩
  rw [(harg c).1, (harg c).2]
  rfl

end Cert.Queries.Grad

end
-- ==== Proof.M21.lean ====
/- The key projection's weight gradient, written into its rows of the packed gradients. -/
module

public import proofs.«01_k».proof.Defs
public import proofs.«01_k».proof.Proof.Gen.Kernel21Ideal.Frame
public import proofs.«01_k».proof.Proof.Gen.Reference21Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Keys.Grad

open Cert.Kernel21Ideal Cert.Kernel21Ideal.Gen Idealize.ShloMosaic Idealize.ShloMosaic.TcCoe Idealize.SL.Sem
open Idealize.ShloMosaic.Pipeline (Dat)

/-- The reference's gradient. -/
def grad (A : FVec Ideal S256x2048 .f32) (D : FVec Ideal S256x2048 .f32) : FVec Ideal S2048x2048 .f32 :=
  transpose Cert.Reference21Ideal.S2048x2048 [1, 0] (Host.dotGeneral Cert.Reference21Ideal.dot_S256x2048_S256x2048_S2048x2048_0_0_1_1_n_n none D A) Cert.Reference21Ideal.Gen.transposes_S2048x2048_S2048x2048_1_0

theorem grad_at (A : FVec Ideal S256x2048 .f32) (D : FVec Ideal S256x2048 .f32) (a : Fin 2048) (d : Fin 2048) :
    grad A D (ix2 a d) = ∑ k : Fin 256, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (device, this weight's place, column tile). -/
theorem idx : ∀ t : Fin cfg0.N, win0_0.index t = ![0, t.val % 8] ∧ win0_1.index t = ![0, t.val / 8]
    ∧ win0_2.index t = ![t.val % 8, 10, t.val / 8] :=
  (by decide +kernel : ∀ t : Fin grid0.N, _)

/-- The packed gradients where the kernel writes them. -/
def packed (A : FVec Ideal S256x2048 .f32) (D : FVec Ideal S256x2048 .f32) : FVec Ideal S8x3328x2048 .bf16 := fun i =>
  grad A D (ix2 (n0 := 2048) (n1 := 2048) ⟨(i 0).val * 256 + (i 1).val % 256, by have h : (i 0).val < 8 := (i 0).isLt; omega⟩ (i 2))

variable {A : FVec Ideal S256x2048 .f32} {D : FVec Ideal S256x2048 .f32}
    (h0 : m ((c : Thread nD τ).loc main_arg0) = A) (h1 : m ((c : Thread nD τ).loc main_arg1) = D)
include h0 h1

/-- What the kernel writes at a grid point. -/
theorem point (t : Fin cfg0.N) (r : Fin 256) (d : Fin 1024) :
    k0_pay1 (F := Ideal) (iblk m c 0 t) (iblk m c 1 t) (ix3 0 r d)
      = grad A D (ix2 ⟨t.val % 8 * 256 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in this weight's rows. -/
theorem final (p : Fin 8) (r : Fin 256) (d : Fin 2048) :
    (dats m 0 c).arrAt 2 cfg0.N (ix3 p (⟨2560 + r.val, by omega⟩ : Fin 3328) d) = grad A D (ix2 ⟨p.val * 256 + r.val, by omega⟩ d) := by
  rw [(dats m 0 c).arrAt_apply_of_coversWhere 2 (packed A D) (P := fun i => (i (1 : Fin 3)).val / 256 = 10) (fun β => β (1 : Fin 3) = 10) (by decide +kernel)
    (fun t hf y => ?_) (fun j => by blk_simp [Pipeline.Window.cell_apply])]
  · rw [if_pos (by show (2560 + r.val) / 256 = 10; omega)]
    unfold packed
    congr 2
    exact Fin.ext (by show p.val * 256 + (2560 + r.val) % 256 = p.val * 256 + r.val; omega)
  · obtain ⟨z, r, d, hy⟩ : ∃ (z : Fin 1) (r : Fin 256) (d : Fin 1024), (cfg0.win 2).xinj (cfg0.grid.coords t) y = ix3 z r d := ⟨_, _, _, eq_ix3 (n0 := 1) (n1 := 256) (n2 := 1024) _⟩
    obtain rfl : z = 0 := Subsingleton.elim _ _
    have y0 : (y (0 : Fin 3)).val = 0 := congrArg (fun Y : S1x256x1024.Idx => (Y (0 : Fin 3)).val) hy
    have y1 : (y (1 : Fin 3)).val = r.val := congrArg (fun Y : S1x256x1024.Idx => (Y (1 : Fin 3)).val) hy
    have y2 : (y (2 : Fin 3)).val = d.val := congrArg (fun Y : S1x256x1024.Idx => (Y (2 : Fin 3)).val) hy
    have hr : packed A D (((cfg0.win 2).blk t).view.emb y) = grad A D (ix2 ⟨t.val % 8 * 256 + r.val, by omega⟩ ⟨t.val / 8 * 1024 + d.val, by have h : t.val < 16 := t.isLt; omega⟩) := by
      have e0 : ((((cfg0.win 2).blk t).view.emb y) (0 : Fin 3)).val = t.val % 8 := by
        blk_simp [idx t] <;> omega
      have e1 : ((((cfg0.win 2).blk t).view.emb y) (1 : Fin 3)).val = 2560 + r.val := by
        blk_simp [idx t] <;> omega
      have e2 : ((((cfg0.win 2).blk t).view.emb y) (2 : Fin 3)).val = t.val / 8 * 1024 + d.val := by
        blk_simp [idx t] <;> omega
      refine congrArg (grad A D) (congrArg₂ (ix2 (n0 := 2048) (n1 := 2048)) (Fin.ext ?_) (Fin.ext ?_))
      · show _ * 256 + _ % 256 = t.val % 8 * 256 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v5 = grad A D := by
  have h : Pipeline.afterTail₀ cfgs (dats m) 0 (V0 m) [hostOps1] c main_v5
      = (extf .f32 (shapeCast S2048x2048 (extractStridedSlice S8x256x2048 ![0, 2560, 0] ((dats m 0 c).arrAt 2 cfg0.N) slices_S8x3328x2048_S8x256x2048_0_2560_0) shapeCasts_S8x256x2048_S2048x2048) bitsLt_bf16_f32 : FVec Ideal S2048x2048 .f32) := by
    unfold Pipeline.afterTail₀
    simp only [hostOps1, List.flatten_cons, List.flatten_nil, List.append_nil, List.cons_append, List.nil_append]
    after_results
    exact congrArg (fun X => (extf .f32 (shapeCast S2048x2048 (extractStridedSlice S8x256x2048 ![0, 2560, 0] X slices_S8x3328x2048_S8x256x2048_0_2560_0) shapeCasts_S8x256x2048_S2048x2048) bitsLt_bf16_f32 : FVec Ideal S2048x2048 .f32))
      (Pipeline.withArrays_arr (cfgs 0).spec (by decide) c (V0 m c) (fun w => (dats m 0 c).arrAt w (cfgs 0).N) 2)
  rw [h]
  funext i
  obtain ⟨a, d, rfl⟩ : ∃ (a d : Fin 2048), i = ix2 a d := ⟨_, _, eq_ix2 i⟩
  refine Eq.trans ?_ ((final m c h0 h1 ⟨a.val / 256, by omega⟩ ⟨a.val % 256, by omega⟩ d).trans (by congr 2; exact Fin.ext (by show a.val / 256 * 256 + a.val % 256 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v5 (by decide)).trans (result m c rfl rfl), h.2 c⟩)
    (θ_run_and (run_main m g) (unchanged m g))

/-- The reference's run leaves its arguments and all counters as they were. -/
theorem reference_frame : Cert.quiescent_Reference21Ideal := fun m g _ =>
  (θ_run Cert.Reference21Ideal.defs _ _).mono (fun r h => ⟨fun c => (h c).2, sem_eq_zero_of_no_sems (by decide) r.2⟩) (Cert.Reference21Ideal.Value.run m g)

/-- The kernel computes the reference's gradient. -/
theorem algebraic : Cert.algebraic_Kernel21Ideal_Reference21Ideal := by
  intro m g m' g' _ harg
  refine ⟨fun c => grad (m ((c : Thread nD τ).loc main_arg0)) (m ((c : Thread nD τ).loc main_arg1)), run m g,
    (θ_run Cert.Reference21Ideal.defs _ _).mono (fun r h c => ⟨(h c).1.trans ?_, (h c).2⟩) (Cert.Reference21Ideal.Value.run m' g')⟩
  rw [(harg c).1, (harg c).2]
  rfl

end Cert.Keys.Grad

end
-- ==== Proof.M22.lean ====
/- The value projection's weight gradient, written into its rows of the packed gradients. -/
module

public import proofs.«01_k».proof.Defs
public import proofs.«01_k».proof.Proof.Gen.Kernel22Ideal.Frame
public import proofs.«01_k».proof.Proof.Gen.Reference22Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Values.Grad

open Cert.Kernel22Ideal Cert.Kernel22Ideal.Gen Idealize.ShloMosaic Idealize.ShloMosaic.TcCoe Idealize.SL.Sem
open Idealize.ShloMosaic.Pipeline (Dat)

/-- The reference's gradient. -/
def grad (A : FVec Ideal S256x2048 .f32) (D : FVec Ideal S256x2048 .f32) : FVec Ideal S2048x2048 .f32 :=
  transpose Cert.Reference22Ideal.S2048x2048 [1, 0] (Host.dotGeneral Cert.Reference22Ideal.dot_S256x2048_S256x2048_S2048x2048_0_0_1_1_n_n none D A) Cert.Reference22Ideal.Gen.transposes_S2048x2048_S2048x2048_1_0

theorem grad_at (A : FVec Ideal S256x2048 .f32) (D : FVec Ideal S256x2048 .f32) (a : Fin 2048) (d : Fin 2048) :
    grad A D (ix2 a d) = ∑ k : Fin 256, A (ix2 k a) * D (ix2 k d) := by
  pointwise [grad]
  exact Finset.sum_congr rfl fun k _ => mul_comm _ _

variable (m : (ℓ : Loc nD τ sig) → Buf (Elt Ideal) ℓ) (c : Dev nD)

/-- The windows' index maps: a tile of the gradient is (device, this weight's place, column tile). -/
theorem idx : ∀ t : Fin cfg0.N, win0_0.index t = ![0, t.val % 8] ∧ win0_1.index t = ![0, t.val / 8]
    ∧ win0_2.index t = ![t.val % 8, 11, t.val / 8] :=
  (by decide +kernel : ∀ t : Fin grid0.N, _)

/-- The packed gradients where the kernel writes them. -/
def packed (A : FVec Ideal S256x2048 .f32) (D : FVec Ideal S256x2048 .f32) : FVec Ideal S8x3328x2048 .bf16 := fun i =>
  grad A D (ix2 (n0 := 2048) (n1 := 2048) ⟨(i 0).val * 256 + (i 1).val % 256, by have h : (i 0).val < 8 := (i 0).isLt; omega⟩ (i 2))

variable {A : FVec Ideal S256x2048 .f32} {D : FVec Ideal S256x2048 .f32}
    (h0 : m ((c : Thread nD τ).loc main_arg0) = A) (h1 : m ((c : Thread nD τ).loc main_arg1) = D)
include h0 h1

/-- What the kernel writes at a grid point. -/
theorem point (t : Fin cfg0.N) (r : Fin 256) (d : Fin 1024) :
    k0_pay1 (F := Ideal) (iblk m c 0 t) (iblk m c 1 t) (ix3 0 r d)
      = grad A D (ix2 ⟨t.val % 8 * 256 + r.val, by omega⟩ ⟨t.val / 8 * 1024 + d.val, by have h : t.val < 16 := t.isLt; omega⟩) := by
  subst h0 h1
  rw [grad_at]
  pointwise [k0_pay1]
  refine Finset.sum_congr rfl fun k _ => congrArg₂ _ ?_ ?_
  · blk_ext [iblk, Gen.V, idx t]
  · blk_ext [iblk, Gen.V, idx t]

/-- The packed gradients after the region, in this weight's rows. -/
theorem final (p : Fin 8) (r : Fin 256) (d : Fin 2048) :
    (dats m 0 c).arrAt 2 cfg0.N (ix3 p (⟨2816 + r.val, by omega⟩ : Fin 3328) d) = grad A D (ix2 ⟨p.val * 256 + r.val, by omega⟩ d) := by
  rw [(dats m 0 c).arrAt_apply_of_coversWhere 2 (packed A D) (P := fun i => (i (1 : Fin 3)).val / 256 = 11) (fun β => β (1 : Fin 3) = 11) (by decide +kernel)
    (fun t hf y => ?_) (fun j => by blk_simp [Pipeline.Window.cell_apply])]
  · rw [if_pos (by show (2816 + r.val) / 256 = 11; omega)]
    unfold packed
    congr 2
    exact Fin.ext (by show p.val * 256 + (2816 + r.val) % 256 = p.val * 256 + r.val; omega)
  · obtain ⟨z, r, d, hy⟩ : ∃ (z : Fin 1) (r : Fin 256) (d : Fin 1024), (cfg0.win 2).xinj (cfg0.grid.coords t) y = ix3 z r d := ⟨_, _, _, eq_ix3 (n0 := 1) (n1 := 256) (n2 := 1024) _⟩
    obtain rfl : z = 0 := Subsingleton.elim _ _
    have y0 : (y (0 : Fin 3)).val = 0 := congrArg (fun Y : S1x256x1024.Idx => (Y (0 : Fin 3)).val) hy
    have y1 : (y (1 : Fin 3)).val = r.val := congrArg (fun Y : S1x256x1024.Idx => (Y (1 : Fin 3)).val) hy
    have y2 : (y (2 : Fin 3)).val = d.val := congrArg (fun Y : S1x256x1024.Idx => (Y (2 : Fin 3)).val) hy
    have hr : packed A D (((cfg0.win 2).blk t).view.emb y) = grad A D (ix2 ⟨t.val % 8 * 256 + r.val, by omega⟩ ⟨t.val / 8 * 1024 + d.val, by have h : t.val < 16 := t.isLt; omega⟩) := by
      have e0 : ((((cfg0.win 2).blk t).view.emb y) (0 : Fin 3)).val = t.val % 8 := by
        blk_simp [idx t] <;> omega
      have e1 : ((((cfg0.win 2).blk t).view.emb y) (1 : Fin 3)).val = 2816 + r.val := by
        blk_simp [idx t] <;> omega
      have e2 : ((((cfg0.win 2).blk t).view.emb y) (2 : Fin 3)).val = t.val / 8 * 1024 + d.val := by
        blk_simp [idx t] <;> omega
      refine congrArg (grad A D) (congrArg₂ (ix2 (n0 := 2048) (n1 := 2048)) (Fin.ext ?_) (Fin.ext ?_))
      · show _ * 256 + _ % 256 = t.val % 8 * 256 + r.val
        rw [e0, e1]; omega
      · exact e2
    rw [hr, ← point m c h0 h1 t r d, hy, after0_2]
    unfold outsAt0
    blk_simp
    frame_out

/-- The result after the host operations that follow the region. -/
theorem result : Pipeline.afterTail₀ cfgs (dats m) 0 (V0 m) [hostOps1] c main_v5 = grad A D := by
  have h : Pipeline.afterTail₀ cfgs (dats m) 0 (V0 m) [hostOps1] c main_v5
      = (extf .f32 (shapeCast S2048x2048 (extractStridedSlice S8x256x2048 ![0, 2816, 0] ((dats m 0 c).arrAt 2 cfg0.N) slices_S8x3328x2048_S8x256x2048_0_2816_0) shapeCasts_S8x256x2048_S2048x2048) bitsLt_bf16_f32 : FVec Ideal S2048x2048 .f32) := by
    unfold Pipeline.afterTail₀
    simp only [hostOps1, List.flatten_cons, List.flatten_nil, List.append_nil, List.cons_append, List.nil_append]
    after_results
    exact congrArg (fun X => (extf .f32 (shapeCast S2048x2048 (extractStridedSlice S8x256x2048 ![0, 2816, 0] X slices_S8x3328x2048_S8x256x2048_0_2816_0) shapeCasts_S8x256x2048_S2048x2048) bitsLt_bf16_f32 : FVec Ideal S2048x2048 .f32))
      (Pipeline.withArrays_arr (cfgs 0).spec (by decide) c (V0 m c) (fun w => (dats m 0 c).arrAt w (cfgs 0).N) 2)
  rw [h]
  funext i
  obtain ⟨a, d, rfl⟩ : ∃ (a d : Fin 2048), i = ix2 a d := ⟨_, _, eq_ix2 i⟩
  refine Eq.trans ?_ ((final m c h0 h1 ⟨a.val / 256, by omega⟩ ⟨a.val % 256, by omega⟩ d).trans (by congr 2; exact Fin.ext (by show a.val / 256 * 256 + a.val % 256 = _; omega)))
  pointwise

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v5) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v5 (by decide)).trans (result m c rfl rfl), h.2 c⟩)
    (θ_run_and (run_main m g) (unchanged m g))

/-- The reference's run leaves its arguments and all counters as they were. -/
theorem reference_frame : Cert.quiescent_Reference22Ideal := fun m g _ =>
  (θ_run Cert.Reference22Ideal.defs _ _).mono (fun r h => ⟨fun c => (h c).2, sem_eq_zero_of_no_sems (by decide) r.2⟩) (Cert.Reference22Ideal.Value.run m g)

/-- The kernel computes the reference's gradient. -/
theorem algebraic : Cert.algebraic_Kernel22Ideal_Reference22Ideal := by
  intro m g m' g' _ harg
  refine ⟨fun c => grad (m ((c : Thread nD τ).loc main_arg0)) (m ((c : Thread nD τ).loc main_arg1)), run m g,
    (θ_run Cert.Reference22Ideal.defs _ _).mono (fun r h c => ⟨(h c).1.trans ?_, (h c).2⟩) (Cert.Reference22Ideal.Value.run m' g')⟩
  rw [(harg c).1, (harg c).2]
  rfl

end Cert.Values.Grad

end
-- ==== Proof.M23.lean ====
/- The mixer's input projection, with each device's columns padded. -/
module

public import proofs.«01_k».proof.Defs
public import proofs.«01_k».proof.Proof.Gen.Kernel23Ideal.Frame
public import proofs.«01_k».proof.Proof.Gen.Reference23Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.MixerIn.Forward

open Cert.Kernel23Ideal Cert.Kernel23Ideal.Gen Idealize.ShloMosaic Idealize.ShloMosaic.TcCoe Idealize.SL.Sem
open Idealize.ShloMosaic.Pipeline (Dat)

/-- The reference's product. -/
def prod (H : FVec Ideal S2048x2048 .f32) (W : FVec Ideal S2048x4128 .f32) : FVec Ideal S2048x4128 .f32 :=
  Host.dotGeneral Cert.Reference23Ideal.dot_S2048x2048_S2048x4128_S2048x4128_1_0_0_1_n_n none H W

theorem prod_at (H : FVec Ideal S2048x2048 .f32) (W : FVec Ideal S2048x4128 .f32) (i : Fin 2048) (j : Fin 4128) :
    prod H W (ix2 i j) = ∑ k : Fin 2048, H (ix2 i k) * W (ix2 k j) := by
  pointwise [prod]

/-- The gathered weights that the kernel reads: each device's 516 columns as rows, padded to 768. -/
def gathered (W : FVec Ideal S2048x4128 .f32) : FVec Ideal S8x768x2048 .bf16 :=
  truncf .bf16 (pad S8x768x2048 ![0, 0, 0] ![0, 252, 0] ![0, 0, 0] (shapeCast S8x516x2048 (transpose S4128x2048 [1, 0] W transposes_S2048x4128_S4128x2048_1_0) shapeCasts_S4128x2048_S8x516x2048 : FVec Ideal S8x516x2048 .f32)
    (sitofp .f32 (constantI S_ 32 0#32) : FVec Ideal S_ .f32) pads_S8x516x2048_S8x768x2048_000_02520_000 h_S_) bitsLt_bf16_f32

theorem gathered_at (W : FVec Ideal S2048x4128 .f32) (p : Fin 8) (r : Fin 516) (k : Fin 2048) :
    gathered W (ix3 p (⟨r.val, by omega⟩ : Fin 768) k) = W (ix2 k ⟨p.val * 516 + r.val, by omega⟩) := by
  pointwise [gathered]

/-- The product with the padded weights, as the kernel writes it. -/
def padded (H : FVec Ideal S2048x2048 .f32) (W : FVec Ideal S2048x4128 .f32) : FVec Ideal S2048x6144 .f32 := fun i =>
  ∑ k : Fin 2048, H (ix2 (n0 := 2048) (n1 := 2048) (i 0) k) * gathered W (ix3 (n0 := 8) (n1 := 768) (n2 := 2048) ⟨(i 1).val / 768, by have h : (i 1).val < 6144 := (i 1).isLt; omega⟩ ⟨(i 1).val % 768, by omega⟩ k)

variable (m : (ℓ : Loc nD τ sig) → Buf (Elt Ideal) ℓ) (c : Dev nD)

/-- The windows' index maps: a point is (row tile, device). -/
theorem idx : ∀ t : Fin cfg0.N, win0_0.index t = ![t.val / 8, 0] ∧ win0_1.index t = ![t.val % 8, 0, 0]
    ∧ win0_2.index t = ![t.val / 8, t.val % 8] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 768) : Fin 6144 := ⟨t.val % 8 * 768 + d.val, by omega⟩

variable {H : FVec Ideal S2048x2048 .f32} {W : FVec Ideal S2048x4128 .f32}
    (h0 : m ((c : Thread nD τ).loc main_arg0) = H) (h1 : m ((c : Thread nD τ).loc main_arg1) = W)

include h1 in
/-- The gathered weights that the region starts with. -/
theorem host_w : Gen.V m c main_v4 = gathered W := by
  subst h1
  change StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_results
  rfl

include h1 in
/-- The weights' block at a grid point: one device's rows. -/
theorem weight (t : Fin cfg0.N) (r : Fin 768) (k : Fin 2048) :
    iblk m c 1 t (ix3 0 r k) = gathered W (ix3 ⟨t.val % 8, by omega⟩ r k) := by
  rw [← host_w m c h1]
  blk_ext [iblk, idx t]

include h0 h1

/-- What the kernel writes at a grid point. -/
theorem point (t : Fin cfg0.N) (r : Fin 1024) (d : Fin 768) :
    out0_2 (F := Ideal) (iblk m c 0 t) (iblk m c 1 t) (ix2 r d) = padded H W (ix2 (row t r) (col t d)) := by
  unfold padded
  frame_out [out0_2]
  pointwise [k0_pay1]
  refine Finset.sum_congr rfl fun k _ => congrArg₂ _ ?_ ((weight m c h1 t d k).trans (congrArg (gathered W) (congr (congrArg₂ ix3 (Fin.ext ?_) (Fin.ext ?_)) rfl)))
  · subst h0
    blk_ext [iblk, Gen.V, idx t, row]
  · show t.val % 8 = (t.val % 8 * 768 + d.val) / 768
    omega
  · show d.val = (t.val % 8 * 768 + d.val) % 768
    omega

/-- The kernel's array after the region. -/
theorem final : (dats m 0 c).arrAt 2 cfg0.N = padded H W := by
  refine (dats m 0 c).arrAt_eq_of_covers 2 _ (by decide +kernel) fun t _ (y : S1024x768.Idx) => ?_
  obtain ⟨r, d, rfl⟩ : ∃ (r : Fin 1024) (d : Fin 768), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

/-- The padded product where its columns are a weight's. -/
theorem padded_at (i : Fin 2048) (j : Fin 4128) :
    padded H W (ix2 i ⟨j.val / 516 * 768 + j.val % 516, by omega⟩) = prod H W (ix2 i j) := by
  rw [prod_at]
  refine Finset.sum_congr rfl fun k _ => congrArg₂ _ rfl ?_
  refine Eq.trans (congrArg (gathered W) (congr (congrArg₂ ix3 (Fin.ext ?_) (Fin.ext ?_)) rfl)) ((gathered_at W ⟨j.val / 516, by omega⟩ ⟨j.val % 516, by omega⟩ k).trans (congrArg W (congrArg (ix2 k) (Fin.ext ?_))))
  · show (j.val / 516 * 768 + j.val % 516) / 768 = j.val / 516
    omega
  · show (j.val / 516 * 768 + j.val % 516) % 768 = j.val % 516
    omega
  · show j.val / 516 * 516 + j.val % 516 = j.val
    omega

/-- The result after the host operations that follow the region. -/
theorem result : Pipeline.afterTail₀ cfgs (dats m) 0 (V0 m) [hostOps1] c main_v8 = prod H W := by
  have h : Pipeline.afterTail₀ cfgs (dats m) 0 (V0 m) [hostOps1] c main_v8
      = (shapeCast S2048x4128 (extractStridedSlice S2048x8x516 ![0, 0, 0] (shapeCast S2048x8x768 ((dats m 0 c).arrAt 2 cfg0.N) shapeCasts_S2048x6144_S2048x8x768) slices_S2048x8x768_S2048x8x516_0_0_0) shapeCasts_S2048x8x516_S2048x4128 : FVec Ideal S2048x4128 .f32) := by
    unfold Pipeline.afterTail₀
    simp only [hostOps1, List.flatten_cons, List.flatten_nil, List.append_nil, List.cons_append, List.nil_append]
    after_results
    have hw : Pipeline.withArrays (cfgs 0).spec c (V0 m c) (fun w => (dats m 0 c).arrAt w (cfgs 0).N) (Proc.tc.devRef main_v5) = (dats m 0 c).arrAt 2 cfg0.N := Pipeline.withArrays_arr (cfgs 0).spec (by decide) c (V0 m c) (fun w => (dats m 0 c).arrAt w (cfgs 0).N) 2
    rw [hw]
    generalize (dats m 0 c).arrAt 2 cfg0.N = X
    rfl
  rw [h, final m c h0 h1]
  funext i
  obtain ⟨a, j, rfl⟩ : ∃ (a : Fin 2048) (j : Fin 4128), i = ix2 a j := ⟨_, _, eq_ix2 i⟩
  refine Eq.trans ?_ (padded_at m c h0 h1 a j)
  pointwise

omit h0 h1
/-- The kernel's run: the result is the reference's product of the arguments, which end unchanged. -/
theorem run (g : Dev nD → PrngReg) : θ_run defs (onTc (τ := τ) (main (F := Ideal))) ⟨m, fun _ => 0, g⟩ fun r => ∀ c : Dev nD,
      r.2.mem ((c : Thread nD τ).loc main_v8) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v8 (by decide)).trans (result m c rfl rfl), h.2 c⟩)
    (θ_run_and (run_main m g) (unchanged m g))

/-- The reference's run leaves its arguments and all counters as they were. -/
theorem reference_frame : Cert.quiescent_Reference23Ideal := fun m g _ =>
  (θ_run Cert.Reference23Ideal.defs _ _).mono (fun r h => ⟨fun c => (h c).2, sem_eq_zero_of_no_sems (by decide) r.2⟩) (Cert.Reference23Ideal.Value.run m g)

/-- The kernel computes the reference's product. -/
theorem algebraic : Cert.algebraic_Kernel23Ideal_Reference23Ideal := by
  intro m g m' g' _ harg
  refine ⟨fun c => prod (m ((c : Thread nD τ).loc main_arg0)) (m ((c : Thread nD τ).loc main_arg1)), run m g,
    (θ_run Cert.Reference23Ideal.defs _ _).mono (fun r h c => ⟨(h c).1.trans ?_, (h c).2⟩) (Cert.Reference23Ideal.Value.run m' g')⟩
  rw [(harg c).1, (harg c).2]
  rfl

end Cert.MixerIn.Forward

end
-- ==== Proof.M24.lean ====
/- The mixer's input projection's weight gradient, with each device's columns padded. -/
module

public import proofs.«01_k».proof.Defs
public import proofs.«01_k».proof.Proof.Gen.Kernel24Ideal.Frame
public import proofs.«01_k».proof.Proof.Gen.Reference24Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.MixerIn.Grad

open Cert.Kernel24Ideal Cert.Kernel24Ideal.Gen Idealize.ShloMosaic Idealize.ShloMosaic.TcCoe Idealize.SL.Sem
open Idealize.ShloMosaic.Pipeline (Dat)

/-- The reference's gradient. -/
def grad (H : FVec Ideal S2048x2048 .f32) (D : FVec Ideal S2048x4128 .f32) : FVec Ideal S2048x4128 .f32 :=
  transpose Cert.Reference24Ideal.S2048x4128 [1, 0] (Host.dotGeneral Cert.Reference24Ideal.dot_S2048x4128_S2048x2048_S4128x2048_0_0_1_1_n_n none D H) Cert.Reference24Ideal.Gen.transposes_S4128x2048_S2048x4128_1_0

theorem grad_at (H : FVec Ideal S2048x2048 .f32) (D : FVec Ideal S2048x4128 .f32) (d : Fin 2048) (a : Fin 4128) :
    grad H D (ix2 d a) = ∑ k : Fin 2048, D (ix2 k a) * H (ix2 k d) := by
  pointwise [grad]

/-- The cotangent that the kernel reads: each device's 516 columns, padded with zeros to 768. -/
def joined (D : FVec Ideal S2048x4128 .f32) : FVec Ideal S2048x6144 .bf16 :=
  truncf .bf16 (shapeCast S2048x6144 (concatenate S2048x8x768 2 [⟨S2048x8x516, (shapeCast S2048x8x516 D shapeCasts_S2048x4128_S2048x8x516 : FVec Ideal S2048x8x516 .f32)⟩,
    ⟨S2048x8x252, (broadcastInDim S2048x8x252 ![] bcast_S_S2048x8x252 (constant S_ .f32 0x00000000#32) : FVec Ideal S2048x8x252 .f32)⟩] concatenates_S2048x8x516_S2048x8x252_S2048x8x768_d2)
    shapeCasts_S2048x8x768_S2048x6144 : FVec Ideal S2048x6144 .f32) bitsLt_bf16_f32

theorem joined_at (D : FVec Ideal S2048x4128 .f32) (k : Fin 2048) (j : Fin 4128) :
    joined D (ix2 k (⟨j.val / 516 * 768 + j.val % 516, by omega⟩ : Fin 6144)) = D (ix2 k j) := by
  pointwise [joined]
  exact dif_pos (by omega)

/-- The gradient of the padded weights, as the kernel writes it. -/
def padded (H : FVec Ideal S2048x2048 .f32) (D : FVec Ideal S2048x4128 .f32) : FVec Ideal S6144x2048 .bf16 := fun i =>
  ∑ k : Fin 2048, joined D (ix2 (n0 := 2048) (n1 := 6144) k (i 0)) * H (ix2 (n0 := 2048) (n1 := 2048) k (i 1))

variable (m : (ℓ : Loc nD τ sig) → Buf (Elt Ideal) ℓ) (c : Dev nD)

/-- The windows' index maps: a point is (column tile, row tile). -/
theorem idx : ∀ t : Fin cfg0.N, win0_0.index t = ![0, t.val % 6] ∧ win0_1.index t = ![0, t.val / 6]
    ∧ win0_2.index t = ![t.val % 6, t.val / 6] :=
  (by decide +kernel : ∀ t : Fin grid0.N, _)

/-- The array's row at row `r` of a grid point's tile, and its column. -/
def row (t : Fin cfg0.N) (r : Fin 1024) : Fin 6144 := ⟨t.val % 6 * 1024 + r.val, by omega⟩
def col (t : Fin cfg0.N) (d : Fin 1024) : Fin 2048 := ⟨t.val / 6 * 1024 + d.val, by have h : t.val < 12 := t.isLt; omega⟩

variable {H : FVec Ideal S2048x2048 .f32} {D : FVec Ideal S2048x4128 .f32}
    (h0 : m ((c : Thread nD τ).loc main_arg0) = H) (h1 : m ((c : Thread nD τ).loc main_arg1) = D)

include h1 in
/-- The padded cotangent that the region starts with. -/
theorem host_d : Gen.V m c main_v4 = joined D := by
  subst h1
  change StableHlo.after (List.flatten [hostOps0]) (fun b => m (c, b)) (Proc.devRef .tc main_v4) = _
  simp only [hostOps0, List.flatten_cons, List.flatten_nil, List.append_nil, List.cons_append, List.nil_append]
  after_results
  rfl

include h1 in
/-- The cotangent's block at a grid point. -/
theorem block (t : Fin cfg0.N) (k : Fin 2048) (r : Fin 1024) :
    iblk m c 0 t (ix2 k r) = joined D (ix2 k (row t r)) := by
  rw [← host_d m c h1]
  blk_ext [iblk, idx t, row]

include h0 h1

/-- What the kernel writes at a grid point. -/
theorem point (t : Fin cfg0.N) (r d : Fin 1024) :
    out0_2 (F := Ideal) (iblk m c 0 t) (iblk m c 1 t) (ix2 r d) = padded H D (ix2 (row t r) (col t d)) := by
  unfold padded
  frame_out [out0_2]
  pointwise [k0_pay1]
  refine Finset.sum_congr rfl fun k _ => congrArg₂ _ (block m c h1 t k r) ?_
  subst h0
  blk_ext [iblk, Gen.V, idx t, col]

/-- The kernel's array after the region. -/
theorem final : (dats m 0 c).arrAt 2 cfg0.N = padded H D := by
  refine (dats m 0 c).arrAt_eq_of_covers 2 _ (by decide +kernel) fun t _ (y : S1024x1024.Idx) => ?_
  obtain ⟨r, d, rfl⟩ : ∃ (r d : Fin 1024), y = ix2 r d := ⟨_, _, eq_ix2 y⟩
  have hr : ((cfg0.win 2).blk t).view.emb (ix2 r d) = ix2 (row t r) (col t d) := by blk_ext [idx t, row, col]
  rw [hr, ← point m c h0 h1 t r d]
  blk_simp
  rw [after0_2]

/-- The padded gradient where its rows are a weight's. -/
theorem padded_at (d : Fin 2048) (j : Fin 4128) :
    padded H D (ix2 ⟨j.val / 516 * 768 + j.val % 516, by omega⟩ d) = grad H D (ix2 d j) := by
  rw [grad_at]
  exact Finset.sum_congr rfl fun k _ => congrArg₂ _ (joined_at D k j) rfl

omit h0 h1 in
/-- What the host operations after the region make of the kernel's array. -/
theorem tail : Pipeline.afterTail₀ cfgs (dats m) 0 (V0 m) [hostOps1] c main_v11
      = (extf .f32 (transpose S2048x4128 [1, 0] (shapeCast S4128x2048 (extractStridedSlice S8x516x2048 ![0, 0, 0] (shapeCast S8x768x2048 ((dats m 0 c).arrAt 2 cfg0.N) shapeCasts_S6144x2048_S8x768x2048) slices_S8x768x2048_S8x516x2048_0_0_0) shapeCasts_S8x516x2048_S4128x2048) transposes_S4128x2048_S2048x4128_1_0) bitsLt_bf16_f32 : FVec Ideal S2048x4128 .f32) := by
  unfold Pipeline.afterTail₀
  simp only [hostOps1, List.flatten_cons, List.flatten_nil, List.append_nil, List.cons_append, List.nil_append]
  after_results
  have hw : Pipeline.withArrays (cfgs 0).spec c (V0 m c) (fun w => (dats m 0 c).arrAt w (cfgs 0).N) (Proc.tc.devRef main_v6) = (dats m 0 c).arrAt 2 cfg0.N := Pipeline.withArrays_arr (cfgs 0).spec (by decide) c (V0 m c) (fun w => (dats m 0 c).arrAt w (cfgs 0).N) 2
  rw [hw]
  generalize (dats m 0 c).arrAt 2 cfg0.N = X
  rfl

omit h0 h1 in
/-- The rows of the padded array that are the weight's. -/
theorem rows_at (X : FVec Ideal S6144x2048 .bf16) (d : Fin 2048) (j : Fin 4128) :
    (extf .f32 (transpose S2048x4128 [1, 0] (shapeCast S4128x2048 (extractStridedSlice S8x516x2048 ![0, 0, 0] (shapeCast S8x768x2048 X shapeCasts_S6144x2048_S8x768x2048) slices_S8x768x2048_S8x516x2048_0_0_0) shapeCasts_S8x516x2048_S4128x2048) transposes_S4128x2048_S2048x4128_1_0) bitsLt_bf16_f32 : FVec Ideal S2048x4128 .f32) (ix2 d j)
      = X (ix2 ⟨j.val / 516 * 768 + j.val % 516, by omega⟩ d) := by
  pointwise

/-- The result after the host operations that follow the region. -/
theorem result : Pipeline.afterTail₀ cfgs (dats m) 0 (V0 m) [hostOps1] c main_v11 = grad H D := by
  rw [tail, final m c h0 h1]
  funext i
  obtain ⟨d, j, rfl⟩ : ∃ (d : Fin 2048) (j : Fin 4128), i = ix2 d j := ⟨_, _, eq_ix2 i⟩
  exact (rows_at _ d j).trans (padded_at m c h0 h1 d j)

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v11) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).2 main_v11 (by decide)).trans (result m c rfl rfl), h.2 c⟩)
    (θ_run_and (run_main m g) (unchanged m g))

/-- The reference's run leaves its arguments and all counters as they were. -/
theorem reference_frame : Cert.quiescent_Reference24Ideal := fun m g _ =>
  (θ_run Cert.Reference24Ideal.defs _ _).mono (fun r h => ⟨fun c => (h c).2, sem_eq_zero_of_no_sems (by decide) r.2⟩) (Cert.Reference24Ideal.Value.run m g)

/-- The kernel computes the reference's gradient. -/
theorem algebraic : Cert.algebraic_Kernel24Ideal_Reference24Ideal := by
  intro m g m' g' _ harg
  refine ⟨fun c => grad (m ((c : Thread nD τ).loc main_arg0)) (m ((c : Thread nD τ).loc main_arg1)), run m g,
    (θ_run Cert.Reference24Ideal.defs _ _).mono (fun r h c => ⟨(h c).1.trans ?_, (h c).2⟩) (Cert.Reference24Ideal.Value.run m' g')⟩
  rw [(harg c).1, (harg c).2]
  rfl

end Cert.MixerIn.Grad

end
-- ==== Proof.M25.lean ====
/- The mixer's input projection's input gradient: a tile gathers four points, two devices' padded rows at each. -/
module

public import proofs.«01_k».proof.Defs
public import proofs.«01_k».proof.Proof.Gen.Kernel25Ideal.Frame
public import proofs.«01_k».proof.Proof.Gen.Reference25Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section

set_option maxRecDepth 16384

noncomputable section

namespace Cert.MixerIn.Dx

open Cert.Kernel25Ideal Cert.Kernel25Ideal.Gen Idealize.ShloMosaic Idealize.ShloMosaic.TcCoe Idealize.SL.Sem
open Idealize.ShloMosaic.Pipeline (Dat)

/-- The reference's gradient. -/
def grad (D : FVec Ideal S2048x4128 .f32) (W : FVec Ideal S2048x4128 .f32) : FVec Ideal S2048x2048 .f32 :=
  Host.dotGeneral Cert.Reference25Ideal.dot_S2048x4128_S2048x4128_S2048x2048_1_1_0_0_n_n none D W

theorem grad_at (D : FVec Ideal S2048x4128 .f32) (W : FVec Ideal S2048x4128 .f32) (i d : Fin 2048) :
    grad D W (ix2 i d) = ∑ k : Fin 4128, D (ix2 i k) * W (ix2 d k) := by
  pointwise [grad]

/-- The gathered weights that the kernel reads: each device's 516 columns as rows, padded to 768. -/
def gathered (W : FVec Ideal S2048x4128 .f32) : FVec Ideal S8x768x2048 .bf16 :=
  truncf .bf16 (pad S8x768x2048 ![0, 0, 0] ![0, 252, 0] ![0, 0, 0] (shapeCast S8x516x2048 (transpose S4128x2048 [1, 0] W transposes_S2048x4128_S4128x2048_1_0) shapeCasts_S4128x2048_S8x516x2048 : FVec Ideal S8x516x2048 .f32)
    (sitofp .f32 (constantI S_ 32 0#32) : FVec Ideal S_ .f32) pads_S8x516x2048_S8x768x2048_000_02520_000 h_S_) bitsLt_bf16_f32

theorem gathered_at (W : FVec Ideal S2048x4128 .f32) (p : Fin 8) (r : Fin 516) (k : Fin 2048) :
    gathered W (ix3 p (⟨r.val, by omega⟩ : Fin 768) k) = W (ix2 k ⟨p.val * 516 + r.val, by omega⟩) := by
  pointwise [gathered]

/-- The cotangent that the kernel reads: each device's 516 columns, padded with zeros to 768. -/
def joined (D : FVec Ideal S2048x4128 .f32) : FVec Ideal S2048x6144 .bf16 :=
  truncf .bf16 (shapeCast S2048x6144 (concatenate S2048x8x768 2 [⟨S2048x8x516, (shapeCast S2048x8x516 D shapeCasts_S2048x4128_S2048x8x516 : FVec Ideal S2048x8x516 .f32)⟩,
    ⟨S2048x8x252, (broadcastInDim S2048x8x252 ![] bcast_S_S2048x8x252 (constant S_ .f32 0x00000000#32) : FVec Ideal S2048x8x252 .f32)⟩] concatenates_S2048x8x516_S2048x8x252_S2048x8x768_d2)
    shapeCasts_S2048x8x768_S2048x6144 : FVec Ideal S2048x6144 .f32) bitsLt_bf16_f32

theorem joined_at (D : FVec Ideal S2048x4128 .f32) (k : Fin 2048) (p : Fin 8) (r : Fin 516) :
    joined D (ix2 k (⟨p.val * 768 + r.val, by omega⟩ : Fin 6144)) = D (ix2 k ⟨p.val * 516 + r.val, by omega⟩) := by
  pointwise [joined]
  have hr : (p.val * 768 + r.val) % 768 = r.val := by omega
  refine (dif_pos (by omega)).trans (congrArg (fun j => D (ix2 k j)) (Fin.ext ?_))
  exact congrArg (p.val * 516 + ·) hr

theorem joined_zero (D : FVec Ideal S2048x4128 .f32) (k : Fin 2048) (p : Fin 8) (r : Fin 252) :
    joined D (ix2 k (⟨p.val * 768 + (516 + r.val), by omega⟩ : Fin 6144)) = (0 : EReal) := by
  pointwise [joined]
  exact dif_neg (by omega)

/-- One term of the padded product: a row of the padded cotangent by the padded weights' rows of all devices in order. -/
def term (D W : FVec Ideal S2048x4128 .f32) (i d : Fin 2048) (k : Fin 6144) : EReal :=
  (joined D (ix2 i k) : EReal) * (gathered W (ix3 ⟨k.val / 768, by omega⟩ ⟨k.val % 768, by omega⟩ d) : EReal)

theorem term_at (D W : FVec Ideal S2048x4128 .f32) (i d : Fin 2048) (p : Fin 8) (r : Fin 516) :
    term D W i d ⟨p.val * 768 + r.val, by omega⟩ = (D (ix2 i ⟨p.val * 516 + r.val, by omega⟩) : EReal) * (W (ix2 d ⟨p.val * 516 + r.val, by omega⟩) : EReal) := by
  refine congrArg₂ (fun a b : EReal => a * b) (joined_at D i p r) (Eq.trans (congrArg (gathered W) (congr (congrArg₂ ix3 (Fin.ext ?_) (Fin.ext ?_)) rfl)) (gathered_at W p r d))
  · show (p.val * 768 + r.val) / 768 = p.val
    omega
  · show (p.val * 768 + r.val) % 768 = r.val
    omega

theorem term_zero (D W : FVec Ideal S2048x4128 .f32) (i d : Fin 2048) (p : Fin 8) (r : Fin 252) :
    term D W i d ⟨p.val * 768 + (516 + r.val), by omega⟩ = 0 := by
  unfold term
  rw [joined_zero D i p r, zero_mul]

/-- The padding adds nothing: the padded product is the reference's. -/
theorem padded_sum (D W : FVec Ideal S2048x4128 .f32) (i d : Fin 2048) : ∑ k : Fin 6144, term D W i d k = grad D W (ix2 i d) := by
  rw [grad_at]
  refine Eq.trans (Fin.sum_mul_add_congr (M := EReal) (S := 8) (n := 768) (f := term D W i d) (F := fun p r => term D W i d ⟨p.val * 768 + r.val, by omega⟩) fun p r hl => rfl).symm ?_
  refine Eq.trans (Finset.sum_congr rfl fun p _ => ?_) (Fin.sum_mul_add_congr (M := EReal) (S := 8) (n := 516) (f := fun k : Fin 4128 => (D (ix2 i k) : EReal) * (W (ix2 d k) : EReal))
    (F := fun p r => (D (ix2 i ⟨p.val * 516 + r.val, by omega⟩) : EReal) * (W (ix2 d ⟨p.val * 516 + r.val, by omega⟩) : EReal)) fun p r hl => rfl)
  refine (Fin.sum_univ_add (a := 516) (b := 252) fun r : Fin (516 + 252) => term D W i d ⟨p.val * 768 + r.val, by omega⟩).trans ?_
  refine Eq.trans (congrArg₂ (· + ·) (Finset.sum_congr rfl fun r _ => term_at D W i d p r) (Finset.sum_eq_zero fun r _ => term_zero D W i d p r)) (add_zero _)

variable (m : (ℓ : Loc nD τ sig) → Buf (Elt Ideal) ℓ) (c : Dev nD)

/-- The windows' index maps: a point is (row tile, column tile, pair of devices). -/
theorem idx : ∀ t : Fin cfg0.N, win0_0.index t = ![t.val / 8, t.val % 4] ∧ win0_1.index t = ![t.val % 4, 0, t.val / 4 % 2]
    ∧ win0_2.index t = ![t.val / 8, t.val / 4 % 2] :=
  (by decide +kernel : ∀ t : Fin grid0.N, _)

/-- The array's row at row `r` of a grid point's tile, and its column. -/
def row (t : Fin cfg0.N) (r : Fin 1024) : Fin 2048 := ⟨t.val / 8 * 1024 + r.val, by have h : t.val < 16 := t.isLt; omega⟩
def col (t : Fin cfg0.N) (d : Fin 1024) : Fin 2048 := ⟨t.val / 4 % 2 * 1024 + d.val, by omega⟩

/-- Point `s` of the run that a flushing point ends: the same tile, pair `s` of devices. -/
theorem run_point (t : Fin cfg0.N) (s : Fin 4) (h : 4 * (t.val / 4) + s.val < cfg0.N) :
    (∀ r, row ⟨4 * (t.val / 4) + s.val, h⟩ r = row t r) ∧ (∀ d, col ⟨4 * (t.val / 4) + s.val, h⟩ d = col t d)
      ∧ (4 * (t.val / 4) + s.val) % 4 = s.val := by
  refine ⟨fun r => Fin.ext ?_, fun d => Fin.ext ?_, by omega⟩
  · show (4 * (t.val / 4) + s.val) / 8 * 1024 + r.val = t.val / 8 * 1024 + r.val
    omega
  · show (4 * (t.val / 4) + s.val) / 4 % 2 * 1024 + d.val = t.val / 4 % 2 * 1024 + d.val
    omega

variable {D : FVec Ideal S2048x4128 .f32} {W : FVec Ideal S2048x4128 .f32}
    (h0 : m ((c : Thread nD τ).loc main_arg0) = D) (h1 : m ((c : Thread nD τ).loc main_arg1) = W)

include h1 in
/-- The gathered weights that the region starts with. -/
theorem host_w : Gen.V m c main_v8 = gathered W := by
  subst h1
  change StableHlo.after (List.flatten [hostOps0, hostOps0_1, hostOps0_2]) (fun b => m (c, b)) (Proc.devRef .tc main_v8) = _
  simp only [hostOps0, hostOps0_1, hostOps0_2, List.flatten_cons, List.flatten_nil, List.append_nil, List.cons_append, List.nil_append]
  after_results
  rfl

include h0 in
/-- The padded cotangent that the region starts with. -/
theorem host_d : Gen.V m c main_v4 = joined D := by
  subst h0
  change StableHlo.after (List.flatten [hostOps0, hostOps0_1, hostOps0_2]) (fun b => m (c, b)) (Proc.devRef .tc main_v4) = _
  simp only [hostOps0, hostOps0_1, hostOps0_2, List.flatten_cons, List.flatten_nil, List.append_nil, List.cons_append, List.nil_append]
  after_results
  rfl

include h1 in
/-- The weights' block at a grid point: the rows of two devices. -/
theorem weight (t : Fin cfg0.N) (q : Fin 2) (l : Fin 768) (d : Fin 1024) :
    iblk m c 1 t (ix3 q l d) = gathered W (ix3 ⟨t.val % 4 * 2 + q.val, by omega⟩ l (col t d)) := by
  rw [← host_w m c h1]
  blk_ext [iblk, idx t, col]

include h0 in
/-- The cotangent's block at a grid point. -/
theorem block (t : Fin cfg0.N) (r : Fin 1024) (l : Fin 1536) :
    iblk m c 0 t (ix2 r l) = joined D (ix2 (row t r) ⟨t.val % 4 * 1536 + l.val, by omega⟩) := by
  rw [← host_d m c h0]
  blk_ext [iblk, idx t, row]

include h0 h1

/-- What a grid point adds to its tile: the product over the rows of its two devices. -/
theorem point (t : Fin cfg0.N) (r d : Fin 1024) :
    k0_pay1 (F := Ideal) (iblk m c 0 t) (View.ld (iblk m c 1 t) (Rect.unit ![0, 0, 0] ![1, 768, 1024] inb_S2x768x1024_S1x768x1024_0_0_0)) (View.ld (iblk m c 1 t) (Rect.unit ![1, 0, 0] ![1, 768, 1024] inb_S2x768x1024_S1x768x1024_1_0_0)) (ix2 r d)
      = ∑ l : Fin 1536, term D W (row t r) (col t d) ⟨t.val % 4 * 1536 + l.val, by omega⟩ := by
  pointwise [k0_pay1]
  refine Eq.trans ?_ (Fin.sum_mul_add_congr (M := EReal) (S := 2) (n := 768) (f := fun l : Fin 1536 => term D W (row t r) (col t d) ⟨t.val % 4 * 1536 + l.val, by omega⟩)
    (F := fun q l => term D W (row t r) (col t d) ⟨t.val % 4 * 1536 + (q.val * 768 + l.val), by omega⟩) fun q l hl => rfl)
  rw [Fin.sum_univ_two]
  refine congrArg₂ _ (Finset.sum_congr rfl fun k _ => congrArg₂ (fun a b : EReal => a * b) ?_ ?_) (Finset.sum_congr rfl fun k _ => congrArg₂ (fun a b : EReal => a * b) ?_ ?_)
  · refine Eq.trans ?_ (block m c h0 t r ⟨0 * 768 + k.val, by omega⟩)
    blk_ext []
  · refine Eq.trans ?_ ((weight m c h1 t 0 k d).trans (congrArg (gathered W) (congr (congrArg₂ ix3 (Fin.ext ?_) (Fin.ext ?_)) rfl)))
    · blk_ext []
    · show t.val % 4 * 2 + 0 = (t.val % 4 * 1536 + (0 * 768 + k.val)) / 768
      omega
    · show k.val = (t.val % 4 * 1536 + (0 * 768 + k.val)) % 768
      omega
  · refine Eq.trans ?_ (block m c h0 t r ⟨1 * 768 + k.val, by omega⟩)
    blk_ext []
  · refine Eq.trans ?_ ((weight m c h1 t 1 k d).trans (congrArg (gathered W) (congr (congrArg₂ ix3 (Fin.ext ?_) (Fin.ext ?_)) rfl)))
    · blk_ext []
    · show t.val % 4 * 2 + 1 = (t.val % 4 * 1536 + (1 * 768 + k.val)) / 768
      omega
    · show k.val = (t.val % 4 * 1536 + (1 * 768 + k.val)) % 768
      omega

/-- The kernel's array after the region. -/
theorem final : (dats m 0 c).arrAt 2 cfg0.N = grad D W := by
  refine (dats m 0 c).arrAt_eq_of_covers 2 _ (by decide +kernel) fun t hf (y : S1024x1024.Idx) => ?_
  have ht := (flush0_2 t).mp hf
  obtain ⟨r, d, rfl⟩ : ∃ (r d : Fin 1024), y = ix2 r d := ⟨_, _, eq_ix2 y⟩
  have hr : ((cfg0.win 2).blk t).view.emb (ix2 r d) = ix2 (row t r) (col t d) := by blk_ext [idx t, row, col]
  rw [hr, ← padded_sum]
  have hc : ∀ i, (outsAt0 m c t.val t.isLt).1 i = (outsAt0 m c t.val t.isLt).2 i := fun i => by
    rw [outsAt0_C m c t (by omega) (by omega) ht]
    frame_out
  blk_simp
  rw [after0_2]
  rw [hc, Pipeline.eq_sum_fin_of_reset_step_apply_of_flush (fun n h => (outsAt0 m c n h).2) 4 (fun _ => 0)
    (fun t y => k0_pay1 (F := Ideal) (iblk m c 0 t) (View.ld (iblk m c 1 t) (Rect.unit ![0, 0, 0] ![1, 768, 1024] inb_S2x768x1024_S1x768x1024_0_0_0)) (View.ld (iblk m c 1 t) (Rect.unit ![1, 0, 0] ![1, 768, 1024] inb_S2x768x1024_S1x768x1024_1_0_0)) y)
    (fun t h j => by rw [outsAt0_A m c t h (by omega) (by omega)]; frame_out; pointwise [k0_pay2]; rfl)
    (fun t h j => by
      by_cases h3 : t.val % 4 = 3
      · rw [outsAt0_C m c t h (by omega) h3]; frame_out; pointwise [k0_pay3]; rw [read_unread_whole]; rfl
      · rw [outsAt0_B m c t h (by omega) h3]; frame_out; pointwise [k0_pay3]; rw [read_unread_whole]; rfl)
    t ht _, zero_add]
  simp only [point m c h0 h1]
  refine Eq.trans (α := EReal) (Finset.sum_congr (M := EReal) rfl fun s _ => ?_) (Fin.sum_mul_add_congr (M := EReal) (S := 4) (n := 1536) (f := fun k : Fin 6144 => term D W (row t r) (col t d) k) (F := fun s l => term D W (row t r) (col t d) ⟨s.val * 1536 + l.val, by omega⟩) fun s l hl => rfl)
  obtain ⟨hrow, hcol, hs⟩ := run_point t s (Pipeline.run_point_lt_of_flush t ht s)
  simp only [hrow, hcol, hs]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v9) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference25Ideal := fun m g _ =>
  (θ_run Cert.Reference25Ideal.defs _ _).mono (fun r h => ⟨fun c => (h c).2, sem_eq_zero_of_no_sems (by decide) r.2⟩) (Cert.Reference25Ideal.Value.run m g)

/-- The kernel computes the reference's gradient. -/
theorem algebraic : Cert.algebraic_Kernel25Ideal_Reference25Ideal := by
  intro m g m' g' _ harg
  refine ⟨fun c => grad (m ((c : Thread nD τ).loc main_arg0)) (m ((c : Thread nD τ).loc main_arg1)), run m g,
    (θ_run Cert.Reference25Ideal.defs _ _).mono (fun r h c => ⟨(h c).1.trans ?_, (h c).2⟩) (Cert.Reference25Ideal.Value.run m' g')⟩
  rw [(harg c).1, (harg c).2]
  rfl

end Cert.MixerIn.Dx

end
-- ==== Proof.XReal.lean ====
module

public import Mathlib.Data.EReal.Operations
public import Mathlib.Data.EReal.Inv
public import Mathlib.Analysis.SpecialFunctions.Exp
public import Idealize.ShloMosaic.PureOps.Ideal

@[expose] public section

noncomputable section

/-! Finite extended reals: sums, quotients and maxima of them are finite, and the softmax gradient over the reals. -/

namespace Cert.RealLaws

open Idealize.ShloMosaic

/-- A finite sum of reals read as extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_real {x y : ℝ} (h : y ≠ 0) : Ideal.div (x : EReal) (y : EReal) = ((x / y : ℝ) : EReal) := by
  rw [Ideal.div_coe h, ← EReal.coe_mul, mul_one_div]

/-- The maximum of finitely many reals, at least one, is a real. -/
theorem fold_max_real {ι : Type} (s : Finset ι) (hs : s.Nonempty) (f : ι → ℝ) :
    ∃ M : ℝ, Finset.fold max (⊥ : EReal) (fun i => (f i : EReal)) s = (M : EReal) := by
  classical
  induction hs using Finset.Nonempty.cons_induction with
  | singleton a => exact ⟨f a, by rw [Finset.fold_singleton]; exact max_bot_right _⟩
  | cons a s ha _ ih =>
    obtain ⟨M, hM⟩ := ih
    exact ⟨max (f a) M, by rw [Finset.fold_cons, hM]; exact (EReal.coe_strictMono.monotone.map_max).symm⟩

/-- An extended real whose absolute value is below the upper infinity is a real. -/
theorem real_of_abs_lt {x : EReal} (h : ¬ ⊤ ≤ max x (-x)) : ∃ r : ℝ, x = (r : EReal) := by
  induction x using EReal.rec with
  | bot => simp at h
  | top => simp at h
  | coe r => exact ⟨r, rfl⟩

/-- The softmax weights do not depend on the number taken off every score. -/
theorem softmax_shift {n : ℕ} (s : Fin n → ℝ) (M : ℝ) (m : Fin n) :
    Real.exp (s m - M) / ∑ j, Real.exp (s j - M) = Real.exp (s m) / ∑ j, Real.exp (s j) := by
  have h : ∀ j, Real.exp (s j - M) = Real.exp (s j) * (Real.exp M)⁻¹ := fun j => by
    rw [Real.exp_sub, div_eq_mul_inv]
  simp only [h, ← Finset.sum_mul]
  exact mul_div_mul_right _ _ (inv_ne_zero (Real.exp_ne_zero M))

/-- The shape of the softmax's cotangent that differentiates the quotient, in the weights. -/
theorem dscore_law {n : ℕ} (s g : Fin n → ℝ) (M : ℝ) (m : Fin n) :
    (g m / (∑ j, Real.exp (s j - M)) + -∑ j, g j * (1 / ((∑ j, Real.exp (s j - M)) * ∑ j, Real.exp (s j - M))) * Real.exp (s j - M))
        * Real.exp (s m - M)
      = Real.exp (s m) / (∑ j, Real.exp (s j)) * (g m - ∑ j, Real.exp (s j) / (∑ j, Real.exp (s j)) * g j) := by
  have hs : ∀ j, Real.exp (s j) / (∑ j, Real.exp (s j)) = Real.exp (s j - M) / ∑ j, Real.exp (s j - M) :=
    fun j => (softmax_shift s M j).symm
  simp only [hs]
  generalize (∑ j, Real.exp (s j - M)) = Z
  have hsum : ∑ j, g j * (1 / (Z * Z)) * Real.exp (s j - M) = (∑ j, Real.exp (s j - M) / Z * g j) / Z := by
    rw [Finset.sum_div]
    refine Finset.sum_congr rfl fun j _ => ?_
    rw [one_div, mul_inv]; ring
  rw [hsum]; ring

theorem exp_sum_ne {n : ℕ} (s : Fin (n + 1) → ℝ) : ∑ j, Real.exp (s j) ≠ 0 :=
  (Finset.sum_pos (fun j _ => Real.exp_pos _) Finset.univ_nonempty).ne'

end Cert.RealLaws

namespace Cert.XAttn

open Idealize.ShloMosaic

theorem ninf : Ideal.ofBits FTy.f32 0xFF800000#32 = (⊥ : EReal) := by
  simp [Ideal.ofBits, Ideal.ieee]

/-- The scale: what the constant's bits denote. -/
def scale : ℝ := (Ideal.ofBits FTy.f32 0x3D3504F3#32 : EReal).toReal

theorem scale_eq : Ideal.ofBits FTy.f32 0x3D3504F3#32 = (scale : EReal) := by
  have h : ∃ r : ℝ, Ideal.ofBits FTy.f32 0x3D3504F3#32 = (r : EReal) := by
    simp [Ideal.ofBits, Ideal.ieee]
    exact ⟨_, rfl⟩
  obtain ⟨r, hr⟩ := h
  unfold scale
  rw [hr]
  rfl

end Cert.XAttn

/-! The gradient of the cross-attention over the reals: `q` are the queries [2048, 2048], `k` and `v` the keys and values
    [256, 2048], `g` the cotangent of the output [2048, 2048]; head `h` has the columns 512·h to 512·h + 511; `c` is the scale. -/

namespace Cert.XAttn

/-- Column `d` of head `h`. -/
def hc (h : Fin 4) (d : Fin 512) : Fin 2048 := ⟨h.val * 512 + d.val, by omega⟩

theorem hc_div (h : Fin 4) (d : Fin 512) (hh : (hc h d).val / 512 < 4) : (⟨(hc h d).val / 512, hh⟩ : Fin 4) = h := by
  apply Fin.ext
  show (h.val * 512 + d.val) / 512 = h.val
  omega

variable (c : ℝ) (q : Fin 2048 → Fin 2048 → ℝ) (k v : Fin 256 → Fin 2048 → ℝ) (g : Fin 2048 → Fin 2048 → ℝ)

/-- The score of query `t` against key `m`. -/
def sc (h : Fin 4) (t : Fin 2048) (m : Fin 256) : ℝ := (∑ d, q t (hc h d) * k m (hc h d)) * c
/-- The weight of key `m` for query `t`. -/
def pr (h : Fin 4) (t : Fin 2048) (m : Fin 256) : ℝ := Real.exp (sc c q k h t m) / ∑ j, Real.exp (sc c q k h t j)
/-- The weight's cotangent. -/
def dp (h : Fin 4) (t : Fin 2048) (m : Fin 256) : ℝ := ∑ d, g t (hc h d) * v m (hc h d)
/-- The score's cotangent. -/
def ds (h : Fin 4) (t : Fin 2048) (m : Fin 256) : ℝ :=
  pr c q k h t m * (dp v g h t m - ∑ j, pr c q k h t j * dp v g h t j)
/-- The query's cotangent. -/
def dq (h : Fin 4) (t : Fin 2048) (d : Fin 512) : ℝ := (∑ m, ds c q k v g h t m * k m (hc h d)) * c
/-- The key's cotangent. -/
def dk (h : Fin 4) (m : Fin 256) (d : Fin 512) : ℝ := (∑ t, ds c q k v g h t m * q t (hc h d)) * c
/-- The value's cotangent. -/
def dv (h : Fin 4) (m : Fin 256) (d : Fin 512) : ℝ := ∑ t, pr c q k h t m * g t (hc h d)

/-- The row sums of the cotangent against the output are the row sums of the weights against their cotangents. -/
theorem delta_law (h : Fin 4) (t : Fin 2048) (o : Fin 512 → ℝ) (ho : ∀ d, o d = ∑ m, v m (hc h d) * pr c q k h t m) :
    ∑ d, g t (hc h d) * o d = ∑ j, pr c q k h t j * dp v g h t j := by
  simp only [ho, dp, Finset.mul_sum]
  rw [Finset.sum_comm]
  refine Finset.sum_congr rfl fun j _ => Finset.sum_congr rfl fun d _ => ?_
  ring

end Cert.XAttn

end
-- ==== Proof.XRef.lean ====
module

public import proofs.«01_k».proof.Proof.Gen.ReferenceIdeal.Run
public import Idealize.ShloMosaic.Lib.Pipeline.ValueKit
public import Idealize.ShloMosaic.Lib.IdealHost
public import proofs.«01_k».proof.Proof.XReal

@[expose] public section

set_option maxRecDepth 16384

noncomputable section

namespace Cert.XAttn.Ref

open Cert.ReferenceIdeal Cert.ReferenceIdeal.Gen Idealize.ShloMosaic Idealize.ShloMosaic.TcCoe Idealize.SL.Sem

/-- The scores: the product of queries and keys of each head, times the scale. -/
def score (q : FVec Ideal S2048x2048 .f32) (k : FVec Ideal S256x2048 .f32) : FVec Ideal S4x2048x256 .f32 :=
  mulf (Host.dotGeneral dot_S2048x4x512_S256x4x512_S4x2048x256_2_2_0_0_1_1 none (shapeCast _ q shapeCasts_S2048x2048_S2048x4x512) (shapeCast _ k shapeCasts_S256x2048_S256x4x512)) (broadcastInDim S4x2048x256 ![] bcast_S_S4x2048x256 (constant S_ .f32 0x3D3504F3#32))

/-- The maximum of the scores along each row. -/
def rowmax (s : FVec Ideal S4x2048x256 .f32) : FVec Ideal S4x2048 .f32 :=
  Host.reduce FloatOps.maximumf s (constant S_ .f32 0xFF800000#32) reducesTo_S4x2048x256_S4x2048_d2 h_S_

/-- The exponentials of the scores less a number for each row. -/
def expo (s : FVec Ideal S4x2048x256 .f32) (mx : FVec Ideal S4x2048 .f32) : FVec Ideal S4x2048x256 .f32 :=
  Host.exp (subf s (broadcastInDim S4x2048x256 ![0, 1, 2] bcast_S4x2048x1_S4x2048x256_0_1_2 (broadcastInDim S4x2048x1 ![0, 1] bcast_S4x2048_S4x2048x1_0_1 (maximumf (broadcastInDim S4x2048 ![] bcast_S_S4x2048 (constant S_ .f32 0xFF800000#32)) mx))))

/-- The exponentials' sum along each row. -/
def norm (e : FVec Ideal S4x2048x256 .f32) : FVec Ideal S4x2048x1 .f32 :=
  broadcastInDim S4x2048x1 ![0, 1] bcast_S4x2048_S4x2048x1_0_1 (Host.reduceAdd e (constant S_ .f32 0x00000000#32) reducesTo_S4x2048x256_S4x2048_d2 h_S_)

/-- The cotangent of the weights: the cotangent of the output against the values. -/
def dprob (g : FVec Ideal S2048x2048 .f32) (v : FVec Ideal S256x2048 .f32) : FVec Ideal S4x2048x256 .f32 :=
  Host.dotGeneral dot_S4x512x2048_S256x4x512_S4x2048x256_1_2_2_0_0_1 none (transpose S4x512x2048 [1, 2, 0] (shapeCast _ g shapeCasts_S2048x2048_S2048x4x512) transposes_S2048x4x512_S4x512x2048_1_2_0) (shapeCast _ v shapeCasts_S256x2048_S256x4x512)

/-- The cotangent of the scores before the scale, from the cotangent of the weights, the exponentials and their sum. -/
def dscore (p : FVec Ideal S4x2048x256 .f32) (e : FVec Ideal S4x2048x256 .f32) (z : FVec Ideal S4x2048x1 .f32) : FVec Ideal S4x2048x256 .f32 :=
  mulf (mulf (addf (Host.divf p (broadcastInDim S4x2048x256 ![0, 1, 2] bcast_S4x2048x1_S4x2048x256_0_1_2 z)) (broadcastInDim S4x2048x256 ![0, 1] bcast_S4x2048_S4x2048x256_0_1 (Host.reduceAdd (Host.negf (shapeCast _ (Host.reduceAdd (mulf (mulf p (broadcastInDim S4x2048x256 ![0, 1, 2] bcast_S4x2048x1_S4x2048x256_0_1_2 (Host.divf (broadcastInDim S4x2048x1 ![] bcast_S_S4x2048x1 (constant S_ .f32 0x3F800000#32)) (mulf z z)))) e) (constant S_ .f32 0x00000000#32) reducesTo_S4x2048x256_S4x2048_d2 h_S_) shapeCasts_S4x2048_S4x2048x1)) (constant S_ .f32 0x00000000#32) reducesTo_S4x2048x1_S4x2048_d2 h_S_))) e) (broadcastInDim S4x2048x256 ![] bcast_S_S4x2048x256 (constant S_ .f32 0x3D3504F3#32))

/-- The query's cotangent, from the score's. -/
def gq (d : FVec Ideal S4x2048x256 .f32) (k : FVec Ideal S256x2048 .f32) : FVec Ideal S2048x2048 .f32 :=
  shapeCast _ (transpose S2048x4x512 [1, 0, 2] (Host.dotGeneral dot_S4x2048x256_S256x4x512_S4x2048x512_2_0_1_2_0_1 none d (shapeCast _ k shapeCasts_S256x2048_S256x4x512)) transposes_S4x2048x512_S2048x4x512_1_0_2) shapeCasts_S2048x4x512_S2048x2048

/-- The key's cotangent, from the score's. -/
def gk (d : FVec Ideal S4x2048x256 .f32) (q : FVec Ideal S2048x2048 .f32) : FVec Ideal S256x2048 .f32 :=
  shapeCast _ (transpose S256x4x512 [1, 0, 2] (Host.dotGeneral dot_S4x2048x256_S2048x4x512_S4x256x512_1_0_2_2_0_1 none d (shapeCast _ q shapeCasts_S2048x2048_S2048x4x512)) transposes_S4x256x512_S256x4x512_1_0_2) shapeCasts_S256x4x512_S256x2048

/-- The value's cotangent, from the exponentials and their sum. -/
def gv (e : FVec Ideal S4x2048x256 .f32) (z : FVec Ideal S4x2048x1 .f32) (g : FVec Ideal S2048x2048 .f32) : FVec Ideal S256x2048 .f32 :=
  shapeCast _ (transpose S256x4x512 [2, 0, 1] (Host.dotGeneral dot_S4x512x2048_S4x2048x256_S4x512x256_2_1_1_2_0_0 none (transpose S4x512x2048 [1, 2, 0] (shapeCast _ g shapeCasts_S2048x2048_S2048x4x512) transposes_S2048x4x512_S4x512x2048_1_2_0) (Host.divf e (broadcastInDim S4x2048x256 ![0, 1, 2] bcast_S4x2048x1_S4x2048x256_0_1_2 z))) transposes_S4x512x256_S256x4x512_2_0_1) shapeCasts_S256x4x512_S256x2048

/-- The output, from the exponentials and their sum. -/
def out (e : FVec Ideal S4x2048x256 .f32) (z : FVec Ideal S4x2048x1 .f32) (v : FVec Ideal S256x2048 .f32) : FVec Ideal S2048x2048 .f32 :=
  shapeCast _ (transpose S2048x4x512 [2, 0, 1] (Host.dotGeneral dot_S256x4x512_S4x2048x256_S4x512x2048_0_2_2_1_1_0 none (shapeCast _ v shapeCasts_S256x2048_S256x4x512) (Host.divf e (broadcastInDim S4x2048x256 ![0, 1, 2] bcast_S4x2048x1_S4x2048x256_0_1_2 z))) transposes_S4x512x2048_S2048x4x512_2_0_1) shapeCasts_S2048x4x512_S2048x2048

/-! ### The pieces over the reals -/

theorem rowmax_real (s : S4x2048x256.Idx → ℝ) (h : Fin 4) (t : Fin 2048) :
    ∃ M : ℝ, rowmax (fun i => (s i : EReal)) (ix2 h t) = (M : EReal) := by
  unfold rowmax
  rw [Host.reduce_eq_fold]
  have hb : constant (F := Ideal) S_ .f32 0xFF800000#32 (Shape.Idx.first h_S_) = (⊥ : EReal) := ninf
  rw [hb]
  refine RealLaws.fold_max_real _ ⟨ix3 h t 0, ?_⟩ s
  rw [Finset.mem_filter]
  refine ⟨Finset.mem_univ _, ?_⟩
  funext a
  apply Fin.ext
  revert a
  refine Fin.forall_fin_two.mpr ⟨?_, ?_⟩
  · exact reducesTo_S4x2048x256_S4x2048_d2.drop_apply_val_of_eq (ix3 h t 0) 0 0
  · exact reducesTo_S4x2048x256_S4x2048_d2.drop_apply_val_of_eq (ix3 h t 0) 1 1

section
variable {q : Fin 2048 → Fin 2048 → ℝ} {k v : Fin 256 → Fin 2048 → ℝ} {g : Fin 2048 → Fin 2048 → ℝ}
variable {Q G : FVec Ideal S2048x2048 .f32} {K V : FVec Ideal S256x2048 .f32}
variable (hQ : ∀ a b, Q (ix2 a b) = (q a b : EReal)) (hK : ∀ a b, K (ix2 a b) = (k a b : EReal))
variable (hV : ∀ a b, V (ix2 a b) = (v a b : EReal)) (hG : ∀ a b, G (ix2 a b) = (g a b : EReal))

include hQ hK in
theorem score_at (h : Fin 4) (t : Fin 2048) (m : Fin 256) : score Q K (ix3 h t m) = (sc scale q k h t m : EReal) := by
  pointwise [score]
  simp only [hQ, hK, scale_eq, ← EReal.coe_mul, RealLaws.coe_sum]
  rfl

theorem expo_apply (s : FVec Ideal S4x2048x256 .f32) (mx : FVec Ideal S4x2048 .f32) (h : Fin 4) (t : Fin 2048) (m : Fin 256) :
    expo s mx (ix3 h t m) = Ideal.exp (s (ix3 h t m) - mx (ix2 h t)) := by
  pointwise [expo]
  rw [ninf, max_eq_right bot_le]

include hQ hK in
theorem expo_at : ∃ M : Fin 4 → Fin 2048 → ℝ, ∀ h t m,
    expo (score Q K) (rowmax (score Q K)) (ix3 h t m) = (Real.exp (sc scale q k h t m - M h t) : EReal) := by
  have hs : score Q K = fun i => ((sc scale q k (i 0) (i 1) (i 2) : ℝ) : EReal) := by
    funext i; idx_vars i; exact score_at hQ hK _ _ _
  choose M hM using rowmax_real fun i => sc scale q k (i 0) (i 1) (i 2)
  refine ⟨M, fun h t m => ?_⟩
  rw [← hs] at hM
  rw [expo_apply, hM, score_at hQ hK, ← EReal.coe_sub]
  rfl

theorem norm_at {e : FVec Ideal S4x2048x256 .f32} {x : Fin 4 → Fin 2048 → Fin 256 → ℝ} (he : ∀ h t m, e (ix3 h t m) = (x h t m : EReal))
    (h : Fin 4) (t : Fin 2048) : norm e (ix3 h t 0) = ((∑ m, x h t m : ℝ) : EReal) := by
  pointwise [norm]
  simp only [he, RealLaws.coe_sum]

include hV hG in
theorem dprob_at (h : Fin 4) (t : Fin 2048) (m : Fin 256) : dprob G V (ix3 h t m) = (dp v g h t m : EReal) := by
  pointwise [dprob]
  simp only [hV, hG, ← EReal.coe_mul, RealLaws.coe_sum]
  rfl

include hQ hK hV hG in
theorem dscore_at (h : Fin 4) (t : Fin 2048) (m : Fin 256) :
    dscore (dprob G V) (expo (score Q K) (rowmax (score Q K))) (norm (expo (score Q K) (rowmax (score Q K)))) (ix3 h t m)
      = ((ds scale q k v g h t m * scale : ℝ) : EReal) := by
  obtain ⟨M, hM⟩ := expo_at hQ hK
  have hZ := RealLaws.exp_sum_ne fun m : Fin 256 => sc scale q k h t m - M h t
  pointwise [dscore]
  simp only [dprob_at hV hG, hM, norm_at hM, scale_eq, ← EReal.coe_one, ← EReal.coe_mul, RealLaws.div_real hZ, RealLaws.div_real (mul_ne_zero hZ hZ),
    RealLaws.coe_sum, ← EReal.coe_neg, ← EReal.coe_add]
  rw [Fin.sum_univ_one, RealLaws.dscore_law]
  rfl

include hQ hK hV hG in
theorem gq_at (h : Fin 4) (t : Fin 2048) (d : Fin 512) :
    gq (dscore (dprob G V) (expo (score Q K) (rowmax (score Q K))) (norm (expo (score Q K) (rowmax (score Q K))))) K (ix2 t (hc h d))
      = (dq scale q k v g h t d : EReal) := by
  have := dscore_at hQ hK hV hG
  generalize dscore _ _ _ = D at *
  pointwise [gq]
  simp only [hc_div, this, hK, ← EReal.coe_mul, RealLaws.coe_sum]
  rw [dq, Finset.sum_mul]
  simp only [mul_right_comm _ scale]

include hQ hK hV hG in
theorem gk_at (h : Fin 4) (m : Fin 256) (d : Fin 512) :
    gk (dscore (dprob G V) (expo (score Q K) (rowmax (score Q K))) (norm (expo (score Q K) (rowmax (score Q K))))) Q (ix2 m (hc h d))
      = (dk scale q k v g h m d : EReal) := by
  have := dscore_at hQ hK hV hG
  generalize dscore _ _ _ = D at *
  pointwise [gk]
  simp only [hc_div, this, hQ, ← EReal.coe_mul, RealLaws.coe_sum]
  rw [dk, Finset.sum_mul]
  simp only [mul_right_comm _ scale]

include hQ hK hV in
theorem out_at (h : Fin 4) (t : Fin 2048) (d : Fin 512) :
    out (expo (score Q K) (rowmax (score Q K))) (norm (expo (score Q K) (rowmax (score Q K)))) V (ix2 t (hc h d))
      = ((∑ m, v m (hc h d) * pr scale q k h t m : ℝ) : EReal) := by
  obtain ⟨M, hM⟩ := expo_at hQ hK
  have hZ := fun t => RealLaws.exp_sum_ne fun m : Fin 256 => sc scale q k h t m - M h t
  pointwise [out]
  simp only [hc_div, hM, norm_at hM, hV, RealLaws.div_real (hZ _), ← EReal.coe_mul, RealLaws.coe_sum, RealLaws.softmax_shift]
  rfl

include hQ hK hG in
theorem gv_at (h : Fin 4) (m : Fin 256) (d : Fin 512) :
    gv (expo (score Q K) (rowmax (score Q K))) (norm (expo (score Q K) (rowmax (score Q K)))) G (ix2 m (hc h d))
      = (dv scale q k g h m d : EReal) := by
  obtain ⟨M, hM⟩ := expo_at hQ hK
  have hZ := fun t => RealLaws.exp_sum_ne fun m : Fin 256 => sc scale q k h t m - M h t
  pointwise [gv]
  simp only [hc_div, hM, norm_at hM, hG, RealLaws.div_real (hZ _), ← EReal.coe_mul, RealLaws.coe_sum, RealLaws.softmax_shift]
  simp only [mul_comm (g _ _)]
  rfl

end

section
variable (m : (ℓ : Loc nD τ sig) → Buf (Elt Ideal) ℓ) (c : Dev nD)

/-- The gradients of the queries, keys and values. -/
abbrev dQ (Q : FVec Ideal S2048x2048 .f32) (K V : FVec Ideal S256x2048 .f32) (G : FVec Ideal S2048x2048 .f32) : FVec Ideal S2048x2048 .f32 :=
  gq (dscore (dprob G V) (expo (score Q K) (rowmax (score Q K))) (norm (expo (score Q K) (rowmax (score Q K))))) K
abbrev dK (Q : FVec Ideal S2048x2048 .f32) (K V : FVec Ideal S256x2048 .f32) (G : FVec Ideal S2048x2048 .f32) : FVec Ideal S256x2048 .f32 :=
  gk (dscore (dprob G V) (expo (score Q K) (rowmax (score Q K))) (norm (expo (score Q K) (rowmax (score Q K))))) Q
abbrev dV (Q : FVec Ideal S2048x2048 .f32) (K : FVec Ideal S256x2048 .f32) (G : FVec Ideal S2048x2048 .f32) : FVec Ideal S256x2048 .f32 :=
  gv (expo (score Q K) (rowmax (score Q K))) (norm (expo (score Q K) (rowmax (score Q K)))) G

/-- The reference's first result, in the pieces above. -/
theorem res0 {Q G : FVec Ideal S2048x2048 .f32} {K V : FVec Ideal S256x2048 .f32}
    (h0 : m ((c.tc : Thread nD τ).loc main_arg0) = Q) (h1 : m ((c.tc : Thread nD τ).loc main_arg1) = K)
    (h2 : m ((c.tc : Thread nD τ).loc main_arg2) = V) (h3 : m ((c.tc : Thread nD τ).loc main_arg3) = G) :
    Value.res_out0 m c = gq (dscore (dprob G V) (expo (score Q K) (rowmax (score Q K))) (norm (expo (score Q K) (rowmax (score Q K))))) K := by
  subst h0 h1 h2 h3; rfl

/-- The reference's second result. -/
theorem res1 {Q G : FVec Ideal S2048x2048 .f32} {K V : FVec Ideal S256x2048 .f32}
    (h0 : m ((c.tc : Thread nD τ).loc main_arg0) = Q) (h1 : m ((c.tc : Thread nD τ).loc main_arg1) = K)
    (h2 : m ((c.tc : Thread nD τ).loc main_arg2) = V) (h3 : m ((c.tc : Thread nD τ).loc main_arg3) = G) :
    Value.res_out1 m c = gk (dscore (dprob G V) (expo (score Q K) (rowmax (score Q K))) (norm (expo (score Q K) (rowmax (score Q K))))) Q := by
  subst h0 h1 h2 h3; rfl

/-- The reference run, its results in the pieces above. -/
theorem run (ρ : Dev nD → PrngReg) (Q G : Dev nD → FVec Ideal S2048x2048 .f32) (K V : Dev nD → FVec Ideal S256x2048 .f32)
    (h0 : ∀ c : Dev nD, m ((c.tc : Thread nD τ).loc main_arg0) = Q c) (h1 : ∀ c : Dev nD, m ((c.tc : Thread nD τ).loc main_arg1) = K c)
    (h2 : ∀ c : Dev nD, m ((c.tc : Thread nD τ).loc main_arg2) = V c) (h3 : ∀ c : Dev nD, m ((c.tc : Thread nD τ).loc main_arg3) = G c) :
    θ_run defs (onTc (τ := τ) (main (F := Ideal))) ⟨m, fun _ => 0, ρ⟩ fun r => ∀ c : Dev nD,
      r.2.mem ((c.tc : Thread nD τ).loc main_v62) = gq (dscore (dprob (G c) (V c)) (expo (score (Q c) (K c)) (rowmax (score (Q c) (K c)))) (norm (expo (score (Q c) (K c)) (rowmax (score (Q c) (K c)))))) (K c)
      ∧ r.2.mem ((c.tc : Thread nD τ).loc main_v61) = gk (dscore (dprob (G c) (V c)) (expo (score (Q c) (K c)) (rowmax (score (Q c) (K c)))) (norm (expo (score (Q c) (K c)) (rowmax (score (Q c) (K c)))))) (Q c)
      ∧ r.2.mem ((c.tc : Thread nD τ).loc main_v60) = gv (expo (score (Q c) (K c)) (rowmax (score (Q c) (K c)))) (norm (expo (score (Q c) (K c)) (rowmax (score (Q c) (K c))))) (G c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
    obtain ⟨r0, r1, r2, r3⟩ := h c
    refine ⟨r0.trans (res0 m c (h0 c) (h1 c) (h2 c) (h3 c)), r1.trans (res1 m c (h0 c) (h1 c) (h2 c) (h3 c)), r2.trans ?_, r3⟩
    rw [← h0 c, ← h1 c, ← h3 c]
    rfl) (Value.run m ρ)

end

end Cert.XAttn.Ref

end
-- ==== Proof.XPay.lean ====
module

public import proofs.«01_k».proof.Proof.Gen.KernelIdeal.Value
public import Idealize.ShloMosaic.Lib.Pipeline.ValueKit
public import Idealize.ShloMosaic.Lib.IdealHost
public import proofs.«01_k».proof.Proof.XReal

@[expose] public section

set_option maxRecDepth 16384

noncomputable section

namespace Cert.XAttn.Pay

open Cert.KernelIdeal Cert.KernelIdeal.Gen Idealize.ShloMosaic Idealize.ShloMosaic.TcCoe Idealize.SL.Sem

variable {q : Fin 2048 → Fin 2048 → ℝ} {k v : Fin 256 → Fin 2048 → ℝ} {g : Fin 2048 → Fin 2048 → ℝ} {h : Fin 4} {ρ : Fin 512 → Fin 2048}

/-- What the body's blocks hold at head `h` and rows `ρ`. -/
structure Blocks (q : Fin 2048 → Fin 2048 → ℝ) (k v : Fin 256 → Fin 2048 → ℝ) (g : Fin 2048 → Fin 2048 → ℝ) (h : Fin 4) (ρ : Fin 512 → Fin 2048)
    (Q : FVec Ideal S512x512 .f32) (K V : FVec Ideal S256x512 .f32) (O G : FVec Ideal S512x512 .f32) : Prop where
  q_at : ∀ r d, Q (ix2 r d) = (q (ρ r) (hc h d) : EReal)
  k_at : ∀ m d, K (ix2 m d) = (k m (hc h d) : EReal)
  v_at : ∀ m d, V (ix2 m d) = (v m (hc h d) : EReal)
  o_at : ∀ r d, O (ix2 r d) = ((∑ m, v m (hc h d) * pr scale q k h (ρ r) m : ℝ) : EReal)
  g_at : ∀ r d, G (ix2 r d) = (g (ρ r) (hc h d) : EReal)

/-- A row of the weights, from its scores: the greatest score taken off, then the quotient by the sum. -/
theorem weight_real {n : ℕ} (s : Fin (n + 1) → ℝ) (m : Fin (n + 1)) :
    Ideal.exp ((s m : EReal) - Finset.fold max (⊥ : EReal) (fun j => (s j : EReal)) Finset.univ)
        * Ideal.div 1 (∑ i, Ideal.exp ((s i : EReal) - Finset.fold max (⊥ : EReal) (fun j => (s j : EReal)) Finset.univ))
      = ((Real.exp (s m) / ∑ j, Real.exp (s j) : ℝ) : EReal) := by
  obtain ⟨M, hM⟩ := RealLaws.fold_max_real Finset.univ Finset.univ_nonempty s
  have he : ∀ j, Ideal.exp ((s j : EReal) - (M : EReal)) = (Real.exp (s j - M) : EReal) := fun j => by rw [← EReal.coe_sub]; rfl
  rw [hM]
  simp only [he, RealLaws.coe_sum]
  rw [← EReal.coe_one, RealLaws.div_real (RealLaws.exp_sum_ne fun j => s j - M), ← EReal.coe_mul, mul_one_div, RealLaws.softmax_shift]

section
variable {Q : FVec Ideal S512x512 .f32} {K V : FVec Ideal S256x512 .f32} {O G : FVec Ideal S512x512 .f32} (B : Blocks q k v g h ρ Q K V O G)
include B

theorem pay1_at (m : Fin 256) (r : Fin 512) : k0_pay1 (F := Ideal) Q K (ix2 m r) = (pr scale q k h (ρ r) m : EReal) := by
  pointwise [k0_pay1]
  have hs : ∀ m, (∑ x, K (ix2 m x) * Q (ix2 r x)) * Ideal.ofBits FTy.f32 1026884851#32 = (sc scale q k h (ρ r) m : EReal) := fun m => by
    simp only [B.q_at, B.k_at, scale_eq, ← EReal.coe_mul, RealLaws.coe_sum, sc, mul_comm (k _ _)]
  simp only [hs, ninf]
  exact weight_real (fun m => sc scale q k h (ρ r) m) m

theorem pay11_at (r d : Fin 512) :
    k0_pay11 (F := Ideal) Q K V G O (ix2 r d) = (dq scale q k v g h (ρ r) d : EReal) := by
  pointwise [k0_pay11, k0_pay6, k0_pay7, k0_pay8, k0_pay9, k0_pay10]
  have hs : ∀ m, (∑ x, Q (ix2 r x) * K (ix2 m x)) * Ideal.ofBits FTy.f32 1026884851#32 = (sc scale q k h (ρ r) m : EReal) := fun m => by
    simp only [B.q_at, B.k_at, scale_eq, ← EReal.coe_mul, RealLaws.coe_sum, sc]
  have hw := weight_real fun m => sc scale q k h (ρ r) m
  simp only [hs, ninf]
  simp only [hw, B.g_at, B.v_at, B.o_at, B.k_at, scale_eq, ← EReal.coe_mul, RealLaws.coe_sum, ← EReal.coe_sub]
  rw [delta_law scale q k v g h (ρ r) _ fun d => rfl]
  rfl

theorem pay2_at (m : Fin 256) (d : Fin 512) :
    k0_pay2 (F := Ideal) Q K V (k0_pay9 G O) G (ix2 m d) = (((∑ r, ds scale q k v g h (ρ r) m * q (ρ r) (hc h d)) * scale : ℝ) : EReal) := by
  have hp := pay1_at B
  pointwise [k0_pay2, k0_pay9]
  simp only [hp, B.q_at, B.g_at, B.v_at, B.o_at, scale_eq, ← EReal.coe_mul, RealLaws.coe_sum, ← EReal.coe_sub, one_mul]
  have hd : ∀ r, ∑ d, v m (hc h d) * g (ρ r) (hc h d) = dp v g h (ρ r) m := fun r => Finset.sum_congr rfl fun d _ => mul_comm _ _
  simp only [fun r => delta_law scale q k v g h (ρ r) _ fun d => rfl, hd]
  rfl

theorem pay3_at (m : Fin 256) (d : Fin 512) :
    k0_pay3 (F := Ideal) Q K G (ix2 m d) = ((∑ r, pr scale q k h (ρ r) m * g (ρ r) (hc h d) : ℝ) : EReal) := by
  have hp := pay1_at B
  pointwise [k0_pay3]
  simp only [hp, B.g_at, ← EReal.coe_mul, RealLaws.coe_sum]

end

end Cert.XAttn.Pay
end
-- ==== Proof.XPre.lean ====
/- The precondition read: every element of every argument is a real number. -/
module

public import proofs.«01_k».proof.Proof.Gen.Pre_finite
public import proofs.«01_k».proof.Proof.XReal
public import Idealize.ShloMosaic.Lib.IdealHost
public import Idealize.ShloMosaic.Lib.ReduceAll

@[expose] public section

set_option maxRecDepth 16384

noncomputable section

namespace Cert.XAttn.Pre

open Cert.Pre_finite Cert.Pre_finite.Gen Idealize.ShloMosaic

theorem inf : Ideal.ofBits .f32 0x7F800000#32 = ⊤ := by
  simp [Ideal.ofBits, Ideal.ieee]

/-- An element of a matrix that compares, in absolute value, below the upper infinity is a real number. -/
theorem real_of_cmp {x y : EReal} (hy : y = Ideal.ofBits .f32 0x7F800000#32) (h : Ideal.cmp .olt (max x (-x)) y = 1#1) :
    ∃ r : ℝ, x = (r : EReal) := by
  refine RealLaws.real_of_abs_lt fun hle => ?_
  rw [hy, inf] at h
  simp [Ideal.cmp, not_lt.mpr hle] at h

instance : Subsingleton S_.Idx := ⟨fun a b => funext fun d => d.elim0⟩

/-- A conjunction of two bits that is one has two ones. -/
theorem and_one {x y : IVec S_ 1} {i : S_.Idx} (h : andi x y i = 1#1) : x i = 1#1 ∧ y i = 1#1 := by
  have h' : x i &&& y i = 1#1 := h
  generalize x i = a at h'
  generalize y i = b at h'
  revert h'
  revert a b
  decide

/-- The precondition, read. -/
theorem real (Q : FVec Ideal S2048x2048 .f32) (K V : FVec Ideal S256x2048 .f32) (G : FVec Ideal S2048x2048 .f32)
    (h : fn (F := Ideal) Q K V G = fun _ => 1#1) :
    (∀ i, ∃ r : ℝ, Q i = (r : EReal)) ∧ (∀ i, ∃ r : ℝ, K i = (r : EReal)) ∧ (∀ i, ∃ r : ℝ, V i = (r : EReal)) ∧ (∀ i, ∃ r : ℝ, G i = (r : EReal)) := by
  have h' := congrFun h (Shape.Idx.first h_S_)
  dsimp only [fn, fn_part1] at h'
  obtain ⟨h', hG⟩ := and_one h'
  obtain ⟨h', hV⟩ := and_one h'
  obtain ⟨hQ, hK⟩ := and_one h'
  exact ⟨fun i => real_of_cmp rfl (Host.reduce_andi_all _ _ _ _ _ hQ i), fun i => real_of_cmp rfl (Host.reduce_andi_all _ _ _ _ _ hK i),
    fun i => real_of_cmp rfl (Host.reduce_andi_all _ _ _ _ _ hV i), fun i => real_of_cmp rfl (Host.reduce_andi_all _ _ _ _ _ hG i)⟩

end Cert.XAttn.Pre

end
-- ==== Proof.M26.lean ====
/- The cross-attention's forward pass: a block of the output is written at its own grid point. -/
module

public import proofs.«01_k».proof.Defs
public import proofs.«01_k».proof.Proof.Gen.Kernel26Ideal.Frame
public import proofs.«01_k».proof.Proof.Gen.Reference26Ideal.Run
public import proofs.«01_k».proof.Proof.Gen.Pre_finite_scores
public import proofs.«01_k».proof.Proof.XRef
public import proofs.«01_k».proof.Proof.XPay
public import proofs.«01_k».proof.Proof.XPre
public import Idealize.ShloMosaic.Lib.Pipeline.Value
public import Idealize.ShloMosaic.Lib.Pipeline.ReadBack
public import Idealize.ShloMosaic.Lib.ReduceAll

@[expose] public section

set_option maxRecDepth 16384

noncomputable section

namespace Cert.XAttn.Forward

section
open Cert.Pre_finite_scores Cert.Pre_finite_scores.Gen Idealize.ShloMosaic

/-- The precondition, read: the queries and the keys are real numbers. -/
theorem real (Q : FVec Ideal S2048x2048 .f32) (K V : FVec Ideal S256x2048 .f32) (h : fn (F := Ideal) Q K V = fun _ => 1#1) :
    (∀ i, ∃ r : ℝ, Q i = (r : EReal)) ∧ (∀ i, ∃ r : ℝ, K i = (r : EReal)) := by
  have h' := congrFun h (Shape.Idx.first h_S_)
  dsimp only [fn] at h'
  obtain ⟨hQ, hK⟩ := Pre.and_one h'
  exact ⟨fun i => Pre.real_of_cmp rfl (Host.reduce_andi_all _ _ _ _ _ hQ i), fun i => Pre.real_of_cmp rfl (Host.reduce_andi_all _ _ _ _ _ hK i)⟩

end

open Cert.Kernel26Ideal Cert.Kernel26Ideal.Gen Idealize.ShloMosaic Idealize.ShloMosaic.TcCoe Idealize.SL.Sem
open Idealize.ShloMosaic.Pipeline (Dat)

/-- The reference's output. -/
def output (Q : FVec Ideal S2048x2048 .f32) (K V : FVec Ideal S256x2048 .f32) : FVec Ideal S2048x2048 .f32 :=
  Ref.out (Ref.expo (Ref.score Q K) (Ref.rowmax (Ref.score Q K))) (Ref.norm (Ref.expo (Ref.score Q K) (Ref.rowmax (Ref.score Q K)))) V

variable (m : (ℓ : Loc nD τ sig) → Buf (Elt Ideal) ℓ) (c : Dev nD)

/-- The windows' index maps: a query block is (row tile, head), a memory block is the head's columns. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] :=
  (by decide +kernel : ∀ t : Fin grid0.N, _)

/-- The head of a grid point. -/
def head (t : Fin cfg0.N) : Fin 4 := ⟨t.val / 4, by have h : t.val < 16 := t.isLt; omega⟩

/-- The array's row at row `r` of a grid point's tile. -/
def row (t : Fin cfg0.N) (r : Fin 512) : Fin 2048 := ⟨t.val % 4 * 512 + r.val, by omega⟩

variable {Q : FVec Ideal S2048x2048 .f32} {K V : FVec Ideal S256x2048 .f32}
    (h0 : m ((c : Thread nD τ).loc main_arg0) = Q) (h1 : m ((c : Thread nD τ).loc main_arg1) = K)
    (h2 : m ((c : Thread nD τ).loc main_arg2) = V)

include h0 in
theorem query_at (t : Fin cfg0.N) (r d : Fin 512) : iblk m c 0 t (ix2 r d) = Q (ix2 (row t r) (hc (head t) d)) := by
  subst h0; blk_ext [iblk, Gen.V, idx t, row, head, hc]

include h1 in
theorem key_at (t : Fin cfg0.N) (j : Fin 256) (d : Fin 512) : iblk m c 1 t (ix2 j d) = K (ix2 j (hc (head t) d)) := by
  subst h1; blk_ext [iblk, Gen.V, idx t, head, hc]

include h2 in
theorem value_at (t : Fin cfg0.N) (j : Fin 256) (d : Fin 512) : iblk m c 2 t (ix2 j d) = V (ix2 j (hc (head t) d)) := by
  subst h2; blk_ext [iblk, Gen.V, idx t, head, hc]

variable {q : Fin 2048 → Fin 2048 → ℝ} {k : Fin 256 → Fin 2048 → ℝ}
    (hQ : ∀ a b, Q (ix2 a b) = (q a b : EReal)) (hK : ∀ a b, K (ix2 a b) = (k a b : EReal))
include hQ hK

/-- The reference's output at an element: the weights against the values. -/
theorem output_at (h : Fin 4) (t : Fin 2048) (d : Fin 512) :
    output Q K V (ix2 t (hc h d)) = ∑ j, V (ix2 j (hc h d)) * (pr scale q k h t j : EReal) := by
  obtain ⟨M, hM⟩ := Ref.expo_at hQ hK
  have hZ := fun t => RealLaws.exp_sum_ne fun j : Fin 256 => sc scale q k h t j - M h t
  pointwise [output, Ref.out]
  simp only [hc_div, hM, Ref.norm_at hM, RealLaws.div_real (hZ _), RealLaws.softmax_shift]
  rfl

include h0 h1 h2

/-- What the kernel writes at a grid point. -/
theorem point (t : Fin cfg0.N) (r d : Fin 512) :
    out0_3 (F := Ideal) (iblk m c 0 t) (iblk m c 1 t) (iblk m c 2 t) (ix2 r d) = output Q K V (ix2 (row t r) (hc (head t) d)) := by
  rw [output_at hQ hK]
  frame_out [out0_3]
  pointwise [k0_pay1]
  simp only [query_at m c h0 t, key_at m c h1 t, value_at m c h2 t, hQ, hK]
  have hs : ∀ j, (∑ x, (q (row t r) (hc (head t) x) : EReal) * (k j (hc (head t) x) : EReal)) * Ideal.ofBits FTy.f32 1026884851#32 = (sc scale q k (head t) (row t r) j : EReal) := fun j => by
    simp only [scale_eq, ← EReal.coe_mul, RealLaws.coe_sum, sc]
  have hw := Pay.weight_real fun j => sc scale q k (head t) (row t r) j
  simp only [hs, ninf]
  exact Finset.sum_congr (M := EReal) rfl fun j _ => (congrArg (· * V (ix2 j (hc (head t) d))) (hw j)).trans (mul_comm (G := EReal) _ _)

/-- The kernel's array after the region. -/
theorem final : (dats m 0 c).arrAt 3 cfg0.N = output Q K V := by
  refine (dats m 0 c).arrAt_eq_of_covers 3 _ (by decide +kernel) fun t _ (y : S512x512.Idx) => ?_
  obtain ⟨r, d, rfl⟩ : ∃ (r d : Fin 512), y = ix2 r d := ⟨_, _, eq_ix2 y⟩
  have hr : ((cfg0.win 3).blk t).view.emb (ix2 r d) = ix2 (row t r) (hc (head t) d) := by blk_ext [idx t, row, head, hc]
  rw [hr, ← point m c h0 h1 h2 hQ hK t r d]
  blk_simp
  rw [after0_3]

omit h0 h1 h2 hQ hK

/-- The reference's run leaves its arguments and all counters as they were. -/
theorem reference_frame : Cert.quiescent_Reference26Ideal := fun m g _ =>
  (θ_run Cert.Reference26Ideal.defs _ _).mono (fun r h => ⟨fun c => (h c).2, sem_eq_zero_of_no_sems (by decide) r.2⟩) (Cert.Reference26Ideal.Value.run m g)

/-- The kernel computes the reference's output wherever queries and keys are real numbers. -/
theorem algebraic : Cert.algebraic_Kernel26Ideal_Reference26Ideal_pre_finite_scores := by
  intro m g m' g' hpre harg
  have hr := fun c => real _ _ _ (hpre c)
  choose hQ hK using hr
  choose q hQ using hQ
  choose k hK using hK
  refine ⟨fun c => output (m ((c : Thread nD τ).loc main_arg0)) (m ((c : Thread nD τ).loc main_arg1)) (m ((c : Thread nD τ).loc main_arg2)),
    (θ_run defs _ _).mono (fun r h c => ⟨((h.1 c).1 3).trans (final m c rfl rfl rfl (q := fun a b => q c (ix2 a b)) (k := fun a b => k c (ix2 a b)) (fun a b => hQ c _) (fun a b => hK c _)), h.2 c⟩)
      (θ_run_and (run_main m g) (unchanged m g)),
    (θ_run Cert.Reference26Ideal.defs _ _).mono (fun r h c => ⟨(h c).1.trans ?_, (h c).2⟩) (Cert.Reference26Ideal.Value.run m' g')⟩
  rw [(harg c).1, (harg c).2.1, (harg c).2.2]
  rfl

end Cert.XAttn.Forward

end
-- ==== Proof.M28.lean ====
/- The gradient of the gates' block-diagonal weights: one block at each grid point. -/
module

public import proofs.«01_k».proof.Defs
public import proofs.«01_k».proof.Proof.Gen.Kernel28Ideal.Frame
public import proofs.«01_k».proof.Proof.Gen.Reference28Ideal.Run
public import Idealize.ShloMosaic.Lib.Pipeline.Value
public import Idealize.ShloMosaic.Lib.Pipeline.ValueKit
public import Idealize.ShloMosaic.Lib.IdealHost

@[expose] public section

set_option maxRecDepth 16384

noncomputable section

namespace Cert.Gates.Dw

open Cert.Kernel28Ideal Cert.Kernel28Ideal.Gen Idealize.ShloMosaic Idealize.ShloMosaic.TcCoe Idealize.SL.Sem
open Idealize.ShloMosaic.Pipeline (Dat)

/-- The reference's gradient. -/
def grad (X Z : FVec Ideal S2048x512 .f32) : FVec Ideal S4x128x128 .f32 :=
  transpose S4x128x128 [0, 2, 1] (Host.dotGeneral Cert.Reference28Ideal.dot_S4x128x2048_S2048x4x128_S4x128x128_2_0_1_2_0_1 none
    (transpose Cert.Reference28Ideal.S4x128x2048 [1, 2, 0] (shapeCast _ Z Cert.Reference28Ideal.Gen.shapeCasts_S2048x512_S2048x4x128) Cert.Reference28Ideal.Gen.transposes_S2048x4x128_S4x128x2048_1_2_0)
    (shapeCast _ X Cert.Reference28Ideal.Gen.shapeCasts_S2048x512_S2048x4x128)) Cert.Reference28Ideal.Gen.transposes_S4x128x128_S4x128x128_0_2_1

/-- A channel of block `g`. -/
def chan (g : Fin 4) (i : Fin 128) : Fin 512 := ⟨g.val * 128 + i.val, by omega⟩

theorem grad_at (X Z : FVec Ideal S2048x512 .f32) (g : Fin 4) (i j : Fin 128) :
    grad X Z (ix3 g i j) = ∑ k : Fin 2048, X (ix2 k (chan g i)) * Z (ix2 k (chan g j)) := by
  pointwise [grad]
  exact Finset.sum_congr (M := EReal) rfl fun k _ => mul_comm (G := EReal) _ _

variable (m : (ℓ : Loc nD τ sig) → Buf (Elt Ideal) ℓ) (c : Dev nD)

/-- The windows' index maps: a point is a block. -/
theorem idx : ∀ t : Fin cfg0.N, win0_0.index t = ![t.val, 0] ∧ win0_1.index t = ![0, t.val] ∧ win0_2.index t = ![t.val, 0, 0] :=
  (by decide +kernel : ∀ t : Fin grid0.N, _)

/-- A grid point's block. -/
def block (t : Fin cfg0.N) : Fin 4 := ⟨t.val, t.isLt⟩

variable {X Z : FVec Ideal S2048x512 .f32}
    (h0 : m ((c : Thread nD τ).loc main_arg0) = X) (h1 : m ((c : Thread nD τ).loc main_arg1) = Z)

include h0 in
/-- The transposed activations that the region starts with. -/
theorem host_x (i : Fin 512) (k : Fin 2048) : Gen.V m c main_v1 (ix2 i k) = X (ix2 k i) := by
  have h : Gen.V m c main_v1 = (truncf .bf16 (transpose S512x2048 [1, 0] X transposes_S2048x512_S512x2048_1_0 : FVec Ideal S512x2048 .f32) bitsLt_bf16_f32 : FVec Ideal S512x2048 .bf16) := by
    subst h0
    change StableHlo.after hostOps0 (fun b => m (c, b)) (Proc.devRef .tc main_v1) = _
    simp only [hostOps0]
    after_results
  rw [h]
  pointwise

include h0 h1

/-- What the kernel writes at a grid point. -/
theorem point (t : Fin cfg0.N) (u : Fin 1) (i j : Fin 128) :
    out0_2 (F := Ideal) (iblk m c 0 t) (iblk m c 1 t) (ix3 u i j) = grad X Z (ix3 (block t) i j) := by
  rw [grad_at]
  frame_out [out0_2]
  pointwise [k0_pay1]
  refine Finset.sum_congr (M := EReal) rfl fun k _ => congrArg₂ _ ?_ ?_
  · refine Eq.trans ?_ (host_x m c h0 (chan (block t) i) k); blk_ext [iblk, idx t, chan, block]
  · subst h1; blk_ext [iblk, Gen.V, idx t, chan, block]

/-- The kernel's array after the region. -/
theorem final : (dats m 0 c).arrAt 2 cfg0.N = grad X Z := by
  refine (dats m 0 c).arrAt_eq_of_covers 2 _ (by decide +kernel) fun t _ (y : S1x128x128.Idx) => ?_
  obtain ⟨u, i, j, rfl⟩ : ∃ (u : Fin 1) (i j : Fin 128), y = ix3 u i j := ⟨_, _, _, eq_ix3 y⟩
  have hr : ((cfg0.win 2).blk t).view.emb (ix3 u i j) = ix3 (block t) i j := by blk_ext [idx t, block]
  rw [hr, ← point m c h0 h1 t u i j]
  blk_simp
  rw [after0_2]

omit h0 h1
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v2) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference28Ideal := fun m g _ =>
  (θ_run Cert.Reference28Ideal.defs _ _).mono (fun r h => ⟨fun c => (h c).2, sem_eq_zero_of_no_sems (by decide) r.2⟩) (Cert.Reference28Ideal.Value.run m g)

/-- The kernel computes the reference's gradient. -/
theorem algebraic : Cert.algebraic_Kernel28Ideal_Reference28Ideal := by
  intro m g m' g' _ harg
  refine ⟨fun c => grad (m ((c : Thread nD τ).loc main_arg0)) (m ((c : Thread nD τ).loc main_arg1)), run m g,
    (θ_run Cert.Reference28Ideal.defs _ _).mono (fun r h c => ⟨(h c).1.trans ?_, (h c).2⟩) (Cert.Reference28Ideal.Value.run m' g')⟩
  rw [(harg c).1, (harg c).2]
  rfl

end Cert.Gates.Dw

end
-- ==== Proof.M29Ref.lean ====
/- The gradient of the short convolution along the rows: the reference's values. -/
module

public import proofs.«01_k».proof.Defs
public import proofs.«01_k».proof.Proof.Gen.Reference29Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.Conv.Grad.Ref

open Cert.Reference29Ideal Cert.Reference29Ideal.Gen Idealize.ShloMosaic Idealize.ShloMosaic.TcCoe Idealize.SL.Sem

/-- Row `n + k` of an array, and row `n - k`; zeros where there is no such row. -/
def later (D : FVec Ideal S2048x512 .f32) (k : ℕ) (n : Fin 2048) (a : Fin 512) : EReal := if h : n.val + k < 2048 then D (ix2 (⟨n.val + k, h⟩ : Fin 2048) a) else 0
def earlier (D : FVec Ideal S2048x512 .f32) (k : ℕ) (n : Fin 2048) (a : Fin 512) : EReal := if h : k ≤ n.val then D (ix2 (⟨n.val - k, by omega⟩ : Fin 2048) a) else 0

/-- The cotangents times one row of the weights. -/
def term (D : FVec Ideal S2048x512 .f32) (w : FVec Ideal S1x512 .f32) : FVec Ideal S2048x512 .f32 :=
  mulf (shapeCast _ D shapeCasts_S2048x512_S2048x512) (broadcastInDim S2048x512 ![0, 1] bcast_S1x512_S2048x512_0_1 (broadcastInDim S1x512 ![1] bcast_S512_S1x512_1 (shapeCast _ w shapeCasts_S1x512_S512)))

/-- The input's gradient. -/
def dx (W : FVec Ideal S4x512 .f32) (D : FVec Ideal S2048x512 .f32) : FVec Ideal S2048x512 .f32 :=
  extractStridedSlice S2048x512 ![2, 0] (addf (addf (addf
    (pad S2051x512 ![3, 0] ![0, 0] ![0, 0] (term D (extractStridedSlice S1x512 ![3, 0] W slices_S4x512_S1x512_3_0)) (constant S_ .f32 0x00000000#32) pads_S2048x512_S2051x512_300_000 h_S_)
    (pad S2051x512 ![2, 0] ![1, 0] ![0, 0] (term D (extractStridedSlice S1x512 ![2, 0] W slices_S4x512_S1x512_2_0)) (constant S_ .f32 0x00000000#32) pads_S2048x512_S2051x512_210_000 h_S_))
    (pad S2051x512 ![1, 0] ![2, 0] ![0, 0] (term D (extractStridedSlice S1x512 ![1, 0] W slices_S4x512_S1x512_1_0)) (constant S_ .f32 0x00000000#32) pads_S2048x512_S2051x512_120_000 h_S_))
    (pad S2051x512 ![0, 0] ![3, 0] ![0, 0] (term D (extractStridedSlice S1x512 ![0, 0] W slices_S4x512_S1x512_0_0)) (constant S_ .f32 0x00000000#32) pads_S2048x512_S2051x512_030_000 h_S_))
    slices_S2051x512_S2048x512_2_0

theorem term_at (D : FVec Ideal S2048x512 .f32) (w : FVec Ideal S1x512 .f32) (n : Fin 2048) (a : Fin 512) :
    term D w (ix2 n a) = D (ix2 n a) * w (ix2 0 a) := by
  pointwise [term]

theorem dx_at (W : FVec Ideal S4x512 .f32) (D : FVec Ideal S2048x512 .f32) (n : Fin 2048) (a : Fin 512) :
    dx W D (ix2 n a) = HAdd.hAdd (α := EReal) (β := EReal) (γ := EReal) (earlier D 1 n a * W (ix2 3 a) + D (ix2 n a) * W (ix2 2 a) + later D 1 n a * W (ix2 1 a)) (later D 2 n a * W (ix2 0 a)) := by
  pointwise [dx]
  simp only [term_at]
  unfold earlier later
  have w3 : (extractStridedSlice S1x512 ![3, 0] W slices_S4x512_S1x512_3_0 : FVec Ideal S1x512 .f32) (ix2 0 a) = W (ix2 3 a) := by pointwise
  have w2 : (extractStridedSlice S1x512 ![2, 0] W slices_S4x512_S1x512_2_0 : FVec Ideal S1x512 .f32) (ix2 0 a) = W (ix2 2 a) := by pointwise
  have w1 : (extractStridedSlice S1x512 ![1, 0] W slices_S4x512_S1x512_1_0 : FVec Ideal S1x512 .f32) (ix2 0 a) = W (ix2 1 a) := by pointwise
  have w0 : (extractStridedSlice S1x512 ![0, 0] W slices_S4x512_S1x512_0_0 : FVec Ideal S1x512 .f32) (ix2 0 a) = W (ix2 0 a) := by pointwise
  rw [w3, w2, w1, w0]
  refine congrArg₂ _ (congrArg₂ _ (congrArg₂ _ ?_ rfl) ?_) ?_
  · by_cases h : 1 ≤ n.val
    · rw [dif_pos (by omega), dif_pos h]
      exact congrArg (fun k => D (ix2 k a) * W (ix2 3 a)) (Fin.ext (by show 2 + n.val - 3 = n.val - 1; omega))
    · rw [dif_neg (by omega), dif_neg h, zero_mul]
  · by_cases h : n.val + 1 < 2048
    · rw [dif_pos (by omega), dif_pos h]
      exact congrArg (fun k => D (ix2 k a) * W (ix2 1 a)) (Fin.ext (by show 2 + n.val - 1 = n.val + 1; omega))
    · rw [dif_neg (by omega), dif_neg h, zero_mul]
  · by_cases h : n.val + 2 < 2048
    · rw [dif_pos (by omega), dif_pos h]
      exact congrArg (fun k => D (ix2 k a) * W (ix2 0 a)) (Fin.ext (by show 2 + n.val = n.val + 2; omega))
    · rw [dif_neg (by omega), dif_neg h, zero_mul]

/-- The rows with zeros before and behind them. -/
def padded (X : FVec Ideal S2048x512 .f32) : FVec Ideal S2051x512 .f32 :=
  concatenate S2051x512 0 [⟨S2x512, ((broadcastInDim S2x512 ![] bcast_S_S2x512 (constant S_ .f32 0x00000000#32 : FVec Ideal S_ .f32)) : (⟨S2x512, .f32⟩ : BufTy).Contents (Elt Ideal))⟩, ⟨S2048x512, (X : (⟨S2048x512, .f32⟩ : BufTy).Contents (Elt Ideal))⟩, ⟨S1x512, ((broadcastInDim S1x512 ![] bcast_S_S1x512 (constant S_ .f32 0x00000000#32 : FVec Ideal S_ .f32)) : (⟨S1x512, .f32⟩ : BufTy).Contents (Elt Ideal))⟩] concatenates_S2x512_S2048x512_S1x512_S2051x512_d0

theorem padded_at (X : FVec Ideal S2048x512 .f32) (n : Fin 2051) (a : Fin 512) :
    padded X (ix2 n a) = if h : 2 ≤ n.val ∧ n.val < 2050 then X (ix2 (⟨n.val - 2, by omega⟩ : Fin 2048) a) else 0 := by
  pointwise [padded]
  by_cases h : n.val < 2
  · rw [dif_pos h, dif_neg (by omega)]
  · rw [dif_neg h]
    by_cases h' : n.val - 2 < 2048
    · rw [dif_pos h', dif_pos (by omega)]
    · rw [dif_neg h', dif_neg (by omega)]

/-- One row of the weights' gradient. -/
def row (P D : FVec Ideal S2048x512 .f32) : FVec Ideal S1x512 .f32 :=
  broadcastInDim S1x512 ![1] bcast_S512_S1x512_1 (Host.reduceAdd (shapeCast _ (Host.reduceAdd (mulf P (shapeCast _ D shapeCasts_S2048x512_S2048x512)) (constant S_ .f32 0x00000000#32) reducesTo_S2048x512_S512_d0 h_S_) shapeCasts_S512_S1x512) (constant S_ .f32 0x00000000#32) reducesTo_S1x512_S512_d0 h_S_)

theorem row_at (P D : FVec Ideal S2048x512 .f32) (a : Fin 512) : row P D (ix2 0 a) = ∑ n : Fin 2048, P (ix2 n a) * D (ix2 n a) := by
  pointwise [row]
  exact Fin.sum_univ_one (M := EReal) _

/-- The weights' gradient. -/
def dw (X D : FVec Ideal S2048x512 .f32) : FVec Ideal S4x512 .f32 :=
  addf (addf (addf
    (pad S4x512 ![3, 0] ![0, 0] ![0, 0] (row (extractStridedSlice S2048x512 ![3, 0] (padded X) slices_S2051x512_S2048x512_3_0) D) (constant S_ .f32 0x00000000#32) pads_S1x512_S4x512_300_000 h_S_)
    (pad S4x512 ![2, 0] ![1, 0] ![0, 0] (row (extractStridedSlice S2048x512 ![2, 0] (padded X) slices_S2051x512_S2048x512_2_0) D) (constant S_ .f32 0x00000000#32) pads_S1x512_S4x512_210_000 h_S_))
    (pad S4x512 ![1, 0] ![2, 0] ![0, 0] (row (extractStridedSlice S2048x512 ![1, 0] (padded X) slices_S2051x512_S2048x512_1_0) D) (constant S_ .f32 0x00000000#32) pads_S1x512_S4x512_120_000 h_S_))
    (pad S4x512 ![0, 0] ![3, 0] ![0, 0] (row (extractStridedSlice S2048x512 ![0, 0] (padded X) slices_S2051x512_S2048x512_0_0) D) (constant S_ .f32 0x00000000#32) pads_S1x512_S4x512_030_000 h_S_)

theorem dw_at (X D : FVec Ideal S2048x512 .f32) (j : Fin 4) (a : Fin 512) :
    dw X D (ix2 j a) = ∑ n : Fin 2048, padded X (ix2 (⟨n.val + j.val, by omega⟩ : Fin 2051) a) * D (ix2 n a) := by
  fin_cases j
  · pointwise [dw, row_at]
  · pointwise [dw, row_at]
    exact Finset.sum_congr (M := EReal) rfl fun x _ => congrArg (fun k => HMul.hMul (α := EReal) (β := EReal) (γ := EReal) (padded X (ix2 k a)) (D (ix2 x a))) (Fin.ext (Nat.add_comm _ _))
  · pointwise [dw, row_at]
    exact Finset.sum_congr (M := EReal) rfl fun x _ => congrArg (fun k => HMul.hMul (α := EReal) (β := EReal) (γ := EReal) (padded X (ix2 k a)) (D (ix2 x a))) (Fin.ext (Nat.add_comm _ _))
  · pointwise [dw, row_at]
    exact Finset.sum_congr (M := EReal) rfl fun x _ => congrArg (fun k => HMul.hMul (α := EReal) (β := EReal) (γ := EReal) (padded X (ix2 k a)) (D (ix2 x a))) (Fin.ext (Nat.add_comm _ _))

/-- The bias's gradient. -/
def db (D : FVec Ideal S2048x512 .f32) : FVec Ideal S512 .f32 :=
  Host.reduceAdd (shapeCast _ (Host.reduceAdd D (constant S_ .f32 0x00000000#32) reducesTo_S2048x512_S512_d0 h_S_) shapeCasts_S512_S1x512) (constant S_ .f32 0x00000000#32) reducesTo_S1x512_S512_d0 h_S_

theorem db_at (D : FVec Ideal S2048x512 .f32) (a : Fin 512) : db D (ix1 a) = ∑ n : Fin 2048, D (ix2 n a) := by
  pointwise [db]
  exact Fin.sum_univ_one (M := EReal) _

end Cert.Conv.Grad.Ref
-- ==== Proof.M29.lean ====
/- The gradient of the short convolution along the rows: the kernel's values. -/
module

public import proofs.«01_k».proof.Defs
public import proofs.«01_k».proof.Proof.Gen.Kernel29Ideal.Frame
public import proofs.«01_k».proof.Proof.M29Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.Conv.Grad

open Cert.Kernel29Ideal Cert.Kernel29Ideal.Gen Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![0, 0] ∧ win0_9.index t = ![t.val, 0] ∧ win0_10.index t = ![0, 0] ∧ win0_11.index t = ![0, 0] :=
  (by decide +kernel : ∀ t : Fin grid0.N, _)

/-- A row of a grid point's tile. -/
def rowAt (t : Fin cfg0.N) (r : Fin 256) : Fin 2048 := ⟨t.val * 256 + r.val, by have : t.val < 8 := t.isLt; omega⟩

variable {X D : FVec Ideal S2048x512 .f32} {W : FVec Ideal S4x512 .f32}
    (h0 : m ((c : Thread nD τ).loc main_arg0) = X) (h1 : m ((c : Thread nD τ).loc main_arg1) = W) (h2 : m ((c : Thread nD τ).loc main_arg2) = D)

include h0 in
/-- The shifted rows that the region starts with. -/
theorem host_v2 (n : Fin 2048) (a : Fin 512) : Gen.V m c main_v2 (ix2 n a) = Ref.padded X (ix2 (⟨n.val + 0, by omega⟩ : Fin 2051) a) := by
  have h : Gen.V m c main_v2 = (concatenate S2048x512 0 [⟨S2x512, (broadcastInDim S2x512 ![] bcast_S_S2x512 (constant S_ .f32 0x00000000#32 : FVec Ideal S_ .f32) : FVec Ideal S2x512 .f32)⟩,
      ⟨S2046x512, (extractStridedSlice S2046x512 ![0, 0] X slices_S2048x512_S2046x512_0_0 : FVec Ideal S2046x512 .f32)⟩] concatenates_S2x512_S2046x512_S2048x512_d0 : FVec Ideal S2048x512 .f32) := by
    subst h0
    change StableHlo.after hostOps0 (fun b => m (c, b)) (Proc.devRef .tc main_v2) = _
    simp only [hostOps0]
    after_results
  rw [h, Ref.padded_at]
  pointwise
  by_cases h : n.val < 2
  · rw [dif_pos h, dif_neg (by omega)]
  · rw [dif_neg h, dif_pos (by omega)]

include h0 in
theorem host_v5 (n : Fin 2048) (a : Fin 512) : Gen.V m c main_v5 (ix2 n a) = Ref.padded X (ix2 (⟨n.val + 1, by omega⟩ : Fin 2051) a) := by
  have h : Gen.V m c main_v5 = (concatenate S2048x512 0 [⟨S1x512, (broadcastInDim S1x512 ![] bcast_S_S1x512 (constant S_ .f32 0x00000000#32 : FVec Ideal S_ .f32) : FVec Ideal S1x512 .f32)⟩,
      ⟨S2047x512, (extractStridedSlice S2047x512 ![0, 0] X slices_S2048x512_S2047x512_0_0 : FVec Ideal S2047x512 .f32)⟩] concatenates_S1x512_S2047x512_S2048x512_d0 : FVec Ideal S2048x512 .f32) := by
    subst h0
    change StableHlo.after hostOps0 (fun b => m (c, b)) (Proc.devRef .tc main_v5) = _
    simp only [hostOps0]
    after_results
  rw [h, Ref.padded_at]
  pointwise
  by_cases h : n.val < 1
  · rw [dif_pos h, dif_neg (by omega)]
  · rw [dif_neg h, dif_pos (by omega)]
    exact congrArg (fun k => X (ix2 k a)) (Fin.ext (by simp only; omega))

include h0 in
theorem host_v8 (n : Fin 2048) (a : Fin 512) : Gen.V m c main_v8 (ix2 n a) = Ref.padded X (ix2 (⟨n.val + 3, by omega⟩ : Fin 2051) a) := by
  have h : Gen.V m c main_v8 = (concatenate S2048x512 0 [⟨S2047x512, (extractStridedSlice S2047x512 ![1, 0] X slices_S2048x512_S2047x512_1_0 : FVec Ideal S2047x512 .f32)⟩,
      ⟨S1x512, (broadcastInDim S1x512 ![] bcast_S_S1x512 (constant S_ .f32 0x00000000#32 : FVec Ideal S_ .f32) : FVec Ideal S1x512 .f32)⟩] concatenates_S2047x512_S1x512_S2048x512_d0 : FVec Ideal S2048x512 .f32) := by
    subst h0
    change StableHlo.after hostOps0 (fun b => m (c, b)) (Proc.devRef .tc main_v8) = _
    simp only [hostOps0]
    after_results
  rw [h, Ref.padded_at]
  pointwise
  by_cases h : n.val < 2047
  · rw [dif_pos h, dif_pos (by omega)]
    exact congrArg (fun k => X (ix2 k a)) (Fin.ext (by simp only; omega))
  · rw [dif_neg h, dif_neg (by omega)]

include h2 in
/-- The shifted cotangents that the region starts with. -/
theorem host_v11 (n : Fin 2048) (a : Fin 512) : Gen.V m c main_v11 (ix2 n a) = Ref.later D 2 n a := by
  have h : Gen.V m c main_v11 = (concatenate S2048x512 0 [⟨S2046x512, (extractStridedSlice S2046x512 ![2, 0] D slices_S2048x512_S2046x512_2_0 : FVec Ideal S2046x512 .f32)⟩,
      ⟨S2x512, (broadcastInDim S2x512 ![] bcast_S_S2x512 (constant S_ .f32 0x00000000#32 : FVec Ideal S_ .f32) : FVec Ideal S2x512 .f32)⟩] concatenates_S2046x512_S2x512_S2048x512_d0 : FVec Ideal S2048x512 .f32) := by
    subst h2
    change StableHlo.after hostOps0 (fun b => m (c, b)) (Proc.devRef .tc main_v11) = _
    simp only [hostOps0]
    after_results
  rw [h]
  unfold Ref.later
  pointwise
  by_cases h : n.val < 2046
  · rw [dif_pos h, dif_pos (by omega)]
    exact congrArg (fun k => D (ix2 k a)) (Fin.ext (by simp only; omega))
  · rw [dif_neg h, dif_neg (by omega)]

include h2 in
theorem host_v14 (n : Fin 2048) (a : Fin 512) : Gen.V m c main_v14 (ix2 n a) = Ref.later D 1 n a := by
  have h : Gen.V m c main_v14 = (concatenate S2048x512 0 [⟨S2047x512, (extractStridedSlice S2047x512 ![1, 0] D slices_S2048x512_S2047x512_1_0 : FVec Ideal S2047x512 .f32)⟩,
      ⟨S1x512, (broadcastInDim S1x512 ![] bcast_S_S1x512 (constant S_ .f32 0x00000000#32 : FVec Ideal S_ .f32) : FVec Ideal S1x512 .f32)⟩] concatenates_S2047x512_S1x512_S2048x512_d0 : FVec Ideal S2048x512 .f32) := by
    subst h2
    change StableHlo.after hostOps0 (fun b => m (c, b)) (Proc.devRef .tc main_v14) = _
    simp only [hostOps0]
    after_results
  rw [h]
  unfold Ref.later
  pointwise
  by_cases h : n.val < 2047
  · rw [dif_pos h, dif_pos (by omega)]
    exact congrArg (fun k => D (ix2 k a)) (Fin.ext (by simp only; omega))
  · rw [dif_neg h, dif_neg (by omega)]

include h2 in
theorem host_v17 (n : Fin 2048) (a : Fin 512) : Gen.V m c main_v17 (ix2 n a) = Ref.earlier D 1 n a := by
  have h : Gen.V m c main_v17 = (concatenate S2048x512 0 [⟨S1x512, (broadcastInDim S1x512 ![] bcast_S_S1x512 (constant S_ .f32 0x00000000#32 : FVec Ideal S_ .f32) : FVec Ideal S1x512 .f32)⟩,
      ⟨S2047x512, (extractStridedSlice S2047x512 ![0, 0] D slices_S2048x512_S2047x512_0_0 : FVec Ideal S2047x512 .f32)⟩] concatenates_S1x512_S2047x512_S2048x512_d0 : FVec Ideal S2048x512 .f32) := by
    subst h2
    change StableHlo.after hostOps0 (fun b => m (c, b)) (Proc.devRef .tc main_v17) = _
    simp only [hostOps0]
    after_results
  rw [h]
  unfold Ref.earlier
  pointwise
  by_cases h : n.val < 1
  · rw [dif_pos h, dif_neg (by omega)]
  · rw [dif_neg h, dif_pos (by omega)]

include h2 in
/-- The blocks that a grid point reads. -/
theorem d_at (t : Fin cfg0.N) (r : Fin 256) (a : Fin 512) : iblk m c 0 t (ix2 r a) = D (ix2 (rowAt t r) a) := by
  subst h2
  blk_ext [iblk, Gen.V, idx t, rowAt]

include h2 in
theorem dp2_at (t : Fin cfg0.N) (r : Fin 256) (a : Fin 512) : iblk m c 1 t (ix2 r a) = Ref.later D 2 (rowAt t r) a := by
  refine Eq.trans ?_ (host_v11 m c h2 (rowAt t r) a)
  blk_ext [iblk, idx t, rowAt]

include h2 in
theorem dp1_at (t : Fin cfg0.N) (r : Fin 256) (a : Fin 512) : iblk m c 2 t (ix2 r a) = Ref.later D 1 (rowAt t r) a := by
  refine Eq.trans ?_ (host_v14 m c h2 (rowAt t r) a)
  blk_ext [iblk, idx t, rowAt]

include h2 in
theorem dm1_at (t : Fin cfg0.N) (r : Fin 256) (a : Fin 512) : iblk m c 3 t (ix2 r a) = Ref.earlier D 1 (rowAt t r) a := by
  refine Eq.trans ?_ (host_v17 m c h2 (rowAt t r) a)
  blk_ext [iblk, idx t, rowAt]

include h0 in
theorem x_at (t : Fin cfg0.N) (r : Fin 256) (a : Fin 512) : iblk m c 4 t (ix2 r a) = X (ix2 (rowAt t r) a) := by
  subst h0
  blk_ext [iblk, Gen.V, idx t, rowAt]

include h0 in
theorem xm2_at (t : Fin cfg0.N) (r : Fin 256) (a : Fin 512) : iblk m c 5 t (ix2 r a) = Ref.padded X (ix2 (⟨(rowAt t r).val + 0, by omega⟩ : Fin 2051) a) := by
  refine Eq.trans ?_ (host_v2 m c h0 (rowAt t r) a)
  blk_ext [iblk, idx t, rowAt]

include h0 in
theorem xm1_at (t : Fin cfg0.N) (r : Fin 256) (a : Fin 512) : iblk m c 6 t (ix2 r a) = Ref.padded X (ix2 (⟨(rowAt t r).val + 1, by omega⟩ : Fin 2051) a) := by
  refine Eq.trans ?_ (host_v5 m c h0 (rowAt t r) a)
  blk_ext [iblk, idx t, rowAt]

include h0 in
theorem xp1_at (t : Fin cfg0.N) (r : Fin 256) (a : Fin 512) : iblk m c 7 t (ix2 r a) = Ref.padded X (ix2 (⟨(rowAt t r).val + 3, by omega⟩ : Fin 2051) a) := by
  refine Eq.trans ?_ (host_v8 m c h0 (rowAt t r) a)
  blk_ext [iblk, idx t, rowAt]

include h1 in
theorem w_at (t : Fin cfg0.N) (j : Fin 4) (a : Fin 512) : iblk m c 8 t (ix2 j a) = W (ix2 j a) := by
  subst h1
  blk_ext [iblk, Gen.V, idx t]

/-- The row of inputs that meets row `j` of the weights. -/
def tap (t : Fin cfg0.N) (j : Fin 4) : Vec Ideal S256x512 .f32 :=
  match j with
  | 0 => iblk m c 5 t
  | 1 => iblk m c 6 t
  | 2 => iblk m c 4 t
  | 3 => iblk m c 7 t

include h0 in
theorem tap_at (t : Fin cfg0.N) (j : Fin 4) (r : Fin 256) (a : Fin 512) : tap m c t j (ix2 r a) = Ref.padded X (ix2 (⟨(rowAt t r).val + j.val, by omega⟩ : Fin 2051) a) := by
  fin_cases j
  · exact xm2_at m c h0 t r a
  · exact xm1_at m c h0 t r a
  · refine (x_at m c h0 t r a).trans ((Ref.padded_at X (⟨(rowAt t r).val + 2, by omega⟩ : Fin 2051) a).trans (dif_pos ⟨Nat.le_add_left 2 _, ?_⟩)).symm
    have := (rowAt t r).isLt
    show (rowAt t r).val + 2 < 2050
    omega
  · exact xp1_at m c h0 t r a

/-- What a grid point adds to the weights' gradient. -/
def part (t : Fin cfg0.N) (y : S4x512.Idx) : EReal := ∑ r : Fin 256, HMul.hMul (α := EReal) (β := EReal) (γ := EReal) (iblk m c 0 t (ix2 r (y 1))) (tap m c t (y 0) (ix2 r (y 1)))

/-- What a grid point adds to the bias's gradient. -/
def partB (t : Fin cfg0.N) (y : S1x512.Idx) : EReal := Finset.sum (M := EReal) Finset.univ fun r : Fin 256 => iblk m c 0 t (ix2 r (y 1))

omit m c in
theorem row_emb (k : Fin 4) (inb : ∀ a, ![k.val, 0] a + ![1, 512] a ≤ S4x512.size a) (b : Fin 512) :
    (Rect.unit (s := S4x512) ![k.val, 0] ![1, 512] inb).emb (ix2 0 b) = ix2 k b := by
  blk_ext

theorem first (t : Fin cfg0.N) (h : t.val % 8 = 0) (j : Fin 4) (a : Fin 512) : (outsAt0 m c t.val t.isLt).2.1 (ix2 j a) = HAdd.hAdd (α := EReal) (β := EReal) (γ := EReal) 0 (part m c t (ix2 j a)) := by
  rw [outsAt0_A m c t h]
  frame_out
  simp (disch := first | decide | (intro a; fin_cases a <;> rfl)) only [↓View.readCov_skip, View.readCov_fill]
  refine (View.canon_append_of_piecesOf (Val := Elt Ideal) (s := S4x512) (e := .f32) (fun y => HAdd.hAdd (α := EReal) (β := EReal) (γ := EReal) 0 (part m c t y)) [_] [_, _, _, _] ⟨fun x => ?_, fun x => ?_, fun x => ?_, fun x => ?_, trivial⟩ (ix2 j a) ?_)
  · obtain ⟨z, b, rfl⟩ : ∃ (z : Fin 1) (b : Fin 512), x = ix2 z b := ⟨_, _, eq_ix2 x⟩
    obtain rfl : z = 0 := Subsingleton.elim _ _
    have e : (Rect.unit (s := S4x512) ![3, 0] ![1, 512] inb_S4x512_S1x512_3_0).emb (ix2 0 b) = ix2 3 b := row_emb 3 _ b
    refine Eq.trans ?_ (congrArg (fun y => HAdd.hAdd (α := EReal) (β := EReal) (γ := EReal) 0 (part m c t y)) e.symm)
    show k0_pay10 (iblk m c 0 t) (View.ld (Val := Elt Ideal) (S := S4x512) (e' := .f32) (k0_pay2 (F := Ideal)) (Rect.unit (s := S4x512) ![3, 0] ![1, 512] inb_S4x512_S1x512_3_0)) (iblk m c 7 t) (ix2 0 b) = _
    pointwise [k0_pay2, k0_pay5, k0_pay6, k0_pay7, k0_pay8, k0_pay9, k0_pay10]
    rfl
  · obtain ⟨z, b, rfl⟩ : ∃ (z : Fin 1) (b : Fin 512), x = ix2 z b := ⟨_, _, eq_ix2 x⟩
    obtain rfl : z = 0 := Subsingleton.elim _ _
    have e : (Rect.unit (s := S4x512) ![2, 0] ![1, 512] inb_S4x512_S1x512_2_0).emb (ix2 0 b) = ix2 2 b := row_emb 2 _ b
    refine Eq.trans ?_ (congrArg (fun y => HAdd.hAdd (α := EReal) (β := EReal) (γ := EReal) 0 (part m c t y)) e.symm)
    show k0_pay9 (iblk m c 0 t) (View.ld (Val := Elt Ideal) (S := S4x512) (e' := .f32) (k0_pay2 (F := Ideal)) (Rect.unit (s := S4x512) ![2, 0] ![1, 512] inb_S4x512_S1x512_2_0)) (iblk m c 4 t) (ix2 0 b) = _
    pointwise [k0_pay2, k0_pay5, k0_pay6, k0_pay7, k0_pay8, k0_pay9, k0_pay10]
    rfl
  · obtain ⟨z, b, rfl⟩ : ∃ (z : Fin 1) (b : Fin 512), x = ix2 z b := ⟨_, _, eq_ix2 x⟩
    obtain rfl : z = 0 := Subsingleton.elim _ _
    have e : (Rect.unit (s := S4x512) ![1, 0] ![1, 512] inb_S4x512_S1x512_1_0).emb (ix2 0 b) = ix2 1 b := row_emb 1 _ b
    refine Eq.trans ?_ (congrArg (fun y => HAdd.hAdd (α := EReal) (β := EReal) (γ := EReal) 0 (part m c t y)) e.symm)
    show k0_pay8 (iblk m c 0 t) (View.ld (Val := Elt Ideal) (S := S4x512) (e' := .f32) (k0_pay2 (F := Ideal)) (Rect.unit (s := S4x512) ![1, 0] ![1, 512] inb_S4x512_S1x512_1_0)) (iblk m c 6 t) (ix2 0 b) = _
    pointwise [k0_pay2, k0_pay5, k0_pay6, k0_pay7, k0_pay8, k0_pay9, k0_pay10]
    rfl
  · obtain ⟨z, b, rfl⟩ : ∃ (z : Fin 1) (b : Fin 512), x = ix2 z b := ⟨_, _, eq_ix2 x⟩
    obtain rfl : z = 0 := Subsingleton.elim _ _
    have e : (Rect.unit (s := S4x512) ![0, 0] ![1, 512] inb_S4x512_S1x512_0_0).emb (ix2 0 b) = ix2 0 b := row_emb 0 _ b
    refine Eq.trans ?_ (congrArg (fun y => HAdd.hAdd (α := EReal) (β := EReal) (γ := EReal) 0 (part m c t y)) e.symm)
    show k0_pay7 (k0_pay5 (View.ld (Val := Elt Ideal) (S := S4x512) (e' := .f32) (k0_pay2 (F := Ideal)) (Rect.unit (s := S4x512) ![0, 0] ![1, 512] inb_S4x512_S1x512_0_0))) (k0_pay6 (iblk m c 0 t) (iblk m c 5 t)) (ix2 0 b) = _
    pointwise [k0_pay2, k0_pay5, k0_pay6, k0_pay7, k0_pay8, k0_pay9, k0_pay10]
    rfl
  · fin_cases j
    · exact ⟨_, .tail _ (.tail _ (.tail _ (.head _))), (Rect.mem_set_unit (inb := inb_S4x512_S1x512_0_0)).mpr (Fin.forall_fin_two.mpr ⟨⟨Nat.le_refl 0, Nat.lt_succ_self 0⟩, ⟨Nat.zero_le _, by show a.val < 0 + 512; omega⟩⟩)⟩
    · exact ⟨_, .tail _ (.tail _ (.head _)), (Rect.mem_set_unit (inb := inb_S4x512_S1x512_1_0)).mpr (Fin.forall_fin_two.mpr ⟨⟨Nat.le_refl 1, Nat.lt_succ_self 1⟩, ⟨Nat.zero_le _, by show a.val < 0 + 512; omega⟩⟩)⟩
    · exact ⟨_, .tail _ (.head _), (Rect.mem_set_unit (inb := inb_S4x512_S1x512_2_0)).mpr (Fin.forall_fin_two.mpr ⟨⟨Nat.le_refl 2, Nat.lt_succ_self 2⟩, ⟨Nat.zero_le _, by show a.val < 0 + 512; omega⟩⟩)⟩
    · exact ⟨_, .head _, (Rect.mem_set_unit (inb := inb_S4x512_S1x512_3_0)).mpr (Fin.forall_fin_two.mpr ⟨⟨Nat.le_refl 3, Nat.lt_succ_self 3⟩, ⟨Nat.zero_le _, by show a.val < 0 + 512; omega⟩⟩)⟩

theorem next (t : Fin cfg0.N) (h : ¬ t.val % 8 = 0) (j : Fin 4) (a : Fin 512) :
    (outsAt0 m c t.val t.isLt).2.1 (ix2 j a) = HAdd.hAdd (α := EReal) (β := EReal) (γ := EReal) ((outsAt0 m c (t.val - 1) (Nat.lt_of_le_of_lt (Nat.sub_le _ _) t.isLt)).2.1 (ix2 j a)) (part m c t (ix2 j a)) := by
  rw [outsAt0_B m c t h]
  frame_out
  canon_tiles x hx
  all_goals
    open_payloads
    pointwise [k0_pay2, k0_pay5, k0_pay6, k0_pay7, k0_pay8, k0_pay9, k0_pay10]
    have e0 : j.val = _ := hx0
    obtain rfl : a = x 1 := Fin.ext hx1
  · obtain rfl : j = 3 := Fin.ext (by show j.val = 3; omega)
    rfl
  · obtain rfl : j = 2 := Fin.ext (by show j.val = 2; omega)
    rfl
  · obtain rfl : j = 1 := Fin.ext (by show j.val = 1; omega)
    rfl
  · obtain rfl : j = 0 := Fin.ext (by show j.val = 0; omega)
    rfl

theorem first_b (t : Fin cfg0.N) (h : t.val % 8 = 0) (z : Fin 1) (a : Fin 512) : (outsAt0 m c t.val t.isLt).2.2 (ix2 z a) = HAdd.hAdd (α := EReal) (β := EReal) (γ := EReal) 0 (partB m c t (ix2 z a)) := by
  rw [outsAt0_A m c t h]
  frame_out
  pointwise [k0_pay1, k0_pay3, k0_pay11]
  rfl

theorem next_b (t : Fin cfg0.N) (h : ¬ t.val % 8 = 0) (z : Fin 1) (a : Fin 512) :
    (outsAt0 m c t.val t.isLt).2.2 (ix2 z a) = HAdd.hAdd (α := EReal) (β := EReal) (γ := EReal) ((outsAt0 m c (t.val - 1) (Nat.lt_of_le_of_lt (Nat.sub_le _ _) t.isLt)).2.2 (ix2 z a)) (partB m c t (ix2 z a)) := by
  rw [outsAt0_B m c t h]
  frame_out
  pointwise [k0_pay1, k0_pay11]
  rfl

/-- The tile of the input's gradient that a grid point writes. -/
def tile (t : Fin cfg0.N) (r : Fin 256) (a : Fin 512) : EReal :=
  let p (u w : EReal) : EReal := u * w
  p (iblk m c 1 t (ix2 r a)) (iblk m c 8 t (ix2 0 a)) + p (iblk m c 2 t (ix2 r a)) (iblk m c 8 t (ix2 1 a)) + p (iblk m c 0 t (ix2 r a)) (iblk m c 8 t (ix2 2 a)) + p (iblk m c 3 t (ix2 r a)) (iblk m c 8 t (ix2 3 a))

theorem point_x (t : Fin cfg0.N) (r : Fin 256) (a : Fin 512) : (outsAt0 m c t.val t.isLt).1 (ix2 r a) = tile m c t r a := by
  by_cases h : t.val % 8 = 0
  · rw [outsAt0_A m c t h]
    frame_out
    pointwise [k0_pay4]
    rfl
  · rw [outsAt0_B m c t h]
    frame_out
    pointwise [k0_pay4]
    rfl

include h1 h2 in
theorem tile_at (t : Fin cfg0.N) (r : Fin 256) (a : Fin 512) : tile m c t r a = Ref.dx W D (ix2 (rowAt t r) a) := by
  rw [Ref.dx_at]
  unfold tile
  simp only
  rw [dp2_at m c h2, dp1_at m c h2, d_at m c h2, dm1_at m c h2, w_at m c h1, w_at m c h1, w_at m c h1, w_at m c h1]
  have e : ∀ p q r s : EReal, p + q + r + s = s + r + q + p := fun p q r s => by ac_rfl
  exact e _ _ _ _

include h1 h2 in
/-- The kernel's arrays after the region. -/
theorem final_x : (dats m 0 c).arrAt 9 cfg0.N = Ref.dx W D := by
  refine (dats m 0 c).arrAt_eq_of_covers 9 _ (by decide +kernel) fun t _ (y : S256x512.Idx) => ?_
  obtain ⟨r, a, rfl⟩ : ∃ (r : Fin 256) (a : Fin 512), y = ix2 r a := ⟨_, _, eq_ix2 y⟩
  have hr : ((cfg0.win 9).blk t).view.emb (ix2 r a) = ix2 (rowAt t r) a := by blk_ext [idx t, rowAt]
  rw [hr, ← tile_at m c h1 h2 t r a, ← point_x m c t r a]
  blk_simp
  rw [after0_9]

include h0 h2 in
theorem final_w : (dats m 0 c).arrAt 10 cfg0.N = Ref.dw X D := by
  refine (dats m 0 c).arrAt_eq_of_covers 10 _ (by decide +kernel) fun t hf (y : S4x512.Idx) => ?_
  have ht := (flush0_10 t).mp hf
  obtain ⟨j, a, rfl⟩ : ∃ (j : Fin 4) (a : Fin 512), y = ix2 j a := ⟨_, _, eq_ix2 y⟩
  have hr : ((cfg0.win 10).blk t).view.emb (ix2 j a) = ix2 j a := by blk_ext [idx t]
  rw [hr]
  refine Eq.trans ?_ (Ref.dw_at X D j a).symm
  blk_simp
  rw [after0_10, Pipeline.eq_sum_fin_of_reset_step_apply_of_flush (fun n h => (outsAt0 m c n h).2.1) 8 (fun _ => 0) (part m c)
    (fun t h y => by rw [eq_ix2 y]; exact first m c t h _ _)
    (fun t h y => by rw [eq_ix2 y]; exact next m c t h _ _)
    t ht _, zero_add]
  have e : t.val / 8 = 0 := by have : t.val < 8 := t.isLt; omega
  have hp : ∀ t, part m c t (ix2 j a) = ∑ r : Fin 256, HMul.hMul (α := EReal) (β := EReal) (γ := EReal) (Ref.padded X (ix2 (⟨(rowAt t r).val + j.val, by omega⟩ : Fin 2051) a)) (D (ix2 (rowAt t r) a)) := fun t =>
    Finset.sum_congr (M := EReal) rfl fun r _ => by
      show HMul.hMul (α := EReal) (β := EReal) (γ := EReal) (iblk m c 0 t (ix2 r a)) (tap m c t j (ix2 r a)) = _
      rw [d_at m c h2, tap_at m c h0, mul_comm (G := EReal)]
  simp only [hp]
  refine Fin.sum_mul_add_congr fun s k hl => ?_
  have hk : rowAt ⟨8 * (t.val / 8) + s.val, Pipeline.run_point_lt_of_flush t ht s⟩ k = ⟨s.val * 256 + k.val, hl⟩ := Fin.ext (by show (8 * (t.val / 8) + s.val) * 256 + k.val = _; rw [e]; simp only; omega)
  exact congrArg (fun n : Fin 2048 => HMul.hMul (α := EReal) (β := EReal) (γ := EReal) (Ref.padded X (ix2 (⟨n.val + j.val, by omega⟩ : Fin 2051) a)) (D (ix2 n a))) hk

include h2 in
theorem final_b (z : Fin 1) (a : Fin 512) : (dats m 0 c).arrAt 11 cfg0.N (ix2 z a) = Ref.db D (ix1 a) := by
  refine congrFun ((dats m 0 c).arrAt_eq_of_covers 11 (fun y : S1x512.Idx => Ref.db D (ix1 (y 1))) (by decide +kernel) fun t hf (y : S1x512.Idx) => ?_) (ix2 z a)
  have ht := (flush0_11 t).mp hf
  obtain ⟨z, a, rfl⟩ : ∃ (z : Fin 1) (a : Fin 512), y = ix2 z a := ⟨_, _, eq_ix2 y⟩
  have hr : ((cfg0.win 11).blk t).view.emb (ix2 z a) = ix2 z a := by blk_ext [idx t]
  rw [hr]
  refine Eq.trans ?_ (Ref.db_at D a).symm
  blk_simp
  rw [after0_11, Pipeline.eq_sum_fin_of_reset_step_apply_of_flush (fun n h => (outsAt0 m c n h).2.2) 8 (fun _ => 0) (partB m c)
    (fun t h y => by rw [eq_ix2 y]; exact first_b m c t h _ _)
    (fun t h y => by rw [eq_ix2 y]; exact next_b m c t h _ _)
    t ht _, zero_add]
  have e : t.val / 8 = 0 := by have : t.val < 8 := t.isLt; omega
  have hp : ∀ t, partB m c t (ix2 z a) = Finset.sum (M := EReal) Finset.univ fun r : Fin 256 => D (ix2 (rowAt t r) a) := fun t =>
    Finset.sum_congr (M := EReal) rfl fun r _ => d_at m c h2 t r a
  simp only [hp]
  refine Fin.sum_mul_add_congr fun s k hl => ?_
  have hk : rowAt ⟨8 * (t.val / 8) + s.val, Pipeline.run_point_lt_of_flush t ht s⟩ k = ⟨s.val * 256 + k.val, hl⟩ := Fin.ext (by show (8 * (t.val / 8) + s.val) * 256 + k.val = _; rw [e]; simp only; omega)
  exact congrArg (fun n : Fin 2048 => D (ix2 n a)) hk

set_option maxHeartbeats 4000000 in
include h2 in
/-- The bias's gradient after the host operation that follows the region. -/
theorem result : Pipeline.afterTail₀ cfgs (dats m) 0 (V0 m) [hostOps1] c main_v19 = Ref.db D := by
  have h : Pipeline.afterTail₀ cfgs (dats m) 0 (V0 m) [hostOps1] c main_v19 = (shapeCast S512 ((dats m 0 c).arrAt 11 cfg0.N) shapeCasts_S1x512_S512 : FVec Ideal S512 .f32) := by
    unfold Pipeline.afterTail₀
    simp only [hostOps1, List.flatten_cons, List.flatten_nil, List.append_nil, List.cons_append, List.nil_append]
    after_results
    exact congrArg (fun X => (shapeCast S512 X shapeCasts_S1x512_S512 : FVec Ideal S512 .f32))
      (Pipeline.withArrays_arr (cfgs 0).spec (by decide) c (V0 m c) (fun w => (dats m 0 c).arrAt w (cfgs 0).N) 11)
  rw [h]
  funext i
  obtain ⟨a, rfl⟩ : ∃ a : Fin 512, i = ix1 a := ⟨_, eq_ix1 i⟩
  refine Eq.trans ?_ (final_b m c h2 0 a)
  pointwise

/-- The kernel's run: the results are the reference's gradients of the arguments, which end unchanged. -/
theorem run (g : Dev nD → PrngReg) : θ_run defs (onTc (τ := τ) (main (F := Ideal))) ⟨m, fun _ => 0, g⟩ fun r => ∀ c : Dev nD,
      r.2.mem ((c : Thread nD τ).loc main_v18_0) = Ref.dx (m ((c : Thread nD τ).loc main_arg1)) (m ((c : Thread nD τ).loc main_arg2))
      ∧ r.2.mem ((c : Thread nD τ).loc main_v18_1) = Ref.dw (m ((c : Thread nD τ).loc main_arg0)) (m ((c : Thread nD τ).loc main_arg2))
      ∧ r.2.mem ((c : Thread nD τ).loc main_v19) = Ref.db (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 9).trans (final_x m c rfl rfl), ((h.1 c).1 10).trans (final_w m c rfl rfl), ((h.1 c).2 main_v19 (by decide)).trans (result m c rfl), h.2 c⟩)
    (θ_run_and (run_main m g) (unchanged m g))

/-- The reference's run leaves its arguments and all counters as they were. -/
theorem reference_frame : Cert.quiescent_Reference29Ideal := fun m g _ =>
  (θ_run Cert.Reference29Ideal.defs _ _).mono (fun r h => ⟨fun c => (h c).2.2.2, sem_eq_zero_of_no_sems (by decide) r.2⟩) (Cert.Reference29Ideal.Value.run m g)

/-- The kernel computes what the reference computes. -/
theorem algebraic : Cert.algebraic_Kernel29Ideal_Reference29Ideal := by
  intro m g m' g' _ harg
  refine ⟨fun c => Ref.dx (m ((c : Thread nD τ).loc main_arg1)) (m ((c : Thread nD τ).loc main_arg2)), fun c => Ref.dw (m ((c : Thread nD τ).loc main_arg0)) (m ((c : Thread nD τ).loc main_arg2)), fun c => Ref.db (m ((c : Thread nD τ).loc main_arg2)), run m g,
    (θ_run Cert.Reference29Ideal.defs _ _).mono (fun r h c => ⟨(h c).1.trans ?_, (h c).2.1.trans ?_, (h c).2.2.1.trans ?_, (h c).2.2.2⟩) (Cert.Reference29Ideal.Value.run m' g')⟩
  · rw [(harg c).2.1, (harg c).2.2]
    rfl
  · unfold Cert.Reference29Ideal.Value.res_main_v81
    rw [(harg c).1, (harg c).2.2]
    rfl
  · rw [(harg c).2.2]
    rfl

end Cert.Conv.Grad
-- ==== Proof.M31Ref.lean ====
/- The reference's adjoint of the chunks' state scan: a loop over the chunks from the last to the first. -/
module

public import proofs.«01_k».proof.Defs
public import proofs.«01_k».proof.Proof.Gen.Reference31Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384
noncomputable section
namespace Cert.States.Adjoint.Ref

open Cert.Reference31Ideal Cert.Reference31Ideal.Gen Cert.Reference31Ideal.Value Idealize.ShloMosaic Idealize.ShloMosaic.TcCoe Idealize.SL.Sem

/-- The adjoint after the last `k` chunks. -/
def adj (D U : FVec Ideal S128x256x128 .f32) (a : Fin 256) (b : Fin 128) : ℕ → EReal
  | 0 => 0
  | k + 1 => U (ix3 ⟨127 - k, by omega⟩ a b) + D (ix3 ⟨127 - k, by omega⟩ a b) * adj D U a b k

variable (m : (ℓ : Loc nD τ sig) → Buf (Elt Ideal) ℓ) (c : Dev nD)
variable {D U : FVec Ideal S128x256x128 .f32}

/-- What the loop carries after `k` trips. -/
structure After (D U : FVec Ideal S128x256x128 .f32) (k : ℕ) (V : Valuation τ sig (Elt Ideal)) : Prop where
  inputs : V (Proc.devRef .tc main_v4_0) = U
  decays : V (Proc.devRef .tc main_v4_1) = D
  count : V (Proc.devRef .tc main_v4_2) = constantI S_ 32 (BitVec.ofNat 32 k)
  state : ∀ (a : Fin 256) (b : Fin 128), (V (Proc.devRef .tc main_v4_3) : FVec Ideal S256x128 .f32) (ix2 a b) = adj D U a b k
  rows : ∀ (n : Fin 128) (a : Fin 256) (b : Fin 128), 128 ≤ n.val + k → (V (Proc.devRef .tc main_v4_4) : FVec Ideal S128x256x128 .f32) (ix3 n a b) = adj D U a b (127 - n.val)

theorem index_at : ∀ k : Fin 128, ((128#32 - BitVec.ofNat 32 k.val) - 1#32).toInt = (127 - k.val : ℤ) := by decide +kernel

/-- Where trip `k` reads and writes. -/
def start (k : ℕ) : Fin 3 → ℤ := fun j =>
  ((![subi (subi (constantI S_ 32 128#32) (constantI S_ 32 (BitVec.ofNat 32 k))) (constantI S_ 32 1#32), constantI S_ 32 0#32, constantI S_ 32 0#32]
    : Fin 3 → (⟨S_, .i32⟩ : BufTy).Contents (Elt Ideal)) j (Shape.Idx.first h_S_)).toInt

theorem start_at (k : ℕ) (hk : k < 128) : start k 0 = ((127 - k : ℕ) : ℤ) := (index_at ⟨k, hk⟩).trans (by simp only; omega)

theorem clamps (k : ℕ) (hk : k < 128) (h : S128x256x128.rank = S1x256x128.rank) : Host.clampedStart S128x256x128 S1x256x128 h.symm (start k) 0 = 127 - k
    ∧ Host.clampedStart S128x256x128 S1x256x128 h.symm (start k) 1 = 0 ∧ Host.clampedStart S128x256x128 S1x256x128 h.symm (start k) 2 = 0 :=
  ⟨Host.clampedStart_of_le (s := S128x256x128) (t := S1x256x128) rfl (start k) 0 (127 - k) (start_at k hk) (show 127 - k + 1 ≤ 128 by omega),
    Host.clampedStart_of_le (s := S128x256x128) (t := S1x256x128) rfl (start k) 1 0 rfl (show 0 + 256 ≤ 256 by omega),
    Host.clampedStart_of_le (s := S128x256x128) (t := S1x256x128) rfl (start k) 2 0 rfl (show 0 + 128 ≤ 128 by omega)⟩

/-- The chunk that trip `k` reads. -/
theorem slice_at (x : FVec Ideal S128x256x128 .f32) (k : ℕ) (hk : k < 128) (a : Fin 256) (b : Fin 128) :
    shapeCast S256x128 (Host.dynamicSlice S1x256x128 x (start k) sliceFits_S128x256x128_S1x256x128) shapeCasts_S1x256x128_S256x128 (ix2 a b) = x (ix3 ⟨127 - k, by omega⟩ a b) := by
  obtain ⟨e0, e1, e2⟩ := clamps k hk rfl
  pointwise
  refine congrArg x (congr (congrArg₂ ix3 (Fin.ext e0) (Fin.ext ?_)) (Fin.ext ?_))
  · exact (congrArg (· + a.val) e1).trans (Nat.zero_add _)
  · exact (congrArg (· + b.val) e2).trans (Nat.zero_add _)

/-- The chunk that trip `k` writes. -/
theorem update_at (x : FVec Ideal S128x256x128 .f32) (y : FVec Ideal S256x128 .f32) (k : ℕ) (hk : k < 128) (n : Fin 128) (a : Fin 256) (b : Fin 128) :
    Host.dynamicUpdateSlice x (broadcastInDim S1x256x128 ![1, 2] bcast_S256x128_S1x256x128_1_2 y) (start k) updateFits_S128x256x128_S1x256x128 (ix3 n a b)
      = if n.val = 127 - k then y (ix2 a b) else x (ix3 n a b) := by
  obtain ⟨e0, e1, e2⟩ := clamps k hk rfl
  pointwise
  by_cases hn : n.val = 127 - k
  · rw [if_pos hn]
    refine (dif_pos (by rw [e0, e1, e2]; omega)).trans ?_
    refine congrArg y (congrArg₂ ix2 (Fin.ext ?_) (Fin.ext ?_))
    · exact congrArg (a.val - ·) e1
    · exact congrArg (b.val - ·) e2
  · rw [if_neg hn]
    exact dif_neg (by rw [e0]; omega)

/-- The state after trip `k`. -/
theorem step_at (D U : FVec Ideal S128x256x128 .f32) (y : FVec Ideal S256x128 .f32) (k : ℕ) (hk : k < 128) (a : Fin 256) (b : Fin 128) :
    addf (shapeCast S256x128 (Host.dynamicSlice S1x256x128 U (start k) sliceFits_S128x256x128_S1x256x128) shapeCasts_S1x256x128_S256x128)
      (mulf (shapeCast S256x128 (Host.dynamicSlice S1x256x128 D (start k) sliceFits_S128x256x128_S1x256x128) shapeCasts_S1x256x128_S256x128) y) (ix2 a b)
      = U (ix3 ⟨127 - k, by omega⟩ a b) + D (ix3 ⟨127 - k, by omega⟩ a b) * y (ix2 a b) := by
  rw [← slice_at U k hk, ← slice_at D k hk]
  rfl

theorem after_step (k : ℕ) (hk : k < 128) (V : Valuation τ sig (Elt Ideal)) (h : After D U k V) : After D U (k + 1) (STEP V) where
  inputs := (STEP_main_v4_0 V).trans h.inputs
  decays := (STEP_main_v4_1 V).trans h.decays
  count := by
    rw [STEP_main_v4_2, step_main_v4_2, h.count]
    funext i
    exact (BitVec.ofNat_add k 1).symm
  state := fun a b => by
    rw [STEP_main_v4_3, step_main_v4_3, res_main_while0b_v6, h.inputs, h.decays, h.count, adj, ← h.state a b]
    exact step_at D U _ k hk a b
  rows := fun n a b hn => by
    rw [STEP_main_v4_4, step_main_v4_4, res_main_while0b_v6, h.count]
    refine (update_at _ _ k hk n a b).trans ?_
    by_cases hk' : n.val = 127 - k
    · rw [if_pos hk', h.state a b, hk']
      congr 1
      omega
    · rw [if_neg hk']
      exact h.rows n a b (by omega)

theorem entry (h0 : m ((c : Thread nD τ).loc main_arg0) = D) (h1 : m ((c : Thread nD τ).loc main_arg1) = U) : After D U 0 (StableHlo.entryContents preI m c) := by
  subst h0 h1
  constructor
  · simp only [StableHlo.entryContents, preI, StableHlo.afterL_cons, StableHlo.afterL_nil]; after_results; rfl
  · simp only [StableHlo.entryContents, preI, StableHlo.afterL_cons, StableHlo.afterL_nil]; after_results; rfl
  · simp only [StableHlo.entryContents, preI, StableHlo.afterL_cons, StableHlo.afterL_nil]; after_results; rfl
  · intro a b
    simp only [StableHlo.entryContents, preI, StableHlo.afterL_cons, StableHlo.afterL_nil]
    after_results
    simp only [id]
    pointwise [adj]
  · intro n a b h
    exact absurd n.isLt (by omega)

theorem trips (h0 : m ((c : Thread nD τ).loc main_arg0) = D) (h1 : m ((c : Thread nD τ).loc main_arg1) = U) : ∀ k, k ≤ 128 → After D U k (STEP^[k] (StableHlo.entryContents preI m c))
  | 0, _ => entry m c h0 h1
  | k + 1, hk => by
    rw [Function.iterate_succ_apply']
    exact after_step k hk _ (trips h0 h1 k (by omega))

/-- The reference's result: the adjoint of every chunk's state. -/
def grad (D U : FVec Ideal S128x256x128 .f32) : FVec Ideal S128x256x128 .f32 := fun i => adj D U (i 1) (i 2) (127 - (i 0).val)

theorem result (h0 : m ((c : Thread nD τ).loc main_arg0) = D) (h1 : m ((c : Thread nD τ).loc main_arg1) = U) :
    (STEP^[128] (StableHlo.entryContents preI m c)) (Proc.devRef .tc main_v4_4) = grad D U := by
  funext (i : S128x256x128.Idx)
  obtain ⟨n, a, b, rfl⟩ : ∃ (n : Fin 128) (a : Fin 256) (b : Fin 128), i = ix3 n a b := ⟨_, _, _, eq_ix3 i⟩
  exact (trips m c h0 h1 128 le_rfl).rows n a b (by omega)

end Cert.States.Adjoint.Ref
-- ==== Proof.M31.lean ====
/- The adjoint of the chunks' state scan: eight chunks at each point, the adjoint carried between points. -/
module

public import proofs.«01_k».proof.Defs
public import proofs.«01_k».proof.Proof.Gen.Kernel31Ideal.Frame
public import proofs.«01_k».proof.Proof.M31Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.States.Adjoint

open Cert.Kernel31Ideal Cert.Kernel31Ideal.Gen Idealize.ShloMosaic Idealize.ShloMosaic.TcCoe Idealize.SL.Sem
open Idealize.ShloMosaic.Pipeline (Dat)
open Ref (adj grad)

variable (m : (ℓ : Loc nD τ sig) → Buf (Elt Ideal) ℓ) (c : Dev nD)

/-- The windows' index maps: the blocks of chunks from the last to the first. -/
theorem idx : ∀ t : Fin cfg0.N, win0_0.index t = ![15 - t.val, 0, 0] ∧ win0_1.index t = ![15 - t.val, 0, 0] ∧ win0_2.index t = ![15 - t.val, 0, 0] :=
  (by decide +kernel : ∀ t : Fin grid0.N, _)

variable {D U : FVec Ideal S128x256x128 .f32}
    (h0 : m ((c : Thread nD τ).loc main_arg0) = D) (h1 : m ((c : Thread nD τ).loc main_arg1) = U)

/-- The chunk at row `r` of a point's block. -/
def chunk (t : Fin cfg0.N) (r : Fin 8) : Fin 128 := ⟨(15 - t.val) * 8 + r.val, by omega⟩

include h0 in
theorem decay_at (t : Fin cfg0.N) (r : Fin 8) (a : Fin 256) (b : Fin 128) : iblk m c 0 t (ix3 r a b) = D (ix3 (chunk t r) a b) := by
  subst h0; blk_ext [iblk, Gen.V, idx t, chunk]

include h1 in
theorem input_at (t : Fin cfg0.N) (r : Fin 8) (a : Fin 256) (b : Fin 128) : iblk m c 1 t (ix3 r a b) = U (ix3 (chunk t r) a b) := by
  subst h1; blk_ext [iblk, Gen.V, idx t, chunk]

include h0 h1

/-- One chunk's step, at row `r` of a point's block. -/
theorem step (t : Fin cfg0.N) (k l : ℕ) (r : Fin 8) (hk : r.val + k = 7) (hl : l = k + 1) (a : Fin 256) (b : Fin 128) :
    HAdd.hAdd (α := EReal) (β := EReal) (γ := EReal) (HMul.hMul (α := EReal) (β := EReal) (γ := EReal) (iblk m c 0 t (ix3 r a b)) (adj D U a b (8 * t.val + k))) (iblk m c 1 t (ix3 r a b)) = adj D U a b (8 * t.val + l) := by
  subst hl
  have ht : t.val < 16 := t.isLt
  have e : chunk t r = ⟨127 - (8 * t.val + k), by omega⟩ := Fin.ext (by show (15 - t.val) * 8 + r.val = 127 - (8 * t.val + k); omega)
  rw [decay_at m c h0 t r a b, input_at m c h1 t r a b, e]
  exact add_comm (G := EReal) _ _

/-- The adjoint after the first point. -/
theorem first (t : Fin cfg0.N) (a : Fin 256) (b : Fin 128) (h : t.val % 16 = 0) (z : (0 : EReal) = adj D U a b (8 * t.val + 0)) : (outsAt0 m c t.val t.isLt).2 (ix2 a b) = adj D U a b (8 * t.val + 8) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  rw [outsAt0_A m c t h]
  frame_out
  open_payloads
  pointwise []
  rw [z, s0, s1, s2, s3, s4, s5, s6, s7]

/-- The adjoint after another point. -/
theorem next (t : Fin cfg0.N) (a : Fin 256) (b : Fin 128) (h : ¬ t.val % 16 = 0)
    (ih : (outsAt0 m c (t.val - 1) (Nat.lt_of_le_of_lt (Nat.sub_le _ _) t.isLt)).2 (ix2 a b) = adj D U a b (8 * t.val + 0)) :
    (outsAt0 m c t.val t.isLt).2 (ix2 a b) = adj D U a b (8 * t.val + 8) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  rw [outsAt0_B m c t h]
  frame_out
  open_payloads
  pointwise []
  rw [read_unread_whole, ih, s0, s1, s2, s3, s4, s5, s6, s7]

/-- The adjoint that a point hands to the next. -/
theorem carry : ∀ (n : ℕ) (hn : n < cfg0.N) (a : Fin 256) (b : Fin 128), (outsAt0 m c n hn).2 (ix2 a b) = adj D U a b (8 * n + 8)
  | 0, hn, a, b => first m c h0 h1 ⟨0, hn⟩ a b rfl rfl
  | n + 1, hn, a, b => next m c h0 h1 ⟨n + 1, hn⟩ a b (by have : n + 1 < 16 := hn; show ¬ (n + 1) % 16 = 0; omega) (carry n (by omega) a b)

/-- The adjoint before each chunk of a point's block. -/
theorem rows (t : Fin cfg0.N) (r : Fin 8) (a : Fin 256) (b : Fin 128) : (outsAt0 m c t.val t.isLt).1 (ix3 r a b) = adj D U a b (8 * t.val + (7 - r.val)) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  have hN : t.val < 16 := t.isLt
  by_cases h : t.val % 16 = 0
  · have z : (0 : EReal) = adj D U a b (8 * t.val + 0) := by
      rw [show t.val = 0 by omega]; rfl
    rw [outsAt0_A m c t h]
    frame_out
    canon_tiles x hx
    all_goals
      have ea : x 1 = a := Fin.ext hx1.symm
      have eb : x 2 = b := Fin.ext hx2.symm
      open_payloads
      pointwise []
      try rw [ea, eb]
      rw [z]
      try simp only [s0, s1, s2, s3, s4, s5, s6, s7]
      refine congrArg (adj D U a b) ?_
      have hr : r.val = _ := hx0
      omega
  · have ih : (outsAt0 m c (t.val - 1) (by omega)).2 (ix2 a b) = adj D U a b (8 * t.val + 0) :=
      (carry m c h0 h1 (t.val - 1) (by omega) a b).trans (congrArg (adj D U a b) (by omega))
    rw [outsAt0_B m c t h]
    frame_out
    canon_tiles x hx
    all_goals
      have ea : x 1 = a := Fin.ext hx1.symm
      have eb : x 2 = b := Fin.ext hx2.symm
      open_payloads
      pointwise []
      rw [ea, eb, read_unread_whole, ih]
      try simp only [s0, s1, s2, s3, s4, s5, s6, s7]
      refine congrArg (adj D U a b) ?_
      have hr : r.val = _ := hx0
      omega

/-- The kernel's array after the region. -/
theorem final : (dats m 0 c).arrAt 2 cfg0.N = grad D U := by
  refine (dats m 0 c).arrAt_eq_of_covers 2 _ (by decide +kernel) fun t hf (y : S8x256x128.Idx) => ?_
  obtain ⟨r, a, b, rfl⟩ : ∃ (r : Fin 8) (a : Fin 256) (b : Fin 128), y = ix3 r a b := ⟨_, _, _, eq_ix3 y⟩
  have hr : ((cfg0.win 2).blk t).view.emb (ix3 r a b) = ix3 (chunk t r) a b := by blk_ext [idx t, chunk]
  have ht : t.val < 16 := t.isLt
  rw [hr]
  blk_simp
  rw [after0_2, rows m c h0 h1 t r a b]
  exact congrArg (adj D U a b) (show 8 * t.val + (7 - r.val) = 127 - ((15 - t.val) * 8 + r.val) by omega)

omit h0 h1
/-- The kernel's run: the result is the reference's adjoint of the arguments, which end unchanged. -/
theorem run (g : Dev nD → PrngReg) : θ_run defs (onTc (τ := τ) (main (F := Ideal))) ⟨m, fun _ => 0, g⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference31Ideal := fun m g _ =>
  (θ_run Cert.Reference31Ideal.defs _ _).mono (fun r h => ⟨fun c => (h c).2, sem_eq_zero_of_no_sems (by decide) r.2⟩) (Cert.Reference31Ideal.Value.run m g)

/-- The kernel computes the reference's adjoint. -/
theorem algebraic : Cert.algebraic_Kernel31Ideal_Reference31Ideal := by
  intro m g m' g' _ harg
  refine ⟨fun c => grad (m ((c : Thread nD τ).loc main_arg0)) (m ((c : Thread nD τ).loc main_arg1)), run m g,
    (θ_run Cert.Reference31Ideal.defs _ _).mono (fun r h c => ⟨(h c).1.trans ?_, (h c).2⟩) (Cert.Reference31Ideal.Value.run m' g')⟩
  exact Ref.result m' c (harg c).1 (harg c).2

end Cert.States.Adjoint

end
-- ==== Proof.M32Ref.lean ====
/- The reference's adjoint of the backward direction's state scan: a loop over the flipped chunks from the last to the first. -/
module

public import proofs.«01_k».proof.Defs
public import proofs.«01_k».proof.Proof.Gen.Reference32Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384
noncomputable section
namespace Cert.States.AdjointB.Ref

open Cert.Reference32Ideal Cert.Reference32Ideal.Gen Cert.Reference32Ideal.Value Idealize.ShloMosaic Idealize.ShloMosaic.TcCoe Idealize.SL.Sem

/-- The adjoint after the first `k` chunks. -/
def adj (D U : FVec Ideal S128x256x128 .f32) (a : Fin 256) (b : Fin 128) : ℕ → EReal
  | 0 => 0
  | k + 1 => (if h : k < 128 then U (ix3 ⟨k, h⟩ a b) else 0) + (if h : k < 128 then D (ix3 ⟨k, h⟩ a b) else 0) * adj D U a b k

theorem adj_next {D U : FVec Ideal S128x256x128 .f32} (a : Fin 256) (b : Fin 128) (k : ℕ) (h : k < 128) :
    adj D U a b (k + 1) = U (ix3 ⟨k, h⟩ a b) + D (ix3 ⟨k, h⟩ a b) * adj D U a b k := by
  rw [adj, dif_pos h, dif_pos h]

variable (m : (ℓ : Loc nD τ sig) → Buf (Elt Ideal) ℓ) (c : Dev nD)
variable {D U : FVec Ideal S128x256x128 .f32}

/-- What the loop carries after `k` trips. -/
structure After (D U : FVec Ideal S128x256x128 .f32) (k : ℕ) (V : Valuation τ sig (Elt Ideal)) : Prop where
  inputs : V (Proc.devRef .tc main_v6_0) = Host.reverse [0] U
  decays : V (Proc.devRef .tc main_v6_1) = Host.reverse [0] D
  count : V (Proc.devRef .tc main_v6_2) = constantI S_ 32 (BitVec.ofNat 32 k)
  state : ∀ (a : Fin 256) (b : Fin 128), (V (Proc.devRef .tc main_v6_3) : FVec Ideal S256x128 .f32) (ix2 a b) = adj D U a b k
  rows : ∀ (n : Fin 128) (a : Fin 256) (b : Fin 128), 128 ≤ n.val + k → (V (Proc.devRef .tc main_v6_4) : FVec Ideal S128x256x128 .f32) (ix3 n a b) = adj D U a b (127 - n.val)

theorem index_at : ∀ k : Fin 128, ((128#32 - BitVec.ofNat 32 k.val) - 1#32).toInt = (127 - k.val : ℤ) := by decide +kernel

/-- Where trip `k` reads and writes. -/
def start (k : ℕ) : Fin 3 → ℤ := fun j =>
  ((![subi (subi (constantI S_ 32 128#32) (constantI S_ 32 (BitVec.ofNat 32 k))) (constantI S_ 32 1#32), constantI S_ 32 0#32, constantI S_ 32 0#32]
    : Fin 3 → (⟨S_, .i32⟩ : BufTy).Contents (Elt Ideal)) j (Shape.Idx.first h_S_)).toInt

theorem start_at (k : ℕ) (hk : k < 128) : start k 0 = ((127 - k : ℕ) : ℤ) := (index_at ⟨k, hk⟩).trans (by simp only; omega)

theorem clamps (k : ℕ) (hk : k < 128) (h : S128x256x128.rank = S1x256x128.rank) : Host.clampedStart S128x256x128 S1x256x128 h.symm (start k) 0 = 127 - k
    ∧ Host.clampedStart S128x256x128 S1x256x128 h.symm (start k) 1 = 0 ∧ Host.clampedStart S128x256x128 S1x256x128 h.symm (start k) 2 = 0 :=
  ⟨Host.clampedStart_of_le (s := S128x256x128) (t := S1x256x128) rfl (start k) 0 (127 - k) (start_at k hk) (show 127 - k + 1 ≤ 128 by omega),
    Host.clampedStart_of_le (s := S128x256x128) (t := S1x256x128) rfl (start k) 1 0 rfl (show 0 + 256 ≤ 256 by omega),
    Host.clampedStart_of_le (s := S128x256x128) (t := S1x256x128) rfl (start k) 2 0 rfl (show 0 + 128 ≤ 128 by omega)⟩

/-- The chunk that trip `k` reads. -/
theorem slice_at (x : FVec Ideal S128x256x128 .f32) (k : ℕ) (hk : k < 128) (a : Fin 256) (b : Fin 128) :
    shapeCast S256x128 (Host.dynamicSlice S1x256x128 x (start k) sliceFits_S128x256x128_S1x256x128) shapeCasts_S1x256x128_S256x128 (ix2 a b) = x (ix3 ⟨127 - k, by omega⟩ a b) := by
  obtain ⟨e0, e1, e2⟩ := clamps k hk rfl
  pointwise
  refine congrArg x (congr (congrArg₂ ix3 (Fin.ext e0) (Fin.ext ?_)) (Fin.ext ?_))
  · exact (congrArg (· + a.val) e1).trans (Nat.zero_add _)
  · exact (congrArg (· + b.val) e2).trans (Nat.zero_add _)

/-- The chunk that trip `k` writes. -/
theorem update_at (x : FVec Ideal S128x256x128 .f32) (y : FVec Ideal S256x128 .f32) (k : ℕ) (hk : k < 128) (n : Fin 128) (a : Fin 256) (b : Fin 128) :
    Host.dynamicUpdateSlice x (broadcastInDim S1x256x128 ![1, 2] bcast_S256x128_S1x256x128_1_2 y) (start k) updateFits_S128x256x128_S1x256x128 (ix3 n a b)
      = if n.val = 127 - k then y (ix2 a b) else x (ix3 n a b) := by
  obtain ⟨e0, e1, e2⟩ := clamps k hk rfl
  pointwise
  by_cases hn : n.val = 127 - k
  · rw [if_pos hn]
    refine (dif_pos (by rw [e0, e1, e2]; omega)).trans ?_
    refine congrArg y (congrArg₂ ix2 (Fin.ext ?_) (Fin.ext ?_))
    · exact congrArg (a.val - ·) e1
    · exact congrArg (b.val - ·) e2
  · rw [if_neg hn]
    exact dif_neg (by rw [e0]; omega)

/-- A flipped row. -/
theorem flip_at (x : FVec Ideal S128x256x128 .f32) (n : Fin 128) (a : Fin 256) (b : Fin 128) :
    Host.reverse [0] x (ix3 n a b) = x (ix3 ⟨127 - n.val, by omega⟩ a b) := by
  pointwise
  exact congrArg x (congrArg (ix3 · a b) (Fin.ext (by show 128 - (n.val + 1) = 127 - n.val; omega)))

/-- The state after trip `k`. -/
theorem step_at (D U : FVec Ideal S128x256x128 .f32) (y : FVec Ideal S256x128 .f32) (k : ℕ) (hk : k < 128) (a : Fin 256) (b : Fin 128) :
    addf (shapeCast S256x128 (Host.dynamicSlice S1x256x128 (Host.reverse [0] U) (start k) sliceFits_S128x256x128_S1x256x128) shapeCasts_S1x256x128_S256x128)
      (mulf (shapeCast S256x128 (Host.dynamicSlice S1x256x128 (Host.reverse [0] D) (start k) sliceFits_S128x256x128_S1x256x128) shapeCasts_S1x256x128_S256x128) y) (ix2 a b)
      = U (ix3 ⟨k, hk⟩ a b) + D (ix3 ⟨k, hk⟩ a b) * y (ix2 a b) := by
  have e : (⟨127 - (127 - k), by omega⟩ : Fin 128) = ⟨k, hk⟩ := Fin.ext (by show 127 - (127 - k) = k; omega)
  have u := (slice_at (Host.reverse [0] U) k hk a b).trans (flip_at U _ a b)
  have d := (slice_at (Host.reverse [0] D) k hk a b).trans (flip_at D _ a b)
  rw [e] at u d
  rw [← u, ← d]
  rfl

theorem after_step (k : ℕ) (hk : k < 128) (V : Valuation τ sig (Elt Ideal)) (h : After D U k V) : After D U (k + 1) (STEP V) where
  inputs := (STEP_main_v6_0 V).trans h.inputs
  decays := (STEP_main_v6_1 V).trans h.decays
  count := by
    rw [STEP_main_v6_2, step_main_v6_2, h.count]
    funext i
    exact (BitVec.ofNat_add k 1).symm
  state := fun a b => by
    rw [STEP_main_v6_3, step_main_v6_3, res_main_while0b_v9, h.inputs, h.decays, h.count, adj, ← h.state a b, dif_pos hk, dif_pos hk]
    exact step_at D U _ k hk a b
  rows := fun n a b hn => by
    rw [STEP_main_v6_4, step_main_v6_4, res_main_while0b_v9, h.count]
    refine (update_at _ _ k hk n a b).trans ?_
    by_cases hk' : n.val = 127 - k
    · rw [if_pos hk', h.state a b, hk']
      congr 1
      omega
    · rw [if_neg hk']
      exact h.rows n a b (by omega)

theorem entry (h0 : m ((c : Thread nD τ).loc main_arg0) = D) (h1 : m ((c : Thread nD τ).loc main_arg1) = U) : After D U 0 (StableHlo.entryContents preI m c) := by
  subst h0 h1
  constructor
  · simp only [StableHlo.entryContents, preI, StableHlo.afterL_cons, StableHlo.afterL_nil]; after_results; rfl
  · simp only [StableHlo.entryContents, preI, StableHlo.afterL_cons, StableHlo.afterL_nil]; after_results; rfl
  · simp only [StableHlo.entryContents, preI, StableHlo.afterL_cons, StableHlo.afterL_nil]; after_results; rfl
  · intro a b
    simp only [StableHlo.entryContents, preI, StableHlo.afterL_cons, StableHlo.afterL_nil]
    after_results
    simp only [id]
    pointwise [adj]
  · intro n a b h
    exact absurd n.isLt (by omega)

theorem trips (h0 : m ((c : Thread nD τ).loc main_arg0) = D) (h1 : m ((c : Thread nD τ).loc main_arg1) = U) : ∀ k, k ≤ 128 → After D U k (STEP^[k] (StableHlo.entryContents preI m c))
  | 0, _ => entry m c h0 h1
  | k + 1, hk => by
    rw [Function.iterate_succ_apply']
    exact after_step k hk _ (trips h0 h1 k (by omega))

/-- The reference's result: the adjoint of every chunk's state. -/
def grad (D U : FVec Ideal S128x256x128 .f32) : FVec Ideal S128x256x128 .f32 := fun i => adj D U (i 1) (i 2) (i 0).val

theorem result (h0 : m ((c : Thread nD τ).loc main_arg0) = D) (h1 : m ((c : Thread nD τ).loc main_arg1) = U) :
    out_main_v7 (STEP^[128] (StableHlo.entryContents preI m c)) = grad D U := by
  funext (i : S128x256x128.Idx)
  obtain ⟨n, a, b, rfl⟩ : ∃ (n : Fin 128) (a : Fin 256) (b : Fin 128), i = ix3 n a b := ⟨_, _, _, eq_ix3 i⟩
  refine (flip_at _ n a b).trans (((trips m c h0 h1 128 le_rfl).rows _ a b (by omega)).trans ?_)
  exact congrArg (adj D U a b) (show 127 - (127 - n.val) = n.val by omega)

end Cert.States.AdjointB.Ref
-- ==== Proof.M32.lean ====
/- The adjoint of the backward direction's state scan: eight chunks at each point, the adjoint carried between points. -/
module

public import proofs.«01_k».proof.Defs
public import proofs.«01_k».proof.Proof.Gen.Kernel32Ideal.Frame
public import proofs.«01_k».proof.Proof.M32Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.States.AdjointB

open Cert.Kernel32Ideal Cert.Kernel32Ideal.Gen Idealize.ShloMosaic Idealize.ShloMosaic.TcCoe Idealize.SL.Sem
open Idealize.ShloMosaic.Pipeline (Dat)
open Ref (adj grad)

variable (m : (ℓ : Loc nD τ sig) → Buf (Elt Ideal) ℓ) (c : Dev nD)

/-- The windows' index maps: the blocks of chunks in order. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

variable {D U : FVec Ideal S128x256x128 .f32}
    (h0 : m ((c : Thread nD τ).loc main_arg0) = D) (h1 : m ((c : Thread nD τ).loc main_arg1) = U)

/-- The chunk at row `r` of a point's block. -/
def chunk (t : Fin cfg0.N) (r : Fin 8) : Fin 128 := ⟨t.val * 8 + r.val, by have : t.val < 16 := t.isLt; omega⟩

include h0 in
theorem decay_at (t : Fin cfg0.N) (r : Fin 8) (a : Fin 256) (b : Fin 128) : iblk m c 0 t (ix3 r a b) = D (ix3 (chunk t r) a b) := by
  subst h0; blk_ext [iblk, Gen.V, idx t, chunk]

include h1 in
theorem input_at (t : Fin cfg0.N) (r : Fin 8) (a : Fin 256) (b : Fin 128) : iblk m c 1 t (ix3 r a b) = U (ix3 (chunk t r) a b) := by
  subst h1; blk_ext [iblk, Gen.V, idx t, chunk]

include h0 h1

/-- One chunk's step, at row `r` of a point's block. -/
theorem step (t : Fin cfg0.N) (k l : ℕ) (r : Fin 8) (hk : r.val = k) (hl : l = k + 1) (a : Fin 256) (b : Fin 128) :
    HAdd.hAdd (α := EReal) (β := EReal) (γ := EReal) (HMul.hMul (α := EReal) (β := EReal) (γ := EReal) (iblk m c 0 t (ix3 r a b)) (adj D U a b (8 * t.val + k))) (iblk m c 1 t (ix3 r a b)) = adj D U a b (8 * t.val + l) := by
  subst hl
  have ht : t.val < 16 := t.isLt
  have e : chunk t r = ⟨8 * t.val + k, by omega⟩ := Fin.ext (by show t.val * 8 + r.val = 8 * t.val + k; omega)
  rw [decay_at m c h0 t r a b, input_at m c h1 t r a b, e]
  exact (add_comm (G := EReal) _ _).trans (Ref.adj_next a b _ (by omega)).symm

/-- The adjoint after the first point. -/
theorem first (t : Fin cfg0.N) (a : Fin 256) (b : Fin 128) (h : t.val % 16 = 0) (z : (0 : EReal) = adj D U a b (8 * t.val + 0)) : (outsAt0 m c t.val t.isLt).2 (ix2 a b) = adj D U a b (8 * t.val + 8) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  rw [outsAt0_A m c t h]
  frame_out
  open_payloads
  pointwise []
  rw [z, s0, s1, s2, s3, s4, s5, s6, s7]

/-- The adjoint after another point. -/
theorem next (t : Fin cfg0.N) (a : Fin 256) (b : Fin 128) (h : ¬ t.val % 16 = 0)
    (ih : (outsAt0 m c (t.val - 1) (Nat.lt_of_le_of_lt (Nat.sub_le _ _) t.isLt)).2 (ix2 a b) = adj D U a b (8 * t.val + 0)) :
    (outsAt0 m c t.val t.isLt).2 (ix2 a b) = adj D U a b (8 * t.val + 8) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  rw [outsAt0_B m c t h]
  frame_out
  open_payloads
  pointwise []
  rw [read_unread_whole, ih, s0, s1, s2, s3, s4, s5, s6, s7]

/-- The adjoint that a point hands to the next. -/
theorem carry : ∀ (n : ℕ) (hn : n < cfg0.N) (a : Fin 256) (b : Fin 128), (outsAt0 m c n hn).2 (ix2 a b) = adj D U a b (8 * n + 8)
  | 0, hn, a, b => first m c h0 h1 ⟨0, hn⟩ a b rfl rfl
  | n + 1, hn, a, b => next m c h0 h1 ⟨n + 1, hn⟩ a b (by have : n + 1 < 16 := hn; show ¬ (n + 1) % 16 = 0; omega) (carry n (by omega) a b)

/-- The adjoint before each chunk of a point's block. -/
theorem rows (t : Fin cfg0.N) (r : Fin 8) (a : Fin 256) (b : Fin 128) : (outsAt0 m c t.val t.isLt).1 (ix3 r a b) = adj D U a b (8 * t.val + r.val) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  have hN : t.val < 16 := t.isLt
  by_cases h : t.val % 16 = 0
  · have z : (0 : EReal) = adj D U a b (8 * t.val + 0) := by
      rw [show t.val = 0 by omega]; rfl
    rw [outsAt0_A m c t h]
    frame_out
    canon_tiles x hx
    all_goals
      have ea : x 1 = a := Fin.ext hx1.symm
      have eb : x 2 = b := Fin.ext hx2.symm
      open_payloads
      pointwise []
      try rw [ea, eb]
      rw [z]
      try simp only [s0, s1, s2, s3, s4, s5, s6, s7]
      refine congrArg (adj D U a b) ?_
      have hr : r.val = _ := hx0
      omega
  · have ih : (outsAt0 m c (t.val - 1) (by omega)).2 (ix2 a b) = adj D U a b (8 * t.val + 0) :=
      (carry m c h0 h1 (t.val - 1) (by omega) a b).trans (congrArg (adj D U a b) (by omega))
    rw [outsAt0_B m c t h]
    frame_out
    canon_tiles x hx
    all_goals
      have ea : x 1 = a := Fin.ext hx1.symm
      have eb : x 2 = b := Fin.ext hx2.symm
      open_payloads
      pointwise []
      rw [ea, eb, read_unread_whole, ih]
      try simp only [s0, s1, s2, s3, s4, s5, s6, s7]
      refine congrArg (adj D U a b) ?_
      have hr : r.val = _ := hx0
      omega

/-- The kernel's array after the region. -/
theorem final : (dats m 0 c).arrAt 2 cfg0.N = grad D U := by
  refine (dats m 0 c).arrAt_eq_of_covers 2 _ (by decide +kernel) fun t hf (y : S8x256x128.Idx) => ?_
  obtain ⟨r, a, b, rfl⟩ : ∃ (r : Fin 8) (a : Fin 256) (b : Fin 128), y = ix3 r a b := ⟨_, _, _, eq_ix3 y⟩
  have hr : ((cfg0.win 2).blk t).view.emb (ix3 r a b) = ix3 (chunk t r) a b := by blk_ext [idx t, chunk]
  have ht : t.val < 16 := t.isLt
  rw [hr]
  blk_simp
  rw [after0_2, rows m c h0 h1 t r a b]
  exact congrArg (adj D U a b) (show 8 * t.val + r.val = t.val * 8 + r.val by omega)

omit h0 h1
/-- The kernel's run: the result is the reference's adjoint of the arguments, which end unchanged. -/
theorem run (g : Dev nD → PrngReg) : θ_run defs (onTc (τ := τ) (main (F := Ideal))) ⟨m, fun _ => 0, g⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference32Ideal := fun m g _ =>
  (θ_run Cert.Reference32Ideal.defs _ _).mono (fun r h => ⟨fun c => (h c).2, sem_eq_zero_of_no_sems (by decide) r.2⟩) (Cert.Reference32Ideal.Value.run m g)

/-- The kernel computes the reference's adjoint. -/
theorem algebraic : Cert.algebraic_Kernel32Ideal_Reference32Ideal := by
  intro m g m' g' _ harg
  refine ⟨fun c => grad (m ((c : Thread nD τ).loc main_arg0)) (m ((c : Thread nD τ).loc main_arg1)), run m g,
    (θ_run Cert.Reference32Ideal.defs _ _).mono (fun r h c => ⟨(h c).1.trans ?_, (h c).2⟩) (Cert.Reference32Ideal.Value.run m' g')⟩
  exact Ref.result m' c (harg c).1 (harg c).2

end Cert.States.AdjointB

end
-- ==== Proof.M33Ref.lean ====
/- The reference's states before the chunks: a loop over the chunks. -/
module

public import proofs.«01_k».proof.Defs
public import proofs.«01_k».proof.Proof.Gen.Reference33Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384
noncomputable section
namespace Cert.States.Forward.Ref

open Cert.Reference33Ideal Cert.Reference33Ideal.Gen Cert.Reference33Ideal.Value Idealize.ShloMosaic Idealize.ShloMosaic.TcCoe Idealize.SL.Sem

/-- The state after the first `k` chunks. -/
def stateAt (D U : FVec Ideal S128x256x128 .f32) (a : Fin 256) (b : Fin 128) : ℕ → EReal
  | 0 => 0
  | k + 1 => (if h : k < 128 then D (ix3 ⟨k, h⟩ a b) else 0) * stateAt D U a b k + (if h : k < 128 then U (ix3 ⟨k, h⟩ a b) else 0)

theorem state_next {D U : FVec Ideal S128x256x128 .f32} (a : Fin 256) (b : Fin 128) (k : ℕ) (h : k < 128) :
    stateAt D U a b (k + 1) = D (ix3 ⟨k, h⟩ a b) * stateAt D U a b k + U (ix3 ⟨k, h⟩ a b) := by
  rw [stateAt, dif_pos h, dif_pos h]

variable (m : (ℓ : Loc nD τ sig) → Buf (Elt Ideal) ℓ) (c : Dev nD)
variable {D U : FVec Ideal S128x256x128 .f32}

/-- What the loop carries after `k` trips. -/
structure After (D U : FVec Ideal S128x256x128 .f32) (k : ℕ) (V : Valuation τ sig (Elt Ideal)) : Prop where
  inputs : V (Proc.devRef .tc main_v2_1) = U
  decays : V (Proc.devRef .tc main_v2_0) = D
  count : V (Proc.devRef .tc main_v2_2) = constantI S_ 32 (BitVec.ofNat 32 k)
  state : ∀ (a : Fin 256) (b : Fin 128), (V (Proc.devRef .tc main_v2_3) : FVec Ideal S256x128 .f32) (ix2 a b) = stateAt D U a b k
  rows : ∀ (n : Fin 128) (a : Fin 256) (b : Fin 128), n.val < k → (V (Proc.devRef .tc main_v2_4) : FVec Ideal S128x256x128 .f32) (ix3 n a b) = stateAt D U a b n.val

theorem index_at : ∀ k : Fin 128, (BitVec.ofNat 32 k.val).toInt = (k.val : ℤ) := by decide +kernel

/-- Where trip `k` reads and writes. -/
def start (k : ℕ) : Fin 3 → ℤ := fun j =>
  ((![constantI S_ 32 (BitVec.ofNat 32 k), constantI S_ 32 0#32, constantI S_ 32 0#32]
    : Fin 3 → (⟨S_, .i32⟩ : BufTy).Contents (Elt Ideal)) j (Shape.Idx.first h_S_)).toInt

theorem start_at (k : ℕ) (hk : k < 128) : start k 0 = (k : ℤ) := index_at ⟨k, hk⟩

theorem clamps (k : ℕ) (hk : k < 128) (h : S128x256x128.rank = S1x256x128.rank) : Host.clampedStart S128x256x128 S1x256x128 h.symm (start k) 0 = k
    ∧ Host.clampedStart S128x256x128 S1x256x128 h.symm (start k) 1 = 0 ∧ Host.clampedStart S128x256x128 S1x256x128 h.symm (start k) 2 = 0 :=
  ⟨Host.clampedStart_of_le (s := S128x256x128) (t := S1x256x128) rfl (start k) 0 k (start_at k hk) (show k + 1 ≤ 128 by omega),
    Host.clampedStart_of_le (s := S128x256x128) (t := S1x256x128) rfl (start k) 1 0 rfl (show 0 + 256 ≤ 256 by omega),
    Host.clampedStart_of_le (s := S128x256x128) (t := S1x256x128) rfl (start k) 2 0 rfl (show 0 + 128 ≤ 128 by omega)⟩

/-- The chunk that trip `k` reads. -/
theorem slice_at (x : FVec Ideal S128x256x128 .f32) (k : ℕ) (hk : k < 128) (a : Fin 256) (b : Fin 128) :
    shapeCast S256x128 (Host.dynamicSlice S1x256x128 x (start k) sliceFits_S128x256x128_S1x256x128) shapeCasts_S1x256x128_S256x128 (ix2 a b) = x (ix3 ⟨k, hk⟩ a b) := by
  obtain ⟨e0, e1, e2⟩ := clamps k hk rfl
  pointwise
  refine congrArg x (congr (congrArg₂ ix3 (Fin.ext e0) (Fin.ext ?_)) (Fin.ext ?_))
  · exact (congrArg (· + a.val) e1).trans (Nat.zero_add _)
  · exact (congrArg (· + b.val) e2).trans (Nat.zero_add _)

/-- The chunk that trip `k` writes. -/
theorem update_at (x : FVec Ideal S128x256x128 .f32) (y : FVec Ideal S256x128 .f32) (k : ℕ) (hk : k < 128) (n : Fin 128) (a : Fin 256) (b : Fin 128) :
    Host.dynamicUpdateSlice x (broadcastInDim S1x256x128 ![1, 2] bcast_S256x128_S1x256x128_1_2 y) (start k) updateFits_S128x256x128_S1x256x128 (ix3 n a b)
      = if n.val = k then y (ix2 a b) else x (ix3 n a b) := by
  obtain ⟨e0, e1, e2⟩ := clamps k hk rfl
  pointwise
  by_cases hn : n.val = k
  · rw [if_pos hn]
    refine (dif_pos (by rw [e0, e1, e2]; omega)).trans ?_
    refine congrArg y (congrArg₂ ix2 (Fin.ext ?_) (Fin.ext ?_))
    · exact congrArg (a.val - ·) e1
    · exact congrArg (b.val - ·) e2
  · rw [if_neg hn]
    exact dif_neg (by rw [e0]; omega)

/-- The state after trip `k`. -/
theorem step_at (D U : FVec Ideal S128x256x128 .f32) (y : FVec Ideal S256x128 .f32) (k : ℕ) (hk : k < 128) (a : Fin 256) (b : Fin 128) :
    addf (mulf (shapeCast S256x128 (Host.dynamicSlice S1x256x128 D (start k) sliceFits_S128x256x128_S1x256x128) shapeCasts_S1x256x128_S256x128) y)
      (shapeCast S256x128 (Host.dynamicSlice S1x256x128 U (start k) sliceFits_S128x256x128_S1x256x128) shapeCasts_S1x256x128_S256x128) (ix2 a b)
      = D (ix3 ⟨k, hk⟩ a b) * y (ix2 a b) + U (ix3 ⟨k, hk⟩ a b) := by
  rw [← slice_at U k hk, ← slice_at D k hk]
  rfl

theorem after_step (k : ℕ) (hk : k < 128) (V : Valuation τ sig (Elt Ideal)) (h : After D U k V) : After D U (k + 1) (STEP V) where
  inputs := (STEP_main_v2_1 V).trans h.inputs
  decays := (STEP_main_v2_0 V).trans h.decays
  count := by
    rw [STEP_main_v2_2, step_main_v2_2, h.count]
    funext i
    exact (BitVec.ofNat_add k 1).symm
  state := fun a b => by
    rw [STEP_main_v2_3, step_main_v2_3, h.inputs, h.decays, h.count, stateAt, ← h.state a b, dif_pos hk, dif_pos hk]
    exact step_at D U _ k hk a b
  rows := fun n a b hn => by
    rw [STEP_main_v2_4, step_main_v2_4, h.count]
    refine (update_at _ _ k hk n a b).trans ?_
    by_cases hk' : n.val = k
    · rw [if_pos hk', h.state a b, hk']
    · rw [if_neg hk']
      exact h.rows n a b (by omega)

theorem entry (h0 : m ((c : Thread nD τ).loc main_arg0) = D) (h1 : m ((c : Thread nD τ).loc main_arg1) = U) : After D U 0 (StableHlo.entryContents preI m c) := by
  subst h0 h1
  constructor
  · simp only [StableHlo.entryContents, preI, StableHlo.afterL_cons, StableHlo.afterL_nil]; after_results; rfl
  · simp only [StableHlo.entryContents, preI, StableHlo.afterL_cons, StableHlo.afterL_nil]; after_results; rfl
  · simp only [StableHlo.entryContents, preI, StableHlo.afterL_cons, StableHlo.afterL_nil]; after_results; rfl
  · intro a b
    simp only [StableHlo.entryContents, preI, StableHlo.afterL_cons, StableHlo.afterL_nil]
    after_results
    simp only [id]
    pointwise [stateAt]
  · intro n a b h
    exact absurd h (Nat.not_lt_zero _)

theorem trips (h0 : m ((c : Thread nD τ).loc main_arg0) = D) (h1 : m ((c : Thread nD τ).loc main_arg1) = U) : ∀ k, k ≤ 128 → After D U k (STEP^[k] (StableHlo.entryContents preI m c))
  | 0, _ => entry m c h0 h1
  | k + 1, hk => by
    rw [Function.iterate_succ_apply']
    exact after_step k hk _ (trips h0 h1 k (by omega))

/-- The reference's result: the state before every chunk. -/
def all (D U : FVec Ideal S128x256x128 .f32) : FVec Ideal S128x256x128 .f32 := fun i => stateAt D U (i 1) (i 2) (i 0).val

theorem result (h0 : m ((c : Thread nD τ).loc main_arg0) = D) (h1 : m ((c : Thread nD τ).loc main_arg1) = U) :
    (STEP^[128] (StableHlo.entryContents preI m c)) (Proc.devRef .tc main_v2_4) = all D U := by
  funext (i : S128x256x128.Idx)
  obtain ⟨n, a, b, rfl⟩ : ∃ (n : Fin 128) (a : Fin 256) (b : Fin 128), i = ix3 n a b := ⟨_, _, _, eq_ix3 i⟩
  exact (trips m c h0 h1 128 le_rfl).rows n a b (by omega)

end Cert.States.Forward.Ref
-- ==== Proof.M33.lean ====
/- The states before the chunks: eight chunks at each point, the state carried between points. -/
module

public import proofs.«01_k».proof.Defs
public import proofs.«01_k».proof.Proof.Gen.Kernel33Ideal.Frame
public import proofs.«01_k».proof.Proof.M33Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.States.Forward

open Cert.Kernel33Ideal Cert.Kernel33Ideal.Gen Idealize.ShloMosaic Idealize.ShloMosaic.TcCoe Idealize.SL.Sem
open Idealize.ShloMosaic.Pipeline (Dat)
open Ref (stateAt all)

variable (m : (ℓ : Loc nD τ sig) → Buf (Elt Ideal) ℓ) (c : Dev nD)

/-- The windows' index maps: the blocks of chunks in order. -/
theorem idx : ∀ t : Fin cfg0.N, win0_0.index t = ![t.val, 0, 0] ∧ win0_1.index t = ![t.val, 0, 0] ∧ win0_2.index t = ![t.val, 0, 0] :=
  (by decide +kernel : ∀ t : Fin grid0.N, _)

variable {D U : FVec Ideal S128x256x128 .f32}
    (h0 : m ((c : Thread nD τ).loc main_arg0) = D) (h1 : m ((c : Thread nD τ).loc main_arg1) = U)

/-- The chunk at row `r` of a point's block. -/
def chunk (t : Fin cfg0.N) (r : Fin 8) : Fin 128 := ⟨t.val * 8 + r.val, by have : t.val < 16 := t.isLt; omega⟩

include h0 in
theorem decay_at (t : Fin cfg0.N) (r : Fin 8) (a : Fin 256) (b : Fin 128) : iblk m c 0 t (ix3 r a b) = D (ix3 (chunk t r) a b) := by
  subst h0; blk_ext [iblk, Gen.V, idx t, chunk]

include h1 in
theorem input_at (t : Fin cfg0.N) (r : Fin 8) (a : Fin 256) (b : Fin 128) : iblk m c 1 t (ix3 r a b) = U (ix3 (chunk t r) a b) := by
  subst h1; blk_ext [iblk, Gen.V, idx t, chunk]

include h0 h1

/-- One chunk's step, at row `r` of a point's block. -/
theorem step (t : Fin cfg0.N) (k l : ℕ) (r : Fin 8) (hk : r.val = k) (hl : l = k + 1) (a : Fin 256) (b : Fin 128) :
    HAdd.hAdd (α := EReal) (β := EReal) (γ := EReal) (HMul.hMul (α := EReal) (β := EReal) (γ := EReal) (iblk m c 0 t (ix3 r a b)) (stateAt D U a b (8 * t.val + k))) (iblk m c 1 t (ix3 r a b)) = stateAt D U a b (8 * t.val + l) := by
  subst hl
  have ht : t.val < 16 := t.isLt
  have e : chunk t r = ⟨8 * t.val + k, by omega⟩ := Fin.ext (by show t.val * 8 + r.val = 8 * t.val + k; omega)
  rw [decay_at m c h0 t r a b, input_at m c h1 t r a b, e]
  exact (Ref.state_next a b _ (by omega)).symm

/-- The state after the first point. -/
theorem first (t : Fin cfg0.N) (a : Fin 256) (b : Fin 128) (h : t.val % 16 = 0) (z : (0 : EReal) = stateAt D U a b (8 * t.val + 0)) : (outsAt0 m c t.val t.isLt).2 (ix2 a b) = stateAt D U a b (8 * t.val + 8) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  rw [outsAt0_A m c t h]
  frame_out
  open_payloads
  pointwise []
  rw [z, s0, s1, s2, s3, s4, s5, s6, s7]

/-- The state after another point. -/
theorem next (t : Fin cfg0.N) (a : Fin 256) (b : Fin 128) (h : ¬ t.val % 16 = 0)
    (ih : (outsAt0 m c (t.val - 1) (Nat.lt_of_le_of_lt (Nat.sub_le _ _) t.isLt)).2 (ix2 a b) = stateAt D U a b (8 * t.val + 0)) :
    (outsAt0 m c t.val t.isLt).2 (ix2 a b) = stateAt D U a b (8 * t.val + 8) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  rw [outsAt0_B m c t h]
  frame_out
  open_payloads
  pointwise []
  rw [read_unread_whole, ih, s0, s1, s2, s3, s4, s5, s6, s7]

/-- The state that a point hands to the next. -/
theorem carry : ∀ (n : ℕ) (hn : n < cfg0.N) (a : Fin 256) (b : Fin 128), (outsAt0 m c n hn).2 (ix2 a b) = stateAt D U a b (8 * n + 8)
  | 0, hn, a, b => first m c h0 h1 ⟨0, hn⟩ a b rfl rfl
  | n + 1, hn, a, b => next m c h0 h1 ⟨n + 1, hn⟩ a b (by have : n + 1 < 16 := hn; show ¬ (n + 1) % 16 = 0; omega) (carry n (by omega) a b)

/-- The state before each chunk of a point's block. -/
theorem rows (t : Fin cfg0.N) (r : Fin 8) (a : Fin 256) (b : Fin 128) : (outsAt0 m c t.val t.isLt).1 (ix3 r a b) = stateAt D U a b (8 * t.val + r.val) := by
  have s := step m c h0 h1 t
  have s0 := s 0 1 0 rfl rfl a b; have s1 := s 1 2 1 rfl rfl a b; have s2 := s 2 3 2 rfl rfl a b; have s3 := s 3 4 3 rfl rfl a b
  have s4 := s 4 5 4 rfl rfl a b; have s5 := s 5 6 5 rfl rfl a b; have s6 := s 6 7 6 rfl rfl a b; have s7 := s 7 8 7 rfl rfl a b
  have hN : t.val < 16 := t.isLt
  by_cases h : t.val % 16 = 0
  · have z : (0 : EReal) = stateAt D U a b (8 * t.val + 0) := by
      rw [show t.val = 0 by omega]; rfl
    rw [outsAt0_A m c t h]
    frame_out
    canon_tiles x hx
    all_goals
      have ea : x 1 = a := Fin.ext hx1.symm
      have eb : x 2 = b := Fin.ext hx2.symm
      open_payloads
      pointwise []
      try rw [ea, eb]
      rw [z]
      try simp only [s0, s1, s2, s3, s4, s5, s6, s7]
      refine congrArg (stateAt D U a b) ?_
      have hr : r.val = _ := hx0
      omega
  · have ih : (outsAt0 m c (t.val - 1) (by omega)).2 (ix2 a b) = stateAt D U a b (8 * t.val + 0) :=
      (carry m c h0 h1 (t.val - 1) (by omega) a b).trans (congrArg (stateAt D U a b) (by omega))
    rw [outsAt0_B m c t h]
    frame_out
    canon_tiles x hx
    all_goals
      have ea : x 1 = a := Fin.ext hx1.symm
      have eb : x 2 = b := Fin.ext hx2.symm
      open_payloads
      pointwise []
      rw [ea, eb, read_unread_whole, ih]
      try simp only [s0, s1, s2, s3, s4, s5, s6, s7]
      refine congrArg (stateAt D U a b) ?_
      have hr : r.val = _ := hx0
      omega

/-- The kernel's array after the region. -/
theorem final : (dats m 0 c).arrAt 2 cfg0.N = all D U := by
  refine (dats m 0 c).arrAt_eq_of_covers 2 _ (by decide +kernel) fun t hf (y : S8x256x128.Idx) => ?_
  obtain ⟨r, a, b, rfl⟩ : ∃ (r : Fin 8) (a : Fin 256) (b : Fin 128), y = ix3 r a b := ⟨_, _, _, eq_ix3 y⟩
  have hr : ((cfg0.win 2).blk t).view.emb (ix3 r a b) = ix3 (chunk t r) a b := by blk_ext [idx t, chunk]
  have ht : t.val < 16 := t.isLt
  rw [hr]
  blk_simp
  rw [after0_2, rows m c h0 h1 t r a b]
  exact congrArg (stateAt D U a b) (show 8 * t.val + r.val = t.val * 8 + r.val by omega)

omit h0 h1
/-- The kernel's run: the result is the reference's state of the arguments, which end unchanged. -/
theorem run (g : Dev nD → PrngReg) : θ_run defs (onTc (τ := τ) (main (F := Ideal))) ⟨m, fun _ => 0, g⟩ fun r => ∀ c : Dev nD,
      r.2.mem ((c : Thread nD τ).loc main_v0) = all (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference33Ideal := fun m g _ =>
  (θ_run Cert.Reference33Ideal.defs _ _).mono (fun r h => ⟨fun c => (h c).2, sem_eq_zero_of_no_sems (by decide) r.2⟩) (Cert.Reference33Ideal.Value.run m g)

/-- The kernel computes the reference's states. -/
theorem algebraic : Cert.algebraic_Kernel33Ideal_Reference33Ideal := by
  intro m g m' g' _ harg
  refine ⟨fun c => all (m ((c : Thread nD τ).loc main_arg0)) (m ((c : Thread nD τ).loc main_arg1)), run m g,
    (θ_run Cert.Reference33Ideal.defs _ _).mono (fun r h c => ⟨(h c).1.trans ?_, (h c).2⟩) (Cert.Reference33Ideal.Value.run m' g')⟩
  exact Ref.result m' c (harg c).1 (harg c).2

end Cert.States.Forward

end
-- ==== Proof.M34Ref.lean ====
/- The reference's states of the backward direction: a loop over the flipped chunks. -/
module

public import proofs.«01_k».proof.Defs
public import proofs.«01_k».proof.Proof.Gen.Reference34Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384
noncomputable section
namespace Cert.States.Behind.Ref

open Cert.Reference34Ideal Cert.Reference34Ideal.Gen Cert.Reference34Ideal.Value Idealize.ShloMosaic Idealize.ShloMosaic.TcCoe Idealize.SL.Sem

/-- The state after the last `k` chunks. -/
def stateAt (D U : FVec Ideal S128x256x128 .f32) (a : Fin 256) (b : Fin 128) : ℕ → EReal
  | 0 => 0
  | k + 1 => D (ix3 ⟨127 - k, by omega⟩ a b) * stateAt D U a b k + U (ix3 ⟨127 - k, by omega⟩ a b)

variable (m : (ℓ : Loc nD τ sig) → Buf (Elt Ideal) ℓ) (c : Dev nD)
variable {D U : FVec Ideal S128x256x128 .f32}

/-- What the loop carries after `k` trips. -/
structure After (D U : FVec Ideal S128x256x128 .f32) (k : ℕ) (V : Valuation τ sig (Elt Ideal)) : Prop where
  inputs : V (Proc.devRef .tc main_v4_1) = Host.reverse [0] U
  decays : V (Proc.devRef .tc main_v4_0) = Host.reverse [0] D
  count : V (Proc.devRef .tc main_v4_2) = constantI S_ 32 (BitVec.ofNat 32 k)
  state : ∀ (a : Fin 256) (b : Fin 128), (V (Proc.devRef .tc main_v4_3) : FVec Ideal S256x128 .f32) (ix2 a b) = stateAt D U a b k
  rows : ∀ (n : Fin 128) (a : Fin 256) (b : Fin 128), n.val < k → (V (Proc.devRef .tc main_v4_4) : FVec Ideal S128x256x128 .f32) (ix3 n a b) = stateAt D U a b n.val

theorem index_at : ∀ k : Fin 128, (BitVec.ofNat 32 k.val).toInt = (k.val : ℤ) := by decide +kernel

/-- Where trip `k` reads and writes. -/
def start (k : ℕ) : Fin 3 → ℤ := fun j =>
  ((![constantI S_ 32 (BitVec.ofNat 32 k), constantI S_ 32 0#32, constantI S_ 32 0#32]
    : Fin 3 → (⟨S_, .i32⟩ : BufTy).Contents (Elt Ideal)) j (Shape.Idx.first h_S_)).toInt

theorem start_at (k : ℕ) (hk : k < 128) : start k 0 = (k : ℤ) := index_at ⟨k, hk⟩

theorem clamps (k : ℕ) (hk : k < 128) (h : S128x256x128.rank = S1x256x128.rank) : Host.clampedStart S128x256x128 S1x256x128 h.symm (start k) 0 = k
    ∧ Host.clampedStart S128x256x128 S1x256x128 h.symm (start k) 1 = 0 ∧ Host.clampedStart S128x256x128 S1x256x128 h.symm (start k) 2 = 0 :=
  ⟨Host.clampedStart_of_le (s := S128x256x128) (t := S1x256x128) rfl (start k) 0 k (start_at k hk) (show k + 1 ≤ 128 by omega),
    Host.clampedStart_of_le (s := S128x256x128) (t := S1x256x128) rfl (start k) 1 0 rfl (show 0 + 256 ≤ 256 by omega),
    Host.clampedStart_of_le (s := S128x256x128) (t := S1x256x128) rfl (start k) 2 0 rfl (show 0 + 128 ≤ 128 by omega)⟩

/-- The chunk that trip `k` reads. -/
theorem slice_at (x : FVec Ideal S128x256x128 .f32) (k : ℕ) (hk : k < 128) (a : Fin 256) (b : Fin 128) :
    shapeCast S256x128 (Host.dynamicSlice S1x256x128 x (start k) sliceFits_S128x256x128_S1x256x128) shapeCasts_S1x256x128_S256x128 (ix2 a b) = x (ix3 ⟨k, hk⟩ a b) := by
  obtain ⟨e0, e1, e2⟩ := clamps k hk rfl
  pointwise
  refine congrArg x (congr (congrArg₂ ix3 (Fin.ext e0) (Fin.ext ?_)) (Fin.ext ?_))
  · exact (congrArg (· + a.val) e1).trans (Nat.zero_add _)
  · exact (congrArg (· + b.val) e2).trans (Nat.zero_add _)

/-- The chunk that trip `k` writes. -/
theorem update_at (x : FVec Ideal S128x256x128 .f32) (y : FVec Ideal S256x128 .f32) (k : ℕ) (hk : k < 128) (n : Fin 128) (a : Fin 256) (b : Fin 128) :
    Host.dynamicUpdateSlice x (broadcastInDim S1x256x128 ![1, 2] bcast_S256x128_S1x256x128_1_2 y) (start k) updateFits_S128x256x128_S1x256x128 (ix3 n a b)
      = if n.val = k then y (ix2 a b) else x (ix3 n a b) := by
  obtain ⟨e0, e1, e2⟩ := clamps k hk rfl
  pointwise
  by_cases hn : n.val = k
  · rw [if_pos hn]
    refine (dif_pos (by rw [e0, e1, e2]; omega)).trans ?_
    refine congrArg y (congrArg₂ ix2 (Fin.ext ?_) (Fin.ext ?_))
    · exact congrArg (a.val - ·) e1
    · exact congrArg (b.val - ·) e2
  · rw [if_neg hn]
    exact dif_neg (by rw [e0]; omega)

/-- A flipped row. -/
theorem flip_at (x : FVec Ideal S128x256x128 .f32) (n : Fin 128) (a : Fin 256) (b : Fin 128) :
    Host.reverse [0] x (ix3 n a b) = x (ix3 ⟨127 - n.val, by omega⟩ a b) := by
  pointwise
  exact congrArg x (congrArg (ix3 · a b) (Fin.ext (by show 128 - (n.val + 1) = 127 - n.val; omega)))

/-- The state after trip `k`. -/
theorem step_at (D U : FVec Ideal S128x256x128 .f32) (y : FVec Ideal S256x128 .f32) (k : ℕ) (hk : k < 128) (a : Fin 256) (b : Fin 128) :
    addf (mulf (shapeCast S256x128 (Host.dynamicSlice S1x256x128 (Host.reverse [0] D) (start k) sliceFits_S128x256x128_S1x256x128) shapeCasts_S1x256x128_S256x128) y)
      (shapeCast S256x128 (Host.dynamicSlice S1x256x128 (Host.reverse [0] U) (start k) sliceFits_S128x256x128_S1x256x128) shapeCasts_S1x256x128_S256x128) (ix2 a b)
      = D (ix3 ⟨127 - k, by omega⟩ a b) * y (ix2 a b) + U (ix3 ⟨127 - k, by omega⟩ a b) := by
  rw [← (slice_at (Host.reverse [0] U) k hk a b).trans (flip_at U _ a b), ← (slice_at (Host.reverse [0] D) k hk a b).trans (flip_at D _ a b)]
  rfl

theorem after_step (k : ℕ) (hk : k < 128) (V : Valuation τ sig (Elt Ideal)) (h : After D U k V) : After D U (k + 1) (STEP V) where
  inputs := (STEP_main_v4_1 V).trans h.inputs
  decays := (STEP_main_v4_0 V).trans h.decays
  count := by
    rw [STEP_main_v4_2, step_main_v4_2, h.count]
    funext i
    exact (BitVec.ofNat_add k 1).symm
  state := fun a b => by
    rw [STEP_main_v4_3, step_main_v4_3, h.inputs, h.decays, h.count, stateAt, ← h.state a b]
    exact step_at D U _ k hk a b
  rows := fun n a b hn => by
    rw [STEP_main_v4_4, step_main_v4_4, h.count]
    refine (update_at _ _ k hk n a b).trans ?_
    by_cases hk' : n.val = k
    · rw [if_pos hk', h.state a b, hk']
    · rw [if_neg hk']
      exact h.rows n a b (by omega)

theorem entry (h0 : m ((c : Thread nD τ).loc main_arg0) = D) (h1 : m ((c : Thread nD τ).loc main_arg1) = U) : After D U 0 (StableHlo.entryContents preI m c) := by
  subst h0 h1
  constructor
  · simp only [StableHlo.entryContents, preI, StableHlo.afterL_cons, StableHlo.afterL_nil]; after_results; rfl
  · simp only [StableHlo.entryContents, preI, StableHlo.afterL_cons, StableHlo.afterL_nil]; after_results; rfl
  · simp only [StableHlo.entryContents, preI, StableHlo.afterL_cons, StableHlo.afterL_nil]; after_results; rfl
  · intro a b
    simp only [StableHlo.entryContents, preI, StableHlo.afterL_cons, StableHlo.afterL_nil]
    after_results
    simp only [id]
    pointwise [stateAt]
  · intro n a b h
    exact absurd h (Nat.not_lt_zero _)

theorem trips (h0 : m ((c : Thread nD τ).loc main_arg0) = D) (h1 : m ((c : Thread nD τ).loc main_arg1) = U) : ∀ k, k ≤ 128 → After D U k (STEP^[k] (StableHlo.entryContents preI m c))
  | 0, _ => entry m c h0 h1
  | k + 1, hk => by
    rw [Function.iterate_succ_apply']
    exact after_step k hk _ (trips h0 h1 k (by omega))

/-- The reference's result: the state after the chunks behind every chunk. -/
def all (D U : FVec Ideal S128x256x128 .f32) : FVec Ideal S128x256x128 .f32 := fun i => stateAt D U (i 1) (i 2) (127 - (i 0).val)

theorem result (h0 : m ((c : Thread nD τ).loc main_arg0) = D) (h1 : m ((c : Thread nD τ).loc main_arg1) = U) :
    out_main_v5 (STEP^[128] (StableHlo.entryContents preI m c)) = all D U := by
  funext (i : S128x256x128.Idx)
  obtain ⟨n, a, b, rfl⟩ : ∃ (n : Fin 128) (a : Fin 256) (b : Fin 128), i = ix3 n a b := ⟨_, _, _, eq_ix3 i⟩
  exact (flip_at _ n a b).trans ((trips m c h0 h1 128 le_rfl).rows ⟨127 - n.val, by omega⟩ a b (by show 127 - n.val < 128; omega))

end Cert.States.Behind.Ref
-- ==== Proof.M34.lean ====
/- The states behind the chunks, for the backward direction: eight chunks at each point, the state carried between points. -/
module

public import proofs.«01_k».proof.Defs
public import proofs.«01_k».proof.Proof.Gen.Kernel34Ideal.Frame
public import proofs.«01_k».proof.Proof.M34Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.States.Behind

open Cert.Kernel34Ideal Cert.Kernel34Ideal.Gen Idealize.ShloMosaic Idealize.ShloMosaic.TcCoe Idealize.SL.Sem
open Idealize.ShloMosaic.Pipeline (Dat)
open Ref (stateAt all)

variable (m : (ℓ : Loc nD τ sig) → Buf (Elt Ideal) ℓ) (c : Dev nD)

/-- The windows' index maps: the blocks of chunks from the last to the first. -/
theorem idx : ∀ t : Fin cfg0.N, win0_0.index t = ![15 - t.val, 0, 0] ∧ win0_1.index t = ![15 - t.val, 0, 0] ∧ win0_2.index t = ![15 - t.val, 0, 0] :=
  (by decide +kernel : ∀ t : Fin grid0.N, _)

variable {D U : FVec Ideal S128x256x128 .f32}
    (h0 : m ((c : Thread nD τ).loc main_arg0) = D) (h1 : m ((c : Thread nD τ).loc main_arg1) = U)

/-- The chunk at row `r` of a point's block. -/
def chunk (t : Fin cfg0.N) (r : Fin 8) : Fin 128 := ⟨(15 - t.val) * 8 + r.val, by omega⟩

include h0 in
theorem decay_at (t : Fin cfg0.N) (r : Fin 8) (a : Fin 256) (b : Fin 128) : iblk m c 0 t (ix3 r a b) = D (ix3 (chunk t r) a b) := by
  subst h0; blk_ext [iblk, Gen.V, idx t, chunk]

include h1 in
theorem input_at (t : Fin cfg0.N) (r : Fin 8) (a : Fin 256) (b : Fin 128) : iblk m c 1 t (ix3 r a b) = U (ix3 (chunk t r) a b) := by
  subst h1; blk_ext [iblk, Gen.V, idx t, chunk]

include h0 h1

/-- One chunk's step, at row `r` of a point's block. -/
theorem step (t : Fin cfg0.N) (k l : ℕ) (r : Fin 8) (hk : r.val + k = 7) (hl : l = k + 1) (a : Fin 256) (b : Fin 128) :
    HAdd.hAdd (α := EReal) (β := EReal) (γ := EReal) (HMul.hMul (α := EReal) (β := EReal) (γ := EReal) (iblk m c 0 t (ix3 r a b)) (stateAt D U a b (8 * t.val + k))) (iblk m c 1 t (ix3 r a b)) = stateAt D U a b (8 * t.val + l) := by
  subst hl
  have ht : t.val < 16 := t.isLt
  have e : chunk t r = ⟨127 - (8 * t.val + k), by omega⟩ := Fin.ext (by show (15 - t.val) * 8 + r.val = 127 - (8 * t.val + k); omega)
  rw [decay_at m c h0 t r a b, input_at m c h1 t r a b, e]
  rfl

/-- The state after the first point. -/
theorem first (t : Fin cfg0.N) (a : Fin 256) (b : Fin 128) (h : t.val % 16 = 0) (z : (0 : EReal) = stateAt D U a b (8 * t.val + 0)) : (outsAt0 m c t.val t.isLt).2 (ix2 a b) = stateAt D U a b (8 * t.val + 8) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  rw [outsAt0_A m c t h]
  frame_out
  open_payloads
  pointwise []
  rw [z, s0, s1, s2, s3, s4, s5, s6, s7]

/-- The state after another point. -/
theorem next (t : Fin cfg0.N) (a : Fin 256) (b : Fin 128) (h : ¬ t.val % 16 = 0)
    (ih : (outsAt0 m c (t.val - 1) (Nat.lt_of_le_of_lt (Nat.sub_le _ _) t.isLt)).2 (ix2 a b) = stateAt D U a b (8 * t.val + 0)) :
    (outsAt0 m c t.val t.isLt).2 (ix2 a b) = stateAt D U a b (8 * t.val + 8) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  rw [outsAt0_B m c t h]
  frame_out
  open_payloads
  pointwise []
  rw [read_unread_whole, ih, s0, s1, s2, s3, s4, s5, s6, s7]

/-- The state that a point hands to the next. -/
theorem carry : ∀ (n : ℕ) (hn : n < cfg0.N) (a : Fin 256) (b : Fin 128), (outsAt0 m c n hn).2 (ix2 a b) = stateAt D U a b (8 * n + 8)
  | 0, hn, a, b => first m c h0 h1 ⟨0, hn⟩ a b rfl rfl
  | n + 1, hn, a, b => next m c h0 h1 ⟨n + 1, hn⟩ a b (by have : n + 1 < 16 := hn; show ¬ (n + 1) % 16 = 0; omega) (carry n (by omega) a b)

/-- The state before each chunk of a point's block. -/
theorem rows (t : Fin cfg0.N) (r : Fin 8) (a : Fin 256) (b : Fin 128) : (outsAt0 m c t.val t.isLt).1 (ix3 r a b) = stateAt D U a b (8 * t.val + (7 - r.val)) := by
  have s := step m c h0 h1 t
  have s0 := s 0 1 7 rfl rfl a b; have s1 := s 1 2 6 rfl rfl a b; have s2 := s 2 3 5 rfl rfl a b; have s3 := s 3 4 4 rfl rfl a b
  have s4 := s 4 5 3 rfl rfl a b; have s5 := s 5 6 2 rfl rfl a b; have s6 := s 6 7 1 rfl rfl a b; have s7 := s 7 8 0 rfl rfl a b
  have hN : t.val < 16 := t.isLt
  by_cases h : t.val % 16 = 0
  · have z : (0 : EReal) = stateAt D U a b (8 * t.val + 0) := by
      rw [show t.val = 0 by omega]; rfl
    rw [outsAt0_A m c t h]
    frame_out
    canon_tiles x hx
    all_goals
      have ea : x 1 = a := Fin.ext hx1.symm
      have eb : x 2 = b := Fin.ext hx2.symm
      open_payloads
      pointwise []
      try rw [ea, eb]
      rw [z]
      try simp only [s0, s1, s2, s3, s4, s5, s6, s7]
      refine congrArg (stateAt D U a b) ?_
      have hr : r.val = _ := hx0
      omega
  · have ih : (outsAt0 m c (t.val - 1) (by omega)).2 (ix2 a b) = stateAt D U a b (8 * t.val + 0) :=
      (carry m c h0 h1 (t.val - 1) (by omega) a b).trans (congrArg (stateAt D U a b) (by omega))
    rw [outsAt0_B m c t h]
    frame_out
    canon_tiles x hx
    all_goals
      have ea : x 1 = a := Fin.ext hx1.symm
      have eb : x 2 = b := Fin.ext hx2.symm
      open_payloads
      pointwise []
      rw [ea, eb, read_unread_whole, ih]
      try simp only [s0, s1, s2, s3, s4, s5, s6, s7]
      refine congrArg (stateAt D U a b) ?_
      have hr : r.val = _ := hx0
      omega

/-- The kernel's array after the region. -/
theorem final : (dats m 0 c).arrAt 2 cfg0.N = all D U := by
  refine (dats m 0 c).arrAt_eq_of_covers 2 _ (by decide +kernel) fun t hf (y : S8x256x128.Idx) => ?_
  obtain ⟨r, a, b, rfl⟩ : ∃ (r : Fin 8) (a : Fin 256) (b : Fin 128), y = ix3 r a b := ⟨_, _, _, eq_ix3 y⟩
  have hr : ((cfg0.win 2).blk t).view.emb (ix3 r a b) = ix3 (chunk t r) a b := by blk_ext [idx t, chunk]
  have ht : t.val < 16 := t.isLt
  rw [hr]
  blk_simp
  rw [after0_2, rows m c h0 h1 t r a b]
  exact congrArg (stateAt D U a b) (show 8 * t.val + (7 - r.val) = 127 - ((15 - t.val) * 8 + r.val) by omega)

omit h0 h1
/-- The kernel's run: the result is the reference's state of the arguments, which end unchanged. -/
theorem run (g : Dev nD → PrngReg) : θ_run defs (onTc (τ := τ) (main (F := Ideal))) ⟨m, fun _ => 0, g⟩ fun r => ∀ c : Dev nD,
      r.2.mem ((c : Thread nD τ).loc main_v0) = all (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h.1 c).1 2).trans (final m c rfl rfl), h.2 c⟩)
    (θ_run_and (run_main m g) (unchanged m g))

/-- The reference's run leaves its arguments and all counters as they were. -/
theorem reference_frame : Cert.quiescent_Reference34Ideal := fun m g _ =>
  (θ_run Cert.Reference34Ideal.defs _ _).mono (fun r h => ⟨fun c => (h c).2, sem_eq_zero_of_no_sems (by decide) r.2⟩) (Cert.Reference34Ideal.Value.run m g)

/-- The kernel computes the reference's states. -/
theorem algebraic : Cert.algebraic_Kernel34Ideal_Reference34Ideal := by
  intro m g m' g' _ harg
  refine ⟨fun c => all (m ((c : Thread nD τ).loc main_arg0)) (m ((c : Thread nD τ).loc main_arg1)), run m g,
    (θ_run Cert.Reference34Ideal.defs _ _).mono (fun r h c => ⟨(h c).1.trans ?_, (h c).2⟩) (Cert.Reference34Ideal.Value.run m' g')⟩
  exact Ref.result m' c (harg c).1 (harg c).2

end Cert.States.Behind

end
-- ==== Proof.Chunk.lean ====
/- Sums over a tile of eight chunks of sixteen rows: the part of one chunk, and a running sum within it. -/
module

public import Idealize.ShloMosaic.Lib.Pipeline.Value
public import Idealize.ShloMosaic.Lib.Pipeline.ValueKit
public import Idealize.ShloMosaic.Lib.IdealHost

@[expose] public section
set_option maxRecDepth 16384
noncomputable section
namespace Cert.Chunk

open Idealize.ShloMosaic

/-- Row `i` of chunk `k` of a tile. -/
def row (k : Fin 8) (i : Fin 16) : Fin 128 := ⟨k.val * 16 + i.val, by omega⟩

/-- A sum over a tile, chunk by chunk. -/
theorem sum_rows (f : Fin 128 → EReal) : ∑ l : Fin 128, f l = ∑ k : Fin 8, ∑ i : Fin 16, f (row k i) := by
  rw [← Fintype.sum_prod_type' (fun k i => f (row k i))]
  refine (Equiv.sum_comp (finProdFinEquiv : Fin 8 × Fin 16 ≃ Fin 128) f).symm.trans (Finset.sum_congr rfl fun p _ => congrArg f (Fin.ext ?_))
  show p.2.val + 16 * p.1.val = p.1.val * 16 + p.2.val
  omega

/-- A sum of which one chunk alone is kept. -/
theorem sum_kept (k : Fin 8) (f g : Fin 128 → EReal) (hk : ∀ i, f (row k i) = g (row k i)) (h0 : ∀ j i, j ≠ k → f (row j i) = 0) :
    ∑ l : Fin 128, f l = ∑ i : Fin 16, g (row k i) := by
  rw [sum_rows, Finset.sum_eq_single k (fun j _ hj => Finset.sum_eq_zero fun i _ => h0 j i hj) (fun h => absurd (Finset.mem_univ k) h)]
  exact Finset.sum_congr rfl fun i _ => hk i

/-- The first rows' sum, through row `i`. -/
def upto (f : Fin 16 → EReal) (i : Fin 16) : EReal := ∑ j : Fin 16, if j.val ≤ i.val then f j else 0

/-- The last rows' sum, from row `i` on. -/
def from' (f : Fin 16 → EReal) (i : Fin 16) : EReal := ∑ j : Fin 16, if i.val ≤ j.val then f j else 0

/-- The last rows' sum is the first rows' sum of the flipped rows. -/
theorem upto_flip (f : Fin 16 → EReal) (i : Fin 16) : upto (fun j => f ⟨15 - j.val, by omega⟩) ⟨15 - i.val, by omega⟩ = from' f i := by
  refine Fintype.sum_equiv Fin.revPerm _ _ fun j => ?_
  have e : Fin.revPerm j = (⟨15 - j.val, by omega⟩ : Fin 16) := Fin.ext (by show 16 - (j.val + 1) = 15 - j.val; omega)
  rw [e]
  by_cases h : j.val ≤ 15 - i.val
  · rw [if_pos h, if_pos (by show i.val ≤ 15 - j.val; omega)]
  · rw [if_neg h, if_neg (by show ¬ i.val ≤ 15 - j.val; omega)]

theorem upto_last (f : Fin 16 → EReal) (i : Fin 16) (h : i.val = 15) : upto f i = ∑ j : Fin 16, f j :=
  Finset.sum_congr rfl fun j _ => if_pos (by omega)

/-- A fold that adds is the start and the sum. -/
theorem foldl_add {n : ℕ} (g : Fin n → EReal) (v : EReal) : (List.finRange n).foldl (fun r k => r + g k) v = v + ∑ k : Fin n, g k := by
  have h : ∀ (l : List (Fin n)) (v : EReal), l.foldl (fun r k => r + g k) v = v + (l.map g).sum := by
    intro l
    induction l with
    | nil => intro v; simp
    | cons a l ih => intro v; rw [List.foldl_cons, ih, List.map_cons, List.sum_cons, add_assoc]
  rw [h, Fin.sum_univ_def]

/-- A window of sixteen, padded by fifteen below, is the first rows' sum. -/
theorem window_upto (f : Fin 16 → EReal) (i : Fin 16) :
    ∑ n : Fin 16, (if h : 15 ≤ i.val + n.val then f ⟨i.val + n.val - 15, by omega⟩ else 0) = upto f i := by
  unfold upto
  rw [Finset.sum_dite, Finset.sum_const_zero, add_zero, ← Finset.sum_filter]
  refine Finset.sum_bij (fun n _ => ⟨i.val + n.val.val - 15, by omega⟩) ?_ ?_ ?_ ?_
  · intro n _
    simp only [Finset.mem_filter, Finset.mem_univ, true_and]
    omega
  · intro a _ b _ h
    have ha : 15 ≤ i.val + a.val.val := (Finset.mem_filter.mp a.2).2
    have hb : 15 ≤ i.val + b.val.val := (Finset.mem_filter.mp b.2).2
    have := congrArg Fin.val h
    simp only at this
    exact Subtype.ext (Fin.ext (by omega))
  · intro j hj
    have hj' : j.val ≤ i.val := (Finset.mem_filter.mp hj).2
    exact ⟨⟨⟨j.val + 15 - i.val, by omega⟩, Finset.mem_filter.mpr ⟨Finset.mem_univ _, by show 15 ≤ i.val + (j.val + 15 - i.val); omega⟩⟩, Finset.mem_attach _ _,
      Fin.ext (by show i.val + (j.val + 15 - i.val) - 15 = j.val; omega)⟩
  · intro n _
    rfl

end Cert.Chunk
-- ==== Proof.M35Ref.lean ====
/- The adjoint of the states between the chunks: what the outputs' cotangents give each chunk's state. -/
module

public import proofs.«01_k».proof.Defs
public import proofs.«01_k».proof.Proof.Chunk
public import proofs.«01_k».proof.Proof.Gen.Reference35Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.FromStates.Grad.Ref

open Cert.Reference35Ideal Cert.Reference35Ideal.Gen Idealize.ShloMosaic Idealize.ShloMosaic.TcCoe Idealize.SL.Sem
open Cert.Chunk

/-- The rows of an array of 64 columns a head, by heads and chunks. -/
def heads (X : FVec Ideal S2048x256 .f32) : FVec Ideal S4x128x16x64 .f32 :=
  shapeCast _ (transpose S4x2048x64 [1, 0, 2] (shapeCast _ X shapeCasts_S2048x256_S2048x4x64) transposes_S2048x4x64_S4x2048x64_1_0_2) shapeCasts_S4x2048x64_S4x128x16x64

/-- The running sums of the log-decays within the chunks. -/
def sums (X : FVec Ideal S4x128x16x64 .f32) : FVec Ideal S4x128x16x64 .f32 :=
  Host.reduceWindowAdd ![1, 1, 16, 1] ![1, 1, 1, 1] ![0, 0, 15, 0] ![0, 0, 0, 0] X (broadcastInDim S_ ![] bcast_S_S_ (constant S_ .f32 0x00000000#32))
    reduceWindows_S4x128x16x64_S4x128x16x64_w1s1p0_0_w1s1p0_0_w16s1p15_0_w1s1p0_0 h_S_

/-- The reference's gradient. -/
def grad (Q L : FVec Ideal S2048x256 .f32) (O : FVec Ideal S2048x512 .f32) : FVec Ideal S128x256x128 .f32 :=
  shapeCast _ (transpose S128x4x64x128 [1, 0, 3, 2] (Host.dotGeneral dot_S4x128x16x128_S4x128x16x64_S4x128x128x64_2_2_3_3_01_01 none
    (shapeCast _ (transpose S4x2048x128 [1, 0, 2] (shapeCast _ O shapeCasts_S2048x512_S2048x4x128) transposes_S2048x4x128_S4x2048x128_1_0_2) shapeCasts_S4x2048x128_S4x128x16x128)
    (mulf (mulf (heads Q) (broadcastInDim S4x128x16x64 ![] bcast_S_S4x128x16x64 (constant S_ .f32 0x3E000000#32))) (Host.exp (sums (heads L)))))
    transposes_S4x128x128x64_S128x4x64x128_1_0_3_2) shapeCasts_S128x4x64x128_S128x256x128

theorem place : ∀ n : Fin 16, ((⟨4, ![1, 1, 16, 1]⟩ : Shape).rowMajor.symm (n.cast (by decide)) 0).val = 0
    ∧ ((⟨4, ![1, 1, 16, 1]⟩ : Shape).rowMajor.symm (n.cast (by decide)) 1).val = 0
    ∧ ((⟨4, ![1, 1, 16, 1]⟩ : Shape).rowMajor.symm (n.cast (by decide)) 2).val = n.val
    ∧ ((⟨4, ![1, 1, 16, 1]⟩ : Shape).rowMajor.symm (n.cast (by decide)) 3).val = 0 := by decide +kernel

theorem sums_at (X : FVec Ideal S4x128x16x64 .f32) (h : Fin 4) (n : Fin 128) (i : Fin 16) (d : Fin 64) :
    sums X (ix4 h n i d) = upto (fun j => X (ix4 h n j d)) i := by
  have hz : (broadcastInDim S_ ![] bcast_S_S_ (constant S_ .f32 0x00000000#32 : FVec Ideal S_ .f32)) (Shape.Idx.first h_S_) = (0 : EReal) := by
    pointwise []
  unfold sums Host.reduceWindowAdd
  rw [Ideal.hostReduceWindowAdd_def, hz]
  unfold Ideal.hostReduceWindowAdd Host.reduceWindow
  refine (foldl_add _ (0 : EReal)).trans ((zero_add (M := EReal) _).trans ?_)
  refine Eq.trans ?_ (window_upto (fun j => X (ix4 h n j d)) i)
  refine Fintype.sum_equiv (finCongr (by decide)) _ _ fun k' => ?_
  obtain ⟨k, rfl⟩ : ∃ k : Fin 16, k' = k.cast (by decide) := ⟨k'.cast (by decide), rfl⟩
  obtain ⟨p0, p1, p2, p3⟩ := place k
  have hk : (finCongr (by decide) (k.cast (by decide) : Fin (⟨4, ![1, 1, 16, 1]⟩ : Shape).numel) : Fin 16) = k := rfl
  rw [hk]
  by_cases h15 : 15 ≤ i.val + k.val
  · refine (dif_pos ?_).trans (Eq.trans ?_ (dif_pos h15).symm)
    · intro a
      match a with
      | ⟨0, _⟩ => exact ⟨Nat.zero_le _, by show h.val * 1 + ((⟨4, ![1, 1, 16, 1]⟩ : Shape).rowMajor.symm (k.cast _) 0).val - 0 < 4; rw [p0]; omega⟩
      | ⟨1, _⟩ => exact ⟨Nat.zero_le _, by show n.val * 1 + ((⟨4, ![1, 1, 16, 1]⟩ : Shape).rowMajor.symm (k.cast _) 1).val - 0 < 128; rw [p1]; omega⟩
      | ⟨2, _⟩ =>
        show 15 ≤ i.val * 1 + ((⟨4, ![1, 1, 16, 1]⟩ : Shape).rowMajor.symm (k.cast _) 2).val ∧ i.val * 1 + ((⟨4, ![1, 1, 16, 1]⟩ : Shape).rowMajor.symm (k.cast _) 2).val - 15 < 16
        rw [p2]; omega
      | ⟨3, _⟩ => exact ⟨Nat.zero_le _, by show d.val * 1 + ((⟨4, ![1, 1, 16, 1]⟩ : Shape).rowMajor.symm (k.cast _) 3).val - 0 < 64; rw [p3]; omega⟩
    · refine congrArg X (funext fun a => Fin.ext ?_)
      match a with
      | ⟨0, _⟩ => show h.val * 1 + ((⟨4, ![1, 1, 16, 1]⟩ : Shape).rowMajor.symm (k.cast _) 0).val - 0 = h.val; rw [p0]; omega
      | ⟨1, _⟩ => show n.val * 1 + ((⟨4, ![1, 1, 16, 1]⟩ : Shape).rowMajor.symm (k.cast _) 1).val - 0 = n.val; rw [p1]; omega
      | ⟨2, _⟩ => show i.val * 1 + ((⟨4, ![1, 1, 16, 1]⟩ : Shape).rowMajor.symm (k.cast _) 2).val - 15 = i.val + k.val - 15; rw [p2]; omega
      | ⟨3, _⟩ => show d.val * 1 + ((⟨4, ![1, 1, 16, 1]⟩ : Shape).rowMajor.symm (k.cast _) 3).val - 0 = d.val; rw [p3]; omega
  · rw [dif_neg h15]
    refine dif_neg fun hin => h15 ?_
    have h2 : 15 ≤ i.val * 1 + ((⟨4, ![1, 1, 16, 1]⟩ : Shape).rowMajor.symm (k.cast _) 2).val := (hin 2).1
    rw [p2] at h2
    omega

/-- A column of head `h`. -/
def col64 (h : Fin 4) (d : Fin 64) : Fin 256 := ⟨h.val * 64 + d.val, by omega⟩
def col128 (h : Fin 4) (d : Fin 128) : Fin 512 := ⟨h.val * 128 + d.val, by omega⟩
/-- Row `i` of chunk `n`. -/
def rowOf (n : Fin 128) (i : Fin 16) : Fin 2048 := ⟨n.val * 16 + i.val, by omega⟩

theorem heads_at (X : FVec Ideal S2048x256 .f32) (h : Fin 4) (n : Fin 128) (i : Fin 16) (d : Fin 64) :
    heads X (ix4 h n i d) = X (ix2 (rowOf n i) (col64 h d)) := by
  pointwise [heads]
  rfl

theorem grad_at (Q L : FVec Ideal S2048x256 .f32) (O : FVec Ideal S2048x512 .f32) (n : Fin 128) (h : Fin 4) (d : Fin 64) (e : Fin 128) :
    grad Q L O (ix3 n (col64 h d) e) = ∑ i : Fin 16, O (ix2 (rowOf n i) (col128 h e)) * (Q (ix2 (rowOf n i) (col64 h d)) * Ideal.ofBits FTy.f32 1040187392#32
      * Ideal.exp (upto (fun j => L (ix2 (rowOf n j) (col64 h d))) i)) := by
  have eh : (⟨(col64 h d).val / 64, by have := (col64 h d).isLt; omega⟩ : Fin 4) = h := Fin.ext (by show (h.val * 64 + d.val) / 64 = h.val; omega)
  have ed : (⟨(col64 h d).val % 64, by omega⟩ : Fin 64) = d := Fin.ext (by show (h.val * 64 + d.val) % 64 = d.val; omega)
  pointwise [grad]
  refine Finset.sum_congr (M := EReal) rfl fun i _ => ?_
  rw [eh, ed, heads_at, sums_at]
  refine congrArg₂ _ (congrArg (fun a => O (ix2 (rowOf n i) a)) (Fin.ext ?_)) (congrArg (fun f : Fin 16 → EReal => _ * Ideal.exp (upto f i)) (funext fun j => heads_at L h n j d))
  show (h.val * 64 + d.val) / 64 * 128 + e.val = h.val * 128 + e.val
  omega

end Cert.FromStates.Grad.Ref
-- ==== Proof.M35.lean ====
/- The adjoint of the states between the chunks: what the outputs' cotangents give each chunk's state. -/
module

public import proofs.«01_k».proof.Defs
public import proofs.«01_k».proof.Proof.Chunk
public import proofs.«01_k».proof.Proof.Gen.Kernel35Ideal.Frame
public import proofs.«01_k».proof.Proof.M35Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.FromStates.Grad

open Cert.Kernel35Ideal Cert.Kernel35Ideal.Gen Idealize.ShloMosaic Idealize.ShloMosaic.TcCoe Idealize.SL.Sem
open Idealize.ShloMosaic.Pipeline (Dat)
open Cert.Chunk

variable (m : (ℓ : Loc nD τ sig) → Buf (Elt Ideal) ℓ) (c : Dev nD)

/-- Where row `j` of a tile counts for row `l`: in the same chunk and not behind it. -/
theorem same_at : ∀ j l : Fin 128, IntOp.cmpi .eq (IntOp.shrui .vector (BitVec.ofNat 32 j.val) 4#32) (IntOp.shrui .vector (BitVec.ofNat 32 l.val) 4#32) = if j.val / 16 = l.val / 16 then 1#1 else 0#1 := by decide +kernel
theorem le_at : ∀ j l : Fin 128, IntOp.cmpi .sle (BitVec.ofNat 32 j.val) (BitVec.ofNat 32 l.val) = if j.val ≤ l.val then 1#1 else 0#1 := by decide +kernel
theorem lane_at : ∀ (j k : Fin 8) (i : Fin 16), IntOp.cmpi .eq (IntOp.shrui .vector (BitVec.ofNat 32 (row j i).val) 4#32) (BitVec.ofNat 32 k.val) = if j = k then 1#1 else 0#1 := by decide +kernel

theorem select_at (j k : Fin 8) (i : Fin 16) (w : BitVec 32) (hw : w.toNat = k.val) (a b : EReal) :
    Scalar.select (IntOp.cmpi .eq (IntOp.shrui .vector (BitVec.ofNat 32 (row j i).val) 4#32) w) a b = if j = k then a else b := by
  have e : w = BitVec.ofNat 32 k.val := BitVec.eq_of_toNat_eq (by rw [hw, BitVec.toNat_ofNat]; omega)
  rw [e, lane_at]
  by_cases h : j = k
  · rw [if_pos h, if_pos h]; rfl
  · rw [if_neg h, if_neg h]; rfl

/-- The running sum that the mask picks. -/
theorem sum_mask (f : Fin 128 → EReal) (k : Fin 8) (i : Fin 16) :
    ∑ x : Fin 128, Scalar.select (IntOp.andi (IntOp.cmpi .eq (IntOp.shrui .vector (BitVec.ofNat 32 x.val) 4#32) (IntOp.shrui .vector (BitVec.ofNat 32 (row k i).val) 4#32))
      (IntOp.cmpi .sle (BitVec.ofNat 32 x.val) (BitVec.ofNat 32 (row k i).val))) (f x) (0 : EReal) = upto (fun j => f (row k j)) i := by
  refine sum_kept k _ (fun x => if x.val ≤ (row k i).val then f x else 0) (fun j => ?_) (fun j l hj => ?_) |>.trans ?_
  · rw [same_at, le_at, if_pos (by show (k.val * 16 + j.val) / 16 = (k.val * 16 + i.val) / 16; omega)]
    by_cases h : (row k j).val ≤ (row k i).val
    · rw [if_pos h, if_pos h]; rfl
    · rw [if_neg h, if_neg h]; rfl
  · rw [same_at, if_neg (by intro h; have h' : (j.val * 16 + l.val) / 16 = (k.val * 16 + i.val) / 16 := h; exact hj (Fin.ext (by omega))), le_at]
    by_cases h : (row j l).val ≤ (row k i).val
    · rw [if_pos h]; rfl
    · rw [if_neg h]; rfl
  · refine Finset.sum_congr (M := EReal) rfl fun j _ => ?_
    by_cases h : j.val ≤ i.val
    · exact (if_pos (by show k.val * 16 + j.val ≤ k.val * 16 + i.val; omega)).trans (if_pos h).symm
    · exact (if_neg (by show ¬ k.val * 16 + j.val ≤ k.val * 16 + i.val; omega)).trans (if_neg h).symm

theorem pay4_at (x1 x0 : Vec Ideal S256x128 .f32) (a : Fin 256) (k : Fin 8) (i : Fin 16) :
    k0_pay4 (F := Ideal) x1 x0 (ix2 a (row k i)) = HMul.hMul (α := EReal) (β := EReal) (γ := EReal) (x0 (ix2 a (row k i)))
      (Ideal.exp (upto (fun j => x1 (ix2 a (row k j))) i) * Ideal.ofBits FTy.f32 1040187392#32) := by
  pointwise [k0_pay4]
  rw [← sum_mask (fun x => x1 (ix2 a x)) k i]

theorem idx : ∀ t : Fin cfg0.N, win0_0.index t = ![0, t.val] ∧ win0_1.index t = ![0, t.val] ∧ win0_2.index t = ![t.val, 0] ∧ win0_3.index t = ![t.val, 0, 0] :=
  (by decide +kernel : ∀ t : Fin grid0.N, _)

theorem point (x0 x1 : Vec Ideal S256x128 .f32) (x2 : Vec Ideal S128x512 .f32) (k : Fin 8) (h : Fin 4) (d : Fin 64) (e : Fin 128) :
    out0_3 (F := Ideal) x0 x1 x2 (ix3 k (Ref.col64 h d) e) = ∑ i : Fin 16, k0_pay4 (F := Ideal) x1 x0 (ix2 (Ref.col64 h d) (row k i)) * x2 (ix2 (row k i) (Ref.col128 h e)) := by
  frame_out [out0_3]
  canon_tiles x hx
  all_goals
    open_payloads
    pointwise []
    have e0 : k.val = _ := hx0
    have e1 : h.val * 64 + d.val = _ := hx1
    have e2 : e.val = _ := hx2
    refine sum_kept k _ (fun l => k0_pay4 (F := Ideal) x1 x0 (ix2 (Ref.col64 h d) l) * x2 (ix2 l (Ref.col128 h e))) (fun i => ?_) (fun j i hj => ?_)
    · refine (select_at k k i _ (by simp only [BitVec.toNat_ofNat]; omega) _ _).trans ((if_pos rfl).trans ?_)
      refine congrArg₂ _ (congrArg (fun a => k0_pay4 (F := Ideal) x1 x0 (ix2 a (row k i))) (Fin.ext ?_)) (congrArg (fun a => x2 (ix2 (row k i) a)) (Fin.ext ?_))
      · show _ = h.val * 64 + d.val
        simp only
        omega
      · show _ = h.val * 128 + e.val
        simp only
        omega
    · exact (select_at j k i _ (by simp only [BitVec.toNat_ofNat]; omega) _ _).trans (if_neg hj)

variable {Q L : FVec Ideal S2048x256 .f32} {O : FVec Ideal S2048x512 .f32}
    (h0 : m ((c : Thread nD τ).loc main_arg0) = Q) (h1 : m ((c : Thread nD τ).loc main_arg1) = L) (h2 : m ((c : Thread nD τ).loc main_arg2) = O)

/-- A chunk of a grid point's tile. -/
def chunk (t : Fin cfg0.N) (k : Fin 8) : Fin 128 := ⟨t.val * 8 + k.val, by have : t.val < 16 := t.isLt; omega⟩

theorem row_chunk (t : Fin cfg0.N) (k : Fin 8) (i : Fin 16) : (Ref.rowOf (chunk t k) i).val = t.val * 128 + (row k i).val := by
  show (t.val * 8 + k.val) * 16 + i.val = t.val * 128 + (k.val * 16 + i.val)
  omega

include h0 in
/-- The transposed queries that the region starts with. -/
theorem host_q (a : Fin 256) (n : Fin 2048) : Gen.V m c main_v0 (ix2 a n) = Q (ix2 n a) := by
  have h : Gen.V m c main_v0 = (transpose S256x2048 [1, 0] Q transposes_S2048x256_S256x2048_1_0 : FVec Ideal S256x2048 .f32) := by
    subst h0
    change StableHlo.after hostOps0 (fun b => m (c, b)) (Proc.devRef .tc main_v0) = _
    simp only [hostOps0]
    after_results
  rw [h]
  pointwise

include h1 in
/-- The transposed log-decays that the region starts with. -/
theorem host_l (a : Fin 256) (n : Fin 2048) : Gen.V m c main_v1 (ix2 a n) = L (ix2 n a) := by
  have h : Gen.V m c main_v1 = (transpose S256x2048 [1, 0] L transposes_S2048x256_S256x2048_1_0 : FVec Ideal S256x2048 .f32) := by
    subst h1
    change StableHlo.after hostOps0 (fun b => m (c, b)) (Proc.devRef .tc main_v1) = _
    simp only [hostOps0]
    after_results
  rw [h]
  pointwise

include h0 in
theorem q_at (t : Fin cfg0.N) (a : Fin 256) (k : Fin 8) (i : Fin 16) : iblk m c 0 t (ix2 a (row k i)) = Q (ix2 (Ref.rowOf (chunk t k) i) a) := by
  refine Eq.trans ?_ (host_q m c h0 a (Ref.rowOf (chunk t k) i))
  have e := row_chunk t k i
  blk_ext [iblk, idx t, e]

include h1 in
theorem l_at (t : Fin cfg0.N) (a : Fin 256) (k : Fin 8) (i : Fin 16) : iblk m c 1 t (ix2 a (row k i)) = L (ix2 (Ref.rowOf (chunk t k) i) a) := by
  refine Eq.trans ?_ (host_l m c h1 a (Ref.rowOf (chunk t k) i))
  have e := row_chunk t k i
  blk_ext [iblk, idx t, e]

include h2 in
theorem o_at (t : Fin cfg0.N) (a : Fin 512) (k : Fin 8) (i : Fin 16) : iblk m c 2 t (ix2 (row k i) a) = O (ix2 (Ref.rowOf (chunk t k) i) a) := by
  have e := row_chunk t k i
  subst h2
  blk_ext [iblk, Gen.V, idx t, e]

include h0 h1 h2
/-- What a grid point writes. -/
theorem point_grad (t : Fin cfg0.N) (k : Fin 8) (h : Fin 4) (d : Fin 64) (e : Fin 128) :
    out0_3 (F := Ideal) (iblk m c 0 t) (iblk m c 1 t) (iblk m c 2 t) (ix3 k (Ref.col64 h d) e) = Ref.grad Q L O (ix3 (chunk t k) (Ref.col64 h d) e) := by
  refine (point _ _ _ k h d e).trans (Eq.trans ?_ (Ref.grad_at Q L O (chunk t k) h d e).symm)
  refine Finset.sum_congr (M := EReal) rfl fun i _ => ?_
  rw [pay4_at, q_at m c h0 t, o_at m c h2 t, mul_comm (G := EReal)]
  refine congrArg _ ?_
  rw [mul_comm (G := EReal) (Ideal.exp _), ← mul_assoc (G := EReal)]
  exact congrArg (fun f : Fin 16 → EReal => _ * Ideal.exp (upto f i)) (funext fun j => l_at m c h1 t _ k j)

/-- The kernel's array after the region. -/
theorem final : (dats m 0 c).arrAt 3 cfg0.N = Ref.grad Q L O := by
  refine (dats m 0 c).arrAt_eq_of_covers 3 _ (by decide +kernel) fun t _ (y : S8x256x128.Idx) => ?_
  obtain ⟨k, a, e, rfl⟩ : ∃ (k : Fin 8) (a : Fin 256) (e : Fin 128), y = ix3 k a e := ⟨_, _, _, eq_ix3 y⟩
  obtain ⟨h, d, rfl⟩ : ∃ (h : Fin 4) (d : Fin 64), a = Ref.col64 h d := ⟨⟨a.val / 64, by omega⟩, ⟨a.val % 64, by omega⟩, Fin.ext (by show a.val = a.val / 64 * 64 + a.val % 64; omega)⟩
  have hr : ((cfg0.win 3).blk t).view.emb (ix3 k (Ref.col64 h d) e) = ix3 (chunk t k) (Ref.col64 h d) e := by blk_ext [idx t, chunk]
  rw [hr, ← point_grad m c h0 h1 h2 t k h d e]
  blk_simp
  rw [after0_3]

omit h0 h1 h2
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v2) = Ref.grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c rfl rfl rfl), h.2 c⟩)
    (θ_run_and (run_main m g) (unchanged m g))

/-- The reference's run leaves its arguments and all counters as they were. -/
theorem reference_frame : Cert.quiescent_Reference35Ideal := fun m g _ =>
  (θ_run Cert.Reference35Ideal.defs _ _).mono (fun r h => ⟨fun c => (h c).2, sem_eq_zero_of_no_sems (by decide) r.2⟩) (Cert.Reference35Ideal.Value.run m g)

/-- The kernel computes the reference's gradient. -/
theorem algebraic : Cert.algebraic_Kernel35Ideal_Reference35Ideal := by
  intro m g m' g' _ harg
  refine ⟨fun c => Ref.grad (m ((c : Thread nD τ).loc main_arg0)) (m ((c : Thread nD τ).loc main_arg1)) (m ((c : Thread nD τ).loc main_arg2)), run m g,
    (θ_run Cert.Reference35Ideal.defs _ _).mono (fun r h c => ⟨(h c).1.trans ?_, (h c).2⟩) (Cert.Reference35Ideal.Value.run m' g')⟩
  rw [(harg c).1, (harg c).2.1, (harg c).2.2]
  rfl

end Cert.FromStates.Grad
-- ==== Proof.M36Ref.lean ====
/- The adjoint of the states between the chunks, backward direction: the same gradient of the flipped rows. -/
module

public import proofs.«01_k».proof.Defs
public import proofs.«01_k».proof.Proof.Chunk
public import proofs.«01_k».proof.Proof.M35Ref
public import proofs.«01_k».proof.Proof.Gen.Reference36Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.FromStates.GradB.Ref

open Cert.Reference36Ideal Cert.Reference36Ideal.Gen Idealize.ShloMosaic Idealize.ShloMosaic.TcCoe Idealize.SL.Sem
open Cert.Chunk
open Cert.FromStates.Grad.Ref (heads sums heads_at sums_at col64 col128 rowOf)

/-- The cotangents' rows, by heads. -/
def cotangents (O : FVec Ideal S2048x512 .f32) : FVec Ideal S4x2048x128 .f32 :=
  transpose S4x2048x128 [1, 0, 2] (shapeCast _ O shapeCasts_S2048x512_S2048x4x128) transposes_S2048x4x128_S4x2048x128_1_0_2

/-- The gradient of the rows as they come. -/
def ahead (Q L : FVec Ideal S2048x256 .f32) (O : FVec Ideal S4x2048x128 .f32) : FVec Ideal S128x256x128 .f32 :=
  shapeCast _ (transpose S128x4x64x128 [1, 0, 3, 2] (Host.dotGeneral dot_S4x128x16x128_S4x128x16x64_S4x128x128x64_2_2_3_3_01_01 none
    (shapeCast _ O shapeCasts_S4x2048x128_S4x128x16x128)
    (mulf (mulf (heads Q) (broadcastInDim S4x128x16x64 ![] bcast_S_S4x128x16x64 (constant S_ .f32 0x3E000000#32))) (Host.exp (sums (heads L)))))
    transposes_S4x128x128x64_S128x4x64x128_1_0_3_2) shapeCasts_S128x4x64x128_S128x256x128

/-- The reference's gradient. -/
def grad (Q L : FVec Ideal S2048x256 .f32) (O : FVec Ideal S2048x512 .f32) : FVec Ideal S128x256x128 .f32 :=
  Host.reverse [0] (ahead (Host.reverse [0] Q) (Host.reverse [0] L) (Host.reverse [1] (cotangents O)))

theorem ahead_at (Q L : FVec Ideal S2048x256 .f32) (O : FVec Ideal S4x2048x128 .f32) (n : Fin 128) (h : Fin 4) (d : Fin 64) (e : Fin 128) :
    ahead Q L O (ix3 n (col64 h d) e) = ∑ i : Fin 16, O (ix3 h (rowOf n i) e) * (heads Q (ix4 h n i d) * Ideal.ofBits FTy.f32 1040187392#32
      * Ideal.exp (sums (heads L) (ix4 h n i d))) := by
  have eh : (⟨(col64 h d).val / 64, by have := (col64 h d).isLt; omega⟩ : Fin 4) = h := Fin.ext (by show (h.val * 64 + d.val) / 64 = h.val; omega)
  have ed : (⟨(col64 h d).val % 64, by omega⟩ : Fin 64) = d := Fin.ext (by show (h.val * 64 + d.val) % 64 = d.val; omega)
  pointwise [ahead]
  refine Finset.sum_congr (M := EReal) rfl fun i _ => ?_
  rw [eh, ed]
  rfl

/-- The flips, entry by entry. -/
theorem flip_states (x : FVec Ideal S128x256x128 .f32) (n : Fin 128) (a : Fin 256) (b : Fin 128) :
    Host.reverse [0] x (ix3 n a b) = x (ix3 ⟨127 - n.val, by omega⟩ a b) := by
  pointwise
  exact congrArg x (congrArg (ix3 · a b) (Fin.ext (by show 128 - (n.val + 1) = 127 - n.val; omega)))

theorem flip_cotangents (O : FVec Ideal S2048x512 .f32) (h : Fin 4) (n : Fin 128) (i : Fin 16) (e : Fin 128) :
    Host.reverse [1] (cotangents O) (ix3 h (rowOf ⟨127 - n.val, by omega⟩ ⟨15 - i.val, by omega⟩) e) = O (ix2 (rowOf n i) (col128 h e)) := by
  have hf : Host.reverse [1] (cotangents O) (ix3 h (rowOf ⟨127 - n.val, by omega⟩ ⟨15 - i.val, by omega⟩) e) = cotangents O (ix3 h (rowOf n i) e) := by
    pointwise
    refine congrArg (cotangents O) (congrArg (ix3 h · e) (Fin.ext ?_))
    show 2048 - ((127 - n.val) * 16 + (15 - i.val) + 1) = n.val * 16 + i.val
    omega
  rw [hf]
  pointwise [cotangents]
  rfl

/-- A flipped row. -/
theorem flip_rows (X : FVec Ideal S2048x256 .f32) (n : Fin 128) (i : Fin 16) (a : Fin 256) :
    Host.reverse [0] X (ix2 (rowOf ⟨127 - n.val, by omega⟩ ⟨15 - i.val, by omega⟩) a) = X (ix2 (rowOf n i) a) := by
  pointwise
  refine congrArg X (congrArg (ix2 · a) (Fin.ext ?_))
  show 2048 - ((127 - n.val) * 16 + (15 - i.val) + 1) = n.val * 16 + i.val
  omega

/-- The running sums of the flipped rows are the last rows' sums. -/
theorem flip_sums (X : FVec Ideal S2048x256 .f32) (h : Fin 4) (n : Fin 128) (i : Fin 16) (d : Fin 64) :
    sums (heads (Host.reverse [0] X)) (ix4 h ⟨127 - n.val, by omega⟩ ⟨15 - i.val, by omega⟩ d) = from' (fun j => X (ix2 (rowOf n j) (col64 h d))) i := by
  have step : ∀ j : Fin 16, heads (Host.reverse [0] X) (ix4 h ⟨127 - n.val, by omega⟩ j d) = X (ix2 (rowOf n ⟨15 - j.val, by omega⟩) (col64 h d)) := fun j => by
    rw [heads_at, ← flip_rows X n ⟨15 - j.val, by omega⟩ (col64 h d)]
    congr 3
    exact Fin.ext (by show j.val = 15 - (15 - j.val); omega)
  rw [sums_at, ← upto_flip]
  congr 1
  funext j
  exact step j

theorem grad_at (Q L : FVec Ideal S2048x256 .f32) (O : FVec Ideal S2048x512 .f32) (n : Fin 128) (h : Fin 4) (d : Fin 64) (e : Fin 128) :
    grad Q L O (ix3 n (col64 h d) e) = ∑ i : Fin 16, O (ix2 (rowOf n i) (col128 h e)) * (Q (ix2 (rowOf n i) (col64 h d)) * Ideal.ofBits FTy.f32 1040187392#32
      * Ideal.exp (from' (fun j => L (ix2 (rowOf n j) (col64 h d))) i)) := by
  have each : ∀ i : Fin 16, O (ix2 (rowOf n i) (col128 h e)) * (Q (ix2 (rowOf n i) (col64 h d)) * Ideal.ofBits FTy.f32 1040187392#32
      * Ideal.exp (from' (fun j => L (ix2 (rowOf n j) (col64 h d))) i))
      = Host.reverse [1] (cotangents O) (ix3 h (rowOf ⟨127 - n.val, by omega⟩ ⟨15 - i.val, by omega⟩) e)
        * (heads (Host.reverse [0] Q) (ix4 h ⟨127 - n.val, by omega⟩ ⟨15 - i.val, by omega⟩ d) * Ideal.ofBits FTy.f32 1040187392#32
        * Ideal.exp (sums (heads (Host.reverse [0] L)) (ix4 h ⟨127 - n.val, by omega⟩ ⟨15 - i.val, by omega⟩ d))) := fun i => by
    rw [heads_at, flip_rows, flip_sums, flip_cotangents]
  refine (flip_states _ n _ e).trans ((ahead_at _ _ _ _ h d e).trans (Eq.symm ?_))
  refine Fintype.sum_equiv Fin.revPerm _ _ fun i => (each i).trans ?_
  have er : Fin.revPerm i = (⟨15 - i.val, by omega⟩ : Fin 16) := Fin.ext (by show 16 - (i.val + 1) = 15 - i.val; omega)
  rw [er]

end Cert.FromStates.GradB.Ref
-- ==== Proof.M36.lean ====
/- The adjoint of the states between the chunks: what the outputs' cotangents give each chunk's state, backward direction. -/
module

public import proofs.«01_k».proof.Defs
public import proofs.«01_k».proof.Proof.Chunk
public import proofs.«01_k».proof.Proof.Gen.Kernel36Ideal.Frame
public import proofs.«01_k».proof.Proof.M36Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.FromStates.GradB

open Cert.Kernel36Ideal Cert.Kernel36Ideal.Gen Idealize.ShloMosaic Idealize.ShloMosaic.TcCoe Idealize.SL.Sem
open Idealize.ShloMosaic.Pipeline (Dat)
open Cert.Chunk

variable (m : (ℓ : Loc nD τ sig) → Buf (Elt Ideal) ℓ) (c : Dev nD)

/-- Where row `j` of a tile counts for row `l`: in the same chunk and not before it. -/
theorem same_at : ∀ j l : Fin 128, IntOp.cmpi .eq (IntOp.shrui .vector (BitVec.ofNat 32 j.val) 4#32) (IntOp.shrui .vector (BitVec.ofNat 32 l.val) 4#32) = if j.val / 16 = l.val / 16 then 1#1 else 0#1 := by decide +kernel
theorem le_at : ∀ j l : Fin 128, IntOp.cmpi .sge (BitVec.ofNat 32 j.val) (BitVec.ofNat 32 l.val) = if l.val ≤ j.val then 1#1 else 0#1 := by decide +kernel
theorem lane_at : ∀ (j k : Fin 8) (i : Fin 16), IntOp.cmpi .eq (IntOp.shrui .vector (BitVec.ofNat 32 (row j i).val) 4#32) (BitVec.ofNat 32 k.val) = if j = k then 1#1 else 0#1 := by decide +kernel

theorem select_at (j k : Fin 8) (i : Fin 16) (w : BitVec 32) (hw : w.toNat = k.val) (a b : EReal) :
    Scalar.select (IntOp.cmpi .eq (IntOp.shrui .vector (BitVec.ofNat 32 (row j i).val) 4#32) w) a b = if j = k then a else b := by
  have e : w = BitVec.ofNat 32 k.val := BitVec.eq_of_toNat_eq (by rw [hw, BitVec.toNat_ofNat]; omega)
  rw [e, lane_at]
  by_cases h : j = k
  · rw [if_pos h, if_pos h]; rfl
  · rw [if_neg h, if_neg h]; rfl

/-- The last rows' sum that the mask picks. -/
theorem sum_mask (f : Fin 128 → EReal) (k : Fin 8) (i : Fin 16) :
    ∑ x : Fin 128, Scalar.select (IntOp.andi (IntOp.cmpi .eq (IntOp.shrui .vector (BitVec.ofNat 32 x.val) 4#32) (IntOp.shrui .vector (BitVec.ofNat 32 (row k i).val) 4#32))
      (IntOp.cmpi .sge (BitVec.ofNat 32 x.val) (BitVec.ofNat 32 (row k i).val))) (f x) (0 : EReal) = from' (fun j => f (row k j)) i := by
  refine sum_kept k _ (fun x => if (row k i).val ≤ x.val then f x else 0) (fun j => ?_) (fun j l hj => ?_) |>.trans ?_
  · rw [same_at, le_at, if_pos (by show (k.val * 16 + j.val) / 16 = (k.val * 16 + i.val) / 16; omega)]
    by_cases h : (row k i).val ≤ (row k j).val
    · rw [if_pos h, if_pos h]; rfl
    · rw [if_neg h, if_neg h]; rfl
  · rw [same_at, if_neg (by intro h; have h' : (j.val * 16 + l.val) / 16 = (k.val * 16 + i.val) / 16 := h; exact hj (Fin.ext (by omega))), le_at]
    by_cases h : (row k i).val ≤ (row j l).val
    · rw [if_pos h]; rfl
    · rw [if_neg h]; rfl
  · refine Finset.sum_congr (M := EReal) rfl fun j _ => ?_
    by_cases h : i.val ≤ j.val
    · exact (if_pos (by show k.val * 16 + i.val ≤ k.val * 16 + j.val; omega)).trans (if_pos h).symm
    · exact (if_neg (by show ¬ k.val * 16 + i.val ≤ k.val * 16 + j.val; omega)).trans (if_neg h).symm

theorem pay4_at (x1 x0 : Vec Ideal S256x128 .f32) (a : Fin 256) (k : Fin 8) (i : Fin 16) :
    k0_pay4 (F := Ideal) x1 x0 (ix2 a (row k i)) = HMul.hMul (α := EReal) (β := EReal) (γ := EReal) (x0 (ix2 a (row k i)))
      (Ideal.exp (from' (fun j => x1 (ix2 a (row k j))) i) * Ideal.ofBits FTy.f32 1040187392#32) := by
  pointwise [k0_pay4]
  rw [← sum_mask (fun x => x1 (ix2 a x)) k i]

theorem idx : ∀ t : Fin cfg0.N, win0_0.index t = ![0, t.val] ∧ win0_1.index t = ![0, t.val] ∧ win0_2.index t = ![t.val, 0] ∧ win0_3.index t = ![t.val, 0, 0] :=
  (by decide +kernel : ∀ t : Fin grid0.N, _)

theorem point (x0 x1 : Vec Ideal S256x128 .f32) (x2 : Vec Ideal S128x512 .f32) (k : Fin 8) (h : Fin 4) (d : Fin 64) (e : Fin 128) :
    out0_3 (F := Ideal) x0 x1 x2 (ix3 k (Cert.FromStates.Grad.Ref.col64 h d) e) = ∑ i : Fin 16, k0_pay4 (F := Ideal) x1 x0 (ix2 (Cert.FromStates.Grad.Ref.col64 h d) (row k i)) * x2 (ix2 (row k i) (Cert.FromStates.Grad.Ref.col128 h e)) := by
  frame_out [out0_3]
  canon_tiles x hx
  all_goals
    open_payloads
    pointwise []
    have e0 : k.val = _ := hx0
    have e1 : h.val * 64 + d.val = _ := hx1
    have e2 : e.val = _ := hx2
    refine sum_kept k _ (fun l => k0_pay4 (F := Ideal) x1 x0 (ix2 (Cert.FromStates.Grad.Ref.col64 h d) l) * x2 (ix2 l (Cert.FromStates.Grad.Ref.col128 h e))) (fun i => ?_) (fun j i hj => ?_)
    · refine (select_at k k i _ (by simp only [BitVec.toNat_ofNat]; omega) _ _).trans ((if_pos rfl).trans ?_)
      refine congrArg₂ _ (congrArg (fun a => k0_pay4 (F := Ideal) x1 x0 (ix2 a (row k i))) (Fin.ext ?_)) (congrArg (fun a => x2 (ix2 (row k i) a)) (Fin.ext ?_))
      · show _ = h.val * 64 + d.val
        simp only
        omega
      · show _ = h.val * 128 + e.val
        simp only
        omega
    · exact (select_at j k i _ (by simp only [BitVec.toNat_ofNat]; omega) _ _).trans (if_neg hj)

variable {Q L : FVec Ideal S2048x256 .f32} {O : FVec Ideal S2048x512 .f32}
    (h0 : m ((c : Thread nD τ).loc main_arg0) = Q) (h1 : m ((c : Thread nD τ).loc main_arg1) = L) (h2 : m ((c : Thread nD τ).loc main_arg2) = O)

/-- A chunk of a grid point's tile. -/
def chunk (t : Fin cfg0.N) (k : Fin 8) : Fin 128 := ⟨t.val * 8 + k.val, by have : t.val < 16 := t.isLt; omega⟩

theorem row_chunk (t : Fin cfg0.N) (k : Fin 8) (i : Fin 16) : (Cert.FromStates.Grad.Ref.rowOf (chunk t k) i).val = t.val * 128 + (row k i).val := by
  show (t.val * 8 + k.val) * 16 + i.val = t.val * 128 + (k.val * 16 + i.val)
  omega

include h0 in
/-- The transposed queries that the region starts with. -/
theorem host_q (a : Fin 256) (n : Fin 2048) : Gen.V m c main_v0 (ix2 a n) = Q (ix2 n a) := by
  have h : Gen.V m c main_v0 = (transpose S256x2048 [1, 0] Q transposes_S2048x256_S256x2048_1_0 : FVec Ideal S256x2048 .f32) := by
    subst h0
    change StableHlo.after hostOps0 (fun b => m (c, b)) (Proc.devRef .tc main_v0) = _
    simp only [hostOps0]
    after_results
  rw [h]
  pointwise

include h1 in
/-- The transposed log-decays that the region starts with. -/
theorem host_l (a : Fin 256) (n : Fin 2048) : Gen.V m c main_v1 (ix2 a n) = L (ix2 n a) := by
  have h : Gen.V m c main_v1 = (transpose S256x2048 [1, 0] L transposes_S2048x256_S256x2048_1_0 : FVec Ideal S256x2048 .f32) := by
    subst h1
    change StableHlo.after hostOps0 (fun b => m (c, b)) (Proc.devRef .tc main_v1) = _
    simp only [hostOps0]
    after_results
  rw [h]
  pointwise

include h0 in
theorem q_at (t : Fin cfg0.N) (a : Fin 256) (k : Fin 8) (i : Fin 16) : iblk m c 0 t (ix2 a (row k i)) = Q (ix2 (Cert.FromStates.Grad.Ref.rowOf (chunk t k) i) a) := by
  refine Eq.trans ?_ (host_q m c h0 a (Cert.FromStates.Grad.Ref.rowOf (chunk t k) i))
  have e := row_chunk t k i
  blk_ext [iblk, idx t, e]

include h1 in
theorem l_at (t : Fin cfg0.N) (a : Fin 256) (k : Fin 8) (i : Fin 16) : iblk m c 1 t (ix2 a (row k i)) = L (ix2 (Cert.FromStates.Grad.Ref.rowOf (chunk t k) i) a) := by
  refine Eq.trans ?_ (host_l m c h1 a (Cert.FromStates.Grad.Ref.rowOf (chunk t k) i))
  have e := row_chunk t k i
  blk_ext [iblk, idx t, e]

include h2 in
theorem o_at (t : Fin cfg0.N) (a : Fin 512) (k : Fin 8) (i : Fin 16) : iblk m c 2 t (ix2 (row k i) a) = O (ix2 (Cert.FromStates.Grad.Ref.rowOf (chunk t k) i) a) := by
  have e := row_chunk t k i
  subst h2
  blk_ext [iblk, Gen.V, idx t, e]

include h0 h1 h2
/-- What a grid point writes. -/
theorem point_grad (t : Fin cfg0.N) (k : Fin 8) (h : Fin 4) (d : Fin 64) (e : Fin 128) :
    out0_3 (F := Ideal) (iblk m c 0 t) (iblk m c 1 t) (iblk m c 2 t) (ix3 k (Cert.FromStates.Grad.Ref.col64 h d) e) = Ref.grad Q L O (ix3 (chunk t k) (Cert.FromStates.Grad.Ref.col64 h d) e) := by
  refine (point _ _ _ k h d e).trans (Eq.trans ?_ (Ref.grad_at Q L O (chunk t k) h d e).symm)
  refine Finset.sum_congr (M := EReal) rfl fun i _ => ?_
  rw [pay4_at, q_at m c h0 t, o_at m c h2 t, mul_comm (G := EReal)]
  refine congrArg _ ?_
  rw [mul_comm (G := EReal) (Ideal.exp _), ← mul_assoc (G := EReal)]
  exact congrArg (fun f : Fin 16 → EReal => _ * Ideal.exp (from' f i)) (funext fun j => l_at m c h1 t _ k j)

/-- The kernel's array after the region. -/
theorem final : (dats m 0 c).arrAt 3 cfg0.N = Ref.grad Q L O := by
  refine (dats m 0 c).arrAt_eq_of_covers 3 _ (by decide +kernel) fun t _ (y : S8x256x128.Idx) => ?_
  obtain ⟨k, a, e, rfl⟩ : ∃ (k : Fin 8) (a : Fin 256) (e : Fin 128), y = ix3 k a e := ⟨_, _, _, eq_ix3 y⟩
  obtain ⟨h, d, rfl⟩ : ∃ (h : Fin 4) (d : Fin 64), a = Cert.FromStates.Grad.Ref.col64 h d := ⟨⟨a.val / 64, by omega⟩, ⟨a.val % 64, by omega⟩, Fin.ext (by show a.val = a.val / 64 * 64 + a.val % 64; omega)⟩
  have hr : ((cfg0.win 3).blk t).view.emb (ix3 k (Cert.FromStates.Grad.Ref.col64 h d) e) = ix3 (chunk t k) (Cert.FromStates.Grad.Ref.col64 h d) e := by blk_ext [idx t, chunk]
  rw [hr, ← point_grad m c h0 h1 h2 t k h d e]
  blk_simp
  rw [after0_3]

omit h0 h1 h2
/-- The kernel's run: the result is the reference's gradient of the arguments, which end unchanged. -/
theorem run (g : Dev nD → PrngReg) : θ_run defs (onTc (τ := τ) (main (F := Ideal))) ⟨m, fun _ => 0, g⟩ fun r => ∀ c : Dev nD,
      r.2.mem ((c : Thread nD τ).loc main_v2) = Ref.grad (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c rfl rfl rfl), h.2 c⟩)
    (θ_run_and (run_main m g) (unchanged m g))

/-- The reference's run leaves its arguments and all counters as they were. -/
theorem reference_frame : Cert.quiescent_Reference36Ideal := fun m g _ =>
  (θ_run Cert.Reference36Ideal.defs _ _).mono (fun r h => ⟨fun c => (h c).2, sem_eq_zero_of_no_sems (by decide) r.2⟩) (Cert.Reference36Ideal.Value.run m g)

/-- The kernel computes the reference's gradient. -/
theorem algebraic : Cert.algebraic_Kernel36Ideal_Reference36Ideal := by
  intro m g m' g' _ harg
  refine ⟨fun c => Ref.grad (m ((c : Thread nD τ).loc main_arg0)) (m ((c : Thread nD τ).loc main_arg1)) (m ((c : Thread nD τ).loc main_arg2)), run m g,
    (θ_run Cert.Reference36Ideal.defs _ _).mono (fun r h c => ⟨(h c).1.trans ?_, (h c).2⟩) (Cert.Reference36Ideal.Value.run m' g')⟩
  rw [(harg c).1, (harg c).2.1, (harg c).2.2]
  rfl

end Cert.FromStates.GradB
-- ==== Proof.M37Ref.lean ====
/- What the chunks add to the states between them, and the states' decays over the chunks. -/
module

public import proofs.«01_k».proof.Defs
public import proofs.«01_k».proof.Proof.Chunk
public import proofs.«01_k».proof.Proof.M35Ref
public import proofs.«01_k».proof.Proof.Gen.Reference37Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.ToStates.Forward.Ref

open Cert.Reference37Ideal Cert.Reference37Ideal.Gen Idealize.ShloMosaic Idealize.ShloMosaic.TcCoe Idealize.SL.Sem
open Cert.Chunk
open Cert.FromStates.Grad.Ref (heads sums heads_at sums_at col64 col128 rowOf)

/-- The last of a chunk's running sums. -/
def last (X : FVec Ideal S4x128x16x64 .f32) : FVec Ideal S4x128x64 .f32 :=
  shapeCast _ (extractStridedSlice S4x128x1x64 ![0, 0, 15, 0] X slices_S4x128x16x64_S4x128x1x64_0_0_15_0) shapeCasts_S4x128x1x64_S4x128x64

theorem last_at (X : FVec Ideal S4x128x16x64 .f32) (h : Fin 4) (n : Fin 128) (d : Fin 64) : last X (ix3 h n d) = X (ix4 h n 15 d) := by
  pointwise [last]

/-- What the chunks add. -/
def added (K L : FVec Ideal S2048x256 .f32) (Y : FVec Ideal S2048x512 .f32) : FVec Ideal S128x256x128 .f32 :=
  shapeCast _ (transpose S128x4x64x128 [1, 0, 2, 3] (Host.dotGeneral dot_S4x128x16x64_S4x128x16x128_S4x128x64x128_2_2_3_3_01_01 none
    (mulf (heads K) (Host.exp (subf (broadcastInDim S4x128x16x64 ![0, 1, 2, 3] bcast_S4x128x1x64_S4x128x16x64_0_1_2_3
      (broadcastInDim S4x128x1x64 ![0, 1, 3] bcast_S4x128x64_S4x128x1x64_0_1_3 (last (sums (heads L))))) (sums (heads L)))))
    (shapeCast _ (transpose S4x2048x128 [1, 0, 2] (shapeCast _ Y shapeCasts_S2048x512_S2048x4x128) transposes_S2048x4x128_S4x2048x128_1_0_2) shapeCasts_S4x2048x128_S4x128x16x128))
    transposes_S4x128x64x128_S128x4x64x128_1_0_2_3) shapeCasts_S128x4x64x128_S128x256x128

/-- The decays over the chunks, once for each column of the state. -/
def decays (L : FVec Ideal S2048x256 .f32) : FVec Ideal S128x256x128 .f32 :=
  broadcastInDim S128x256x128 ![0, 1, 2] bcast_S128x256x1_S128x256x128_0_1_2 (broadcastInDim S128x256x1 ![0, 1] bcast_S128x256_S128x256x1_0_1
    (shapeCast _ (transpose S128x4x64 [1, 0, 2] (Host.exp (last (sums (heads L)))) transposes_S4x128x64_S128x4x64_1_0_2) shapeCasts_S128x4x64_S128x256))

theorem last_sums (L : FVec Ideal S2048x256 .f32) (h : Fin 4) (n : Fin 128) (d : Fin 64) :
    last (sums (heads L)) (ix3 h n d) = ∑ j : Fin 16, L (ix2 (rowOf n j) (col64 h d)) := by
  rw [last_at, sums_at, upto_last _ _ rfl]
  exact Finset.sum_congr (M := EReal) rfl fun j _ => heads_at L h n j d

theorem added_at (K L : FVec Ideal S2048x256 .f32) (Y : FVec Ideal S2048x512 .f32) (n : Fin 128) (h : Fin 4) (d : Fin 64) (e : Fin 128) :
    added K L Y (ix3 n (col64 h d) e) = ∑ i : Fin 16, HMul.hMul (α := EReal) (β := EReal) (γ := EReal) (K (ix2 (rowOf n i) (col64 h d))
      * Ideal.exp (HSub.hSub (α := EReal) (β := EReal) (γ := EReal) (∑ j : Fin 16, L (ix2 (rowOf n j) (col64 h d))) (upto (fun j => L (ix2 (rowOf n j) (col64 h d))) i))) (Y (ix2 (rowOf n i) (col128 h e))) := by
  have eh : (⟨(col64 h d).val / 64, by have := (col64 h d).isLt; omega⟩ : Fin 4) = h := Fin.ext (by show (h.val * 64 + d.val) / 64 = h.val; omega)
  have ed : (⟨(col64 h d).val % 64, by omega⟩ : Fin 64) = d := Fin.ext (by show (h.val * 64 + d.val) % 64 = d.val; omega)
  pointwise [added]
  refine Finset.sum_congr (M := EReal) rfl fun i _ => ?_
  rw [eh, ed, heads_at, sums_at, last_sums]
  refine congrArg₂ _ (congrArg (fun f : Fin 16 → EReal => _ * Ideal.exp (_ - upto f i)) (funext fun j => heads_at L h n j d)) (congrArg (fun a => Y (ix2 (rowOf n i) a)) (Fin.ext ?_))
  show (h.val * 64 + d.val) / 64 * 128 + e.val = h.val * 128 + e.val
  omega

theorem decays_at (L : FVec Ideal S2048x256 .f32) (n : Fin 128) (h : Fin 4) (d : Fin 64) (e : Fin 128) :
    decays L (ix3 n (col64 h d) e) = Ideal.exp (∑ j : Fin 16, L (ix2 (rowOf n j) (col64 h d))) := by
  have eh : (⟨(col64 h d).val / 64, by have := (col64 h d).isLt; omega⟩ : Fin 4) = h := Fin.ext (by show (h.val * 64 + d.val) / 64 = h.val; omega)
  have ed : (⟨(col64 h d).val % 64, by omega⟩ : Fin 64) = d := Fin.ext (by show (h.val * 64 + d.val) % 64 = d.val; omega)
  pointwise [decays]
  rw [eh, ed, last_sums]

end Cert.ToStates.Forward.Ref
-- ==== Proof.M37.lean ====
/- What the chunks add to the states between them, and the states' decays over the chunks, as the kernel computes them. -/
module

public import proofs.«01_k».proof.Defs
public import proofs.«01_k».proof.Proof.Chunk
public import proofs.«01_k».proof.Proof.Gen.Kernel37Ideal.Frame
public import proofs.«01_k».proof.Proof.M37Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.ToStates.Forward

open Cert.Kernel37Ideal Cert.Kernel37Ideal.Gen Idealize.ShloMosaic Idealize.ShloMosaic.TcCoe Idealize.SL.Sem
open Idealize.ShloMosaic.Pipeline (Dat)
open Cert.Chunk

variable (m : (ℓ : Loc nD τ sig) → Buf (Elt Ideal) ℓ) (c : Dev nD)

/-- Where row `j` of a tile counts for row `l`: in the same chunk and not behind it. -/
theorem same_at : ∀ j l : Fin 128, IntOp.cmpi .eq (IntOp.shrui .vector (BitVec.ofNat 32 j.val) 4#32) (IntOp.shrui .vector (BitVec.ofNat 32 l.val) 4#32) = if j.val / 16 = l.val / 16 then 1#1 else 0#1 := by decide +kernel
theorem le_at : ∀ j l : Fin 128, IntOp.cmpi .sle (BitVec.ofNat 32 j.val) (BitVec.ofNat 32 l.val) = if j.val ≤ l.val then 1#1 else 0#1 := by decide +kernel
theorem lane_at : ∀ (j k : Fin 8) (i : Fin 16), IntOp.cmpi .eq (IntOp.shrui .vector (BitVec.ofNat 32 (row j i).val) 4#32) (BitVec.ofNat 32 k.val) = if j = k then 1#1 else 0#1 := by decide +kernel

theorem select_at (j k : Fin 8) (i : Fin 16) (w : BitVec 32) (hw : w.toNat = k.val) (a b : EReal) :
    Scalar.select (IntOp.cmpi .eq (IntOp.shrui .vector (BitVec.ofNat 32 (row j i).val) 4#32) w) a b = if j = k then a else b := by
  have e : w = BitVec.ofNat 32 k.val := BitVec.eq_of_toNat_eq (by rw [hw, BitVec.toNat_ofNat]; omega)
  rw [e, lane_at]
  by_cases h : j = k
  · rw [if_pos h, if_pos h]; rfl
  · rw [if_neg h, if_neg h]; rfl

/-- The running sum that the mask picks. -/
theorem sum_mask (f : Fin 128 → EReal) (k : Fin 8) (i : Fin 16) :
    ∑ x : Fin 128, Scalar.select (IntOp.andi (IntOp.cmpi .eq (IntOp.shrui .vector (BitVec.ofNat 32 x.val) 4#32) (IntOp.shrui .vector (BitVec.ofNat 32 (row k i).val) 4#32))
      (IntOp.cmpi .sle (BitVec.ofNat 32 x.val) (BitVec.ofNat 32 (row k i).val))) (f x) (0 : EReal) = upto (fun j => f (row k j)) i := by
  refine sum_kept k _ (fun x => if x.val ≤ (row k i).val then f x else 0) (fun j => ?_) (fun j l hj => ?_) |>.trans ?_
  · rw [same_at, le_at, if_pos (by show (k.val * 16 + j.val) / 16 = (k.val * 16 + i.val) / 16; omega)]
    by_cases h : (row k j).val ≤ (row k i).val
    · rw [if_pos h, if_pos h]; rfl
    · rw [if_neg h, if_neg h]; rfl
  · rw [same_at, if_neg (by intro h; have h' : (j.val * 16 + l.val) / 16 = (k.val * 16 + i.val) / 16 := h; exact hj (Fin.ext (by omega))), le_at]
    by_cases h : (row j l).val ≤ (row k i).val
    · rw [if_pos h]; rfl
    · rw [if_neg h]; rfl
  · refine Finset.sum_congr (M := EReal) rfl fun j _ => ?_
    by_cases h : j.val ≤ i.val
    · exact (if_pos (by show k.val * 16 + j.val ≤ k.val * 16 + i.val; omega)).trans (if_pos h).symm
    · exact (if_neg (by show ¬ k.val * 16 + j.val ≤ k.val * 16 + i.val; omega)).trans (if_neg h).symm

/-- The chunk's sum, by its mask. -/
theorem sum_same (f : Fin 128 → EReal) (k : Fin 8) (i : Fin 16) :
    ∑ x : Fin 128, Scalar.select (IntOp.cmpi .eq (IntOp.shrui .vector (BitVec.ofNat 32 x.val) 4#32) (IntOp.shrui .vector (BitVec.ofNat 32 (row k i).val) 4#32)) (f x) (0 : EReal)
      = ∑ j : Fin 16, f (row k j) := by
  refine sum_kept k _ f (fun j => ?_) (fun j l hj => ?_)
  · rw [same_at, if_pos (by show (k.val * 16 + j.val) / 16 = (k.val * 16 + i.val) / 16; omega)]
    rfl
  · rw [same_at, if_neg (by intro h; have h' : (j.val * 16 + l.val) / 16 = (k.val * 16 + i.val) / 16 := h; exact hj (Fin.ext (by omega)))]
    rfl

theorem pay5_at (x1 x0 : Vec Ideal S256x128 .f32) (a : Fin 256) (k : Fin 8) (i : Fin 16) :
    k0_pay5 (F := Ideal) x1 x0 (ix2 a (row k i)) = HMul.hMul (α := EReal) (β := EReal) (γ := EReal) (x0 (ix2 a (row k i)))
      (Ideal.exp (HSub.hSub (α := EReal) (β := EReal) (γ := EReal) (∑ j : Fin 16, x1 (ix2 a (row k j))) (upto (fun j => x1 (ix2 a (row k j))) i))) := by
  pointwise [k0_pay5, k0_pay4]
  rw [← sum_mask (fun x => x1 (ix2 a x)) k i, ← sum_same (fun x => x1 (ix2 a x)) k i]

theorem idx : ∀ t : Fin cfg0.N, win0_0.index t = ![0, t.val] ∧ win0_1.index t = ![0, t.val] ∧ win0_2.index t = ![t.val, 0] ∧ win0_3.index t = ![t.val, 0, 0] ∧ win0_4.index t = ![t.val, 0, 0] :=
  (by decide +kernel : ∀ t : Fin grid0.N, _)

theorem point (x0 x1 : Vec Ideal S256x128 .f32) (x2 : Vec Ideal S128x512 .f32) (k : Fin 8) (h : Fin 4) (d : Fin 64) (e : Fin 128) :
    out0_3 (F := Ideal) x0 x1 x2 (ix3 k (Cert.FromStates.Grad.Ref.col64 h d) e) = ∑ i : Fin 16, k0_pay5 (F := Ideal) x1 x0 (ix2 (Cert.FromStates.Grad.Ref.col64 h d) (row k i)) * x2 (ix2 (row k i) (Cert.FromStates.Grad.Ref.col128 h e)) := by
  frame_out [out0_3]
  canon_tiles x hx
  all_goals
    open_payloads
    pointwise []
    have e0 : k.val = _ := hx0
    have e1 : h.val * 64 + d.val = _ := hx1
    have e2 : e.val = _ := hx2
    refine sum_kept k _ (fun l => k0_pay5 (F := Ideal) x1 x0 (ix2 (Cert.FromStates.Grad.Ref.col64 h d) l) * x2 (ix2 l (Cert.FromStates.Grad.Ref.col128 h e))) (fun i => ?_) (fun j i hj => ?_)
    · refine (select_at k k i _ (by simp only [BitVec.toNat_ofNat]; omega) _ _).trans ((if_pos rfl).trans ?_)
      refine congrArg₂ _ (congrArg (fun a => k0_pay5 (F := Ideal) x1 x0 (ix2 a (row k i))) (Fin.ext ?_)) (congrArg (fun a => x2 (ix2 (row k i) a)) (Fin.ext ?_))
      · show _ = h.val * 64 + d.val
        simp only
        omega
      · show _ = h.val * 128 + e.val
        simp only
        omega
    · exact (select_at j k i _ (by simp only [BitVec.toNat_ofNat]; omega) _ _).trans (if_neg hj)

theorem point_decay (x0 x1 : Vec Ideal S256x128 .f32) (x2 : Vec Ideal S128x512 .f32) (k : Fin 8) (a : Fin 256) (e : Fin 128) :
    out0_4 (F := Ideal) x0 x1 x2 (ix3 k a e) = Ideal.exp (∑ i : Fin 16, x1 (ix2 a (row k i))) := by
  frame_out [out0_4]
  canon_tiles x hx
  all_goals
    open_payloads
    pointwise [k0_pay4, k0_pay6, k0_pay7]
    have e0 : k.val = _ := hx0
    have e1 : a.val = _ := hx1
    refine congrArg Ideal.exp (sum_kept k _ (fun l => x1 (ix2 a l)) (fun i => ?_) (fun j i hj => ?_))
    · refine (select_at k k i _ (by simp only [BitVec.toNat_ofNat]; omega) _ _).trans ((if_pos rfl).trans ?_)
      exact congrArg (fun a => x1 (ix2 a (row k i))) (Fin.ext (by simp only; omega))
    · exact (select_at j k i _ (by simp only [BitVec.toNat_ofNat]; omega) _ _).trans (if_neg hj)

theorem split (y : S8x256x128.Idx) : ∃ (k : Fin 8) (h : Fin 4) (d : Fin 64) (e : Fin 128), y = ix3 k (Cert.FromStates.Grad.Ref.col64 h d) e := by
  obtain ⟨k, a, e, rfl⟩ : ∃ (k : Fin 8) (a : Fin 256) (e : Fin 128), y = ix3 k a e := ⟨_, _, _, eq_ix3 y⟩
  obtain ⟨h, d, rfl⟩ : ∃ (h : Fin 4) (d : Fin 64), a = Cert.FromStates.Grad.Ref.col64 h d := ⟨⟨a.val / 64, by omega⟩, ⟨a.val % 64, by omega⟩, Fin.ext (by show a.val = a.val / 64 * 64 + a.val % 64; omega)⟩
  exact ⟨k, h, d, e, rfl⟩

variable {K L : FVec Ideal S2048x256 .f32} {Y : FVec Ideal S2048x512 .f32}
    (h0 : m ((c : Thread nD τ).loc main_arg0) = K) (h1 : m ((c : Thread nD τ).loc main_arg1) = L) (h2 : m ((c : Thread nD τ).loc main_arg2) = Y)

/-- A chunk of a grid point's tile. -/
def chunk (t : Fin cfg0.N) (k : Fin 8) : Fin 128 := ⟨t.val * 8 + k.val, by have : t.val < 16 := t.isLt; omega⟩

theorem row_chunk (t : Fin cfg0.N) (k : Fin 8) (i : Fin 16) : (Cert.FromStates.Grad.Ref.rowOf (chunk t k) i).val = t.val * 128 + (row k i).val := by
  show (t.val * 8 + k.val) * 16 + i.val = t.val * 128 + (k.val * 16 + i.val)
  omega

include h0 in
/-- The transposed keys that the region starts with. -/
theorem host_k (a : Fin 256) (n : Fin 2048) : Gen.V m c main_v0 (ix2 a n) = K (ix2 n a) := by
  have h : Gen.V m c main_v0 = (transpose S256x2048 [1, 0] K transposes_S2048x256_S256x2048_1_0 : FVec Ideal S256x2048 .f32) := by
    subst h0
    change StableHlo.after hostOps0 (fun b => m (c, b)) (Proc.devRef .tc main_v0) = _
    simp only [hostOps0]
    after_results
  rw [h]
  pointwise

include h1 in
/-- The transposed log-decays that the region starts with. -/
theorem host_l (a : Fin 256) (n : Fin 2048) : Gen.V m c main_v1 (ix2 a n) = L (ix2 n a) := by
  have h : Gen.V m c main_v1 = (transpose S256x2048 [1, 0] L transposes_S2048x256_S256x2048_1_0 : FVec Ideal S256x2048 .f32) := by
    subst h1
    change StableHlo.after hostOps0 (fun b => m (c, b)) (Proc.devRef .tc main_v1) = _
    simp only [hostOps0]
    after_results
  rw [h]
  pointwise

include h0 in
theorem k_at (t : Fin cfg0.N) (a : Fin 256) (k : Fin 8) (i : Fin 16) : iblk m c 0 t (ix2 a (row k i)) = K (ix2 (Cert.FromStates.Grad.Ref.rowOf (chunk t k) i) a) := by
  refine Eq.trans ?_ (host_k m c h0 a (Cert.FromStates.Grad.Ref.rowOf (chunk t k) i))
  have e := row_chunk t k i
  blk_ext [iblk, idx t, e]

include h1 in
theorem l_at (t : Fin cfg0.N) (a : Fin 256) (k : Fin 8) (i : Fin 16) : iblk m c 1 t (ix2 a (row k i)) = L (ix2 (Cert.FromStates.Grad.Ref.rowOf (chunk t k) i) a) := by
  refine Eq.trans ?_ (host_l m c h1 a (Cert.FromStates.Grad.Ref.rowOf (chunk t k) i))
  have e := row_chunk t k i
  blk_ext [iblk, idx t, e]

include h2 in
theorem y_at (t : Fin cfg0.N) (a : Fin 512) (k : Fin 8) (i : Fin 16) : iblk m c 2 t (ix2 (row k i) a) = Y (ix2 (Cert.FromStates.Grad.Ref.rowOf (chunk t k) i) a) := by
  have e := row_chunk t k i
  subst h2
  blk_ext [iblk, Gen.V, idx t, e]

include h0 h1 h2
/-- What a grid point writes. -/
theorem point_added (t : Fin cfg0.N) (k : Fin 8) (h : Fin 4) (d : Fin 64) (e : Fin 128) :
    out0_3 (F := Ideal) (iblk m c 0 t) (iblk m c 1 t) (iblk m c 2 t) (ix3 k (Cert.FromStates.Grad.Ref.col64 h d) e) = Ref.added K L Y (ix3 (chunk t k) (Cert.FromStates.Grad.Ref.col64 h d) e) := by
  refine (point _ _ _ k h d e).trans (Eq.trans ?_ (Ref.added_at K L Y (chunk t k) h d e).symm)
  refine Finset.sum_congr (M := EReal) rfl fun i _ => ?_
  rw [pay5_at, k_at m c h0 t, y_at m c h2 t]
  exact congrArg (fun f : Fin 16 → EReal => HMul.hMul (α := EReal) (β := EReal) (γ := EReal) (_ * Ideal.exp (HSub.hSub (α := EReal) (β := EReal) (γ := EReal) (∑ j, f j) (upto f i))) _) (funext fun j => l_at m c h1 t _ k j)

theorem point_decays (t : Fin cfg0.N) (k : Fin 8) (h : Fin 4) (d : Fin 64) (e : Fin 128) :
    out0_4 (F := Ideal) (iblk m c 0 t) (iblk m c 1 t) (iblk m c 2 t) (ix3 k (Cert.FromStates.Grad.Ref.col64 h d) e) = Ref.decays L (ix3 (chunk t k) (Cert.FromStates.Grad.Ref.col64 h d) e) := by
  refine (point_decay _ _ _ k _ e).trans (Eq.trans ?_ (Ref.decays_at L (chunk t k) h d e).symm)
  exact congrArg Ideal.exp (Finset.sum_congr (M := EReal) rfl fun j _ => l_at m c h1 t _ k j)

/-- The kernel's arrays after the region. -/
theorem final_added : (dats m 0 c).arrAt 3 cfg0.N = Ref.added K L Y := by
  refine (dats m 0 c).arrAt_eq_of_covers 3 _ (by decide +kernel) fun t _ (y : S8x256x128.Idx) => ?_
  obtain ⟨k, h, d, e, rfl⟩ := split y
  have hr : ((cfg0.win 3).blk t).view.emb (ix3 k (Cert.FromStates.Grad.Ref.col64 h d) e) = ix3 (chunk t k) (Cert.FromStates.Grad.Ref.col64 h d) e := by blk_ext [idx t, chunk]
  rw [hr, ← point_added m c h0 h1 h2 t k h d e]
  blk_simp
  rw [after0_3]

theorem final_decays : (dats m 0 c).arrAt 4 cfg0.N = Ref.decays L := by
  refine (dats m 0 c).arrAt_eq_of_covers 4 _ (by decide +kernel) fun t _ (y : S8x256x128.Idx) => ?_
  obtain ⟨k, h, d, e, rfl⟩ := split y
  have hr : ((cfg0.win 4).blk t).view.emb (ix3 k (Cert.FromStates.Grad.Ref.col64 h d) e) = ix3 (chunk t k) (Cert.FromStates.Grad.Ref.col64 h d) e := by blk_ext [idx t, chunk]
  rw [hr, ← point_decays m c h0 h1 h2 t k h d e]
  blk_simp
  rw [after0_4]

omit h0 h1 h2
/-- The kernel's run: the results are the reference's of the arguments, which end unchanged. -/
theorem run (g : Dev nD → PrngReg) : θ_run defs (onTc (τ := τ) (main (F := Ideal))) ⟨m, fun _ => 0, g⟩ fun r => ∀ c : Dev nD,
      r.2.mem ((c : Thread nD τ).loc main_v2_0) = Ref.added (m ((c : Thread nD τ).loc main_arg0)) (m ((c : Thread nD τ).loc main_arg1)) (m ((c : Thread nD τ).loc main_arg2))
      ∧ r.2.mem ((c : Thread nD τ).loc main_v2_1) = Ref.decays (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final_added m c rfl rfl rfl), ((h.1 c).1 4).trans (final_decays m c rfl rfl rfl), h.2 c⟩)
    (θ_run_and (run_main m g) (unchanged m g))

/-- The reference's run leaves its arguments and all counters as they were. -/
theorem reference_frame : Cert.quiescent_Reference37Ideal := fun m g _ =>
  (θ_run Cert.Reference37Ideal.defs _ _).mono (fun r h => ⟨fun c => (h c).2.2, sem_eq_zero_of_no_sems (by decide) r.2⟩) (Cert.Reference37Ideal.Value.run m g)

/-- The kernel computes what the reference computes. -/
theorem algebraic : Cert.algebraic_Kernel37Ideal_Reference37Ideal := by
  intro m g m' g' _ harg
  refine ⟨fun c => Ref.added (m ((c : Thread nD τ).loc main_arg0)) (m ((c : Thread nD τ).loc main_arg1)) (m ((c : Thread nD τ).loc main_arg2)), fun c => Ref.decays (m ((c : Thread nD τ).loc main_arg1)), run m g,
    (θ_run Cert.Reference37Ideal.defs _ _).mono (fun r h c => ⟨(h c).1.trans ?_, (h c).2.1.trans ?_, (h c).2.2⟩) (Cert.Reference37Ideal.Value.run m' g')⟩
  · rw [(harg c).1, (harg c).2.1, (harg c).2.2]
    rfl
  · rw [(harg c).2.1]
    rfl

end Cert.ToStates.Forward
-- ==== Proof.M38Ref.lean ====
/- What the chunks add to the states between them, and the decays, backward direction: the same of the flipped rows. -/
module

public import proofs.«01_k».proof.Defs
public import proofs.«01_k».proof.Proof.Chunk
public import proofs.«01_k».proof.Proof.M36Ref
public import proofs.«01_k».proof.Proof.M37Ref
public import proofs.«01_k».proof.Proof.Gen.Reference38Ideal.Run
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.ToStates.Behind.Ref

open Cert.Reference38Ideal Cert.Reference38Ideal.Gen Idealize.ShloMosaic Idealize.ShloMosaic.TcCoe Idealize.SL.Sem
open Cert.Chunk
open Cert.FromStates.Grad.Ref (col64 col128 rowOf)
open Cert.FromStates.GradB.Ref (flip_states flip_rows)

/-- What the chunks add. -/
def added (K L : FVec Ideal S2048x256 .f32) (Y : FVec Ideal S2048x512 .f32) : FVec Ideal S128x256x128 .f32 :=
  Host.reverse [0] (Cert.ToStates.Forward.Ref.added (Host.reverse [0] K) (Host.reverse [0] L) (Host.reverse [0] Y))

/-- The decays over the chunks, once for each column of the state. -/
def decays (L : FVec Ideal S2048x256 .f32) : FVec Ideal S128x256x128 .f32 :=
  Host.reverse [0] (Cert.ToStates.Forward.Ref.decays (Host.reverse [0] L))

/-- A flipped row of the values. -/
theorem flip_values (Y : FVec Ideal S2048x512 .f32) (n : Fin 128) (i : Fin 16) (a : Fin 512) :
    Host.reverse [0] Y (ix2 (rowOf ⟨127 - n.val, by omega⟩ ⟨15 - i.val, by omega⟩) a) = Y (ix2 (rowOf n i) a) := by
  pointwise
  refine congrArg Y (congrArg (ix2 · a) (Fin.ext ?_))
  show 2048 - ((127 - n.val) * 16 + (15 - i.val) + 1) = n.val * 16 + i.val
  omega

theorem flip_row (L : FVec Ideal S2048x256 .f32) (n : Fin 128) (j : Fin 16) (a : Fin 256) :
    Host.reverse [0] L (ix2 (rowOf ⟨127 - n.val, by omega⟩ j) a) = L (ix2 (rowOf n ⟨15 - j.val, by omega⟩) a) := by
  rw [← flip_rows L n ⟨15 - j.val, by omega⟩ a]
  congr 3
  exact Fin.ext (by show j.val = 15 - (15 - j.val); omega)

/-- A chunk's sum is the flipped chunk's. -/
theorem flip_sum (L : FVec Ideal S2048x256 .f32) (n : Fin 128) (a : Fin 256) :
    ∑ j : Fin 16, Host.reverse [0] L (ix2 (rowOf ⟨127 - n.val, by omega⟩ j) a) = ∑ j : Fin 16, L (ix2 (rowOf n j) a) := by
  refine Fintype.sum_equiv Fin.revPerm _ _ fun j => (flip_row L n j a).trans ?_
  have er : Fin.revPerm j = (⟨15 - j.val, by omega⟩ : Fin 16) := Fin.ext (by show 16 - (j.val + 1) = 15 - j.val; omega)
  rw [er]

theorem flip_upto (L : FVec Ideal S2048x256 .f32) (n : Fin 128) (i : Fin 16) (a : Fin 256) :
    upto (fun j => Host.reverse [0] L (ix2 (rowOf ⟨127 - n.val, by omega⟩ j) a)) ⟨15 - i.val, by omega⟩ = from' (fun j => L (ix2 (rowOf n j) a)) i := by
  rw [← upto_flip]
  congr 1
  funext j
  exact flip_row L n j a

theorem added_at (K L : FVec Ideal S2048x256 .f32) (Y : FVec Ideal S2048x512 .f32) (n : Fin 128) (h : Fin 4) (d : Fin 64) (e : Fin 128) :
    added K L Y (ix3 n (col64 h d) e) = ∑ i : Fin 16, HMul.hMul (α := EReal) (β := EReal) (γ := EReal) (K (ix2 (rowOf n i) (col64 h d))
      * Ideal.exp (HSub.hSub (α := EReal) (β := EReal) (γ := EReal) (∑ j : Fin 16, L (ix2 (rowOf n j) (col64 h d))) (from' (fun j => L (ix2 (rowOf n j) (col64 h d))) i))) (Y (ix2 (rowOf n i) (col128 h e))) := by
  refine (flip_states _ n _ e).trans ((Cert.ToStates.Forward.Ref.added_at _ _ _ _ h d e).trans (Eq.symm ?_))
  refine Fintype.sum_equiv Fin.revPerm _ _ fun i => ?_
  have er : Fin.revPerm i = (⟨15 - i.val, by omega⟩ : Fin 16) := Fin.ext (by show 16 - (i.val + 1) = 15 - i.val; omega)
  rw [er, flip_rows, flip_values, flip_upto, flip_sum]

theorem decays_at (L : FVec Ideal S2048x256 .f32) (n : Fin 128) (h : Fin 4) (d : Fin 64) (e : Fin 128) :
    decays L (ix3 n (col64 h d) e) = Ideal.exp (∑ j : Fin 16, L (ix2 (rowOf n j) (col64 h d))) := by
  refine (flip_states _ n _ e).trans ((Cert.ToStates.Forward.Ref.decays_at _ _ h d e).trans ?_)
  rw [flip_sum]

end Cert.ToStates.Behind.Ref
-- ==== Proof.M38.lean ====
/- What the chunks add to the states between them, and the states' decays over the chunks, as the kernel computes them, backward direction. -/
module

public import proofs.«01_k».proof.Defs
public import proofs.«01_k».proof.Proof.Chunk
public import proofs.«01_k».proof.Proof.Gen.Kernel38Ideal.Frame
public import proofs.«01_k».proof.Proof.M38Ref
public import Idealize.ShloMosaic.Lib.Pipeline.Value
public import Idealize.ShloMosaic.Lib.Pipeline.ReadBack
public import Idealize.ShloMosaic.Lib.Pipeline.ValueKit
public import Idealize.ShloMosaic.Lib.IdealHost

@[expose] public section
set_option maxRecDepth 16384

noncomputable section

namespace Cert.ToStates.Behind

open Cert.Kernel38Ideal Cert.Kernel38Ideal.Gen Idealize.ShloMosaic Idealize.ShloMosaic.TcCoe Idealize.SL.Sem
open Idealize.ShloMosaic.Pipeline (Dat)
open Cert.Chunk

variable (m : (ℓ : Loc nD τ sig) → Buf (Elt Ideal) ℓ) (c : Dev nD)

/-- Where row `j` of a tile counts for row `l`: in the same chunk and not before it. -/
theorem same_at : ∀ j l : Fin 128, IntOp.cmpi .eq (IntOp.shrui .vector (BitVec.ofNat 32 j.val) 4#32) (IntOp.shrui .vector (BitVec.ofNat 32 l.val) 4#32) = if j.val / 16 = l.val / 16 then 1#1 else 0#1 := by decide +kernel
theorem le_at : ∀ j l : Fin 128, IntOp.cmpi .sge (BitVec.ofNat 32 j.val) (BitVec.ofNat 32 l.val) = if l.val ≤ j.val then 1#1 else 0#1 := by decide +kernel
theorem lane_at : ∀ (j k : Fin 8) (i : Fin 16), IntOp.cmpi .eq (IntOp.shrui .vector (BitVec.ofNat 32 (row j i).val) 4#32) (BitVec.ofNat 32 k.val) = if j = k then 1#1 else 0#1 := by decide +kernel

theorem select_at (j k : Fin 8) (i : Fin 16) (w : BitVec 32) (hw : w.toNat = k.val) (a b : EReal) :
    Scalar.select (IntOp.cmpi .eq (IntOp.shrui .vector (BitVec.ofNat 32 (row j i).val) 4#32) w) a b = if j = k then a else b := by
  have e : w = BitVec.ofNat 32 k.val := BitVec.eq_of_toNat_eq (by rw [hw, BitVec.toNat_ofNat]; omega)
  rw [e, lane_at]
  by_cases h : j = k
  · rw [if_pos h, if_pos h]; rfl
  · rw [if_neg h, if_neg h]; rfl

/-- The last rows' sum that the mask picks. -/
theorem sum_mask (f : Fin 128 → EReal) (k : Fin 8) (i : Fin 16) :
    ∑ x : Fin 128, Scalar.select (IntOp.andi (IntOp.cmpi .eq (IntOp.shrui .vector (BitVec.ofNat 32 x.val) 4#32) (IntOp.shrui .vector (BitVec.ofNat 32 (row k i).val) 4#32))
      (IntOp.cmpi .sge (BitVec.ofNat 32 x.val) (BitVec.ofNat 32 (row k i).val))) (f x) (0 : EReal) = from' (fun j => f (row k j)) i := by
  refine sum_kept k _ (fun x => if (row k i).val ≤ x.val then f x else 0) (fun j => ?_) (fun j l hj => ?_) |>.trans ?_
  · rw [same_at, le_at, if_pos (by show (k.val * 16 + j.val) / 16 = (k.val * 16 + i.val) / 16; omega)]
    by_cases h : (row k i).val ≤ (row k j).val
    · rw [if_pos h, if_pos h]; rfl
    · rw [if_neg h, if_neg h]; rfl
  · rw [same_at, if_neg (by intro h; have h' : (j.val * 16 + l.val) / 16 = (k.val * 16 + i.val) / 16 := h; exact hj (Fin.ext (by omega))), le_at]
    by_cases h : (row k i).val ≤ (row j l).val
    · rw [if_pos h]; rfl
    · rw [if_neg h]; rfl
  · refine Finset.sum_congr (M := EReal) rfl fun j _ => ?_
    by_cases h : i.val ≤ j.val
    · exact (if_pos (by show k.val * 16 + i.val ≤ k.val * 16 + j.val; omega)).trans (if_pos h).symm
    · exact (if_neg (by show ¬ k.val * 16 + i.val ≤ k.val * 16 + j.val; omega)).trans (if_neg h).symm

/-- The chunk's sum, by its mask. -/
theorem sum_same (f : Fin 128 → EReal) (k : Fin 8) (i : Fin 16) :
    ∑ x : Fin 128, Scalar.select (IntOp.cmpi .eq (IntOp.shrui .vector (BitVec.ofNat 32 x.val) 4#32) (IntOp.shrui .vector (BitVec.ofNat 32 (row k i).val) 4#32)) (f x) (0 : EReal)
      = ∑ j : Fin 16, f (row k j) := by
  refine sum_kept k _ f (fun j => ?_) (fun j l hj => ?_)
  · rw [same_at, if_pos (by show (k.val * 16 + j.val) / 16 = (k.val * 16 + i.val) / 16; omega)]
    rfl
  · rw [same_at, if_neg (by intro h; have h' : (j.val * 16 + l.val) / 16 = (k.val * 16 + i.val) / 16 := h; exact hj (Fin.ext (by omega)))]
    rfl

theorem pay5_at (x1 x0 : Vec Ideal S256x128 .f32) (a : Fin 256) (k : Fin 8) (i : Fin 16) :
    k0_pay5 (F := Ideal) x1 x0 (ix2 a (row k i)) = HMul.hMul (α := EReal) (β := EReal) (γ := EReal) (x0 (ix2 a (row k i)))
      (Ideal.exp (HSub.hSub (α := EReal) (β := EReal) (γ := EReal) (∑ j : Fin 16, x1 (ix2 a (row k j))) (from' (fun j => x1 (ix2 a (row k j))) i))) := by
  pointwise [k0_pay5, k0_pay4]
  rw [← sum_mask (fun x => x1 (ix2 a x)) k i, ← sum_same (fun x => x1 (ix2 a x)) k i]

theorem idx : ∀ t : Fin cfg0.N, win0_0.index t = ![0, t.val] ∧ win0_1.index t = ![0, t.val] ∧ win0_2.index t = ![t.val, 0] ∧ win0_3.index t = ![t.val, 0, 0] ∧ win0_4.index t = ![t.val, 0, 0] :=
  (by decide +kernel : ∀ t : Fin grid0.N, _)

theorem point (x0 x1 : Vec Ideal S256x128 .f32) (x2 : Vec Ideal S128x512 .f32) (k : Fin 8) (h : Fin 4) (d : Fin 64) (e : Fin 128) :
    out0_3 (F := Ideal) x0 x1 x2 (ix3 k (Cert.FromStates.Grad.Ref.col64 h d) e) = ∑ i : Fin 16, k0_pay5 (F := Ideal) x1 x0 (ix2 (Cert.FromStates.Grad.Ref.col64 h d) (row k i)) * x2 (ix2 (row k i) (Cert.FromStates.Grad.Ref.col128 h e)) := by
  frame_out [out0_3]
  canon_tiles x hx
  all_goals
    open_payloads
    pointwise []
    have e0 : k.val = _ := hx0
    have e1 : h.val * 64 + d.val = _ := hx1
    have e2 : e.val = _ := hx2
    refine sum_kept k _ (fun l => k0_pay5 (F := Ideal) x1 x0 (ix2 (Cert.FromStates.Grad.Ref.col64 h d) l) * x2 (ix2 l (Cert.FromStates.Grad.Ref.col128 h e))) (fun i => ?_) (fun j i hj => ?_)
    · refine (select_at k k i _ (by simp only [BitVec.toNat_ofNat]; omega) _ _).trans ((if_pos rfl).trans ?_)
      refine congrArg₂ _ (congrArg (fun a => k0_pay5 (F := Ideal) x1 x0 (ix2 a (row k i))) (Fin.ext ?_)) (congrArg (fun a => x2 (ix2 (row k i) a)) (Fin.ext ?_))
      · show _ = h.val * 64 + d.val
        simp only
        omega
      · show _ = h.val * 128 + e.val
        simp only
        omega
    · exact (select_at j k i _ (by simp only [BitVec.toNat_ofNat]; omega) _ _).trans (if_neg hj)

theorem point_decay (x0 x1 : Vec Ideal S256x128 .f32) (x2 : Vec Ideal S128x512 .f32) (k : Fin 8) (a : Fin 256) (e : Fin 128) :
    out0_4 (F := Ideal) x0 x1 x2 (ix3 k a e) = Ideal.exp (∑ i : Fin 16, x1 (ix2 a (row k i))) := by
  frame_out [out0_4]
  canon_tiles x hx
  all_goals
    open_payloads
    pointwise [k0_pay4, k0_pay6, k0_pay7]
    have e0 : k.val = _ := hx0
    have e1 : a.val = _ := hx1
    refine congrArg Ideal.exp (sum_kept k _ (fun l => x1 (ix2 a l)) (fun i => ?_) (fun j i hj => ?_))
    · refine (select_at k k i _ (by simp only [BitVec.toNat_ofNat]; omega) _ _).trans ((if_pos rfl).trans ?_)
      exact congrArg (fun a => x1 (ix2 a (row k i))) (Fin.ext (by simp only; omega))
    · exact (select_at j k i _ (by simp only [BitVec.toNat_ofNat]; omega) _ _).trans (if_neg hj)

theorem split (y : S8x256x128.Idx) : ∃ (k : Fin 8) (h : Fin 4) (d : Fin 64) (e : Fin 128), y = ix3 k (Cert.FromStates.Grad.Ref.col64 h d) e := by
  obtain ⟨k, a, e, rfl⟩ : ∃ (k : Fin 8) (a : Fin 256) (e : Fin 128), y = ix3 k a e := ⟨_, _, _, eq_ix3 y⟩
  obtain ⟨h, d, rfl⟩ : ∃ (h : Fin 4) (d : Fin 64), a = Cert.FromStates.Grad.Ref.col64 h d := ⟨⟨a.val / 64, by omega⟩, ⟨a.val % 64, by omega⟩, Fin.ext (by show a.val = a.val / 64 * 64 + a.val % 64; omega)⟩
  exact ⟨k, h, d, e, rfl⟩

variable {K L : FVec Ideal S2048x256 .f32} {Y : FVec Ideal S2048x512 .f32}
    (h0 : m ((c : Thread nD τ).loc main_arg0) = K) (h1 : m ((c : Thread nD τ).loc main_arg1) = L) (h2 : m ((c : Thread nD τ).loc main_arg2) = Y)

/-- A chunk of a grid point's tile. -/
def chunk (t : Fin cfg0.N) (k : Fin 8) : Fin 128 := ⟨t.val * 8 + k.val, by have : t.val < 16 := t.isLt; omega⟩

theorem row_chunk (t : Fin cfg0.N) (k : Fin 8) (i : Fin 16) : (Cert.FromStates.Grad.Ref.rowOf (chunk t k) i).val = t.val * 128 + (row k i).val := by
  show (t.val * 8 + k.val) * 16 + i.val = t.val * 128 + (k.val * 16 + i.val)
  omega

include h0 in
/-- The transposed keys that the region starts with. -/
theorem host_k (a : Fin 256) (n : Fin 2048) : Gen.V m c main_v0 (ix2 a n) = K (ix2 n a) := by
  have h : Gen.V m c main_v0 = (transpose S256x2048 [1, 0] K transposes_S2048x256_S256x2048_1_0 : FVec Ideal S256x2048 .f32) := by
    subst h0
    change StableHlo.after hostOps0 (fun b => m (c, b)) (Proc.devRef .tc main_v0) = _
    simp only [hostOps0]
    after_results
  rw [h]
  pointwise

include h1 in
/-- The transposed log-decays that the region starts with. -/
theorem host_l (a : Fin 256) (n : Fin 2048) : Gen.V m c main_v1 (ix2 a n) = L (ix2 n a) := by
  have h : Gen.V m c main_v1 = (transpose S256x2048 [1, 0] L transposes_S2048x256_S256x2048_1_0 : FVec Ideal S256x2048 .f32) := by
    subst h1
    change StableHlo.after hostOps0 (fun b => m (c, b)) (Proc.devRef .tc main_v1) = _
    simp only [hostOps0]
    after_results
  rw [h]
  pointwise

include h0 in
theorem k_at (t : Fin cfg0.N) (a : Fin 256) (k : Fin 8) (i : Fin 16) : iblk m c 0 t (ix2 a (row k i)) = K (ix2 (Cert.FromStates.Grad.Ref.rowOf (chunk t k) i) a) := by
  refine Eq.trans ?_ (host_k m c h0 a (Cert.FromStates.Grad.Ref.rowOf (chunk t k) i))
  have e := row_chunk t k i
  blk_ext [iblk, idx t, e]

include h1 in
theorem l_at (t : Fin cfg0.N) (a : Fin 256) (k : Fin 8) (i : Fin 16) : iblk m c 1 t (ix2 a (row k i)) = L (ix2 (Cert.FromStates.Grad.Ref.rowOf (chunk t k) i) a) := by
  refine Eq.trans ?_ (host_l m c h1 a (Cert.FromStates.Grad.Ref.rowOf (chunk t k) i))
  have e := row_chunk t k i
  blk_ext [iblk, idx t, e]

include h2 in
theorem y_at (t : Fin cfg0.N) (a : Fin 512) (k : Fin 8) (i : Fin 16) : iblk m c 2 t (ix2 (row k i) a) = Y (ix2 (Cert.FromStates.Grad.Ref.rowOf (chunk t k) i) a) := by
  have e := row_chunk t k i
  subst h2
  blk_ext [iblk, Gen.V, idx t, e]

include h0 h1 h2
/-- What a grid point writes. -/
theorem point_added (t : Fin cfg0.N) (k : Fin 8) (h : Fin 4) (d : Fin 64) (e : Fin 128) :
    out0_3 (F := Ideal) (iblk m c 0 t) (iblk m c 1 t) (iblk m c 2 t) (ix3 k (Cert.FromStates.Grad.Ref.col64 h d) e) = Ref.added K L Y (ix3 (chunk t k) (Cert.FromStates.Grad.Ref.col64 h d) e) := by
  refine (point _ _ _ k h d e).trans (Eq.trans ?_ (Ref.added_at K L Y (chunk t k) h d e).symm)
  refine Finset.sum_congr (M := EReal) rfl fun i _ => ?_
  rw [pay5_at, k_at m c h0 t, y_at m c h2 t]
  exact congrArg (fun f : Fin 16 → EReal => HMul.hMul (α := EReal) (β := EReal) (γ := EReal) (_ * Ideal.exp (HSub.hSub (α := EReal) (β := EReal) (γ := EReal) (∑ j, f j) (from' f i))) _) (funext fun j => l_at m c h1 t _ k j)

theorem point_decays (t : Fin cfg0.N) (k : Fin 8) (h : Fin 4) (d : Fin 64) (e : Fin 128) :
    out0_4 (F := Ideal) (iblk m c 0 t) (iblk m c 1 t) (iblk m c 2 t) (ix3 k (Cert.FromStates.Grad.Ref.col64 h d) e) = Ref.decays L (ix3 (chunk t k) (Cert.FromStates.Grad.Ref.col64 h d) e) := by
  refine (point_decay _ _ _ k _ e).trans (Eq.trans ?_ (Ref.decays_at L (chunk t k) h d e).symm)
  exact congrArg Ideal.exp (Finset.sum_congr (M := EReal) rfl fun j _ => l_at m c h1 t _ k j)

/-- The kernel's arrays after the region. -/
theorem final_added : (dats m 0 c).arrAt 3 cfg0.N = Ref.added K L Y := by
  refine (dats m 0 c).arrAt_eq_of_covers 3 _ (by decide +kernel) fun t _ (y : S8x256x128.Idx) => ?_
  obtain ⟨k, h, d, e, rfl⟩ := split y
  have hr : ((cfg0.win 3).blk t).view.emb (ix3 k (Cert.FromStates.Grad.Ref.col64 h d) e) = ix3 (chunk t k) (Cert.FromStates.Grad.Ref.col64 h d) e := by blk_ext [idx t, chunk]
  rw [hr, ← point_added m c h0 h1 h2 t k h d e]
  blk_simp
  rw [after0_3]

theorem final_decays : (dats m 0 c).arrAt 4 cfg0.N = Ref.decays L := by
  refine (dats m 0 c).arrAt_eq_of_covers 4 _ (by decide +kernel) fun t _ (y : S8x256x128.Idx) => ?_
  obtain ⟨k, h, d, e, rfl⟩ := split y
  have hr : ((cfg0.win 4).blk t).view.emb (ix3 k (Cert.FromStates.Grad.Ref.col64 h d) e) = ix3 (chunk t k) (Cert.FromStates.Grad.Ref.col64 h d) e := by blk_ext [idx t, chunk]
  rw [hr, ← point_decays m c h0 h1 h2 t k h d e]
  blk_simp
  rw [after0_4]

omit h0 h1 h2
/-- The kernel's run: the results are the reference's of the arguments, which end unchanged. -/
theorem run (g : Dev nD → PrngReg) : θ_run defs (onTc (τ := τ) (main (F := Ideal))) ⟨m, fun _ => 0, g⟩ fun r => ∀ c : Dev nD,
      r.2.mem ((c : Thread nD τ).loc main_v2_0) = Ref.added (m ((c : Thread nD τ).loc main_arg0)) (m ((c : Thread nD τ).loc main_arg1)) (m ((c : Thread nD τ).loc main_arg2))
      ∧ r.2.mem ((c : Thread nD τ).loc main_v2_1) = Ref.decays (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final_added m c rfl rfl rfl), ((h.1 c).1 4).trans (final_decays m c rfl rfl rfl), h.2 c⟩)
    (θ_run_and (run_main m g) (unchanged m g))

/-- The reference's run leaves its arguments and all counters as they were. -/
theorem reference_frame : Cert.quiescent_Reference38Ideal := fun m g _ =>
  (θ_run Cert.Reference38Ideal.defs _ _).mono (fun r h => ⟨fun c => (h c).2.2, sem_eq_zero_of_no_sems (by decide) r.2⟩) (Cert.Reference38Ideal.Value.run m g)

/-- The kernel computes what the reference computes. -/
theorem algebraic : Cert.algebraic_Kernel38Ideal_Reference38Ideal := by
  intro m g m' g' _ harg
  refine ⟨fun c => Ref.added (m ((c : Thread nD τ).loc main_arg0)) (m ((c : Thread nD τ).loc main_arg1)) (m ((c : Thread nD τ).loc main_arg2)), fun c => Ref.decays (m ((c : Thread nD τ).loc main_arg1)), run m g,
    (θ_run Cert.Reference38Ideal.defs _ _).mono (fun r h c => ⟨(h c).1.trans ?_, (h c).2.1.trans ?_, (h c).2.2⟩) (Cert.Reference38Ideal.Value.run m' g')⟩
  · rw [(harg c).1, (harg c).2.1, (harg c).2.2]
    rfl
  · rw [(harg c).2.1]
    rfl

end Cert.ToStates.Behind
-- ==== Proof.XKer.lean ====
/- The gradient kernel of the cross-attention: each of its three result arrays is, after the run, the reference's term. A block of
   the query gradient is written at its own grid point; a block of the key and of the value gradient gathers four points, the four
   row tiles of a head. -/
module

public import proofs.«01_k».proof.Proof.XRef
public import proofs.«01_k».proof.Proof.XPay

@[expose] public section

set_option maxRecDepth 16384

noncomputable section

namespace Cert.XAttn.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The windows' index maps: a query block is (row tile, head), a memory block is the head's columns. -/
theorem idx : ∀ t : Fin cfg0.N, win0_0.index t = ![t.val % 4, t.val / 4] ∧ win0_1.index t = ![0, t.val / 4] ∧ win0_2.index t = ![0, t.val / 4]
    ∧ win0_3.index t = ![t.val % 4, t.val / 4] ∧ win0_4.index t = ![t.val % 4, t.val / 4] ∧ win0_5.index t = ![t.val % 4, t.val / 4]
    ∧ win0_6.index t = ![0, t.val / 4] ∧ win0_7.index t = ![0, t.val / 4] :=
  (by decide +kernel : ∀ t : Fin grid0.N, _)

/-- The head of a grid point. -/
def hd (t : Fin cfg0.N) : Fin 4 := ⟨t.val / 4, by have h : t.val < 16 := t.isLt; omega⟩

/-- The row of the array at row `r` of a grid point's tile. -/
def rw_ (t : Fin cfg0.N) (r : Fin 512) : Fin 2048 := ⟨t.val % 4 * 512 + r.val, by omega⟩

/-- Point `s` of the run that a flushing point of the key and value gradients ends: the same head, row tile `s`. -/
theorem run_point (t : Fin cfg0.N) (s : Fin 4) (h : 4 * (t.val / 4) + s.val < cfg0.N) :
    hd ⟨4 * (t.val / 4) + s.val, h⟩ = hd t ∧ ∀ r : Fin 512, rw_ ⟨4 * (t.val / 4) + s.val, h⟩ r = ⟨s.val * 512 + r.val, by omega⟩ := by
  refine ⟨Fin.ext ?_, fun r => Fin.ext ?_⟩
  · show (4 * (t.val / 4) + s.val) / 4 = t.val / 4
    omega
  · show (4 * (t.val / 4) + s.val) % 4 * 512 + r.val = s.val * 512 + r.val
    omega

variable {Q G : FVec Ideal S2048x2048 .f32} {K V : FVec Ideal S256x2048 .f32}
    (h0 : m ((c : Thread nD τ).loc main_arg0) = Q) (h1 : m ((c : Thread nD τ).loc main_arg1) = K)
    (h2 : m ((c : Thread nD τ).loc main_arg2) = V) (h3 : m ((c : Thread nD τ).loc main_arg3) = G)

include h0 h1 h2 in
/-- The forward output that the region starts with. -/
theorem host_o : Gen.V m c main_v19 = Ref.out (Ref.expo (Ref.score Q K) (Ref.rowmax (Ref.score Q K))) (Ref.norm (Ref.expo (Ref.score Q K) (Ref.rowmax (Ref.score Q K)))) V := by
  entry_read
  subst h0 h1 h2
  rfl

variable {q g : Fin 2048 → Fin 2048 → ℝ} {k v : Fin 256 → Fin 2048 → ℝ}
    (hQ : ∀ a b, Q (ix2 a b) = (q a b : EReal)) (hK : ∀ a b, K (ix2 a b) = (k a b : EReal))
    (hV : ∀ a b, V (ix2 a b) = (v a b : EReal)) (hG : ∀ a b, G (ix2 a b) = (g a b : EReal))

section
include h0 h1 h2 h3 hQ hK hV hG

/-- What the input blocks of a grid point hold. -/
theorem blocks (t : Fin cfg0.N) : Pay.Blocks q k v g (hd t) (rw_ t) (iblk m c 0 t) (iblk m c 1 t) (iblk m c 2 t) (iblk m c 3 t) (iblk m c 4 t) where
  q_at r d := by
    refine Eq.trans ?_ (hQ (rw_ t r) (hc (hd t) d))
    subst h0
    blk_ext [iblk, Gen.V, idx t, rw_, hd, hc]
  k_at r d := by
    refine Eq.trans ?_ (hK r (hc (hd t) d))
    subst h1
    blk_ext [iblk, Gen.V, idx t, rw_, hd, hc]
  v_at r d := by
    refine Eq.trans ?_ (hV r (hc (hd t) d))
    subst h2
    blk_ext [iblk, Gen.V, idx t, rw_, hd, hc]
  g_at r d := by
    refine Eq.trans ?_ (hG (rw_ t r) (hc (hd t) d))
    subst h3
    blk_ext [iblk, Gen.V, idx t, rw_, hd, hc]
  o_at r d := by
    refine Eq.trans ?_ (Ref.out_at hQ hK hV (hd t) (rw_ t r) d)
    have ho := host_o m c h0 h1 h2
    blk_simp [iblk]
    rw [ho]
    blk_ext [idx t, rw_, hd, hc]

/-- The query gradient after the run. -/
theorem final5 : (dats m 0 c).arrAt 5 cfg0.N = Ref.gq (Ref.dscore (Ref.dprob G V) (Ref.expo (Ref.score Q K) (Ref.rowmax (Ref.score Q K))) (Ref.norm (Ref.expo (Ref.score Q K) (Ref.rowmax (Ref.score Q K))))) K := by
  refine (dats m 0 c).arrAt_eq_of_covers 5 _ (by decide +kernel) fun t _ (y : S512x512.Idx) => ?_
  have B := blocks m c h0 h1 h2 h3 hQ hK hV hG t
  obtain ⟨r, d, rfl⟩ : ∃ (r d : Fin 512), y = ix2 r d := ⟨_, _, eq_ix2 y⟩
  have hr : ((cfg0.win 5).blk t).view.emb (ix2 r d) = ix2 (rw_ t r) (hc (hd t) d) := by blk_ext [idx t, rw_, hd, hc]
  rw [hr]
  refine Eq.trans ?_ (Ref.gq_at hQ hK hV hG (hd t) (rw_ t r) d).symm
  rw [← Pay.pay11_at B r d]
  blk_simp
  rw [after0_5]
  by_cases ht : t.val % 4 = 0
  · rw [outsAt0_A m c t ht (by omega)]; frame_out
  · rw [outsAt0_B m c t ht (by omega)]; frame_out

/-- The key gradient after the run. -/
theorem final6 : (dats m 0 c).arrAt 6 cfg0.N = Ref.gk (Ref.dscore (Ref.dprob G V) (Ref.expo (Ref.score Q K) (Ref.rowmax (Ref.score Q K))) (Ref.norm (Ref.expo (Ref.score Q K) (Ref.rowmax (Ref.score Q K))))) Q := by
  refine (dats m 0 c).arrAt_eq_of_covers 6 _ (by decide +kernel) fun t hf (y : S256x512.Idx) => ?_
  have ht := (flush0_6 t).mp hf
  obtain ⟨r, d, rfl⟩ : ∃ (r : Fin 256) (d : Fin 512), y = ix2 r d := ⟨_, _, eq_ix2 y⟩
  have hr : ((cfg0.win 6).blk t).view.emb (ix2 r d) = ix2 r (hc (hd t) d) := by blk_ext [idx t, rw_, hd, hc]
  rw [hr]
  refine Eq.trans ?_ (Ref.gk_at hQ hK hV hG (hd t) r d).symm
  blk_simp
  rw [after0_6, Pipeline.eq_sum_fin_of_reset_step_apply_of_flush (fun n h => (outsAt0 m c n h).2.1) 4 (fun _ => 0)
    (fun t y => k0_pay2 (F := Ideal) (iblk m c 0 t) (iblk m c 1 t) (iblk m c 2 t) (k0_pay9 (iblk m c 4 t) (iblk m c 3 t)) (iblk m c 4 t) y)
    (fun t h j => by rw [outsAt0_A m c t h (by omega)]; frame_out; exact (zero_add (M := EReal) _).symm)
    (fun t h j => by rw [outsAt0_B m c t h (by omega)]; frame_out; pointwise [k0_pay4]; rfl)
    t ht _, zero_add]
  have hs : ∀ s : Fin 4, _ := fun s => run_point t s (Pipeline.run_point_lt_of_flush t ht s)
  simp only [Pay.pay2_at (blocks m c h0 h1 h2 h3 hQ hK hV hG _), (hs _).1, (hs _).2]
  rw [RealLaws.coe_sum, ← Finset.sum_mul]
  unfold dk
  congr 2
  exact Fin.sum_mul_add_congr fun s k hl => rfl

/-- The value gradient after the run. -/
theorem final7 : (dats m 0 c).arrAt 7 cfg0.N = Ref.gv (Ref.expo (Ref.score Q K) (Ref.rowmax (Ref.score Q K))) (Ref.norm (Ref.expo (Ref.score Q K) (Ref.rowmax (Ref.score Q K)))) G := by
  refine (dats m 0 c).arrAt_eq_of_covers 7 _ (by decide +kernel) fun t hf (y : S256x512.Idx) => ?_
  have ht := (flush0_7 t).mp hf
  obtain ⟨r, d, rfl⟩ : ∃ (r : Fin 256) (d : Fin 512), y = ix2 r d := ⟨_, _, eq_ix2 y⟩
  have hr : ((cfg0.win 7).blk t).view.emb (ix2 r d) = ix2 r (hc (hd t) d) := by blk_ext [idx t, rw_, hd, hc]
  rw [hr]
  refine Eq.trans ?_ (Ref.gv_at hQ hK hG (hd t) r d).symm
  blk_simp
  rw [after0_7, Pipeline.eq_sum_fin_of_reset_step_apply_of_flush (fun n h => (outsAt0 m c n h).2.2) 4 (fun _ => 0)
    (fun t y => k0_pay3 (F := Ideal) (iblk m c 0 t) (iblk m c 1 t) (iblk m c 4 t) y)
    (fun t h j => by rw [outsAt0_A m c t h (by omega)]; frame_out; exact (zero_add (M := EReal) _).symm)
    (fun t h j => by rw [outsAt0_B m c t h (by omega)]; frame_out; pointwise [k0_pay5]; rfl)
    t ht _, zero_add]
  have hs : ∀ s : Fin 4, _ := fun s => run_point t s (Pipeline.run_point_lt_of_flush t ht s)
  simp only [Pay.pay3_at (blocks m c h0 h1 h2 h3 hQ hK hV hG _), (hs _).1, (hs _).2]
  rw [RealLaws.coe_sum]
  unfold dv
  congr 1
  exact Fin.sum_mul_add_congr fun s k hl => rfl

end

end Cert.XAttn.Ker

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Reference26Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Reference29Ideal
public import proofs.«01_k».proof.Proof.Gen.Reference29Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Reference32Ideal
public import proofs.«01_k».proof.Proof.Gen.Reference32Ideal.Run
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Reference33Ideal
public import proofs.«01_k».proof.Proof.Gen.Reference33Ideal.Run
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Reference34Ideal
public import proofs.«01_k».proof.Proof.Gen.Reference34Ideal.Run
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Reference35Ideal
public import proofs.«01_k».proof.Proof.Gen.Reference35Ideal.Run
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Reference36Ideal
public import proofs.«01_k».proof.Proof.Gen.Reference36Ideal.Run
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Reference37Ideal
public import proofs.«01_k».proof.Proof.Gen.Reference37Ideal.Run
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Reference38Ideal
public import proofs.«01_k».proof.Proof.Gen.Reference38Ideal.Run
public import proofs.«01_k».proof.Proof.M2
public import proofs.«01_k».proof.Proof.M3
public import proofs.«01_k».proof.Proof.M4
public import proofs.«01_k».proof.Proof.M5
public import proofs.«01_k».proof.Proof.M6
public import proofs.«01_k».proof.Proof.M7
public import proofs.«01_k».proof.Proof.M8
public import proofs.«01_k».proof.Proof.M9
public import proofs.«01_k».proof.Proof.M10
public import proofs.«01_k».proof.Proof.M11
public import proofs.«01_k».proof.Proof.M12
public import proofs.«01_k».proof.Proof.M13
public import proofs.«01_k».proof.Proof.M14
public import proofs.«01_k».proof.Proof.M15
public import proofs.«01_k».proof.Proof.M16
public import proofs.«01_k».proof.Proof.M17
public import proofs.«01_k».proof.Proof.M18
public import proofs.«01_k».proof.Proof.M19
public import proofs.«01_k».proof.Proof.M20
public import proofs.«01_k».proof.Proof.M21
public import proofs.«01_k».proof.Proof.M22
public import proofs.«01_k».proof.Proof.M23
public import proofs.«01_k».proof.Proof.M24
public import proofs.«01_k».proof.Proof.M25
public import proofs.«01_k».proof.Proof.M26
public import proofs.«01_k».proof.Proof.M28
public import proofs.«01_k».proof.Proof.M29
public import proofs.«01_k».proof.Proof.M31
public import proofs.«01_k».proof.Proof.M32
public import proofs.«01_k».proof.Proof.M33
public import proofs.«01_k».proof.Proof.M34
public import proofs.«01_k».proof.Proof.M35
public import proofs.«01_k».proof.Proof.M36
public import proofs.«01_k».proof.Proof.M37
public import proofs.«01_k».proof.Proof.M38
public import proofs.«01_k».proof.Proof.Gen.Pre_finite_scores
public import proofs.«01_k».proof.Proof.XKer
public import proofs.«01_k».proof.Proof.XPre
public import Idealize.ShloMosaic.Adequacy
public import Idealize.ShloMosaic.Init

@[expose] public section

noncomputable section

namespace Cert.Proof

open Idealize.ShloMosaic Idealize.SL.Sem Cert.Kernel

/-- The gradient of the cross-attention: kernel and reference leave the same three arrays where every element of the arguments is a real. -/
theorem xattn [Cert.KernelIdeal.Facts] [Cert.ReferenceIdeal.Facts] [Cert.Pre_finite.Facts] : Cert.algebraic_KernelIdeal_ReferenceIdeal_pre_finite := by
  intro m g m' g' hpre harg
  have hr := fun c => Cert.XAttn.Pre.real _ _ _ _ (hpre c)
  choose hQ hK hV hG using hr
  choose q hQ using hQ
  choose k hK using hK
  choose v hV using hV
  choose d hG using hG
  refine ⟨fun c => Cert.XAttn.Ref.dQ (m (c.tc.loc Cert.KernelIdeal.main_arg0)) (m (c.tc.loc Cert.KernelIdeal.main_arg1)) (m (c.tc.loc Cert.KernelIdeal.main_arg2)) (m (c.tc.loc Cert.KernelIdeal.main_arg3)),
    fun c => Cert.XAttn.Ref.dK (m (c.tc.loc Cert.KernelIdeal.main_arg0)) (m (c.tc.loc Cert.KernelIdeal.main_arg1)) (m (c.tc.loc Cert.KernelIdeal.main_arg2)) (m (c.tc.loc Cert.KernelIdeal.main_arg3)),
    fun c => Cert.XAttn.Ref.dV (m (c.tc.loc Cert.KernelIdeal.main_arg0)) (m (c.tc.loc Cert.KernelIdeal.main_arg1)) (m (c.tc.loc Cert.KernelIdeal.main_arg3)),
    (θ_run _ _ _).mono (fun r h c => ?_) (Cert.KernelIdeal.Value.run_blocks m g), (θ_run _ _ _).mono (fun r h c => ?_)
    (Cert.XAttn.Ref.run m' g' _ _ _ _ (fun c => (harg c).1) (fun c => (harg c).2.1) (fun c => (harg c).2.2.1) (fun c => (harg c).2.2.2))⟩
  · obtain ⟨r0, r1, r2, ha⟩ := h c
    exact ⟨r0.trans (Cert.XAttn.Ker.final5 m c rfl rfl rfl rfl (fun a b => hQ c _) (fun a b => hK c _) (fun a b => hV c _) (fun a b => hG c _)),
      r1.trans (Cert.XAttn.Ker.final6 m c rfl rfl rfl rfl (fun a b => hQ c _) (fun a b => hK c _) (fun a b => hV c _) (fun a b => hG c _)),
      r2.trans (Cert.XAttn.Ker.final7 m c rfl rfl rfl rfl (fun a b => hQ c _) (fun a b => hK c _) (fun a b => hV c _) (fun a b => hG c _)), ha⟩
  · exact h c

/-- The reference runs, leaves its arguments as they were, and has no semaphore. -/
theorem frame_ref [Cert.ReferenceIdeal.Facts] : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

/-- All claims: for each of the 36 kernels the frames, the idealization, and the values. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Pre_finite.Gen.facts, Cert.Pre_finite_scores.Gen.facts,
  fun m g _ => Cert.Kernel.Gen.frame m g, fun m g _ => Cert.KernelIdeal.Gen.frame m g, fun m g _ => Cert.KernelIdeal.Gen.frame m g,
  frame_ref, fun m g _ => frame_ref m g trivial,
  fun m g _ => Cert.Kernel2.Gen.frame m g, fun m g _ => Cert.Kernel2Ideal.Gen.frame m g, Cert.Up.Forward.reference_frame,
  fun m g _ => Cert.Kernel3.Gen.frame m g, fun m g _ => Cert.Kernel3Ideal.Gen.frame m g, Cert.Down.Forward.reference_frame,
  fun m g _ => Cert.Kernel4.Gen.frame m g, fun m g _ => Cert.Kernel4Ideal.Gen.frame m g, Cert.Down.Dx.reference_frame,
  fun m g _ => Cert.Kernel5.Gen.frame m g, fun m g _ => Cert.Kernel5Ideal.Gen.frame m g, Cert.Down.Grad.reference_frame,
  fun m g _ => Cert.Kernel6.Gen.frame m g, fun m g _ => Cert.Kernel6Ideal.Gen.frame m g, Cert.Up.Grad.reference_frame,
  fun m g _ => Cert.Kernel7.Gen.frame m g, fun m g _ => Cert.Kernel7Ideal.Gen.frame m g, Cert.Up.Dx.reference_frame,
  fun m g _ => Cert.Kernel8.Gen.frame m g, fun m g _ => Cert.Kernel8Ideal.Gen.frame m g, Cert.MixerOut.Forward.reference_frame,
  fun m g _ => Cert.Kernel9.Gen.frame m g, fun m g _ => Cert.Kernel9Ideal.Gen.frame m g, Cert.Queries.Forward.reference_frame,
  fun m g _ => Cert.Kernel10.Gen.frame m g, fun m g _ => Cert.Kernel10Ideal.Gen.frame m g, Cert.Keys.Forward.reference_frame,
  fun m g _ => Cert.Kernel11.Gen.frame m g, fun m g _ => Cert.Kernel11Ideal.Gen.frame m g, Cert.Values.Forward.reference_frame,
  fun m g _ => Cert.Kernel12.Gen.frame m g, fun m g _ => Cert.Kernel12Ideal.Gen.frame m g, Cert.CrossOut.Forward.reference_frame,
  fun m g _ => Cert.Kernel13.Gen.frame m g, fun m g _ => Cert.Kernel13Ideal.Gen.frame m g, Cert.MixerOut.Dx.reference_frame,
  fun m g _ => Cert.Kernel14.Gen.frame m g, fun m g _ => Cert.Kernel14Ideal.Gen.frame m g, Cert.CrossOut.Dx.reference_frame,
  fun m g _ => Cert.Kernel15.Gen.frame m g, fun m g _ => Cert.Kernel15Ideal.Gen.frame m g, Cert.Queries.Dx.reference_frame,
  fun m g _ => Cert.Kernel16.Gen.frame m g, fun m g _ => Cert.Kernel16Ideal.Gen.frame m g, Cert.Keys.Dx.reference_frame,
  fun m g _ => Cert.Kernel17.Gen.frame m g, fun m g _ => Cert.Kernel17Ideal.Gen.frame m g, Cert.Values.Dx.reference_frame,
  fun m g _ => Cert.Kernel18.Gen.frame m g, fun m g _ => Cert.Kernel18Ideal.Gen.frame m g, Cert.MixerOut.Grad.reference_frame,
  fun m g _ => Cert.Kernel19.Gen.frame m g, fun m g _ => Cert.Kernel19Ideal.Gen.frame m g, Cert.CrossOut.Grad.reference_frame,
  fun m g _ => Cert.Kernel20.Gen.frame m g, fun m g _ => Cert.Kernel20Ideal.Gen.frame m g, Cert.Queries.Grad.reference_frame,
  fun m g _ => Cert.Kernel21.Gen.frame m g, fun m g _ => Cert.Kernel21Ideal.Gen.frame m g, Cert.Keys.Grad.reference_frame,
  fun m g _ => Cert.Kernel22.Gen.frame m g, fun m g _ => Cert.Kernel22Ideal.Gen.frame m g, Cert.Values.Grad.reference_frame,
  fun m g _ => Cert.Kernel23.Gen.frame m g, fun m g _ => Cert.Kernel23Ideal.Gen.frame m g, Cert.MixerIn.Forward.reference_frame,
  fun m g _ => Cert.Kernel24.Gen.frame m g, fun m g _ => Cert.Kernel24Ideal.Gen.frame m g, Cert.MixerIn.Grad.reference_frame,
  fun m g _ => Cert.Kernel25.Gen.frame m g, fun m g _ => Cert.Kernel25Ideal.Gen.frame m g, Cert.MixerIn.Dx.reference_frame,
  fun m g _ => Cert.Kernel26.Gen.frame m g, fun m g _ => Cert.Kernel26Ideal.Gen.frame m g, fun m g _ => Cert.Kernel26Ideal.Gen.frame m g, Cert.XAttn.Forward.reference_frame, fun m g _ => Cert.XAttn.Forward.reference_frame m g trivial,
  fun m g _ => Cert.Kernel28.Gen.frame m g, fun m g _ => Cert.Kernel28Ideal.Gen.frame m g, Cert.Gates.Dw.reference_frame,
  fun m g _ => Cert.Kernel29.Gen.frame m g, fun m g _ => Cert.Kernel29Ideal.Gen.frame m g, Cert.Conv.Grad.reference_frame,
  fun m g _ => Cert.Kernel31.Gen.frame m g, fun m g _ => Cert.Kernel31Ideal.Gen.frame m g, Cert.States.Adjoint.reference_frame,
  fun m g _ => Cert.Kernel32.Gen.frame m g, fun m g _ => Cert.Kernel32Ideal.Gen.frame m g, Cert.States.AdjointB.reference_frame,
  fun m g _ => Cert.Kernel33.Gen.frame m g, fun m g _ => Cert.Kernel33Ideal.Gen.frame m g, Cert.States.Forward.reference_frame,
  fun m g _ => Cert.Kernel34.Gen.frame m g, fun m g _ => Cert.Kernel34Ideal.Gen.frame m g, Cert.States.Behind.reference_frame,
  fun m g _ => Cert.Kernel35.Gen.frame m g, fun m g _ => Cert.Kernel35Ideal.Gen.frame m g, Cert.FromStates.Grad.reference_frame,
  fun m g _ => Cert.Kernel36.Gen.frame m g, fun m g _ => Cert.Kernel36Ideal.Gen.frame m g, Cert.FromStates.GradB.reference_frame,
  fun m g _ => Cert.Kernel37.Gen.frame m g, fun m g _ => Cert.Kernel37Ideal.Gen.frame m g, Cert.ToStates.Forward.reference_frame,
  fun m g _ => Cert.Kernel38.Gen.frame m g, fun m g _ => Cert.Kernel38Ideal.Gen.frame m g, Cert.ToStates.Behind.reference_frame,
  trivial, xattn, trivial, Cert.Up.Forward.algebraic, trivial, Cert.Down.Forward.algebraic, trivial, Cert.Down.Dx.algebraic, trivial, Cert.Down.Grad.algebraic, trivial, Cert.Up.Grad.algebraic, trivial, Cert.Up.Dx.algebraic, trivial, Cert.MixerOut.Forward.algebraic, trivial, Cert.Queries.Forward.algebraic, trivial, Cert.Keys.Forward.algebraic, trivial, Cert.Values.Forward.algebraic, trivial, Cert.CrossOut.Forward.algebraic, trivial, Cert.MixerOut.Dx.algebraic, trivial, Cert.CrossOut.Dx.algebraic, trivial, Cert.Queries.Dx.algebraic, trivial, Cert.Keys.Dx.algebraic, trivial, Cert.Values.Dx.algebraic, trivial, Cert.MixerOut.Grad.algebraic, trivial, Cert.CrossOut.Grad.algebraic, trivial, Cert.Queries.Grad.algebraic, trivial, Cert.Keys.Grad.algebraic, trivial, Cert.Values.Grad.algebraic, trivial, Cert.MixerIn.Forward.algebraic, trivial, Cert.MixerIn.Grad.algebraic, trivial, Cert.MixerIn.Dx.algebraic, trivial, Cert.XAttn.Forward.algebraic, trivial, Cert.Gates.Dw.algebraic, trivial, Cert.Conv.Grad.algebraic, trivial, Cert.States.Adjoint.algebraic, trivial, Cert.States.AdjointB.algebraic, trivial, Cert.States.Forward.algebraic, trivial, Cert.States.Behind.algebraic, trivial, Cert.FromStates.Grad.algebraic, trivial, Cert.FromStates.GradB.algebraic, trivial, Cert.ToStates.Forward.algebraic, trivial, Cert.ToStates.Behind.algebraic⟩

end Cert.Proof

end
